-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite [hPre_finite : Cert.Pre_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite [hPre_finite : Cert.Pre_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_LnParts (m : (ℓ : Loc Cert.LnParts.nD Cert.LnParts.τ Cert.LnParts.sig) → Buf (Elt Bits) ℓ) : Prop :=
  True

def Pre_LnPartsIdeal (m : (ℓ : Loc Cert.LnPartsIdeal.nD Cert.LnPartsIdeal.τ Cert.LnPartsIdeal.sig) → Buf (Elt Ideal) ℓ) : Prop :=
  True

def Pre_LnPartsIdeal_finite_parts [hPre_finite_parts : Cert.Pre_finite_parts.Facts] (m : (ℓ : Loc Cert.LnPartsIdeal.nD Cert.LnPartsIdeal.τ Cert.LnPartsIdeal.sig) → Buf (Elt Ideal) ℓ) : Prop :=
  ∀ c : Dev Cert.LnPartsIdeal.nD,
    (Cert.Pre_finite_parts.fn (F := Ideal) (m ((c.tc : Thread Cert.LnPartsIdeal.nD Cert.LnPartsIdeal.τ).loc Cert.LnPartsIdeal.main_arg0)) (m ((c.tc : Thread Cert.LnPartsIdeal.nD Cert.LnPartsIdeal.τ).loc Cert.LnPartsIdeal.main_arg1)) (m ((c.tc : Thread Cert.LnPartsIdeal.nD Cert.LnPartsIdeal.τ).loc Cert.LnPartsIdeal.main_arg2)) (m ((c.tc : Thread Cert.LnPartsIdeal.nD Cert.LnPartsIdeal.τ).loc Cert.LnPartsIdeal.main_arg3)) (m ((c.tc : Thread Cert.LnPartsIdeal.nD Cert.LnPartsIdeal.τ).loc Cert.LnPartsIdeal.main_arg4)) (m ((c.tc : Thread Cert.LnPartsIdeal.nD Cert.LnPartsIdeal.τ).loc Cert.LnPartsIdeal.main_arg5))) = (fun _ => 1#1)

def Pre_LnPartsRefIdeal (m : (ℓ : Loc Cert.LnPartsRefIdeal.nD Cert.LnPartsRefIdeal.τ Cert.LnPartsRefIdeal.sig) → Buf (Elt Ideal) ℓ) : Prop :=
  True

def Pre_LnPartsRefIdeal_finite_parts [hPre_finite_parts : Cert.Pre_finite_parts.Facts] (m : (ℓ : Loc Cert.LnPartsRefIdeal.nD Cert.LnPartsRefIdeal.τ Cert.LnPartsRefIdeal.sig) → Buf (Elt Ideal) ℓ) : Prop :=
  ∀ c : Dev Cert.LnPartsRefIdeal.nD,
    (Cert.Pre_finite_parts.fn (F := Ideal) (m ((c.tc : Thread Cert.LnPartsRefIdeal.nD Cert.LnPartsRefIdeal.τ).loc Cert.LnPartsRefIdeal.main_arg0)) (m ((c.tc : Thread Cert.LnPartsRefIdeal.nD Cert.LnPartsRefIdeal.τ).loc Cert.LnPartsRefIdeal.main_arg1)) (m ((c.tc : Thread Cert.LnPartsRefIdeal.nD Cert.LnPartsRefIdeal.τ).loc Cert.LnPartsRefIdeal.main_arg2)) (m ((c.tc : Thread Cert.LnPartsRefIdeal.nD Cert.LnPartsRefIdeal.τ).loc Cert.LnPartsRefIdeal.main_arg3)) (m ((c.tc : Thread Cert.LnPartsRefIdeal.nD Cert.LnPartsRefIdeal.τ).loc Cert.LnPartsRefIdeal.main_arg4)) (m ((c.tc : Thread Cert.LnPartsRefIdeal.nD Cert.LnPartsRefIdeal.τ).loc Cert.LnPartsRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix [hPre_finite_mix : Cert.Pre_finite_mix.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_finite_mix [hPre_finite_mix : Cert.Pre_finite_mix.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11))) = (fun _ => 1#1)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite [hFfnBwdIdeal : Cert.FfnBwdIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite [hFfnBwdRefIdeal : Cert.FfnBwdRefIdeal.Facts] [hPre_finite : Cert.Pre_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5)
      ∧ r.2.mem ((c.tc : Thread Cert.LnBwd.nD Cert.LnBwd.τ).loc Cert.LnBwd.main_arg6) = m ((c.tc : Thread Cert.LnBwd.nD Cert.LnBwd.τ).loc Cert.LnBwd.main_arg6))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5)
      ∧ r.2.mem ((c.tc : Thread Cert.LnBwdRefIdeal.nD Cert.LnBwdRefIdeal.τ).loc Cert.LnBwdRefIdeal.main_arg6) = m ((c.tc : Thread Cert.LnBwdRefIdeal.nD Cert.LnBwdRefIdeal.τ).loc Cert.LnBwdRefIdeal.main_arg6))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5)
      ∧ r.2.mem ((c.tc : Thread Cert.LnBwdRefIdeal.nD Cert.LnBwdRefIdeal.τ).loc Cert.LnBwdRefIdeal.main_arg6) = m ((c.tc : Thread Cert.LnBwdRefIdeal.nD Cert.LnBwdRefIdeal.τ).loc Cert.LnBwdRefIdeal.main_arg6))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11))
      ∧ r.2.sem = fun _ => 0)

def quiescent_LnParts [hLnParts : Cert.LnParts.Facts] : Prop :=
  ∀ (m : (ℓ : Loc Cert.LnParts.nD Cert.LnParts.τ Cert.LnParts.sig) → Buf (Elt Bits) ℓ) (g : Dev Cert.LnParts.nD → PrngReg), Pre_LnParts m →
    θ_run (Cert.LnParts.defs (F := Bits)) (onTc (τ := Cert.LnParts.τ) (Cert.LnParts.main (F := Bits))) ⟨m, fun _ => 0, g⟩ (fun r => (∀ c : Dev Cert.LnParts.nD,
      r.2.mem ((c.tc : Thread Cert.LnParts.nD Cert.LnParts.τ).loc Cert.LnParts.main_arg0) = m ((c.tc : Thread Cert.LnParts.nD Cert.LnParts.τ).loc Cert.LnParts.main_arg0)
      ∧ r.2.mem ((c.tc : Thread Cert.LnParts.nD Cert.LnParts.τ).loc Cert.LnParts.main_arg1) = m ((c.tc : Thread Cert.LnParts.nD Cert.LnParts.τ).loc Cert.LnParts.main_arg1)
      ∧ r.2.mem ((c.tc : Thread Cert.LnParts.nD Cert.LnParts.τ).loc Cert.LnParts.main_arg2) = m ((c.tc : Thread Cert.LnParts.nD Cert.LnParts.τ).loc Cert.LnParts.main_arg2)
      ∧ r.2.mem ((c.tc : Thread Cert.LnParts.nD Cert.LnParts.τ).loc Cert.LnParts.main_arg3) = m ((c.tc : Thread Cert.LnParts.nD Cert.LnParts.τ).loc Cert.LnParts.main_arg3)
      ∧ r.2.mem ((c.tc : Thread Cert.LnParts.nD Cert.LnParts.τ).loc Cert.LnParts.main_arg4) = m ((c.tc : Thread Cert.LnParts.nD Cert.LnParts.τ).loc Cert.LnParts.main_arg4)
      ∧ r.2.mem ((c.tc : Thread Cert.LnParts.nD Cert.LnParts.τ).loc Cert.LnParts.main_arg5) = m ((c.tc : Thread Cert.LnParts.nD Cert.LnParts.τ).loc Cert.LnParts.main_arg5))
      ∧ r.2.sem = fun _ => 0)

def quiescent_LnPartsIdeal [hLnPartsIdeal : Cert.LnPartsIdeal.Facts] : Prop :=
  ∀ (m : (ℓ : Loc Cert.LnPartsIdeal.nD Cert.LnPartsIdeal.τ Cert.LnPartsIdeal.sig) → Buf (Elt Ideal) ℓ) (g : Dev Cert.LnPartsIdeal.nD → PrngReg), Pre_LnPartsIdeal m →
    θ_run (Cert.LnPartsIdeal.defs (F := Ideal)) (onTc (τ := Cert.LnPartsIdeal.τ) (Cert.LnPartsIdeal.main (F := Ideal))) ⟨m, fun _ => 0, g⟩ (fun r => (∀ c : Dev Cert.LnPartsIdeal.nD,
      r.2.mem ((c.tc : Thread Cert.LnPartsIdeal.nD Cert.LnPartsIdeal.τ).loc Cert.LnPartsIdeal.main_arg0) = m ((c.tc : Thread Cert.LnPartsIdeal.nD Cert.LnPartsIdeal.τ).loc Cert.LnPartsIdeal.main_arg0)
      ∧ r.2.mem ((c.tc : Thread Cert.LnPartsIdeal.nD Cert.LnPartsIdeal.τ).loc Cert.LnPartsIdeal.main_arg1) = m ((c.tc : Thread Cert.LnPartsIdeal.nD Cert.LnPartsIdeal.τ).loc Cert.LnPartsIdeal.main_arg1)
      ∧ r.2.mem ((c.tc : Thread Cert.LnPartsIdeal.nD Cert.LnPartsIdeal.τ).loc Cert.LnPartsIdeal.main_arg2) = m ((c.tc : Thread Cert.LnPartsIdeal.nD Cert.LnPartsIdeal.τ).loc Cert.LnPartsIdeal.main_arg2)
      ∧ r.2.mem ((c.tc : Thread Cert.LnPartsIdeal.nD Cert.LnPartsIdeal.τ).loc Cert.LnPartsIdeal.main_arg3) = m ((c.tc : Thread Cert.LnPartsIdeal.nD Cert.LnPartsIdeal.τ).loc Cert.LnPartsIdeal.main_arg3)
      ∧ r.2.mem ((c.tc : Thread Cert.LnPartsIdeal.nD Cert.LnPartsIdeal.τ).loc Cert.LnPartsIdeal.main_arg4) = m ((c.tc : Thread Cert.LnPartsIdeal.nD Cert.LnPartsIdeal.τ).loc Cert.LnPartsIdeal.main_arg4)
      ∧ r.2.mem ((c.tc : Thread Cert.LnPartsIdeal.nD Cert.LnPartsIdeal.τ).loc Cert.LnPartsIdeal.main_arg5) = m ((c.tc : Thread Cert.LnPartsIdeal.nD Cert.LnPartsIdeal.τ).loc Cert.LnPartsIdeal.main_arg5))
      ∧ r.2.sem = fun _ => 0)

def quiescent_LnPartsIdeal_pre_finite_parts [hLnPartsIdeal : Cert.LnPartsIdeal.Facts] [hPre_finite_parts : Cert.Pre_finite_parts.Facts] : Prop :=
  ∀ (m : (ℓ : Loc Cert.LnPartsIdeal.nD Cert.LnPartsIdeal.τ Cert.LnPartsIdeal.sig) → Buf (Elt Ideal) ℓ) (g : Dev Cert.LnPartsIdeal.nD → PrngReg), Pre_LnPartsIdeal_finite_parts m →
    θ_run (Cert.LnPartsIdeal.defs (F := Ideal)) (onTc (τ := Cert.LnPartsIdeal.τ) (Cert.LnPartsIdeal.main (F := Ideal))) ⟨m, fun _ => 0, g⟩ (fun r => (∀ c : Dev Cert.LnPartsIdeal.nD,
      r.2.mem ((c.tc : Thread Cert.LnPartsIdeal.nD Cert.LnPartsIdeal.τ).loc Cert.LnPartsIdeal.main_arg0) = m ((c.tc : Thread Cert.LnPartsIdeal.nD Cert.LnPartsIdeal.τ).loc Cert.LnPartsIdeal.main_arg0)
      ∧ r.2.mem ((c.tc : Thread Cert.LnPartsIdeal.nD Cert.LnPartsIdeal.τ).loc Cert.LnPartsIdeal.main_arg1) = m ((c.tc : Thread Cert.LnPartsIdeal.nD Cert.LnPartsIdeal.τ).loc Cert.LnPartsIdeal.main_arg1)
      ∧ r.2.mem ((c.tc : Thread Cert.LnPartsIdeal.nD Cert.LnPartsIdeal.τ).loc Cert.LnPartsIdeal.main_arg2) = m ((c.tc : Thread Cert.LnPartsIdeal.nD Cert.LnPartsIdeal.τ).loc Cert.LnPartsIdeal.main_arg2)
      ∧ r.2.mem ((c.tc : Thread Cert.LnPartsIdeal.nD Cert.LnPartsIdeal.τ).loc Cert.LnPartsIdeal.main_arg3) = m ((c.tc : Thread Cert.LnPartsIdeal.nD Cert.LnPartsIdeal.τ).loc Cert.LnPartsIdeal.main_arg3)
      ∧ r.2.mem ((c.tc : Thread Cert.LnPartsIdeal.nD Cert.LnPartsIdeal.τ).loc Cert.LnPartsIdeal.main_arg4) = m ((c.tc : Thread Cert.LnPartsIdeal.nD Cert.LnPartsIdeal.τ).loc Cert.LnPartsIdeal.main_arg4)
      ∧ r.2.mem ((c.tc : Thread Cert.LnPartsIdeal.nD Cert.LnPartsIdeal.τ).loc Cert.LnPartsIdeal.main_arg5) = m ((c.tc : Thread Cert.LnPartsIdeal.nD Cert.LnPartsIdeal.τ).loc Cert.LnPartsIdeal.main_arg5))
      ∧ r.2.sem = fun _ => 0)

def quiescent_LnPartsRefIdeal [hLnPartsRefIdeal : Cert.LnPartsRefIdeal.Facts] : Prop :=
  ∀ (m : (ℓ : Loc Cert.LnPartsRefIdeal.nD Cert.LnPartsRefIdeal.τ Cert.LnPartsRefIdeal.sig) → Buf (Elt Ideal) ℓ) (g : Dev Cert.LnPartsRefIdeal.nD → PrngReg), Pre_LnPartsRefIdeal m →
    θ_run (Cert.LnPartsRefIdeal.defs (F := Ideal)) (onTc (τ := Cert.LnPartsRefIdeal.τ) (Cert.LnPartsRefIdeal.main (F := Ideal))) ⟨m, fun _ => 0, g⟩ (fun r => (∀ c : Dev Cert.LnPartsRefIdeal.nD,
      r.2.mem ((c.tc : Thread Cert.LnPartsRefIdeal.nD Cert.LnPartsRefIdeal.τ).loc Cert.LnPartsRefIdeal.main_arg0) = m ((c.tc : Thread Cert.LnPartsRefIdeal.nD Cert.LnPartsRefIdeal.τ).loc Cert.LnPartsRefIdeal.main_arg0)
      ∧ r.2.mem ((c.tc : Thread Cert.LnPartsRefIdeal.nD Cert.LnPartsRefIdeal.τ).loc Cert.LnPartsRefIdeal.main_arg1) = m ((c.tc : Thread Cert.LnPartsRefIdeal.nD Cert.LnPartsRefIdeal.τ).loc Cert.LnPartsRefIdeal.main_arg1)
      ∧ r.2.mem ((c.tc : Thread Cert.LnPartsRefIdeal.nD Cert.LnPartsRefIdeal.τ).loc Cert.LnPartsRefIdeal.main_arg2) = m ((c.tc : Thread Cert.LnPartsRefIdeal.nD Cert.LnPartsRefIdeal.τ).loc Cert.LnPartsRefIdeal.main_arg2)
      ∧ r.2.mem ((c.tc : Thread Cert.LnPartsRefIdeal.nD Cert.LnPartsRefIdeal.τ).loc Cert.LnPartsRefIdeal.main_arg3) = m ((c.tc : Thread Cert.LnPartsRefIdeal.nD Cert.LnPartsRefIdeal.τ).loc Cert.LnPartsRefIdeal.main_arg3)
      ∧ r.2.mem ((c.tc : Thread Cert.LnPartsRefIdeal.nD Cert.LnPartsRefIdeal.τ).loc Cert.LnPartsRefIdeal.main_arg4) = m ((c.tc : Thread Cert.LnPartsRefIdeal.nD Cert.LnPartsRefIdeal.τ).loc Cert.LnPartsRefIdeal.main_arg4)
      ∧ r.2.mem ((c.tc : Thread Cert.LnPartsRefIdeal.nD Cert.LnPartsRefIdeal.τ).loc Cert.LnPartsRefIdeal.main_arg5) = m ((c.tc : Thread Cert.LnPartsRefIdeal.nD Cert.LnPartsRefIdeal.τ).loc Cert.LnPartsRefIdeal.main_arg5))
      ∧ r.2.sem = fun _ => 0)

def quiescent_LnPartsRefIdeal_pre_finite_parts [hLnPartsRefIdeal : Cert.LnPartsRefIdeal.Facts] [hPre_finite_parts : Cert.Pre_finite_parts.Facts] : Prop :=
  ∀ (m : (ℓ : Loc Cert.LnPartsRefIdeal.nD Cert.LnPartsRefIdeal.τ Cert.LnPartsRefIdeal.sig) → Buf (Elt Ideal) ℓ) (g : Dev Cert.LnPartsRefIdeal.nD → PrngReg), Pre_LnPartsRefIdeal_finite_parts m →
    θ_run (Cert.LnPartsRefIdeal.defs (F := Ideal)) (onTc (τ := Cert.LnPartsRefIdeal.τ) (Cert.LnPartsRefIdeal.main (F := Ideal))) ⟨m, fun _ => 0, g⟩ (fun r => (∀ c : Dev Cert.LnPartsRefIdeal.nD,
      r.2.mem ((c.tc : Thread Cert.LnPartsRefIdeal.nD Cert.LnPartsRefIdeal.τ).loc Cert.LnPartsRefIdeal.main_arg0) = m ((c.tc : Thread Cert.LnPartsRefIdeal.nD Cert.LnPartsRefIdeal.τ).loc Cert.LnPartsRefIdeal.main_arg0)
      ∧ r.2.mem ((c.tc : Thread Cert.LnPartsRefIdeal.nD Cert.LnPartsRefIdeal.τ).loc Cert.LnPartsRefIdeal.main_arg1) = m ((c.tc : Thread Cert.LnPartsRefIdeal.nD Cert.LnPartsRefIdeal.τ).loc Cert.LnPartsRefIdeal.main_arg1)
      ∧ r.2.mem ((c.tc : Thread Cert.LnPartsRefIdeal.nD Cert.LnPartsRefIdeal.τ).loc Cert.LnPartsRefIdeal.main_arg2) = m ((c.tc : Thread Cert.LnPartsRefIdeal.nD Cert.LnPartsRefIdeal.τ).loc Cert.LnPartsRefIdeal.main_arg2)
      ∧ r.2.mem ((c.tc : Thread Cert.LnPartsRefIdeal.nD Cert.LnPartsRefIdeal.τ).loc Cert.LnPartsRefIdeal.main_arg3) = m ((c.tc : Thread Cert.LnPartsRefIdeal.nD Cert.LnPartsRefIdeal.τ).loc Cert.LnPartsRefIdeal.main_arg3)
      ∧ r.2.mem ((c.tc : Thread Cert.LnPartsRefIdeal.nD Cert.LnPartsRefIdeal.τ).loc Cert.LnPartsRefIdeal.main_arg4) = m ((c.tc : Thread Cert.LnPartsRefIdeal.nD Cert.LnPartsRefIdeal.τ).loc Cert.LnPartsRefIdeal.main_arg4)
      ∧ r.2.mem ((c.tc : Thread Cert.LnPartsRefIdeal.nD Cert.LnPartsRefIdeal.τ).loc Cert.LnPartsRefIdeal.main_arg5) = m ((c.tc : Thread Cert.LnPartsRefIdeal.nD Cert.LnPartsRefIdeal.τ).loc Cert.LnPartsRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11))
      ∧ r.2.sem = fun _ => 0)

def quiescent_MixBwdIdeal_pre_finite_mix [hMixBwdIdeal : Cert.MixBwdIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11))
      ∧ r.2.sem = fun _ => 0)

def quiescent_MixBwdRefIdeal_pre_finite_mix [hMixBwdRefIdeal : Cert.MixBwdRefIdeal.Facts] [hPre_finite_mix : Cert.Pre_finite_mix.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_finite_mix m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11))
      ∧ r.2.sem = fun _ => 0)

def preserves_FfnBwd_FfnBwdIdeal : Prop :=
  True

def algebraic_FfnBwdIdeal_FfnBwdRefIdeal_pre_finite [hFfnBwdIdeal : Cert.FfnBwdIdeal.Facts] [hFfnBwdRefIdeal : Cert.FfnBwdRefIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v11_0)) (v1 : (c : Dev Cert.FfnBwdIdeal.nD) → Buf (Elt Ideal) ((c.tc : Thread Cert.FfnBwdIdeal.nD Cert.FfnBwdIdeal.τ).loc Cert.FfnBwdIdeal.main_v11_1)) (v2 : (c : Dev Cert.FfnBwdIdeal.nD) → Buf (Elt Ideal) ((c.tc : Thread Cert.FfnBwdIdeal.nD Cert.FfnBwdIdeal.τ).loc Cert.FfnBwdIdeal.main_v11_2)) (v3 : (c : Dev Cert.FfnBwdIdeal.nD) → Buf (Elt Ideal) ((c.tc : Thread Cert.FfnBwdIdeal.nD Cert.FfnBwdIdeal.τ).loc Cert.FfnBwdIdeal.main_v11_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v11_0) = v0 c
          ∧ r.2.mem ((c.tc : Thread Cert.FfnBwdIdeal.nD Cert.FfnBwdIdeal.τ).loc Cert.FfnBwdIdeal.main_v11_1) = v1 c
          ∧ r.2.mem ((c.tc : Thread Cert.FfnBwdIdeal.nD Cert.FfnBwdIdeal.τ).loc Cert.FfnBwdIdeal.main_v11_2) = v2 c
          ∧ r.2.mem ((c.tc : Thread Cert.FfnBwdIdeal.nD Cert.FfnBwdIdeal.τ).loc Cert.FfnBwdIdeal.main_v11_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v27) = v0 c
          ∧ r.2.mem ((c.tc : Thread Cert.FfnBwdRefIdeal.nD Cert.FfnBwdRefIdeal.τ).loc Cert.FfnBwdRefIdeal.main_v28) = v1 c
          ∧ r.2.mem ((c.tc : Thread Cert.FfnBwdRefIdeal.nD Cert.FfnBwdRefIdeal.τ).loc Cert.FfnBwdRefIdeal.main_v29) = v2 c
          ∧ r.2.mem ((c.tc : Thread Cert.FfnBwdRefIdeal.nD Cert.FfnBwdRefIdeal.τ).loc Cert.FfnBwdRefIdeal.main_v30) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)) (v4 : (c : Dev Cert.FfnFwdIdeal.nD) → Buf (Elt Ideal) ((c.tc : Thread Cert.FfnFwdIdeal.nD Cert.FfnFwdIdeal.τ).loc Cert.FfnFwdIdeal.main_v6_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_v6_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v36) = v0 c
          ∧ r.2.mem ((c.tc : Thread Cert.FfnFwdRefIdeal.nD Cert.FfnFwdRefIdeal.τ).loc Cert.FfnFwdRefIdeal.main_v37) = v1 c
          ∧ r.2.mem ((c.tc : Thread Cert.FfnFwdRefIdeal.nD Cert.FfnFwdRefIdeal.τ).loc Cert.FfnFwdRefIdeal.main_v12) = v2 c
          ∧ r.2.mem ((c.tc : Thread Cert.FfnFwdRefIdeal.nD Cert.FfnFwdRefIdeal.τ).loc Cert.FfnFwdRefIdeal.main_v38) = v3 c
          ∧ r.2.mem ((c.tc : Thread Cert.FfnFwdRefIdeal.nD Cert.FfnFwdRefIdeal.τ).loc Cert.FfnFwdRefIdeal.main_v39) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)
      ∧ m' ((c.tc : Thread Cert.LnBwdRefIdeal.nD Cert.LnBwdRefIdeal.τ).loc Cert.LnBwdRefIdeal.main_arg5) = m ((c.tc : Thread Cert.LnBwdIdeal.nD Cert.LnBwdIdeal.τ).loc Cert.LnBwdIdeal.main_arg5)
      ∧ m' ((c.tc : Thread Cert.LnBwdRefIdeal.nD Cert.LnBwdRefIdeal.τ).loc Cert.LnBwdRefIdeal.main_arg6) = m ((c.tc : Thread Cert.LnBwdIdeal.nD Cert.LnBwdIdeal.τ).loc Cert.LnBwdIdeal.main_arg6)) →
    ∃ (v0 : (c : Dev Cert.LnBwdIdeal.nD) → Buf (Elt Ideal) ((c.tc : Thread Cert.LnBwdIdeal.nD Cert.LnBwdIdeal.τ).loc Cert.LnBwdIdeal.main_v7_0)) (v1 : (c : Dev Cert.LnBwdIdeal.nD) → Buf (Elt Ideal) ((c.tc : Thread Cert.LnBwdIdeal.nD Cert.LnBwdIdeal.τ).loc Cert.LnBwdIdeal.main_v7_1)) (v2 : (c : Dev Cert.LnBwdIdeal.nD) → Buf (Elt Ideal) ((c.tc : Thread Cert.LnBwdIdeal.nD Cert.LnBwdIdeal.τ).loc Cert.LnBwdIdeal.main_v7_2)) (v3 : (c : Dev Cert.LnBwdIdeal.nD) → Buf (Elt Ideal) ((c.tc : Thread Cert.LnBwdIdeal.nD Cert.LnBwdIdeal.τ).loc Cert.LnBwdIdeal.main_v7_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v7_0) = v0 c
          ∧ r.2.mem ((c.tc : Thread Cert.LnBwdIdeal.nD Cert.LnBwdIdeal.τ).loc Cert.LnBwdIdeal.main_v7_1) = v1 c
          ∧ r.2.mem ((c.tc : Thread Cert.LnBwdIdeal.nD Cert.LnBwdIdeal.τ).loc Cert.LnBwdIdeal.main_v7_2) = v2 c
          ∧ r.2.mem ((c.tc : Thread Cert.LnBwdIdeal.nD Cert.LnBwdIdeal.τ).loc Cert.LnBwdIdeal.main_v7_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
          ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v71) = v0 c
          ∧ r.2.mem ((c.tc : Thread Cert.LnBwdRefIdeal.nD Cert.LnBwdRefIdeal.τ).loc Cert.LnBwdRefIdeal.main_v70) = v1 c
          ∧ r.2.mem ((c.tc : Thread Cert.LnBwdRefIdeal.nD Cert.LnBwdRefIdeal.τ).loc Cert.LnBwdRefIdeal.main_v72) = v2 c
          ∧ r.2.mem ((c.tc : Thread Cert.LnBwdRefIdeal.nD Cert.LnBwdRefIdeal.τ).loc Cert.LnBwdRefIdeal.main_v73) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4)
          ∧ r.2.mem ((c.tc : Thread Cert.LnBwdRefIdeal.nD Cert.LnBwdRefIdeal.τ).loc Cert.LnBwdRefIdeal.main_arg5) = m' ((c.tc : Thread Cert.LnBwdRefIdeal.nD Cert.LnBwdRefIdeal.τ).loc Cert.LnBwdRefIdeal.main_arg5)
          ∧ r.2.mem ((c.tc : Thread Cert.LnBwdRefIdeal.nD Cert.LnBwdRefIdeal.τ).loc Cert.LnBwdRefIdeal.main_arg6) = m' ((c.tc : Thread Cert.LnBwdRefIdeal.nD Cert.LnBwdRefIdeal.τ).loc Cert.LnBwdRefIdeal.main_arg6))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)) →
    ∃ (v0 : (c : Dev Cert.MixFwdIdeal.nD) → Buf (Elt Ideal) ((c.tc : Thread Cert.MixFwdIdeal.nD Cert.MixFwdIdeal.τ).loc Cert.MixFwdIdeal.main_v25_0)) (v1 : (c : Dev Cert.MixFwdIdeal.nD) → Buf (Elt Ideal) ((c.tc : Thread Cert.MixFwdIdeal.nD Cert.MixFwdIdeal.τ).loc Cert.MixFwdIdeal.main_v25_1)) (v2 : (c : Dev Cert.MixFwdIdeal.nD) → Buf (Elt Ideal) ((c.tc : Thread Cert.MixFwdIdeal.nD Cert.MixFwdIdeal.τ).loc Cert.MixFwdIdeal.main_v25_2)) (v3 : (c : Dev Cert.MixFwdIdeal.nD) → Buf (Elt Ideal) ((c.tc : Thread Cert.MixFwdIdeal.nD Cert.MixFwdIdeal.τ).loc Cert.MixFwdIdeal.main_v25_3)) (v4 : (c : Dev Cert.MixFwdIdeal.nD) → Buf (Elt Ideal) ((c.tc : Thread Cert.MixFwdIdeal.nD Cert.MixFwdIdeal.τ).loc Cert.MixFwdIdeal.main_v25_4)) (v5 : (c : Dev Cert.MixFwdIdeal.nD) → Buf (Elt Ideal) ((c.tc : Thread Cert.MixFwdIdeal.nD Cert.MixFwdIdeal.τ).loc Cert.MixFwdIdeal.main_v25_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v25_0) = v0 c
          ∧ r.2.mem ((c.tc : Thread Cert.MixFwdIdeal.nD Cert.MixFwdIdeal.τ).loc Cert.MixFwdIdeal.main_v25_1) = v1 c
          ∧ r.2.mem ((c.tc : Thread Cert.MixFwdIdeal.nD Cert.MixFwdIdeal.τ).loc Cert.MixFwdIdeal.main_v25_2) = v2 c
          ∧ r.2.mem ((c.tc : Thread Cert.MixFwdIdeal.nD Cert.MixFwdIdeal.τ).loc Cert.MixFwdIdeal.main_v25_3) = v3 c
          ∧ r.2.mem ((c.tc : Thread Cert.MixFwdIdeal.nD Cert.MixFwdIdeal.τ).loc Cert.MixFwdIdeal.main_v25_4) = v4 c
          ∧ r.2.mem ((c.tc : Thread Cert.MixFwdIdeal.nD Cert.MixFwdIdeal.τ).loc Cert.MixFwdIdeal.main_v25_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v0) = v0 c
          ∧ r.2.mem ((c.tc : Thread Cert.MixFwdRefIdeal.nD Cert.MixFwdRefIdeal.τ).loc Cert.MixFwdRefIdeal.main_v488) = v1 c
          ∧ r.2.mem ((c.tc : Thread Cert.MixFwdRefIdeal.nD Cert.MixFwdRefIdeal.τ).loc Cert.MixFwdRefIdeal.main_v433) = v2 c
          ∧ r.2.mem ((c.tc : Thread Cert.MixFwdRefIdeal.nD Cert.MixFwdRefIdeal.τ).loc Cert.MixFwdRefIdeal.main_v487) = v3 c
          ∧ r.2.mem ((c.tc : Thread Cert.MixFwdRefIdeal.nD Cert.MixFwdRefIdeal.τ).loc Cert.MixFwdRefIdeal.main_v489) = v4 c
          ∧ r.2.mem ((c.tc : Thread Cert.MixFwdRefIdeal.nD Cert.MixFwdRefIdeal.τ).loc Cert.MixFwdRefIdeal.main_v463) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11))

def preserves_LnParts_LnPartsIdeal : Prop :=
  True

def algebraic_LnPartsIdeal_LnPartsRefIdeal_pre_finite_parts [hLnPartsIdeal : Cert.LnPartsIdeal.Facts] [hLnPartsRefIdeal : Cert.LnPartsRefIdeal.Facts] [hPre_finite_parts : Cert.Pre_finite_parts.Facts] : Prop :=
  ∀ (m : (ℓ : Loc Cert.LnPartsIdeal.nD Cert.LnPartsIdeal.τ Cert.LnPartsIdeal.sig) → Buf (Elt Ideal) ℓ) (g : Dev Cert.LnPartsIdeal.nD → PrngReg)
    (m' : (ℓ : Loc Cert.LnPartsRefIdeal.nD Cert.LnPartsRefIdeal.τ Cert.LnPartsRefIdeal.sig) → Buf (Elt Ideal) ℓ) (g' : Dev Cert.LnPartsRefIdeal.nD → PrngReg), Pre_LnPartsIdeal_finite_parts m →
    (∀ c : Dev Cert.LnPartsIdeal.nD,
      m' ((c.tc : Thread Cert.LnPartsRefIdeal.nD Cert.LnPartsRefIdeal.τ).loc Cert.LnPartsRefIdeal.main_arg0) = m ((c.tc : Thread Cert.LnPartsIdeal.nD Cert.LnPartsIdeal.τ).loc Cert.LnPartsIdeal.main_arg0)
      ∧ m' ((c.tc : Thread Cert.LnPartsRefIdeal.nD Cert.LnPartsRefIdeal.τ).loc Cert.LnPartsRefIdeal.main_arg1) = m ((c.tc : Thread Cert.LnPartsIdeal.nD Cert.LnPartsIdeal.τ).loc Cert.LnPartsIdeal.main_arg1)
      ∧ m' ((c.tc : Thread Cert.LnPartsRefIdeal.nD Cert.LnPartsRefIdeal.τ).loc Cert.LnPartsRefIdeal.main_arg2) = m ((c.tc : Thread Cert.LnPartsIdeal.nD Cert.LnPartsIdeal.τ).loc Cert.LnPartsIdeal.main_arg2)
      ∧ m' ((c.tc : Thread Cert.LnPartsRefIdeal.nD Cert.LnPartsRefIdeal.τ).loc Cert.LnPartsRefIdeal.main_arg3) = m ((c.tc : Thread Cert.LnPartsIdeal.nD Cert.LnPartsIdeal.τ).loc Cert.LnPartsIdeal.main_arg3)
      ∧ m' ((c.tc : Thread Cert.LnPartsRefIdeal.nD Cert.LnPartsRefIdeal.τ).loc Cert.LnPartsRefIdeal.main_arg4) = m ((c.tc : Thread Cert.LnPartsIdeal.nD Cert.LnPartsIdeal.τ).loc Cert.LnPartsIdeal.main_arg4)
      ∧ m' ((c.tc : Thread Cert.LnPartsRefIdeal.nD Cert.LnPartsRefIdeal.τ).loc Cert.LnPartsRefIdeal.main_arg5) = m ((c.tc : Thread Cert.LnPartsIdeal.nD Cert.LnPartsIdeal.τ).loc Cert.LnPartsIdeal.main_arg5)) →
    ∃ (v0 : (c : Dev Cert.LnPartsIdeal.nD) → Buf (Elt Ideal) ((c.tc : Thread Cert.LnPartsIdeal.nD Cert.LnPartsIdeal.τ).loc Cert.LnPartsIdeal.main_v5_0)) (v1 : (c : Dev Cert.LnPartsIdeal.nD) → Buf (Elt Ideal) ((c.tc : Thread Cert.LnPartsIdeal.nD Cert.LnPartsIdeal.τ).loc Cert.LnPartsIdeal.main_v5_1)) (v2 : (c : Dev Cert.LnPartsIdeal.nD) → Buf (Elt Ideal) ((c.tc : Thread Cert.LnPartsIdeal.nD Cert.LnPartsIdeal.τ).loc Cert.LnPartsIdeal.main_v5_2)) (v3 : (c : Dev Cert.LnPartsIdeal.nD) → Buf (Elt Ideal) ((c.tc : Thread Cert.LnPartsIdeal.nD Cert.LnPartsIdeal.τ).loc Cert.LnPartsIdeal.main_v5_3)),
      θ_run (Cert.LnPartsIdeal.defs (F := Ideal)) (onTc (τ := Cert.LnPartsIdeal.τ) (Cert.LnPartsIdeal.main (F := Ideal))) ⟨m, fun _ => 0, g⟩ (fun r => ∀ c : Dev Cert.LnPartsIdeal.nD,
          r.2.mem ((c.tc : Thread Cert.LnPartsIdeal.nD Cert.LnPartsIdeal.τ).loc Cert.LnPartsIdeal.main_v5_0) = v0 c
          ∧ r.2.mem ((c.tc : Thread Cert.LnPartsIdeal.nD Cert.LnPartsIdeal.τ).loc Cert.LnPartsIdeal.main_v5_1) = v1 c
          ∧ r.2.mem ((c.tc : Thread Cert.LnPartsIdeal.nD Cert.LnPartsIdeal.τ).loc Cert.LnPartsIdeal.main_v5_2) = v2 c
          ∧ r.2.mem ((c.tc : Thread Cert.LnPartsIdeal.nD Cert.LnPartsIdeal.τ).loc Cert.LnPartsIdeal.main_v5_3) = v3 c
          ∧ r.2.mem ((c.tc : Thread Cert.LnPartsIdeal.nD Cert.LnPartsIdeal.τ).loc Cert.LnPartsIdeal.main_arg0) = m ((c.tc : Thread Cert.LnPartsIdeal.nD Cert.LnPartsIdeal.τ).loc Cert.LnPartsIdeal.main_arg0)
          ∧ r.2.mem ((c.tc : Thread Cert.LnPartsIdeal.nD Cert.LnPartsIdeal.τ).loc Cert.LnPartsIdeal.main_arg1) = m ((c.tc : Thread Cert.LnPartsIdeal.nD Cert.LnPartsIdeal.τ).loc Cert.LnPartsIdeal.main_arg1)
          ∧ r.2.mem ((c.tc : Thread Cert.LnPartsIdeal.nD Cert.LnPartsIdeal.τ).loc Cert.LnPartsIdeal.main_arg2) = m ((c.tc : Thread Cert.LnPartsIdeal.nD Cert.LnPartsIdeal.τ).loc Cert.LnPartsIdeal.main_arg2)
          ∧ r.2.mem ((c.tc : Thread Cert.LnPartsIdeal.nD Cert.LnPartsIdeal.τ).loc Cert.LnPartsIdeal.main_arg3) = m ((c.tc : Thread Cert.LnPartsIdeal.nD Cert.LnPartsIdeal.τ).loc Cert.LnPartsIdeal.main_arg3)
          ∧ r.2.mem ((c.tc : Thread Cert.LnPartsIdeal.nD Cert.LnPartsIdeal.τ).loc Cert.LnPartsIdeal.main_arg4) = m ((c.tc : Thread Cert.LnPartsIdeal.nD Cert.LnPartsIdeal.τ).loc Cert.LnPartsIdeal.main_arg4)
          ∧ r.2.mem ((c.tc : Thread Cert.LnPartsIdeal.nD Cert.LnPartsIdeal.τ).loc Cert.LnPartsIdeal.main_arg5) = m ((c.tc : Thread Cert.LnPartsIdeal.nD Cert.LnPartsIdeal.τ).loc Cert.LnPartsIdeal.main_arg5))
      ∧ θ_run (Cert.LnPartsRefIdeal.defs (F := Ideal)) (onTc (τ := Cert.LnPartsRefIdeal.τ) (Cert.LnPartsRefIdeal.main (F := Ideal))) ⟨m', fun _ => 0, g'⟩ (fun r => ∀ c : Dev Cert.LnPartsRefIdeal.nD,
          r.2.mem ((c.tc : Thread Cert.LnPartsRefIdeal.nD Cert.LnPartsRefIdeal.τ).loc Cert.LnPartsRefIdeal.main_v71) = v0 c
          ∧ r.2.mem ((c.tc : Thread Cert.LnPartsRefIdeal.nD Cert.LnPartsRefIdeal.τ).loc Cert.LnPartsRefIdeal.main_v70) = v1 c
          ∧ r.2.mem ((c.tc : Thread Cert.LnPartsRefIdeal.nD Cert.LnPartsRefIdeal.τ).loc Cert.LnPartsRefIdeal.main_v72) = v2 c
          ∧ r.2.mem ((c.tc : Thread Cert.LnPartsRefIdeal.nD Cert.LnPartsRefIdeal.τ).loc Cert.LnPartsRefIdeal.main_v73) = v3 c
          ∧ r.2.mem ((c.tc : Thread Cert.LnPartsRefIdeal.nD Cert.LnPartsRefIdeal.τ).loc Cert.LnPartsRefIdeal.main_arg0) = m' ((c.tc : Thread Cert.LnPartsRefIdeal.nD Cert.LnPartsRefIdeal.τ).loc Cert.LnPartsRefIdeal.main_arg0)
          ∧ r.2.mem ((c.tc : Thread Cert.LnPartsRefIdeal.nD Cert.LnPartsRefIdeal.τ).loc Cert.LnPartsRefIdeal.main_arg1) = m' ((c.tc : Thread Cert.LnPartsRefIdeal.nD Cert.LnPartsRefIdeal.τ).loc Cert.LnPartsRefIdeal.main_arg1)
          ∧ r.2.mem ((c.tc : Thread Cert.LnPartsRefIdeal.nD Cert.LnPartsRefIdeal.τ).loc Cert.LnPartsRefIdeal.main_arg2) = m' ((c.tc : Thread Cert.LnPartsRefIdeal.nD Cert.LnPartsRefIdeal.τ).loc Cert.LnPartsRefIdeal.main_arg2)
          ∧ r.2.mem ((c.tc : Thread Cert.LnPartsRefIdeal.nD Cert.LnPartsRefIdeal.τ).loc Cert.LnPartsRefIdeal.main_arg3) = m' ((c.tc : Thread Cert.LnPartsRefIdeal.nD Cert.LnPartsRefIdeal.τ).loc Cert.LnPartsRefIdeal.main_arg3)
          ∧ r.2.mem ((c.tc : Thread Cert.LnPartsRefIdeal.nD Cert.LnPartsRefIdeal.τ).loc Cert.LnPartsRefIdeal.main_arg4) = m' ((c.tc : Thread Cert.LnPartsRefIdeal.nD Cert.LnPartsRefIdeal.τ).loc Cert.LnPartsRefIdeal.main_arg4)
          ∧ r.2.mem ((c.tc : Thread Cert.LnPartsRefIdeal.nD Cert.LnPartsRefIdeal.τ).loc Cert.LnPartsRefIdeal.main_arg5) = m' ((c.tc : Thread Cert.LnPartsRefIdeal.nD Cert.LnPartsRefIdeal.τ).loc Cert.LnPartsRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v1_0)) (v1 : (c : Dev Cert.AdamWIdeal.nD) → Buf (Elt Ideal) ((c.tc : Thread Cert.AdamWIdeal.nD Cert.AdamWIdeal.τ).loc Cert.AdamWIdeal.main_v1_1)) (v2 : (c : Dev Cert.AdamWIdeal.nD) → Buf (Elt Ideal) ((c.tc : Thread Cert.AdamWIdeal.nD Cert.AdamWIdeal.τ).loc Cert.AdamWIdeal.main_v1_2)) (v3 : (c : Dev Cert.AdamWIdeal.nD) → Buf (Elt Ideal) ((c.tc : Thread Cert.AdamWIdeal.nD Cert.AdamWIdeal.τ).loc Cert.AdamWIdeal.main_v1_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v1_0) = v0 c
          ∧ r.2.mem ((c.tc : Thread Cert.AdamWIdeal.nD Cert.AdamWIdeal.τ).loc Cert.AdamWIdeal.main_v1_1) = v1 c
          ∧ r.2.mem ((c.tc : Thread Cert.AdamWIdeal.nD Cert.AdamWIdeal.τ).loc Cert.AdamWIdeal.main_v1_2) = v2 c
          ∧ r.2.mem ((c.tc : Thread Cert.AdamWIdeal.nD Cert.AdamWIdeal.τ).loc Cert.AdamWIdeal.main_v1_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v0) = v0 c
          ∧ r.2.mem ((c.tc : Thread Cert.AdamWRefIdeal.nD Cert.AdamWRefIdeal.τ).loc Cert.AdamWRefIdeal.main_v24) = v1 c
          ∧ r.2.mem ((c.tc : Thread Cert.AdamWRefIdeal.nD Cert.AdamWRefIdeal.τ).loc Cert.AdamWRefIdeal.main_v5) = v2 c
          ∧ r.2.mem ((c.tc : Thread Cert.AdamWRefIdeal.nD Cert.AdamWRefIdeal.τ).loc Cert.AdamWRefIdeal.main_v11) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_MixBwd_MixBwdIdeal : Prop :=
  True

def algebraic_MixBwdIdeal_MixBwdRefIdeal_pre_finite_mix [hMixBwdIdeal : Cert.MixBwdIdeal.Facts] [hMixBwdRefIdeal : Cert.MixBwdRefIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_finite_mix m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)
      ∧ m' ((c.tc : Thread Cert.MixBwdRefIdeal.nD Cert.MixBwdRefIdeal.τ).loc Cert.MixBwdRefIdeal.main_arg11) = m ((c.tc : Thread Cert.MixBwdIdeal.nD Cert.MixBwdIdeal.τ).loc Cert.MixBwdIdeal.main_arg11)) →
    ∃ (v0 : (c : Dev Cert.MixBwdIdeal.nD) → Buf (Elt Ideal) ((c.tc : Thread Cert.MixBwdIdeal.nD Cert.MixBwdIdeal.τ).loc Cert.MixBwdIdeal.main_v25_2)) (v1 : (c : Dev Cert.MixBwdIdeal.nD) → Buf (Elt Ideal) ((c.tc : Thread Cert.MixBwdIdeal.nD Cert.MixBwdIdeal.τ).loc Cert.MixBwdIdeal.main_v25_7)) (v2 : (c : Dev Cert.MixBwdIdeal.nD) → Buf (Elt Ideal) ((c.tc : Thread Cert.MixBwdIdeal.nD Cert.MixBwdIdeal.τ).loc Cert.MixBwdIdeal.main_v25_8)) (v3 : (c : Dev Cert.MixBwdIdeal.nD) → Buf (Elt Ideal) ((c.tc : Thread Cert.MixBwdIdeal.nD Cert.MixBwdIdeal.τ).loc Cert.MixBwdIdeal.main_v25_9)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v25_2) = v0 c
          ∧ r.2.mem ((c.tc : Thread Cert.MixBwdIdeal.nD Cert.MixBwdIdeal.τ).loc Cert.MixBwdIdeal.main_v25_7) = v1 c
          ∧ r.2.mem ((c.tc : Thread Cert.MixBwdIdeal.nD Cert.MixBwdIdeal.τ).loc Cert.MixBwdIdeal.main_v25_8) = v2 c
          ∧ r.2.mem ((c.tc : Thread Cert.MixBwdIdeal.nD Cert.MixBwdIdeal.τ).loc Cert.MixBwdIdeal.main_v25_9) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
          ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v2) = v0 c
          ∧ r.2.mem ((c.tc : Thread Cert.MixBwdRefIdeal.nD Cert.MixBwdRefIdeal.τ).loc Cert.MixBwdRefIdeal.main_v70) = v1 c
          ∧ r.2.mem ((c.tc : Thread Cert.MixBwdRefIdeal.nD Cert.MixBwdRefIdeal.τ).loc Cert.MixBwdRefIdeal.main_v71) = v2 c
          ∧ r.2.mem ((c.tc : Thread Cert.MixBwdRefIdeal.nD Cert.MixBwdRefIdeal.τ).loc Cert.MixBwdRefIdeal.main_v72) = v3 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10)
          ∧ r.2.mem ((c.tc : Thread Cert.MixBwdRefIdeal.nD Cert.MixBwdRefIdeal.τ).loc Cert.MixBwdRefIdeal.main_arg11) = m' ((c.tc : Thread Cert.MixBwdRefIdeal.nD Cert.MixBwdRefIdeal.τ).loc Cert.MixBwdRefIdeal.main_arg11))

def Claim : Prop :=
  ∃ (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hLnBwd : Cert.LnBwd.Facts) (hLnBwdIdeal : Cert.LnBwdIdeal.Facts) (hLnBwdRefIdeal : Cert.LnBwdRefIdeal.Facts) (hMixFwd : Cert.MixFwd.Facts) (hMixFwdIdeal : Cert.MixFwdIdeal.Facts) (hMixFwdRefIdeal : Cert.MixFwdRefIdeal.Facts) (hLnParts : Cert.LnParts.Facts) (hLnPartsIdeal : Cert.LnPartsIdeal.Facts) (hLnPartsRefIdeal : Cert.LnPartsRefIdeal.Facts) (hLoss : Cert.Loss.Facts) (hLossIdeal : Cert.LossIdeal.Facts) (hLossRefIdeal : Cert.LossRefIdeal.Facts) (hAdamW : Cert.AdamW.Facts) (hAdamWIdeal : Cert.AdamWIdeal.Facts) (hAdamWRefIdeal : Cert.AdamWRefIdeal.Facts) (hMixBwd : Cert.MixBwd.Facts) (hMixBwdIdeal : Cert.MixBwdIdeal.Facts) (hMixBwdRefIdeal : Cert.MixBwdRefIdeal.Facts) (hPre_finite : Cert.Pre_finite.Facts) (hPre_finite_ln : Cert.Pre_finite_ln.Facts) (hPre_finite_parts : Cert.Pre_finite_parts.Facts) (hPre_finite_mix : Cert.Pre_finite_mix.Facts),
    quiescent_FfnBwd (hFfnBwd := hFfnBwd)
    ∧ quiescent_FfnBwdIdeal (hFfnBwdIdeal := hFfnBwdIdeal)
    ∧ quiescent_FfnBwdIdeal_pre_finite (hFfnBwdIdeal := hFfnBwdIdeal) (hPre_finite := hPre_finite)
    ∧ quiescent_FfnBwdRefIdeal (hFfnBwdRefIdeal := hFfnBwdRefIdeal)
    ∧ quiescent_FfnBwdRefIdeal_pre_finite (hFfnBwdRefIdeal := hFfnBwdRefIdeal) (hPre_finite := hPre_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_LnParts (hLnParts := hLnParts)
    ∧ quiescent_LnPartsIdeal (hLnPartsIdeal := hLnPartsIdeal)
    ∧ quiescent_LnPartsIdeal_pre_finite_parts (hLnPartsIdeal := hLnPartsIdeal) (hPre_finite_parts := hPre_finite_parts)
    ∧ quiescent_LnPartsRefIdeal (hLnPartsRefIdeal := hLnPartsRefIdeal)
    ∧ quiescent_LnPartsRefIdeal_pre_finite_parts (hLnPartsRefIdeal := hLnPartsRefIdeal) (hPre_finite_parts := hPre_finite_parts)
    ∧ quiescent_Loss (hLoss := hLoss)
    ∧ quiescent_LossIdeal (hLossIdeal := hLossIdeal)
    ∧ quiescent_LossRefIdeal (hLossRefIdeal := hLossRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_MixBwd (hMixBwd := hMixBwd)
    ∧ quiescent_MixBwdIdeal (hMixBwdIdeal := hMixBwdIdeal)
    ∧ quiescent_MixBwdIdeal_pre_finite_mix (hMixBwdIdeal := hMixBwdIdeal) (hPre_finite_mix := hPre_finite_mix)
    ∧ quiescent_MixBwdRefIdeal (hMixBwdRefIdeal := hMixBwdRefIdeal)
    ∧ quiescent_MixBwdRefIdeal_pre_finite_mix (hMixBwdRefIdeal := hMixBwdRefIdeal) (hPre_finite_mix := hPre_finite_mix)
    ∧ preserves_FfnBwd_FfnBwdIdeal
    ∧ algebraic_FfnBwdIdeal_FfnBwdRefIdeal_pre_finite (hFfnBwdIdeal := hFfnBwdIdeal) (hFfnBwdRefIdeal := hFfnBwdRefIdeal) (hPre_finite := hPre_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_MixFwd_MixFwdIdeal
    ∧ algebraic_MixFwdIdeal_MixFwdRefIdeal (hMixFwdIdeal := hMixFwdIdeal) (hMixFwdRefIdeal := hMixFwdRefIdeal)
    ∧ preserves_LnParts_LnPartsIdeal
    ∧ algebraic_LnPartsIdeal_LnPartsRefIdeal_pre_finite_parts (hLnPartsIdeal := hLnPartsIdeal) (hLnPartsRefIdeal := hLnPartsRefIdeal) (hPre_finite_parts := hPre_finite_parts)
    ∧ preserves_Loss_LossIdeal
    ∧ algebraic_LossIdeal_LossRefIdeal (hLossIdeal := hLossIdeal) (hLossRefIdeal := hLossRefIdeal)
    ∧ preserves_AdamW_AdamWIdeal
    ∧ algebraic_AdamWIdeal_AdamWRefIdeal (hAdamWIdeal := hAdamWIdeal) (hAdamWRefIdeal := hAdamWRefIdeal)
    ∧ preserves_MixBwd_MixBwdIdeal
    ∧ algebraic_MixBwdIdeal_MixBwdRefIdeal_pre_finite_mix (hMixBwdIdeal := hMixBwdIdeal) (hMixBwdRefIdeal := hMixBwdRefIdeal) (hPre_finite_mix := hPre_finite_mix)
-- ==== Pre_finite.lean ====
abbrev S16384x1024 : Shape := ⟨2, ![16384, 1024]⟩
abbrev S4x1024x704 : Shape := ⟨3, ![4, 1024, 704]⟩
abbrev S4x704x1024 : Shape := ⟨3, ![4, 704, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x704 : S_.BroadcastsInDim S4x1024x704 (![] : Fin 0 → Fin S4x1024x704.rank)
  reducesTo_S4x1024x704_S_d0_1_2 : S4x1024x704.ReducesTo [0, 1, 2] S_
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part1 {F : FTy → Type} [FloatOps F] (main_arg4 : FVec F S4x704x1024 .f32) (main_v13 : IVec S_ 1) (main_v16 : IVec S4x1024x704 1) : IVec S_ 1 :=
  let main_c_5 : IVec S_ 1 := constantI S_ 1 1#1
  let main_v17 : IVec S_ 1 := (fun x v => Host.reduce IntOp.andi x v reducesTo_S4x1024x704_S_d0_1_2 h_S_) main_v16 main_c_5
  let main_v18 : IVec S_ 1 := andi main_v13 main_v17
  let main_v19 : FVec F S4x704x1024 .f32 := Host.absf main_arg4
  let main_cst_6 : FVec F S_ .f32 := constant S_ .f32 0x7F800000#32
  let main_v20 : FVec F S4x704x1024 .f32 := broadcastInDim S4x704x1024 ![] bcast_S_S4x704x1024 main_cst_6
  let main_v21 : IVec S4x704x1024 1 := cmpf .olt main_v19 main_v20
  let main_c_7 : IVec S_ 1 := constantI S_ 1 1#1
  let main_v22 : IVec S_ 1 := (fun x v => Host.reduce IntOp.andi x v reducesTo_S4x704x1024_S_d0_1_2 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S4x1024x704 .f32) (main_arg3 : FVec F S4x1024x704 .f32) (main_arg4 : FVec F S4x704x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S4x1024x704 .f32 := Host.absf main_arg2
  let main_cst_2 : FVec F S_ .f32 := constant S_ .f32 0x7F800000#32
  let main_v10 : FVec F S4x1024x704 .f32 := broadcastInDim S4x1024x704 ![] bcast_S_S4x1024x704 main_cst_2
  let main_v11 : IVec S4x1024x704 1 := cmpf .olt main_v9 main_v10
  let main_c_3 : IVec S_ 1 := constantI S_ 1 1#1
  let main_v12 : IVec S_ 1 := (fun x v => Host.reduce IntOp.andi x v reducesTo_S4x1024x704_S_d0_1_2 h_S_) main_v11 main_c_3
  let main_v13 : IVec S_ 1 := andi main_v8 main_v12
  let main_v14 : FVec F S4x1024x704 .f32 := Host.absf main_arg3
  let main_cst_4 : FVec F S_ .f32 := constant S_ .f32 0x7F800000#32
  let main_v15 : FVec F S4x1024x704 .f32 := broadcastInDim S4x1024x704 ![] bcast_S_S4x1024x704 main_cst_4
  let main_v16 : IVec S4x1024x704 1 := cmpf .olt main_v14 main_v15
  fn_part1 (F := F) main_arg4 main_v13 main_v16
-- ==== Pre_finite_ln.lean ====
abbrev S16384x1024 : Shape := ⟨2, ![16384, 1024]⟩
abbrev S16384x2176 : Shape := ⟨2, ![16384, 2176]⟩
abbrev S1024x2176 : Shape := ⟨2, ![1024, 2176]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2176 : S_.BroadcastsInDim S16384x2176 (![] : Fin 0 → Fin S16384x2176.rank)
  reducesTo_S16384x2176_S_d0_1 : S16384x2176.ReducesTo [0, 1] S_
  bcast_S_S1024x2176 : S_.BroadcastsInDim S1024x2176 (![] : Fin 0 → Fin S1024x2176.rank)
  reducesTo_S1024x2176_S_d0_1 : S1024x2176.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16384x1024 .f32) (main_arg5 : FVec F S1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16384x1024 .f32) (main_arg1 : FVec F S16384x2176 .f32) (main_arg2 : FVec F S1024x2176 .f32) (main_arg3 : FVec F S16384x1024 .f32) (main_arg4 : FVec F S16384x1024 .f32) (main_arg5 : FVec F S1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2176 .f32 := Host.absf main_arg1
  let main_cst_0 : FVec F S_ .f32 := constant S_ .f32 0x7F800000#32
  let main_v5 : FVec F S16384x2176 .f32 := broadcastInDim S16384x2176 ![] bcast_S_S16384x2176 main_cst_0
  let main_v6 : IVec S16384x2176 1 := cmpf .olt main_v4 main_v5
  let main_c_1 : IVec S_ 1 := constantI S_ 1 1#1
  let main_v7 : IVec S_ 1 := (fun x v => Host.reduce IntOp.andi x v reducesTo_S16384x2176_S_d0_1 h_S_) main_v6 main_c_1
  let main_v8 : IVec S_ 1 := andi main_v3 main_v7
  let main_v9 : FVec F S1024x2176 .f32 := Host.absf main_arg2
  let main_cst_2 : FVec F S_ .f32 := constant S_ .f32 0x7F800000#32
  let main_v10 : FVec F S1024x2176 .f32 := broadcastInDim S1024x2176 ![] bcast_S_S1024x2176 main_cst_2
  let main_v11 : IVec S1024x2176 1 := cmpf .olt main_v9 main_v10
  let main_c_3 : IVec S_ 1 := constantI S_ 1 1#1
  let main_v12 : IVec S_ 1 := (fun x v => Host.reduce IntOp.andi x v reducesTo_S1024x2176_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_v13 main_v16
-- ==== Pre_finite_mix.lean ====
abbrev S16384x2176 : Shape := ⟨2, ![16384, 2176]⟩
abbrev S16384x1024 : Shape := ⟨2, ![16384, 1024]⟩
abbrev S16384x384 : Shape := ⟨2, ![16384, 384]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x384 : S_.BroadcastsInDim S16384x384 (![] : Fin 0 → Fin S16384x384.rank)
  reducesTo_S16384x384_S_d0_1 : S16384x384.ReducesTo [0, 1] S_
  bcast_S_S384 : S_.BroadcastsInDim S384 (![] : Fin 0 → Fin S384.rank)
  reducesTo_S384_S_d0 : S384.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg11 : FVec F S1024x1024 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S1024x1024 .f32 := Host.absf main_arg11
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S16384x2176 .f32) (main_arg1 : FVec F S16384x1024 .f32) (main_arg2 : FVec F S16384x384 .f32) (main_arg3 : FVec F S16384x1024 .f32) (main_arg4 : FVec F S16384x1024 .f32) (main_arg5 : FVec F S4x64x64 .f32) (main_arg6 : FVec F S256 .f32) (main_arg7 : FVec F S3x384 .f32) (main_arg8 : FVec F S31x384 .f32) (main_arg9 : FVec F S384 .f32) (main_arg10 : FVec F S384 .f32) (main_arg11 : FVec F S1024x1024 .f32) : IVec S_ 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x384 .f32 := Host.absf main_arg2
  let main_cst_0 : FVec F S_ .f32 := constant S_ .f32 0x7F800000#32
  let main_v5 : FVec F S16384x384 .f32 := broadcastInDim S16384x384 ![] bcast_S_S16384x384 main_cst_0
  let main_v6 : IVec S16384x384 1 := cmpf .olt main_v4 main_v5
  let main_c_1 : IVec S_ 1 := constantI S_ 1 1#1
  let main_v7 : IVec S_ 1 := (fun x v => Host.reduce IntOp.andi x v reducesTo_S16384x384_S_d0_1 h_S_) main_v6 main_c_1
  let main_v8 : IVec S_ 1 := andi main_v3 main_v7
  let main_v9 : FVec F S384 .f32 := Host.absf main_arg9
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg10
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg11 main_v13 main_v16
-- ==== Pre_finite_parts.lean ====
abbrev S16384x1024 : Shape := ⟨2, ![16384, 1024]⟩
abbrev S4x16384x1024 : Shape := ⟨3, ![4, 16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x16384x1024 : S_.BroadcastsInDim S4x16384x1024 (![] : Fin 0 → Fin S4x16384x1024.rank)
  reducesTo_S4x16384x1024_S_d0_1_2 : S4x16384x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : FVec F S4x16384x1024 .f32) (main_arg2 : FVec F S16384x1024 .f32) (main_arg3 : FVec F S16384x1024 .f32) (main_arg4 : FVec F S1024 .f32) (main_arg5 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x16384x1024 .f32 := Host.absf main_arg1
  let main_cst_0 : FVec F S_ .f32 := constant S_ .f32 0x7F800000#32
  let main_v5 : FVec F S4x16384x1024 .f32 := broadcastInDim S4x16384x1024 ![] bcast_S_S4x16384x1024 main_cst_0
  let main_v6 : IVec S4x16384x1024 1 := cmpf .olt main_v4 main_v5
  let main_c_1 : IVec S_ 1 := constantI S_ 1 1#1
  let main_v7 : IVec S_ 1 := (fun x v => Host.reduce IntOp.andi x v reducesTo_S4x16384x1024_S_d0_1_2 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_v13 main_v16
-- ==== FfnBwd.lean ====
abbrev S16384x1024 : Shape := ⟨2, ![16384, 1024]⟩
abbrev S4x1024x704 : Shape := ⟨3, ![4, 1024, 704]⟩
abbrev S4x704x1024 : Shape := ⟨3, ![4, 704, 1024]⟩
abbrev S4x704x16384 : Shape := ⟨3, ![4, 704, 16384]⟩
abbrev S4x16384x704 : Shape := ⟨3, ![4, 16384, 704]⟩
abbrev S4x16384x1024 : Shape := ⟨3, ![4, 16384, 1024]⟩
abbrev S512x1024 : Shape := ⟨2, ![512, 1024]⟩
abbrev S1x512x704 : Shape := ⟨3, ![1, 512, 704]⟩
abbrev S1x1024x704 : Shape := ⟨3, ![1, 1024, 704]⟩
abbrev S1x704x1024 : Shape := ⟨3, ![1, 704, 1024]⟩
abbrev S1x512x1024 : Shape := ⟨3, ![1, 512, 1024]⟩
abbrev S704x1024 : Shape := ⟨2, ![704, 1024]⟩
abbrev S512x704 : Shape := ⟨2, ![512, 704]⟩
abbrev S1024x704 : Shape := ⟨2, ![1024, 704]⟩

abbrev nBuf : Space → Nat
  | .hbm => 20
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x1024x704, .f32⟩
  | .hbm, ⟨3, _⟩ => ⟨S4x1024x704, .f32⟩
  | .hbm, ⟨4, _⟩ => ⟨S4x704x1024, .f32⟩
  | .hbm, ⟨5, _⟩ => ⟨S4x704x16384, .f32⟩
  | .hbm, ⟨6, _⟩ => ⟨S4x16384x704, .f32⟩
  | .hbm, ⟨7, _⟩ => ⟨S4x16384x704, .bf16⟩
  | .hbm, ⟨8, _⟩ => ⟨S4x704x16384, .f32⟩
  | .hbm, ⟨9, _⟩ => ⟨S4x16384x704, .f32⟩
  | .hbm, ⟨10, _⟩ => ⟨S4x16384x704, .bf16⟩
  | .hbm, ⟨11, _⟩ => ⟨S16384x1024, .bf16⟩
  | .hbm, ⟨12, _⟩ => ⟨S16384x1024, .bf16⟩
  | .hbm, ⟨13, _⟩ => ⟨S4x1024x704, .bf16⟩
  | .hbm, ⟨14, _⟩ => ⟨S4x1024x704, .bf16⟩
  | .hbm, ⟨15, _⟩ => ⟨S4x704x1024, .bf16⟩
  | .hbm, ⟨16, _⟩ => ⟨S4x16384x1024, .bf16⟩
  | .hbm, ⟨17, _⟩ => ⟨S4x704x1024, .bf16⟩
  | .hbm, ⟨18, _⟩ => ⟨S4x704x1024, .bf16⟩
  | .hbm, ⟨19, _⟩ => ⟨S4x704x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x704x1024, .bf16⟩
  | .local _ .vmem, ⟨19, _⟩ => ⟨S1x704x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S704x1024, .f32⟩
  | .local _ .vmem, ⟨23, _⟩ => ⟨S704x1024, .f32⟩
  | .local _ .vmem, ⟨24, _⟩ => ⟨S704x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v68 : BitVec 1 := Scalar.cmpi .eq arg1 c31_i32
  let v69 : BitVec 32 := Scalar.extui v68
  let c0_i32_45 : BitVec 32 := 0#32
  let v70 : BitVec 1 := Scalar.cmpi .ne v69 c0_i32_45
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnBwdRefIdeal.lean ====
abbrev S16384x1024 : Shape := ⟨2, ![16384, 1024]⟩
abbrev S4x1024x704 : Shape := ⟨3, ![4, 1024, 704]⟩
abbrev S4x704x1024 : Shape := ⟨3, ![4, 704, 1024]⟩
abbrev S4x16384x1024 : Shape := ⟨3, ![4, 16384, 1024]⟩
abbrev S4x16384x704 : Shape := ⟨3, ![4, 16384, 704]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x1024x704, .f32⟩
  | .hbm, ⟨3, _⟩ => ⟨S4x1024x704, .f32⟩
  | .hbm, ⟨4, _⟩ => ⟨S4x704x1024, .f32⟩
  | .hbm, ⟨5, _⟩ => ⟨S4x16384x1024, .f32⟩
  | .hbm, ⟨6, _⟩ => ⟨S4x16384x704, .f32⟩
  | .hbm, ⟨7, _⟩ => ⟨S4x16384x704, .f32⟩
  | .hbm, ⟨8, _⟩ => ⟨S4x16384x704, .f32⟩
  | .hbm, ⟨9, _⟩ => ⟨S4x16384x704, .f32⟩
  | .hbm, ⟨10, _⟩ => ⟨S_, .f32⟩
  | .hbm, ⟨11, _⟩ => ⟨S4x16384x704, .f32⟩
  | .hbm, ⟨12, _⟩ => ⟨S4x16384x704, .f32⟩
  | .hbm, ⟨13, _⟩ => ⟨S_, .f32⟩
  | .hbm, ⟨14, _⟩ => ⟨S4x16384x704, .f32⟩
  | .hbm, ⟨15, _⟩ => ⟨S4x16384x704, .f32⟩
  | .hbm, ⟨16, _⟩ => ⟨S_, .f32⟩
  | .hbm, ⟨17, _⟩ => ⟨S4x16384x704, .f32⟩
  | .hbm, ⟨18, _⟩ => ⟨S4x16384x704, .f32⟩
  | .hbm, ⟨19, _⟩ => ⟨S4x16384x704, .f32⟩
  | .hbm, ⟨20, _⟩ => ⟨S4x16384x704, .f32⟩
  | .hbm, ⟨21, _⟩ => ⟨S4x16384x704, .f32⟩
  | .hbm, ⟨22, _⟩ => ⟨S4x16384x1024, .f32⟩
  | .hbm, ⟨23, _⟩ => ⟨S_, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S4x16384x1024, .f32⟩
  | .hbm, ⟨32, _⟩ => ⟨S4x1024x704, .f32⟩
  | .hbm, ⟨33, _⟩ => ⟨S4x704x1024, .f32⟩
  | .hbm, ⟨34, _⟩ => ⟨S4x16384x704, .f32⟩
  | .hbm, ⟨35, _⟩ => ⟨S4x16384x704, .f32⟩
  | .hbm, ⟨36, _⟩ => ⟨S4x16384x704, .f32⟩
  | .hbm, ⟨37, _⟩ => ⟨S4x16384x704, .f32⟩
  | .hbm, ⟨38, _⟩ => ⟨S4x16384x704, .f32⟩
  | .hbm, ⟨39, _⟩ => ⟨S4x16384x704, .f32⟩
  | .hbm, ⟨40, _⟩ => ⟨S4x16384x704, .f32⟩
  | .hbm, ⟨41, _⟩ => ⟨S4x704x1024, .f32⟩
  | .hbm, ⟨42, _⟩ => ⟨S4x1024x704, .f32⟩
  | .hbm, ⟨43, _⟩ => ⟨S4x16384x1024, .f32⟩
  | .hbm, ⟨44, _⟩ => ⟨S4x704x1024, .f32⟩
  | .hbm, ⟨45, _⟩ => ⟨S4x1024x704, .f32⟩
  | .hbm, ⟨46, _⟩ => ⟨S4x16384x1024, .f32⟩
  | .hbm, ⟨47, _⟩ => ⟨S4x16384x1024, .f32⟩
  | .hbm, ⟨48, _⟩ => ⟨S4x704x1024, .f32⟩
  | .hbm, ⟨49, _⟩ => ⟨S4x704x1024, .f32⟩
  | .hbm, ⟨50, _⟩ => ⟨S4x16384x1024, .bf16⟩
  | .hbm, ⟨51, _⟩ => ⟨S4x704x1024, .bf16⟩
  | .hbm, ⟨52, _⟩ => ⟨S4x704x1024, .bf16⟩
  | .hbm, ⟨53, _⟩ => ⟨S4x704x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== FfnFwd.lean ====
abbrev S16384x1024 : Shape := ⟨2, ![16384, 1024]⟩
abbrev S4x1024x704 : Shape := ⟨3, ![4, 1024, 704]⟩
abbrev S4x704x1024 : Shape := ⟨3, ![4, 704, 1024]⟩
abbrev S1024 : Shape := ⟨1, ![1024]⟩
abbrev S1x1024 : Shape := ⟨2, ![1, 1024]⟩
abbrev S4x16384x704 : Shape := ⟨3, ![4, 16384, 704]⟩
abbrev S512x1024 : Shape := ⟨2, ![512, 1024]⟩
abbrev S1x1024x704 : Shape := ⟨3, ![1, 1024, 704]⟩
abbrev S1x704x1024 : Shape := ⟨3, ![1, 704, 1024]⟩
abbrev S1x512x704 : Shape := ⟨3, ![1, 512, 704]⟩
abbrev S1024x704 : Shape := ⟨2, ![1024, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩

abbrev nBuf : Space → Nat
  | .hbm => 17
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S4x1024x704, .f32⟩
  | .hbm, ⟨2, _⟩ => ⟨S4x1024x704, .f32⟩
  | .hbm, ⟨3, _⟩ => ⟨S4x704x1024, .f32⟩
  | .hbm, ⟨4, _⟩ => ⟨S1024, .f32⟩
  | .hbm, ⟨5, _⟩ => ⟨S1024, .f32⟩
  | .hbm, ⟨6, _⟩ => ⟨S16384x1024, .bf16⟩
  | .hbm, ⟨7, _⟩ => ⟨S4x1024x704, .bf16⟩
  | .hbm, ⟨8, _⟩ => ⟨S4x1024x704, .bf16⟩
  | .hbm, ⟨9, _⟩ => ⟨S4x704x1024, .bf16⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S4x16384x704, .bf16⟩
  | .hbm, ⟨16, _⟩ => ⟨S4x16384x704, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnFwdRefIdeal.lean ====
abbrev S16384x1024 : Shape := ⟨2, ![16384, 1024]⟩
abbrev S4x1024x704 : Shape := ⟨3, ![4, 1024, 704]⟩
abbrev S4x704x1024 : Shape := ⟨3, ![4, 704, 1024]⟩
abbrev S1024 : Shape := ⟨1, ![1024]⟩
abbrev S4x704x16384 : Shape := ⟨3, ![4, 704, 16384]⟩
abbrev S4x16384x704 : Shape := ⟨3, ![4, 16384, 704]⟩
abbrev S_ : Shape := ⟨0, ![]⟩
abbrev S4x16384x1024 : Shape := ⟨3, ![4, 16384, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x704, .f32⟩
  | .hbm, ⟨2, _⟩ => ⟨S4x1024x704, .f32⟩
  | .hbm, ⟨3, _⟩ => ⟨S4x704x1024, .f32⟩
  | .hbm, ⟨4, _⟩ => ⟨S1024, .f32⟩
  | .hbm, ⟨5, _⟩ => ⟨S1024, .f32⟩
  | .hbm, ⟨6, _⟩ => ⟨S4x704x16384, .f32⟩
  | .hbm, ⟨7, _⟩ => ⟨S4x16384x704, .f32⟩
  | .hbm, ⟨8, _⟩ => ⟨S4x704x16384, .f32⟩
  | .hbm, ⟨9, _⟩ => ⟨S4x16384x704, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S4x16384x704, .f32⟩
  | .hbm, ⟨14, _⟩ => ⟨S4x16384x704, .f32⟩
  | .hbm, ⟨15, _⟩ => ⟨S_, .f32⟩
  | .hbm, ⟨16, _⟩ => ⟨S4x16384x704, .f32⟩
  | .hbm, ⟨17, _⟩ => ⟨S4x16384x704, .f32⟩
  | .hbm, ⟨18, _⟩ => ⟨S_, .f32⟩
  | .hbm, ⟨19, _⟩ => ⟨S4x16384x704, .f32⟩
  | .hbm, ⟨20, _⟩ => ⟨S4x16384x704, .f32⟩
  | .hbm, ⟨21, _⟩ => ⟨S4x16384x704, .f32⟩
  | .hbm, ⟨22, _⟩ => ⟨S4x16384x704, .f32⟩
  | .hbm, ⟨23, _⟩ => ⟨S4x16384x1024, .f32⟩
  | .hbm, ⟨24, _⟩ => ⟨S_, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .bf16⟩
  | .hbm, ⟨60, _⟩ => ⟨S4x16384x704, .bf16⟩
  | .hbm, ⟨61, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== LnBwd.lean ====
abbrev S16384x1024 : Shape := ⟨2, ![16384, 1024]⟩
abbrev S16384x2176 : Shape := ⟨2, ![16384, 2176]⟩
abbrev S1024x2176 : Shape := ⟨2, ![1024, 2176]⟩
abbrev S1024 : Shape := ⟨1, ![1024]⟩
abbrev S_ : Shape := ⟨0, ![]⟩
abbrev S1x1024 : Shape := ⟨2, ![1, 1024]⟩
abbrev S2176x1024 : Shape := ⟨2, ![2176, 1024]⟩
abbrev S512x1024 : Shape := ⟨2, ![512, 1024]⟩
abbrev S512x2176 : Shape := ⟨2, ![512, 2176]⟩
abbrev S512 : Shape := ⟨1, ![512]⟩
abbrev S512x1 : Shape := ⟨2, ![512, 1]⟩

abbrev nBuf : Space → Nat
  | .hbm => 19
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x2176, .f32⟩
  | .hbm, ⟨2, _⟩ => ⟨S1024x2176, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x2176, .bf16⟩
  | .hbm, ⟨13, _⟩ => ⟨S1024x2176, .bf16⟩
  | .hbm, ⟨14, _⟩ => ⟨S2176x1024, .bf16⟩
  | .hbm, ⟨15, _⟩ => ⟨S16384x1024, .bf16⟩
  | .hbm, ⟨16, _⟩ => ⟨S16384x1024, .f32⟩
  | .hbm, ⟨17, _⟩ => ⟨S1x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2176, .bf16⟩
  | .local _ .vmem, ⟨3, _⟩ => ⟨S512x2176, .bf16⟩
  | .local _ .vmem, ⟨4, _⟩ => ⟨S2176x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S16384x1024 : Shape := ⟨2, ![16384, 1024]⟩
abbrev S16384x2176 : Shape := ⟨2, ![16384, 2176]⟩
abbrev S1024x2176 : Shape := ⟨2, ![1024, 2176]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2176, .f32⟩
  | .hbm, ⟨2, _⟩ => ⟨S1024x2176, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x2176, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x1024, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1024, .f32⟩
  | .hbm, ⟨97, _⟩ => ⟨S16384x1024, .f32⟩
  | .hbm, ⟨98, _⟩ => ⟨S16384x1024, .bf16⟩
  | .hbm, ⟨99, _⟩ => ⟨S1x1024, .f32⟩
  | .hbm, ⟨100, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== MixFwd.lean ====
abbrev S16384x1024 : Shape := ⟨2, ![16384, 1024]⟩
abbrev S1024x2176 : Shape := ⟨2, ![1024, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S8x384 : Shape := ⟨2, ![8, 384]⟩
abbrev S32x384 : Shape := ⟨2, ![32, 384]⟩
abbrev S1x384 : Shape := ⟨2, ![1, 384]⟩
abbrev S16384x2176 : Shape := ⟨2, ![16384, 2176]⟩
abbrev S16384x384 : Shape := ⟨2, ![16384, 384]⟩
abbrev S32x1024 : Shape := ⟨2, ![32, 1024]⟩
abbrev S256x1024 : Shape := ⟨2, ![256, 1024]⟩
abbrev S256x2176 : Shape := ⟨2, ![256, 2176]⟩
abbrev S256x384 : Shape := ⟨2, ![256, 384]⟩
abbrev S320x1024 : Shape := ⟨2, ![320, 1024]⟩
abbrev S320x2176 : Shape := ⟨2, ![320, 2176]⟩
abbrev S320x384 : Shape := ⟨2, ![320, 384]⟩
abbrev S312x384 : Shape := ⟨2, ![312, 384]⟩
abbrev S8x312x384 : Shape := ⟨3, ![8, 312, 384]⟩
abbrev S312x256 : Shape := ⟨2, ![312, 256]⟩
abbrev S256x1 : Shape := ⟨2, ![256, 1]⟩
abbrev S1x312x384 : Shape := ⟨3, ![1, 312, 384]⟩
abbrev S64x384 : Shape := ⟨2, ![64, 384]⟩
abbrev S1x64x384 : Shape := ⟨3, ![1, 64, 384]⟩

abbrev nBuf : Space → Nat
  | .hbm => 56
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024x2176, .f32⟩
  | .hbm, ⟨2, _⟩ => ⟨S4x64x64, .f32⟩
  | .hbm, ⟨3, _⟩ => ⟨S256, .f32⟩
  | .hbm, ⟨4, _⟩ => ⟨S3x384, .f32⟩
  | .hbm, ⟨5, _⟩ => ⟨S31x384, .f32⟩
  | .hbm, ⟨6, _⟩ => ⟨S384, .f32⟩
  | .hbm, ⟨7, _⟩ => ⟨S384, .f32⟩
  | .hbm, ⟨8, _⟩ => ⟨S384, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S16384x1024, .bf16⟩
  | .hbm, ⟨13, _⟩ => ⟨S1024x2176, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S256x256, .f32⟩
  | .hbm, ⟨19, _⟩ => ⟨S1x64x64, .f32⟩
  | .hbm, ⟨20, _⟩ => ⟨S64x64, .f32⟩
  | .hbm, ⟨21, _⟩ => ⟨S_, .i32⟩
  | .hbm, ⟨22, _⟩ => ⟨S_, .i32⟩
  | .hbm, ⟨23, _⟩ => ⟨S256x256, .f32⟩
  | .hbm, ⟨24, _⟩ => ⟨S1x64x64, .f32⟩
  | .hbm, ⟨25, _⟩ => ⟨S64x64, .f32⟩
  | .hbm, ⟨26, _⟩ => ⟨S_, .i32⟩
  | .hbm, ⟨27, _⟩ => ⟨S_, .i32⟩
  | .hbm, ⟨28, _⟩ => ⟨S256x256, .f32⟩
  | .hbm, ⟨29, _⟩ => ⟨S1x64x64, .f32⟩
  | .hbm, ⟨30, _⟩ => ⟨S64x64, .f32⟩
  | .hbm, ⟨31, _⟩ => ⟨S_, .i32⟩
  | .hbm, ⟨32, _⟩ => ⟨S_, .i32⟩
  | .hbm, ⟨33, _⟩ => ⟨S256x256, .f32⟩
  | .hbm, ⟨34, _⟩ => ⟨S1x64x64, .f32⟩
  | .hbm, ⟨35, _⟩ => ⟨S64x64, .f32⟩
  | .hbm, ⟨36, _⟩ => ⟨S_, .i32⟩
  | .hbm, ⟨37, _⟩ => ⟨S_, .i32⟩
  | .hbm, ⟨38, _⟩ => ⟨S256x256, .f32⟩
  | .hbm, ⟨39, _⟩ => ⟨S256x256, .bf16⟩
  | .hbm, ⟨40, _⟩ => ⟨S1x256, .f32⟩
  | .hbm, ⟨41, _⟩ => ⟨S_, .i32⟩
  | .hbm, ⟨42, _⟩ => ⟨S_, .f32⟩
  | .hbm, ⟨43, _⟩ => ⟨S8x384, .f32⟩
  | .hbm, ⟨44, _⟩ => ⟨S_, .i32⟩
  | .hbm, ⟨45, _⟩ => ⟨S_, .f32⟩
  | .hbm, ⟨46, _⟩ => ⟨S32x384, .f32⟩
  | .hbm, ⟨47, _⟩ => ⟨S1x384, .f32⟩
  | .hbm, ⟨48, _⟩ => ⟨S1x384, .f32⟩
  | .hbm, ⟨49, _⟩ => ⟨S1x384, .f32⟩
  | .hbm, ⟨50, _⟩ => ⟨S16384x2176, .f32⟩
  | .hbm, ⟨51, _⟩ => ⟨S16384x1024, .bf16⟩
  | .hbm, ⟨52, _⟩ => ⟨S16384x384, .f32⟩
  | .hbm, ⟨53, _⟩ => ⟨S16384x1024, .f32⟩
  | .hbm, ⟨54, _⟩ => ⟨S16384x1024, .bf16⟩
  | .hbm, ⟨55, _⟩ => ⟨S16384x1024, .f32⟩
  | .local _ .vmem, ⟨0, _⟩ => ⟨S32x1024, .bf16⟩
  | .local _ .vmem, ⟨1, _⟩ => ⟨S32x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S256x1024, .f32⟩
  | .local _ .vmem, ⟨7, _⟩ => ⟨S256x1024, .f32⟩
  | .local _ .vmem, ⟨8, _⟩ => ⟨S1024x2176, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x256, .bf16⟩
  | .local _ .vmem, ⟨13, _⟩ => ⟨S1x256, .f32⟩
  | .local _ .vmem, ⟨14, _⟩ => ⟨S8x384, .f32⟩
  | .local _ .vmem, ⟨15, _⟩ => ⟨S32x384, .f32⟩
  | .local _ .vmem, ⟨16, _⟩ => ⟨S1x384, .f32⟩
  | .local _ .vmem, ⟨17, _⟩ => ⟨S1x384, .f32⟩
  | .local _ .vmem, ⟨18, _⟩ => ⟨S1x384, .f32⟩
  | .local _ .vmem, ⟨19, _⟩ => ⟨S256x2176, .f32⟩
  | .local _ .vmem, ⟨20, _⟩ => ⟨S256x2176, .f32⟩
  | .local _ .vmem, ⟨21, _⟩ => ⟨S256x1024, .bf16⟩
  | .local _ .vmem, ⟨22, _⟩ => ⟨S256x1024, .bf16⟩
  | .local _ .vmem, ⟨23, _⟩ => ⟨S256x384, .f32⟩
  | .local _ .vmem, ⟨24, _⟩ => ⟨S256x384, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S320x1024, .bf16⟩
  | .local _ .vmem, ⟨32, _⟩ => ⟨S320x2176, .f32⟩
  | .local _ .vmem, ⟨33, _⟩ => ⟨S320x384, .f32⟩
  | .local _ .vmem, ⟨34, _⟩ => ⟨S320x384, .f32⟩
  | .local _ .vmem, ⟨35, _⟩ => ⟨S312x384, .f32⟩
  | .local _ .vmem, ⟨36, _⟩ => ⟨S8x312x384, .f32⟩
  | .local _ .vmem, ⟨37, _⟩ => ⟨S256x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_c_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_call0_v0 : Ref sig .tc := ⟨.hbm, 42, rfl⟩
abbrev main_v20 : Ref sig .tc := ⟨.hbm, 43, rfl⟩
abbrev main_c_8 : Ref sig .tc := ⟨.hbm, 44, rfl⟩
abbrev main_call1_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v25_4 : Ref sig .tc := ⟨.hbm, 54, rfl⟩
abbrev main_v25_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2176 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MixFwdRefIdeal.lean ====
abbrev S16384x1024 : Shape := ⟨2, ![16384, 1024]⟩
abbrev S1024x2176 : Shape := ⟨2, ![1024, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S1024 : Shape := ⟨1, ![1024]⟩
abbrev S16384x2176 : Shape := ⟨2, ![16384, 2176]⟩
abbrev S16384x256 : Shape := ⟨2, ![16384, 256]⟩
abbrev S16384x384 : Shape := ⟨2, ![16384, 384]⟩
abbrev S16384x64 : Shape := ⟨2, ![16384, 64]⟩
abbrev S16384 : Shape := ⟨1, ![16384]⟩
abbrev S_ : Shape := ⟨0, ![]⟩
abbrev S1x64 : Shape := ⟨2, ![1, 64]⟩
abbrev S0x64 : Shape := ⟨2, ![0, 64]⟩
abbrev S16385x64 : Shape := ⟨2, ![16385, 64]⟩
abbrev S16384x1 : Shape := ⟨2, ![16384, 1]⟩
abbrev S2x64 : Shape := ⟨2, ![2, 64]⟩
abbrev S16387x64 : Shape := ⟨2, ![16387, 64]⟩
abbrev S4x64 : Shape := ⟨2, ![4, 64]⟩
abbrev S3x64 : Shape := ⟨2, ![3, 64]⟩
abbrev S16391x64 : Shape := ⟨2, ![16391, 64]⟩
abbrev S8x64 : Shape := ⟨2, ![8, 64]⟩
abbrev S7x64 : Shape := ⟨2, ![7, 64]⟩
abbrev S16399x64 : Shape := ⟨2, ![16399, 64]⟩
abbrev S1x64x64 : Shape := ⟨3, ![1, 64, 64]⟩
abbrev S64x64 : Shape := ⟨2, ![64, 64]⟩
abbrev S1x256 : Shape := ⟨2, ![1, 256]⟩
abbrev S1x384 : Shape := ⟨2, ![1, 384]⟩
abbrev S16386x384 : Shape := ⟨2, ![16386, 384]⟩
abbrev S15x384 : Shape := ⟨2, ![15, 384]⟩
abbrev S16414x384 : Shape := ⟨2, ![16414, 384]⟩
abbrev S1x1024 : Shape := ⟨2, ![1, 1024]⟩

abbrev nBuf : Space → Nat
  | .hbm => 561
  | .vmem => 0
  | .smem => 0
  | _ => 0

abbrev hbmTy0_0 (i : Nat) : BufTy := match i % 128 with
  | 0 => ⟨S16384x1024, .f32⟩
  | 1 => ⟨S1024x2176, .f32⟩
  | 2 => ⟨S4x64x64, .f32⟩
  | 3 => ⟨S256, .f32⟩
  | 4 => ⟨S3x384, .f32⟩
  | 5 => ⟨S31x384, .f32⟩
  | 6 => ⟨S384, .f32⟩
  | 7 => ⟨S384, .f32⟩
  | 8 => ⟨S384, .f32⟩
  | 9 => ⟨S1024x1024, .f32⟩
  | 10 => ⟨S1024, .f32⟩
  | 11 => ⟨S1024, .f32⟩
  | 12 => ⟨S16384x2176, .f32⟩
  | 13 => ⟨S16384x256, .f32⟩
  | 14 => ⟨S16384x384, .f32⟩
  | 15 => ⟨S16384x384, .f32⟩
  | 16 => ⟨S16384x384, .f32⟩
  | 17 => ⟨S16384x384, .f32⟩
  | 18 => ⟨S16384x384, .f32⟩
  | 19 => ⟨S16384x64, .f32⟩
  | 20 => ⟨S16384, .i32⟩
  | 21 => ⟨S_, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i32⟩
  | 36 => ⟨S16384, .i32⟩
  | 37 => ⟨S16384, .f32⟩
  | 38 => ⟨S_, .f32⟩
  | 39 => ⟨S1x64, .f32⟩
  | 40 => ⟨S_, .f32⟩
  | 41 => ⟨S0x64, .f32⟩
  | 42 => ⟨S16385x64, .f32⟩
  | 43 => ⟨S16384x64, .f32⟩
  | 44 => ⟨S16384x64, .f32⟩
  | 45 => ⟨S_, .f32⟩
  | 46 => ⟨S16384x64, .f32⟩
  | 47 => ⟨S16384x64, .f32⟩
  | 48 => ⟨S16384x64, .f32⟩
  | 49 => ⟨S16384x1, .f32⟩
  | 50 => ⟨S16384x64, .f32⟩
  | 51 => ⟨S16384x64, .f32⟩
  | 52 => ⟨S16384x64, .f32⟩
  | 53 => ⟨S16384x64, .f32⟩
  | 54 => ⟨S16384, .i32⟩
  | 55 => ⟨S_, .i32⟩
  | 56 => ⟨S16384, .i32⟩
  | 57 => ⟨S16384, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S16384, .i32⟩
  | 71 => ⟨S16384, .f32⟩
  | 72 => ⟨S_, .f32⟩
  | 73 => ⟨S2x64, .f32⟩
  | 74 => ⟨S_, .f32⟩
  | 75 => ⟨S1x64, .f32⟩
  | 76 => ⟨S16387x64, .f32⟩
  | 77 => ⟨S16384x64, .f32⟩
  | 78 => ⟨S16384x64, .f32⟩
  | 79 => ⟨S16384x64, .f32⟩
  | 80 => ⟨S16384x64, .f32⟩
  | 81 => ⟨S_, .f32⟩
  | 82 => ⟨S16384x64, .f32⟩
  | 83 => ⟨S16384x64, .f32⟩
  | 84 => ⟨S16384x64, .f32⟩
  | 85 => ⟨S16384x64, .f32⟩
  | 86 => ⟨S16384x64, .f32⟩
  | 87 => ⟨S16384x1, .f32⟩
  | 88 => ⟨S16384x64, .f32⟩
  | 89 => ⟨S16384x64, .f32⟩
  | 90 => ⟨S16384x64, .f32⟩
  | 91 => ⟨S16384x64, .f32⟩
  | 92 => ⟨S16384, .i32⟩
  | 93 => ⟨S_, .i32⟩
  | 94 => ⟨S16384, .i32⟩
  | 95 => ⟨S16384, .i32⟩
  | 96 => ⟨S_, .i32⟩
  | 97 => ⟨S16384, .i32⟩
  | 98 => ⟨S16384, .i32⟩
  | 99 => ⟨S_, .i32⟩
  | 100 => ⟨S16384, .i32⟩
  | 101 => ⟨S16384, .i32⟩
  | 102 => ⟨S_, .i32⟩
  | 103 => ⟨S16384, .i32⟩
  | 104 => ⟨S16384, .i32⟩
  | 105 => ⟨S_, .i32⟩
  | 106 => ⟨S16384, .i32⟩
  | 107 => ⟨S16384, .i32⟩
  | 108 => ⟨S16384, .i32⟩
  | 109 => ⟨S16384, .f32⟩
  | 110 => ⟨S_, .f32⟩
  | 111 => ⟨S4x64, .f32⟩
  | 112 => ⟨S_, .f32⟩
  | 113 => ⟨S3x64, .f32⟩
  | 114 => ⟨S16391x64, .f32⟩
  | 115 => ⟨S16384x64, .f32⟩
  | 116 => ⟨S16384x64, .f32⟩
  | 117 => ⟨S16384x64, .f32⟩
  | 118 => ⟨S16384x64, .f32⟩
  | 119 => ⟨S16384x64, .f32⟩
  | 120 => ⟨S16384x64, .f32⟩
  | 121 => ⟨S16384x64, .f32⟩
  | 122 => ⟨S16384x64, .f32⟩
  | 123 => ⟨S_, .f32⟩
  | 124 => ⟨S16384x64, .f32⟩
  | 125 => ⟨S16384x64, .f32⟩
  | 126 => ⟨S16384x64, .f32⟩
  | 127 => ⟨S16384x64, .f32⟩
  | _ => ⟨S16384x1024, .f32⟩

abbrev hbmTy0_1 (i : Nat) : BufTy := match i % 128 with
  | 0 => ⟨S16384x64, .f32⟩
  | 1 => ⟨S16384x64, .f32⟩
  | 2 => ⟨S16384x64, .f32⟩
  | 3 => ⟨S16384x64, .f32⟩
  | 4 => ⟨S16384x64, .f32⟩
  | 5 => ⟨S16384x1, .f32⟩
  | 6 => ⟨S16384x64, .f32⟩
  | 7 => ⟨S16384x64, .f32⟩
  | 8 => ⟨S16384x64, .f32⟩
  | 9 => ⟨S16384x64, .f32⟩
  | 10 => ⟨S16384, .i32⟩
  | 11 => ⟨S_, .i32⟩
  | 12 => ⟨S16384, .i32⟩
  | 13 => ⟨S16384, .i32⟩
  | 14 => ⟨S_, .i32⟩
  | 15 => ⟨S16384, .i32⟩
  | 16 => ⟨S16384, .i32⟩
  | 17 => ⟨S_, .i32⟩
  | 18 => ⟨S16384, .i32⟩
  | 19 => ⟨S16384, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i32⟩
  | 26 => ⟨S16384, .i32⟩
  | 27 => ⟨S16384, .f32⟩
  | 28 => ⟨S_, .f32⟩
  | 29 => ⟨S8x64, .f32⟩
  | 30 => ⟨S_, .f32⟩
  | 31 => ⟨S7x64, .f32⟩
  | 32 => ⟨S16399x64, .f32⟩
  | 33 => ⟨S16384x64, .f32⟩
  | 34 => ⟨S16384x64, .f32⟩
  | 35 => ⟨S16384x64, .f32⟩
  | 36 => ⟨S16384x64, .f32⟩
  | 37 => ⟨S16384x64, .f32⟩
  | 38 => ⟨S16384x64, .f32⟩
  | 39 => ⟨S16384x64, .f32⟩
  | 40 => ⟨S16384x64, .f32⟩
  | 41 => ⟨S16384x64, .f32⟩
  | 42 => ⟨S16384x64, .f32⟩
  | 43 => ⟨S16384x64, .f32⟩
  | 44 => ⟨S16384x64, .f32⟩
  | 45 => ⟨S16384x64, .f32⟩
  | 46 => ⟨S16384x64, .f32⟩
  | 47 => ⟨S16384x64, .f32⟩
  | 48 => ⟨S16384x64, .f32⟩
  | 49 => ⟨S_, .f32⟩
  | 50 => ⟨S16384x64, .f32⟩
  | 51 => ⟨S16384x64, .f32⟩
  | 52 => ⟨S16384x64, .f32⟩
  | 53 => ⟨S16384x64, .f32⟩
  | 54 => ⟨S16384x64, .f32⟩
  | 55 => ⟨S16384x64, .f32⟩
  | 56 => ⟨S16384x64, .f32⟩
  | 57 => ⟨S16384x64, .f32⟩
  | 58 => ⟨S16384x64, .f32⟩
  | 59 => ⟨S16384x64, .f32⟩
  | 60 => ⟨S16384x64, .f32⟩
  | 61 => ⟨S16384x64, .f32⟩
  | 62 => ⟨S16384x64, .f32⟩
  | 63 => ⟨S16384x64, .f32⟩
  | 64 => ⟨S16384x64, .f32⟩
  | 65 => ⟨S16384x64, .f32⟩
  | 66 => ⟨S16384x64, .f32⟩
  | 67 => ⟨S16384x1, .f32⟩
  | 68 => ⟨S16384x64, .f32⟩
  | 69 => ⟨S16384x64, .f32⟩
  | 70 => ⟨S16384x64, .f32⟩
  | 71 => ⟨S16384x256, .f32⟩
  | 72 => ⟨S16384x64, .f32⟩
  | 73 => ⟨S1x64x64, .f32⟩
  | 74 => ⟨S64x64, .f32⟩
  | 75 => ⟨S16384x64, .f32⟩
  | 76 => ⟨S16384x64, .f32⟩
  | 77 => ⟨S1x64x64, .f32⟩
  | 78 => ⟨S64x64, .f32⟩
  | 79 => ⟨S16384x64, .f32⟩
  | 80 => ⟨S16384x64, .f32⟩
  | 81 => ⟨S1x64x64, .f32⟩
  | 82 => ⟨S64x64, .f32⟩
  | 83 => ⟨S16384x64, .f32⟩
  | 84 => ⟨S16384x64, .f32⟩
  | 85 => ⟨S1x64x64, .f32⟩
  | 86 => ⟨S64x64, .f32⟩
  | 87 => ⟨S16384x64, .f32⟩
  | 88 => ⟨S16384x256, .f32⟩
  | 89 => ⟨S1x256, .f32⟩
  | 90 => ⟨S16384x256, .f32⟩
  | 91 => ⟨S16384x256, .f32⟩
  | 92 => ⟨S16384x384, .f32⟩
  | 93 => ⟨S_, .f32⟩
  | 94 => ⟨S1x384, .f32⟩
  | 95 => ⟨S_, .f32⟩
  | 96 => ⟨S1x384, .f32⟩
  | 97 => ⟨S16386x384, .f32⟩
  | 98 => ⟨S16384x384, .f32⟩
  | 99 => ⟨S16384x384, .f32⟩
  | 100 => ⟨S16384x384, .f32⟩
  | 101 => ⟨S1x384, .f32⟩
  | 102 => ⟨S384, .f32⟩
  | 103 => ⟨S1x384, .f32⟩
  | 104 => ⟨S16384x384, .f32⟩
  | 105 => ⟨S16384x384, .f32⟩
  | 106 => ⟨S_, .f32⟩
  | 107 => ⟨S16384x384, .f32⟩
  | 108 => ⟨S16384x384, .f32⟩
  | 109 => ⟨S1x384, .f32⟩
  | 110 => ⟨S384, .f32⟩
  | 111 => ⟨S1x384, .f32⟩
  | 112 => ⟨S16384x384, .f32⟩
  | 113 => ⟨S16384x384, .f32⟩
  | 114 => ⟨S16384x384, .f32⟩
  | 115 => ⟨S1x384, .f32⟩
  | 116 => ⟨S384, .f32⟩
  | 117 => ⟨S1x384, .f32⟩
  | 118 => ⟨S16384x384, .f32⟩
  | 119 => ⟨S16384x384, .f32⟩
  | 120 => ⟨S16384x384, .f32⟩
  | 121 => ⟨S16384x384, .f32⟩
  | 122 => ⟨S16384x384, .f32⟩
  | 123 => ⟨S16384x384, .f32⟩
  | 124 => ⟨S_, .f32⟩
  | 125 => ⟨S16384x384, .f32⟩
  | 126 => ⟨S16384x384, .f32⟩
  | 127 => ⟨S_, .f32⟩
  | _ => ⟨S16384x1024, .f32⟩

abbrev hbmTy0_2 (i : Nat) : BufTy := match i % 128 with
  | 0 => ⟨S16384x384, .f32⟩
  | 1 => ⟨S16384x384, .f32⟩
  | 2 => ⟨S16384x384, .f32⟩
  | 3 => ⟨S_, .f32⟩
  | 4 => ⟨S15x384, .f32⟩
  | 5 => ⟨S_, .f32⟩
  | 6 => ⟨S15x384, .f32⟩
  | 7 => ⟨S16414x384, .f32⟩
  | 8 => ⟨S16384x384, .f32⟩
  | 9 => ⟨S16384x384, .f32⟩
  | 10 => ⟨S16384x384, .f32⟩
  | 11 => ⟨S16384x384, .f32⟩
  | 12 => ⟨S16384x384, .f32⟩
  | 13 => ⟨S16384x384, .f32⟩
  | 14 => ⟨S16384x384, .f32⟩
  | 15 => ⟨S16384x384, .f32⟩
  | 16 => ⟨S16384x384, .f32⟩
  | 17 => ⟨S16384x384, .f32⟩
  | 18 => ⟨S16384x384, .f32⟩
  | 19 => ⟨S16384x384, .f32⟩
  | 20 => ⟨S16384x384, .f32⟩
  | 21 => ⟨S16384x384, .f32⟩
  | 22 => ⟨S16384x384, .f32⟩
  | 23 => ⟨S16384x384, .f32⟩
  | 24 => ⟨S16384x384, .f32⟩
  | 25 => ⟨S16384x384, .f32⟩
  | 26 => ⟨S16384x384, .f32⟩
  | 27 => ⟨S16384x384, .f32⟩
  | 28 => ⟨S16384x384, .f32⟩
  | 29 => ⟨S16384x384, .f32⟩
  | 30 => ⟨S16384x384, .f32⟩
  | 31 => ⟨S16384x384, .f32⟩
  | 32 => ⟨S16384x384, .f32⟩
  | 33 => ⟨S16384x384, .f32⟩
  | 34 => ⟨S16384x384, .f32⟩
  | 35 => ⟨S16384x384, .f32⟩
  | 36 => ⟨S16384x384, .f32⟩
  | 37 => ⟨S16384x384, .f32⟩
  | 38 => ⟨S16384x384, .f32⟩
  | 39 => ⟨S1x384, .f32⟩
  | 40 => ⟨S384, .f32⟩
  | 41 => ⟨S1x384, .f32⟩
  | 42 => ⟨S16384x384, .f32⟩
  | 43 => ⟨S16384x384, .f32⟩
  | 44 => ⟨S_, .f32⟩
  | 45 => ⟨S16384x384, .f32⟩
  | 46 => ⟨S16384x384, .f32⟩
  | 47 => ⟨S1x384, .f32⟩
  | 48 => ⟨S384, .f32⟩
  | 49 => ⟨S1x384, .f32⟩
  | 50 => ⟨S16384x384, .f32⟩
  | 51 => ⟨S16384x384, .f32⟩
  | 52 => ⟨S16384x384, .f32⟩
  | 53 => ⟨S1x384, .f32⟩
  | 54 => ⟨S384, .f32⟩
  | 55 => ⟨S1x384, .f32⟩
  | 56 => ⟨S16384x384, .f32⟩
  | 57 => ⟨S16384x384, .f32⟩
  | 58 => ⟨S16384x384, .f32⟩
  | 59 => ⟨S1x384, .f32⟩
  | 60 => ⟨S384, .f32⟩
  | 61 => ⟨S1x384, .f32⟩
  | 62 => ⟨S16384x384, .f32⟩
  | 63 => ⟨S16384x384, .f32⟩
  | 64 => ⟨S16384x384, .f32⟩
  | 65 => ⟨S1x384, .f32⟩
  | 66 => ⟨S384, .f32⟩
  | 67 => ⟨S1x384, .f32⟩
  | 68 => ⟨S16384x384, .f32⟩
  | 69 => ⟨S16384x384, .f32⟩
  | 70 => ⟨S16384x384, .f32⟩
  | 71 => ⟨S1x384, .f32⟩
  | 72 => ⟨S384, .f32⟩
  | 73 => ⟨S1x384, .f32⟩
  | 74 => ⟨S16384x384, .f32⟩
  | 75 => ⟨S16384x384, .f32⟩
  | 76 => ⟨S16384x384, .f32⟩
  | 77 => ⟨S1x384, .f32⟩
  | 78 => ⟨S384, .f32⟩
  | 79 => ⟨S1x384, .f32⟩
  | 80 => ⟨S16384x384, .f32⟩
  | 81 => ⟨S16384x384, .f32⟩
  | 82 => ⟨S16384x384, .f32⟩
  | 83 => ⟨S1x384, .f32⟩
  | 84 => ⟨S384, .f32⟩
  | 85 => ⟨S1x384, .f32⟩
  | 86 => ⟨S16384x384, .f32⟩
  | 87 => ⟨S16384x384, .f32⟩
  | 88 => ⟨S16384x384, .f32⟩
  | 89 => ⟨S1x384, .f32⟩
  | 90 => ⟨S384, .f32⟩
  | 91 => ⟨S1x384, .f32⟩
  | 92 => ⟨S16384x384, .f32⟩
  | 93 => ⟨S16384x384, .f32⟩
  | 94 => ⟨S16384x384, .f32⟩
  | 95 => ⟨S1x384, .f32⟩
  | 96 => ⟨S384, .f32⟩
  | 97 => ⟨S1x384, .f32⟩
  | 98 => ⟨S16384x384, .f32⟩
  | 99 => ⟨S16384x384, .f32⟩
  | 100 => ⟨S16384x384, .f32⟩
  | 101 => ⟨S1x384, .f32⟩
  | 102 => ⟨S384, .f32⟩
  | 103 => ⟨S1x384, .f32⟩
  | 104 => ⟨S16384x384, .f32⟩
  | 105 => ⟨S16384x384, .f32⟩
  | 106 => ⟨S16384x384, .f32⟩
  | 107 => ⟨S1x384, .f32⟩
  | 108 => ⟨S384, .f32⟩
  | 109 => ⟨S1x384, .f32⟩
  | 110 => ⟨S16384x384, .f32⟩
  | 111 => ⟨S16384x384, .f32⟩
  | 112 => ⟨S16384x384, .f32⟩
  | 113 => ⟨S1x384, .f32⟩
  | 114 => ⟨S384, .f32⟩
  | 115 => ⟨S1x384, .f32⟩
  | 116 => ⟨S16384x384, .f32⟩
  | 117 => ⟨S16384x384, .f32⟩
  | 118 => ⟨S16384x384, .f32⟩
  | 119 => ⟨S1x384, .f32⟩
  | 120 => ⟨S384, .f32⟩
  | 121 => ⟨S1x384, .f32⟩
  | 122 => ⟨S16384x384, .f32⟩
  | 123 => ⟨S16384x384, .f32⟩
  | 124 => ⟨S16384x384, .f32⟩
  | 125 => ⟨S1x384, .f32⟩
  | 126 => ⟨S384, .f32⟩
  | 127 => ⟨S1x384, .f32⟩
  | _ => ⟨S16384x1024, .f32⟩

abbrev hbmTy0_3 (i : Nat) : BufTy := match i % 128 with
  | 0 => ⟨S16384x384, .f32⟩
  | 1 => ⟨S16384x384, .f32⟩
  | 2 => ⟨S16384x384, .f32⟩
  | 3 => ⟨S1x384, .f32⟩
  | 4 => ⟨S384, .f32⟩
  | 5 => ⟨S1x384, .f32⟩
  | 6 => ⟨S16384x384, .f32⟩
  | 7 => ⟨S16384x384, .f32⟩
  | 8 => ⟨S16384x384, .f32⟩
  | 9 => ⟨S1x384, .f32⟩
  | 10 => ⟨S384, .f32⟩
  | 11 => ⟨S1x384, .f32⟩
  | 12 => ⟨S16384x384, .f32⟩
  | 13 => ⟨S16384x384, .f32⟩
  | 14 => ⟨S16384x384, .f32⟩
  | 15 => ⟨S1x384, .f32⟩
  | 16 => ⟨S384, .f32⟩
  | 17 => ⟨S1x384, .f32⟩
  | 18 => ⟨S16384x384, .f32⟩
  | 19 => ⟨S16384x384, .f32⟩
  | 20 => ⟨S16384x384, .f32⟩
  | 21 => ⟨S1x384, .f32⟩
  | 22 => ⟨S384, .f32⟩
  | 23 => ⟨S1x384, .f32⟩
  | 24 => ⟨S16384x384, .f32⟩
  | 25 => ⟨S16384x384, .f32⟩
  | 26 => ⟨S16384x384, .f32⟩
  | 27 => ⟨S1x384, .f32⟩
  | 28 => ⟨S384, .f32⟩
  | 29 => ⟨S1x384, .f32⟩
  | 30 => ⟨S16384x384, .f32⟩
  | 31 => ⟨S16384x384, .f32⟩
  | 32 => ⟨S16384x384, .f32⟩
  | 33 => ⟨S1x384, .f32⟩
  | 34 => ⟨S384, .f32⟩
  | 35 => ⟨S1x384, .f32⟩
  | 36 => ⟨S16384x384, .f32⟩
  | 37 => ⟨S16384x384, .f32⟩
  | 38 => ⟨S16384x384, .f32⟩
  | 39 => ⟨S1x384, .f32⟩
  | 40 => ⟨S384, .f32⟩
  | 41 => ⟨S1x384, .f32⟩
  | 42 => ⟨S16384x384, .f32⟩
  | 43 => ⟨S16384x384, .f32⟩
  | 44 => ⟨S16384x384, .f32⟩
  | 45 => ⟨S1x384, .f32⟩
  | 46 => ⟨S384, .f32⟩
  | 47 => ⟨S1x384, .f32⟩
  | 48 => ⟨S16384x384, .f32⟩
  | 49 => ⟨S16384x384, .f32⟩
  | 50 => ⟨S16384x384, .f32⟩
  | 51 => ⟨S1x384, .f32⟩
  | 52 => ⟨S384, .f32⟩
  | 53 => ⟨S1x384, .f32⟩
  | 54 => ⟨S16384x384, .f32⟩
  | 55 => ⟨S16384x384, .f32⟩
  | 56 => ⟨S16384x384, .f32⟩
  | 57 => ⟨S1x384, .f32⟩
  | 58 => ⟨S384, .f32⟩
  | 59 => ⟨S1x384, .f32⟩
  | 60 => ⟨S16384x384, .f32⟩
  | 61 => ⟨S16384x384, .f32⟩
  | 62 => ⟨S16384x384, .f32⟩
  | 63 => ⟨S1x384, .f32⟩
  | 64 => ⟨S384, .f32⟩
  | 65 => ⟨S1x384, .f32⟩
  | 66 => ⟨S16384x384, .f32⟩
  | 67 => ⟨S16384x384, .f32⟩
  | 68 => ⟨S16384x384, .f32⟩
  | 69 => ⟨S1x384, .f32⟩
  | 70 => ⟨S384, .f32⟩
  | 71 => ⟨S1x384, .f32⟩
  | 72 => ⟨S16384x384, .f32⟩
  | 73 => ⟨S16384x384, .f32⟩
  | 74 => ⟨S16384x384, .f32⟩
  | 75 => ⟨S1x384, .f32⟩
  | 76 => ⟨S384, .f32⟩
  | 77 => ⟨S1x384, .f32⟩
  | 78 => ⟨S16384x384, .f32⟩
  | 79 => ⟨S16384x384, .f32⟩
  | 80 => ⟨S16384x384, .f32⟩
  | 81 => ⟨S1x384, .f32⟩
  | 82 => ⟨S384, .f32⟩
  | 83 => ⟨S1x384, .f32⟩
  | 84 => ⟨S16384x384, .f32⟩
  | 85 => ⟨S16384x384, .f32⟩
  | 86 => ⟨S16384x384, .f32⟩
  | 87 => ⟨S1x384, .f32⟩
  | 88 => ⟨S384, .f32⟩
  | 89 => ⟨S1x384, .f32⟩
  | 90 => ⟨S16384x384, .f32⟩
  | 91 => ⟨S16384x384, .f32⟩
  | 92 => ⟨S16384x384, .f32⟩
  | 93 => ⟨S1x384, .f32⟩
  | 94 => ⟨S384, .f32⟩
  | 95 => ⟨S1x384, .f32⟩
  | 96 => ⟨S16384x384, .f32⟩
  | 97 => ⟨S16384x384, .f32⟩
  | 98 => ⟨S16384x384, .f32⟩
  | 99 => ⟨S1x384, .f32⟩
  | 100 => ⟨S16384x384, .f32⟩
  | 101 => ⟨S16384x384, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S16384x384, .f32⟩
  | 109 => ⟨S16384x384, .f32⟩
  | 110 => ⟨S16384x384, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S16384x384, .f32⟩
  | 118 => ⟨S16384x384, .f32⟩
  | 119 => ⟨S_, .f32⟩
  | 120 => ⟨S16384x1, .f32⟩
  | 121 => ⟨S16384x1, .f32⟩
  | 122 => ⟨S16384x1, .f32⟩
  | 123 => ⟨S16384x384, .f32⟩
  | 124 => ⟨S16384x384, .f32⟩
  | 125 => ⟨S1x384, .f32⟩
  | 126 => ⟨S16384x384, .f32⟩
  | 127 => ⟨S16384x384, .f32⟩
  | _ => ⟨S16384x1024, .f32⟩

abbrev hbmTy0_4 (i : Nat) : BufTy := match i % 128 with
  | 0 => ⟨S1x384, .f32⟩
  | 1 => ⟨S16384x384, .f32⟩
  | 2 => ⟨S16384x384, .f32⟩
  | 3 => ⟨S16384x384, .f32⟩
  | 4 => ⟨S16384x384, .f32⟩
  | 5 => ⟨S_, .f32⟩
  | 6 => ⟨S16384x384, .f32⟩
  | 7 => ⟨S16384x384, .f32⟩
  | 8 => ⟨S_, .f32⟩
  | 9 => ⟨S16384x384, .f32⟩
  | 10 => ⟨S16384x384, .f32⟩
  | 11 => ⟨S16384x384, .f32⟩
  | 12 => ⟨S16384x1024, .f32⟩
  | 13 => ⟨S_, .f32⟩
  | 14 => ⟨S16384x1024, .f32⟩
  | 15 => ⟨S16384x1024, .f32⟩
  | 16 => ⟨S16384x1024, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x1024, .f32⟩
  | 34 => ⟨S16384x1024, .f32⟩
  | 35 => ⟨S_, .f32⟩
  | 36 => ⟨S16384x1, .f32⟩
  | 37 => ⟨S16384x1, .f32⟩
  | 38 => ⟨S16384x1, .f32⟩
  | 39 => ⟨S16384x1024, .f32⟩
  | 40 => ⟨S16384x1024, .f32⟩
  | 41 => ⟨S1x1024, .f32⟩
  | 42 => ⟨S16384x1024, .f32⟩
  | 43 => ⟨S16384x1024, .f32⟩
  | 44 => ⟨S1x1024, .f32⟩
  | 45 => ⟨S16384x1024, .f32⟩
  | 46 => ⟨S16384x1024, .f32⟩
  | 47 => ⟨S16384x1024, .bf16⟩
  | 48 => ⟨S16384x1024, .bf16⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_19 : Ref sig .tc := ⟨.hbm, 110, rfl⟩
abbrev main_v77 : Ref sig .tc := ⟨.hbm, 111, rfl⟩
abbrev main_cst_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_22 : Ref sig .tc := ⟨.hbm, 139, rfl⟩
abbrev main_v103 : Ref sig .tc := ⟨.hbm, 140, rfl⟩
abbrev main_v104 : Ref sig .tc := ⟨.hbm, 141, rfl⟩
abbrev main_c_23 : Ref sig .tc := ⟨.hbm, 142, rfl⟩
abbrev main_v105 : Ref sig .tc := ⟨.hbm, 143, rfl⟩
abbrev main_v106 : Ref sig .tc := ⟨.hbm, 144, rfl⟩
abbrev main_c_24 : Ref sig .tc := ⟨.hbm, 145, rfl⟩
abbrev main_v107 : Ref sig .tc := ⟨.hbm, 146, rfl⟩
abbrev main_v108 : Ref sig .tc := ⟨.hbm, 147, rfl⟩
abbrev main_c_25 : Ref sig .tc := ⟨.hbm, 148, rfl⟩
abbrev main_v109 : Ref sig .tc := ⟨.hbm, 149, rfl⟩
abbrev main_v110 : Ref sig .tc := ⟨.hbm, 150, rfl⟩
abbrev main_c_26 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_27 : Ref sig .tc := ⟨.hbm, 156, rfl⟩
abbrev main_v115 : Ref sig .tc := ⟨.hbm, 157, rfl⟩
abbrev main_cst_28 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_29 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_30 : Ref sig .tc := ⟨.hbm, 221, rfl⟩
abbrev main_v177 : Ref sig .tc := ⟨.hbm, 222, rfl⟩
abbrev main_cst_31 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_cst_32 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_33 : Ref sig .tc := ⟨.hbm, 252, rfl⟩
abbrev main_v205 : Ref sig .tc := ⟨.hbm, 253, rfl⟩
abbrev main_v206 : Ref sig .tc := ⟨.hbm, 254, rfl⟩
abbrev main_cst_34 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_cst_35 : Ref sig .tc := ⟨.hbm, 259, rfl⟩
abbrev main_v210 : Ref sig .tc := ⟨.hbm, 260, rfl⟩
abbrev main_cst_36 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_cst_37 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_v358 : Ref sig .tc := ⟨.hbm, 410, rfl⟩
abbrev main_v359 : Ref sig .tc := ⟨.hbm, 411, rfl⟩
abbrev main_v360 : Ref sig .tc := ⟨.hbm, 412, rfl⟩
abbrev main_v361 : Ref sig .tc := ⟨.hbm, 413, rfl⟩
abbrev main_v362 : Ref sig .tc := ⟨.hbm, 414, rfl⟩
abbrev main_v363 : Ref sig .tc := ⟨.hbm, 415, rfl⟩
abbrev main_v364 : Ref sig .tc := ⟨.hbm, 416, rfl⟩
abbrev main_v365 : Ref sig .tc := ⟨.hbm, 417, rfl⟩
abbrev main_v366 : Ref sig .tc := ⟨.hbm, 418, rfl⟩
abbrev main_v367 : Ref sig .tc := ⟨.hbm, 419, rfl⟩
abbrev main_v368 : Ref sig .tc := ⟨.hbm, 420, rfl⟩
abbrev main_v369 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_v376 : Ref sig .tc := ⟨.hbm, 428, rfl⟩
abbrev main_v377 : Ref sig .tc := ⟨.hbm, 429, rfl⟩
abbrev main_v378 : Ref sig .tc := ⟨.hbm, 430, rfl⟩
abbrev main_v379 : Ref sig .tc := ⟨.hbm, 431, rfl⟩
abbrev main_v380 : Ref sig .tc := ⟨.hbm, 432, rfl⟩
abbrev main_v381 : Ref sig .tc := ⟨.hbm, 433, rfl⟩
abbrev main_v382 : Ref sig .tc := ⟨.hbm, 434, rfl⟩
abbrev main_v383 : Ref sig .tc := ⟨.hbm, 435, rfl⟩
abbrev main_v384 : Ref sig .tc := ⟨.hbm, 436, rfl⟩
abbrev main_v385 : Ref sig .tc := ⟨.hbm, 437, rfl⟩
abbrev main_v386 : Ref sig .tc := ⟨.hbm, 438, rfl⟩
abbrev main_v387 : Ref sig .tc := ⟨.hbm, 439, rfl⟩
abbrev main_v388 : Ref sig .tc := ⟨.hbm, 440, rfl⟩
abbrev main_v389 : Ref sig .tc := ⟨.hbm, 441, rfl⟩
abbrev main_v390 : Ref sig .tc := ⟨.hbm, 442, rfl⟩
abbrev main_v391 : Ref sig .tc := ⟨.hbm, 443, rfl⟩
abbrev main_v392 : Ref sig .tc := ⟨.hbm, 444, rfl⟩
abbrev main_v393 : Ref sig .tc := ⟨.hbm, 445, rfl⟩
abbrev main_v394 : Ref sig .tc := ⟨.hbm, 446, rfl⟩
abbrev main_v395 : Ref sig .tc := ⟨.hbm, 447, rfl⟩
abbrev main_v396 : Ref sig .tc := ⟨.hbm, 448, rfl⟩
abbrev main_v397 : Ref sig .tc := ⟨.hbm, 449, rfl⟩
abbrev main_v398 : Ref sig .tc := ⟨.hbm, 450, rfl⟩
abbrev main_v399 : Ref sig .tc := ⟨.hbm, 451, rfl⟩
abbrev main_v400 : Ref sig .tc := ⟨.hbm, 452, rfl⟩
abbrev main_v401 : Ref sig .tc := ⟨.hbm, 453, rfl⟩
abbrev main_v402 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_v406 : Ref sig .tc := ⟨.hbm, 458, rfl⟩
abbrev main_v407 : Ref sig .tc := ⟨.hbm, 459, rfl⟩
abbrev main_v408 : Ref sig .tc := ⟨.hbm, 460, rfl⟩
abbrev main_v409 : Ref sig .tc := ⟨.hbm, 461, rfl⟩
abbrev main_v410 : Ref sig .tc := ⟨.hbm, 462, rfl⟩
abbrev main_v411 : Ref sig .tc := ⟨.hbm, 463, rfl⟩
abbrev main_v412 : Ref sig .tc := ⟨.hbm, 464, rfl⟩
abbrev main_v413 : Ref sig .tc := ⟨.hbm, 465, rfl⟩
abbrev main_v414 : Ref sig .tc := ⟨.hbm, 466, rfl⟩
abbrev main_v415 : Ref sig .tc := ⟨.hbm, 467, rfl⟩
abbrev main_v416 : Ref sig .tc := ⟨.hbm, 468, rfl⟩
abbrev main_v417 : Ref sig .tc := ⟨.hbm, 469, rfl⟩
abbrev main_v418 : Ref sig .tc := ⟨.hbm, 470, rfl⟩
abbrev main_v419 : Ref sig .tc := ⟨.hbm, 471, rfl⟩
abbrev main_v420 : Ref sig .tc := ⟨.hbm, 472, rfl⟩
abbrev main_v421 : Ref sig .tc := ⟨.hbm, 473, rfl⟩
abbrev main_v422 : Ref sig .tc := ⟨.hbm, 474, rfl⟩
abbrev main_v423 : Ref sig .tc := ⟨.hbm, 475, rfl⟩
abbrev main_v424 : Ref sig .tc := ⟨.hbm, 476, rfl⟩
abbrev main_v425 : Ref sig .tc := ⟨.hbm, 477, rfl⟩
abbrev main_v426 : Ref sig .tc := ⟨.hbm, 478, rfl⟩
abbrev main_v427 : Ref sig .tc := ⟨.hbm, 479, rfl⟩
abbrev main_v428 : Ref sig .tc := ⟨.hbm, 480, rfl⟩
abbrev main_v429 : Ref sig .tc := ⟨.hbm, 481, rfl⟩
abbrev main_v430 : Ref sig .tc := ⟨.hbm, 482, rfl⟩
abbrev main_v431 : Ref sig .tc := ⟨.hbm, 483, rfl⟩
abbrev main_v432 : Ref sig .tc := ⟨.hbm, 484, rfl⟩
abbrev main_v433 : Ref sig .tc := ⟨.hbm, 485, rfl⟩
abbrev main_cst_38 : Ref sig .tc := ⟨.hbm, 486, rfl⟩
abbrev main_v434 : Ref sig .tc := ⟨.hbm, 487, rfl⟩
abbrev main_v435 : Ref sig .tc := ⟨.hbm, 488, rfl⟩
abbrev main_cst_39 : Ref sig .tc := ⟨.hbm, 489, rfl⟩
abbrev main_v436 : Ref sig .tc := ⟨.hbm, 490, rfl⟩
abbrev main_v437 : Ref sig .tc := ⟨.hbm, 491, rfl⟩
abbrev main_v438 : Ref sig .tc := ⟨.hbm, 492, rfl⟩
abbrev main_v439 : Ref sig .tc := ⟨.hbm, 493, rfl⟩
abbrev main_v440 : Ref sig .tc := ⟨.hbm, 494, rfl⟩
abbrev main_cst_40 : Ref sig .tc := ⟨.hbm, 495, rfl⟩
abbrev main_v441 : Ref sig .tc := ⟨.hbm, 496, rfl⟩
abbrev main_v442 : Ref sig .tc := ⟨.hbm, 497, rfl⟩
abbrev main_cst_41 : Ref sig .tc := ⟨.hbm, 498, rfl⟩
abbrev main_v443 : Ref sig .tc := ⟨.hbm, 499, rfl⟩
abbrev main_v444 : Ref sig .tc := ⟨.hbm, 500, rfl⟩
abbrev main_v445 : Ref sig .tc := ⟨.hbm, 501, rfl⟩
abbrev main_v446 : Ref sig .tc := ⟨.hbm, 502, rfl⟩
abbrev main_cst_42 : Ref sig .tc := ⟨.hbm, 503, rfl⟩
abbrev main_v447 : Ref sig .tc := ⟨.hbm, 504, rfl⟩
abbrev main_v448 : Ref sig .tc := ⟨.hbm, 505, rfl⟩
abbrev main_v449 : Ref sig .tc := ⟨.hbm, 506, rfl⟩
abbrev main_v450 : Ref sig .tc := ⟨.hbm, 507, rfl⟩
abbrev main_v451 : Ref sig .tc := ⟨.hbm, 508, rfl⟩
abbrev main_v452 : Ref sig .tc := ⟨.hbm, 509, rfl⟩
abbrev main_v453 : Ref sig .tc := ⟨.hbm, 510, rfl⟩
abbrev main_v454 : Ref sig .tc := ⟨.hbm, 511, rfl⟩
abbrev main_v455 : Ref sig .tc := ⟨.hbm, 512, rfl⟩
abbrev main_v456 : Ref sig .tc := ⟨.hbm, 513, rfl⟩
abbrev main_v457 : Ref sig .tc := ⟨.hbm, 514, rfl⟩
abbrev main_call0_v0 : Ref sig .tc := ⟨.hbm, 515, rfl⟩
abbrev main_call0_v1 : Ref sig .tc := ⟨.hbm, 516, rfl⟩
abbrev main_call0_cst : Ref sig .tc := ⟨.hbm, 517, rfl⟩
abbrev main_call0_v2 : Ref sig .tc := ⟨.hbm, 518, rfl⟩
abbrev main_call0_v3 : Ref sig .tc := ⟨.hbm, 519, rfl⟩
abbrev main_call0_cst_0 : Ref sig .tc := ⟨.hbm, 520, rfl⟩
abbrev main_call0_v4 : Ref sig .tc := ⟨.hbm, 521, rfl⟩
abbrev main_call0_v5 : Ref sig .tc := ⟨.hbm, 522, rfl⟩
abbrev main_v458 : Ref sig .tc := ⟨.hbm, 523, rfl⟩
abbrev main_v459 : Ref sig .tc := ⟨.hbm, 524, rfl⟩
abbrev main_cst_43 : Ref sig .tc := ⟨.hbm, 525, rfl⟩
abbrev main_v460 : Ref sig .tc := ⟨.hbm, 526, rfl⟩
abbrev main_v461 : Ref sig .tc := ⟨.hbm, 527, rfl⟩
abbrev main_v462 : Ref sig .tc := ⟨.hbm, 528, rfl⟩
abbrev main_v463 : Ref sig .tc := ⟨.hbm, 529, rfl⟩
abbrev main_cst_44 : Ref sig .tc := ⟨.hbm, 530, rfl⟩
abbrev main_v464 : Ref sig .tc := ⟨.hbm, 531, rfl⟩
abbrev main_v465 : Ref sig .tc := ⟨.hbm, 532, rfl⟩
abbrev main_cst_45 : Ref sig .tc := ⟨.hbm, 533, rfl⟩
abbrev main_v466 : Ref sig .tc := ⟨.hbm, 534, rfl⟩
abbrev main_v467 : Ref sig .tc := ⟨.hbm, 535, rfl⟩
abbrev main_v468 : Ref sig .tc := ⟨.hbm, 536, rfl⟩
abbrev main_v469 : Ref sig .tc := ⟨.hbm, 537, rfl⟩
abbrev main_v470 : Ref sig .tc := ⟨.hbm, 538, rfl⟩
abbrev main_cst_46 : Ref sig .tc := ⟨.hbm, 539, rfl⟩
abbrev main_v471 : Ref sig .tc := ⟨.hbm, 540, rfl⟩
abbrev main_v472 : Ref sig .tc := ⟨.hbm, 541, rfl⟩
abbrev main_cst_47 : Ref sig .tc := ⟨.hbm, 542, rfl⟩
abbrev main_v473 : Ref sig .tc := ⟨.hbm, 543, rfl⟩
abbrev main_v474 : Ref sig .tc := ⟨.hbm, 544, rfl⟩
abbrev main_v475 : Ref sig .tc := ⟨.hbm, 545, rfl⟩
abbrev main_v476 : Ref sig .tc := ⟨.hbm, 546, rfl⟩
abbrev main_cst_48 : Ref sig .tc := ⟨.hbm, 547, rfl⟩
abbrev main_v477 : Ref sig .tc := ⟨.hbm, 548, rfl⟩
abbrev main_v478 : Ref sig .tc := ⟨.hbm, 549, rfl⟩
abbrev main_v479 : Ref sig .tc := ⟨.hbm, 550, rfl⟩
abbrev main_v480 : Ref sig .tc := ⟨.hbm, 551, rfl⟩
abbrev main_v481 : Ref sig .tc := ⟨.hbm, 552, rfl⟩
abbrev main_v482 : Ref sig .tc := ⟨.hbm, 553, rfl⟩
abbrev main_v483 : Ref sig .tc := ⟨.hbm, 554, rfl⟩
abbrev main_v484 : Ref sig .tc := ⟨.hbm, 555, rfl⟩
abbrev main_v485 : Ref sig .tc := ⟨.hbm, 556, rfl⟩
abbrev main_v486 : Ref sig .tc := ⟨.hbm, 557, rfl⟩
abbrev main_v487 : Ref sig .tc := ⟨.hbm, 558, rfl⟩
abbrev main_v488 : Ref sig .tc := ⟨.hbm, 559, rfl⟩
abbrev main_v489 : Ref sig .tc := ⟨.hbm, 560, rfl⟩

abbrev nD : Nat := 1
abbrev τ : Topo := Topo.v7x

variable {F : FTy → Type} [FloatOps F]
-- ==== LnParts.lean ====
abbrev S16384x1024 : Shape := ⟨2, ![16384, 1024]⟩
abbrev S4x16384x1024 : Shape := ⟨3, ![4, 16384, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S4x16384x1024, .bf16⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .bf16⟩
  | .hbm, ⟨13, _⟩ => ⟨S16384x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnPartsRefIdeal.lean ====
abbrev S16384x1024 : Shape := ⟨2, ![16384, 1024]⟩
abbrev S4x16384x1024 : Shape := ⟨3, ![4, 16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S4x16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x1024, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1024, .f32⟩
  | .hbm, ⟨97, _⟩ => ⟨S16384x1024, .f32⟩
  | .hbm, ⟨98, _⟩ => ⟨S16384x1024, .bf16⟩
  | .hbm, ⟨99, _⟩ => ⟨S1x1024, .f32⟩
  | .hbm, ⟨100, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Loss.lean ====
abbrev S16384x1024 : Shape := ⟨2, ![16384, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S16384x1024 : Shape := ⟨2, ![16384, 1024]⟩
abbrev S_ : Shape := ⟨0, ![]⟩
abbrev S16384 : Shape := ⟨1, ![16384]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamW.lean ====
abbrev S8x4x704x1024 : Shape := ⟨4, ![8, 4, 704, 1024]⟩
abbrev S4x704x1024 : Shape := ⟨3, ![4, 704, 1024]⟩
abbrev S8x1x64x1024 : Shape := ⟨4, ![8, 1, 64, 1024]⟩
abbrev S1x64x1024 : Shape := ⟨3, ![1, 64, 1024]⟩
abbrev S1x1x64x1024 : Shape := ⟨4, ![1, 1, 64, 1024]⟩
abbrev S64x1024 : Shape := ⟨2, ![64, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S8x4x704x1024, .bf16⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .local _ .vmem, ⟨0, _⟩ => ⟨S8x1x64x1024, .bf16⟩
  | .local _ .vmem, ⟨1, _⟩ => ⟨S8x1x64x1024, .bf16⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S8x4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWRefIdeal.lean ====
abbrev S8x4x704x1024 : Shape := ⟨4, ![8, 4, 704, 1024]⟩
abbrev S4x704x1024 : Shape := ⟨3, ![4, 704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S_, .f32⟩
  | .hbm, ⟨7, _⟩ => ⟨S4x704x1024, .f32⟩
  | .hbm, ⟨8, _⟩ => ⟨S4x704x1024, .f32⟩
  | .hbm, ⟨9, _⟩ => ⟨S_, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S4x704x1024, .f32⟩
  | .hbm, ⟨15, _⟩ => ⟨S4x704x1024, .f32⟩
  | .hbm, ⟨16, _⟩ => ⟨S4x704x1024, .f32⟩
  | .hbm, ⟨17, _⟩ => ⟨S_, .f32⟩
  | .hbm, ⟨18, _⟩ => ⟨S4x704x1024, .f32⟩
  | .hbm, ⟨19, _⟩ => ⟨S4x704x1024, .f32⟩
  | .hbm, ⟨20, _⟩ => ⟨S4x704x1024, .f32⟩
  | .hbm, ⟨21, _⟩ => ⟨S_, .f32⟩
  | .hbm, ⟨22, _⟩ => ⟨S4x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S4x704x1024, .f32⟩
  | .hbm, ⟨28, _⟩ => ⟨S_, .f32⟩
  | .hbm, ⟨29, _⟩ => ⟨S4x704x1024, .f32⟩
  | .hbm, ⟨30, _⟩ => ⟨S4x704x1024, .f32⟩
  | .hbm, ⟨31, _⟩ => ⟨S4x704x1024, .f32⟩
  | .hbm, ⟨32, _⟩ => ⟨S_, .f32⟩
  | .hbm, ⟨33, _⟩ => ⟨S4x704x1024, .f32⟩
  | .hbm, ⟨34, _⟩ => ⟨S4x704x1024, .f32⟩
  | .hbm, ⟨35, _⟩ => ⟨S4x704x1024, .f32⟩
  | .hbm, ⟨36, _⟩ => ⟨S_, .f32⟩
  | .hbm, ⟨37, _⟩ => ⟨S4x704x1024, .f32⟩
  | .hbm, ⟨38, _⟩ => ⟨S4x704x1024, .f32⟩
  | _, _ => ⟨S8x4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MixBwd.lean ====
abbrev S16384x2176 : Shape := ⟨2, ![16384, 2176]⟩
abbrev S16384x1024 : Shape := ⟨2, ![16384, 1024]⟩
abbrev S16384x384 : Shape := ⟨2, ![16384, 384]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S8x384 : Shape := ⟨2, ![8, 384]⟩
abbrev S32x384 : Shape := ⟨2, ![32, 384]⟩
abbrev S1x384 : Shape := ⟨2, ![1, 384]⟩
abbrev S1024x2176 : Shape := ⟨2, ![1024, 2176]⟩
abbrev S32x2176 : Shape := ⟨2, ![32, 2176]⟩
abbrev S256x2176 : Shape := ⟨2, ![256, 2176]⟩
abbrev S32x1024 : Shape := ⟨2, ![32, 1024]⟩
abbrev S256x1024 : Shape := ⟨2, ![256, 1024]⟩
abbrev S256x384 : Shape := ⟨2, ![256, 384]⟩
abbrev S320x2176 : Shape := ⟨2, ![320, 2176]⟩
abbrev S320x1024 : Shape := ⟨2, ![320, 1024]⟩
abbrev S320x384 : Shape := ⟨2, ![320, 384]⟩
abbrev S320x256 : Shape := ⟨2, ![320, 256]⟩
abbrev S312x384 : Shape := ⟨2, ![312, 384]⟩
abbrev S8x312x384 : Shape := ⟨3, ![8, 312, 384]⟩
abbrev S320 : Shape := ⟨1, ![320]⟩
abbrev S320x1 : Shape := ⟨2, ![320, 1]⟩
abbrev S1x312x384 : Shape := ⟨3, ![1, 312, 384]⟩
abbrev S64x384 : Shape := ⟨2, ![64, 384]⟩
abbrev S1x64x384 : Shape := ⟨3, ![1, 64, 384]⟩
abbrev S312x256 : Shape := ⟨2, ![312, 256]⟩
abbrev S256x1 : Shape := ⟨2, ![256, 1]⟩

abbrev nBuf : Space → Nat
  | .hbm => 60
  | .vmem => 53
  | .smem => 0
  | _ => 0

abbrev bufTy : (tb : Table) → Fin (tcTables nBuf tb) → BufTy
  | .hbm, ⟨0, _⟩ => ⟨S16384x2176, .f32⟩
  | .hbm, ⟨1, _⟩ => ⟨S16384x1024, .f32⟩
  | .hbm, ⟨2, _⟩ => ⟨S16384x384, .f32⟩
  | .hbm, ⟨3, _⟩ => ⟨S16384x1024, .f32⟩
  | .hbm, ⟨4, _⟩ => ⟨S16384x1024, .f32⟩
  | .hbm, ⟨5, _⟩ => ⟨S4x64x64, .f32⟩
  | .hbm, ⟨6, _⟩ => ⟨S256, .f32⟩
  | .hbm, ⟨7, _⟩ => ⟨S3x384, .f32⟩
  | .hbm, ⟨8, _⟩ => ⟨S31x384, .f32⟩
  | .hbm, ⟨9, _⟩ => ⟨S384, .f32⟩
  | .hbm, ⟨10, _⟩ => ⟨S384, .f32⟩
  | .hbm, ⟨11, _⟩ => ⟨S1024x1024, .f32⟩
  | .hbm, ⟨12, _⟩ => ⟨S_, .f32⟩
  | .hbm, ⟨13, _⟩ => ⟨S256x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S_, .i32⟩
  | .hbm, ⟨18, _⟩ => ⟨S256x256, .f32⟩
  | .hbm, ⟨19, _⟩ => ⟨S1x64x64, .f32⟩
  | .hbm, ⟨20, _⟩ => ⟨S64x64, .f32⟩
  | .hbm, ⟨21, _⟩ => ⟨S_, .i32⟩
  | .hbm, ⟨22, _⟩ => ⟨S_, .i32⟩
  | .hbm, ⟨23, _⟩ => ⟨S256x256, .f32⟩
  | .hbm, ⟨24, _⟩ => ⟨S1x64x64, .f32⟩
  | .hbm, ⟨25, _⟩ => ⟨S64x64, .f32⟩
  | .hbm, ⟨26, _⟩ => ⟨S_, .i32⟩
  | .hbm, ⟨27, _⟩ => ⟨S_, .i32⟩
  | .hbm, ⟨28, _⟩ => ⟨S256x256, .f32⟩
  | .hbm, ⟨29, _⟩ => ⟨S1x64x64, .f32⟩
  | .hbm, ⟨30, _⟩ => ⟨S64x64, .f32⟩
  | .hbm, ⟨31, _⟩ => ⟨S_, .i32⟩
  | .hbm, ⟨32, _⟩ => ⟨S_, .i32⟩
  | .hbm, ⟨33, _⟩ => ⟨S256x256, .f32⟩
  | .hbm, ⟨34, _⟩ => ⟨S256x256, .bf16⟩
  | .hbm, ⟨35, _⟩ => ⟨S16384x1024, .bf16⟩
  | .hbm, ⟨36, _⟩ => ⟨S1024x1024, .bf16⟩
  | .hbm, ⟨37, _⟩ => ⟨S1024x1024, .bf16⟩
  | .hbm, ⟨38, _⟩ => ⟨S16384x1024, .bf16⟩
  | .hbm, ⟨39, _⟩ => ⟨S16384x1024, .bf16⟩
  | .hbm, ⟨40, _⟩ => ⟨S256x256, .bf16⟩
  | .hbm, ⟨41, _⟩ => ⟨S1x256, .f32⟩
  | .hbm, ⟨42, _⟩ => ⟨S_, .i32⟩
  | .hbm, ⟨43, _⟩ => ⟨S_, .f32⟩
  | .hbm, ⟨44, _⟩ => ⟨S8x384, .f32⟩
  | .hbm, ⟨45, _⟩ => ⟨S_, .i32⟩
  | .hbm, ⟨46, _⟩ => ⟨S_, .f32⟩
  | .hbm, ⟨47, _⟩ => ⟨S32x384, .f32⟩
  | .hbm, ⟨48, _⟩ => ⟨S1x384, .f32⟩
  | .hbm, ⟨49, _⟩ => ⟨S1x384, .f32⟩
  | .hbm, ⟨50, _⟩ => ⟨S16384x2176, .bf16⟩
  | .hbm, ⟨51, _⟩ => ⟨S1024x2176, .f32⟩
  | .hbm, ⟨52, _⟩ => ⟨S1024x1024, .f32⟩
  | .hbm, ⟨53, _⟩ => ⟨S256x256, .f32⟩
  | .hbm, ⟨54, _⟩ => ⟨S1x256, .f32⟩
  | .hbm, ⟨55, _⟩ => ⟨S8x384, .f32⟩
  | .hbm, ⟨56, _⟩ => ⟨S32x384, .f32⟩
  | .hbm, ⟨57, _⟩ => ⟨S1x384, .f32⟩
  | .hbm, ⟨58, _⟩ => ⟨S1x384, .f32⟩
  | .hbm, ⟨59, _⟩ => ⟨S1x384, .f32⟩
  | .local _ .vmem, ⟨0, _⟩ => ⟨S32x2176, .f32⟩
  | .local _ .vmem, ⟨1, _⟩ => ⟨S32x2176, .f32⟩
  | .local _ .vmem, ⟨2, _⟩ => ⟨S256x2176, .f32⟩
  | .local _ .vmem, ⟨3, _⟩ => ⟨S256x2176, .f32⟩
  | .local _ .vmem, ⟨4, _⟩ => ⟨S32x2176, .f32⟩
  | .local _ .vmem, ⟨5, _⟩ => ⟨S32x2176, .f32⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S32x1024, .bf16⟩
  | .local _ .vmem, ⟨11, _⟩ => ⟨S32x1024, .bf16⟩
  | .local _ .vmem, ⟨12, _⟩ => ⟨S32x384, .f32⟩
  | .local _ .vmem, ⟨13, _⟩ => ⟨S32x384, .f32⟩
  | .local _ .vmem, ⟨14, _⟩ => ⟨S256x384, .f32⟩
  | .local _ .vmem, ⟨15, _⟩ => ⟨S256x384, .f32⟩
  | .local _ .vmem, ⟨16, _⟩ => ⟨S32x384, .f32⟩
  | .local _ .vmem, ⟨17, _⟩ => ⟨S32x384, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S256x256, .bf16⟩
  | .local _ .vmem, ⟨24, _⟩ => ⟨S256x256, .bf16⟩
  | .local _ .vmem, ⟨25, _⟩ => ⟨S1x256, .f32⟩
  | .local _ .vmem, ⟨26, _⟩ => ⟨S8x384, .f32⟩
  | .local _ .vmem, ⟨27, _⟩ => ⟨S32x384, .f32⟩
  | .local _ .vmem, ⟨28, _⟩ => ⟨S1x384, .f32⟩
  | .local _ .vmem, ⟨29, _⟩ => ⟨S1x384, .f32⟩
  | .local _ .vmem, ⟨30, _⟩ => ⟨S256x2176, .bf16⟩
  | .local _ .vmem, ⟨31, _⟩ => ⟨S256x2176, .bf16⟩
  | .local _ .vmem, ⟨32, _⟩ => ⟨S1024x2176, .f32⟩
  | .local _ .vmem, ⟨33, _⟩ => ⟨S1024x1024, .f32⟩
  | .local _ .vmem, ⟨34, _⟩ => ⟨S256x256, .f32⟩
  | .local _ .vmem, ⟨35, _⟩ => ⟨S1x256, .f32⟩
  | .local _ .vmem, ⟨36, _⟩ => ⟨S8x384, .f32⟩
  | .local _ .vmem, ⟨37, _⟩ => ⟨S32x384, .f32⟩
  | .local _ .vmem, ⟨38, _⟩ => ⟨S1x384, .f32⟩
  | .local _ .vmem, ⟨39, _⟩ => ⟨S1x384, .f32⟩
  | .local _ .vmem, ⟨40, _⟩ => ⟨S1x384, .f32⟩
  | .local _ .vmem, ⟨41, _⟩ => ⟨S320x2176, .f32⟩
  | .local _ .vmem, ⟨42, _⟩ => ⟨S320x1024, .bf16⟩
  | .local _ .vmem, ⟨43, _⟩ => ⟨S320x1024, .f32⟩
  | .local _ .vmem, ⟨44, _⟩ => ⟨S320x384, .f32⟩
  | .local _ .vmem, ⟨45, _⟩ => ⟨S320x384, .f32⟩
  | .local _ .vmem, ⟨46, _⟩ => ⟨S320x384, .f32⟩
  | .local _ .vmem, ⟨47, _⟩ => ⟨S320x384, .f32⟩
  | .local _ .vmem, ⟨48, _⟩ => ⟨S320x384, .f32⟩
  | .local _ .vmem, ⟨49, _⟩ => ⟨S320x256, .f32⟩
  | .local _ .vmem, ⟨50, _⟩ => ⟨S312x384, .f32⟩
  | .local _ .vmem, ⟨51, _⟩ => ⟨S8x312x384, .f32⟩
  | .local _ .vmem, ⟨52, _⟩ => ⟨S256x384, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_c_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_c_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_5 : Ref sig .tc := ⟨.hbm, 31, rfl⟩
abbrev main_c_6 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_call0_v0 : Ref sig .tc := ⟨.hbm, 43, rfl⟩
abbrev main_v21 : Ref sig .tc := ⟨.hbm, 44, rfl⟩
abbrev main_c_8 : Ref sig .tc := ⟨.hbm, 45, rfl⟩
abbrev main_call1_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v25_4 : Ref sig .tc := ⟨.hbm, 54, rfl⟩
abbrev main_v25_5 : Ref sig .tc := ⟨.hbm, 55, rfl⟩
abbrev main_v25_6 : Ref sig .tc := ⟨.hbm, 56, rfl⟩
abbrev main_v25_7 : Ref sig .tc := ⟨.hbm, 57, rfl⟩
abbrev main_v25_8 : Ref sig .tc := ⟨.hbm, 58, rfl⟩
abbrev main_v25_9 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_scratch7 : Ref sig .tc := ⟨.vmem, 48, rfl⟩
abbrev cc0_scratch8 : Ref sig .tc := ⟨.vmem, 49, rfl⟩
abbrev cc0_scratch9 : Ref sig .tc := ⟨.vmem, 50, rfl⟩
abbrev cc0_scratch10 : Ref sig .tc := ⟨.vmem, 51, rfl⟩
abbrev cc0_scratch11 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2176 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1024x2176 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S32x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x384 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== MixBwdRefIdeal.lean ====
abbrev S16384x2176 : Shape := ⟨2, ![16384, 2176]⟩
abbrev S16384x1024 : Shape := ⟨2, ![16384, 1024]⟩
abbrev S16384x384 : Shape := ⟨2, ![16384, 384]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x384 : Shape := ⟨2, ![1, 384]⟩

abbrev nBuf : Space → Nat
  | .hbm => 119
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S16384x1024, .f32⟩
  | .hbm, ⟨2, _⟩ => ⟨S16384x384, .f32⟩
  | .hbm, ⟨3, _⟩ => ⟨S16384x1024, .f32⟩
  | .hbm, ⟨4, _⟩ => ⟨S16384x1024, .f32⟩
  | .hbm, ⟨5, _⟩ => ⟨S4x64x64, .f32⟩
  | .hbm, ⟨6, _⟩ => ⟨S256, .f32⟩
  | .hbm, ⟨7, _⟩ => ⟨S3x384, .f32⟩
  | .hbm, ⟨8, _⟩ => ⟨S31x384, .f32⟩
  | .hbm, ⟨9, _⟩ => ⟨S384, .f32⟩
  | .hbm, ⟨10, _⟩ => ⟨S384, .f32⟩
  | .hbm, ⟨11, _⟩ => ⟨S1024x1024, .f32⟩
  | .hbm, ⟨12, _⟩ => ⟨S16384x1024, .f32⟩
  | .hbm, ⟨13, _⟩ => ⟨S1024x1024, .f32⟩
  | .hbm, ⟨14, _⟩ => ⟨S1024x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x384, .f32⟩
  | .hbm, ⟨23, _⟩ => ⟨S16384x384, .f32⟩
  | .hbm, ⟨24, _⟩ => ⟨S16384x384, .f32⟩
  | .hbm, ⟨25, _⟩ => ⟨S_, .f32⟩
  | .hbm, ⟨26, _⟩ => ⟨S16384x384, .f32⟩
  | .hbm, ⟨27, _⟩ => ⟨S16384x384, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x384, .f32⟩
  | .hbm, ⟨35, _⟩ => ⟨S16384x384, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x384, .f32⟩
  | .hbm, ⟨45, _⟩ => ⟨S16384x384, .f32⟩
  | .hbm, ⟨46, _⟩ => ⟨S1x384, .f32⟩
  | .hbm, ⟨47, _⟩ => ⟨S16384x384, .f32⟩
  | .hbm, ⟨48, _⟩ => ⟨S16384x384, .f32⟩
  | .hbm, ⟨49, _⟩ => ⟨S1x384, .f32⟩
  | .hbm, ⟨50, _⟩ => ⟨S16384x384, .f32⟩
  | .hbm, ⟨51, _⟩ => ⟨S16384x384, .f32⟩
  | .hbm, ⟨52, _⟩ => ⟨S16384x384, .f32⟩
  | .hbm, ⟨53, _⟩ => ⟨S16384x384, .f32⟩
  | .hbm, ⟨54, _⟩ => ⟨S_, .f32⟩
  | .hbm, ⟨55, _⟩ => ⟨S16384x384, .f32⟩
  | .hbm, ⟨56, _⟩ => ⟨S16384x384, .f32⟩
  | .hbm, ⟨57, _⟩ => ⟨S_, .f32⟩
  | .hbm, ⟨58, _⟩ => ⟨S16384x384, .f32⟩
  | .hbm, ⟨59, _⟩ => ⟨S16384x384, .f32⟩
  | .hbm, ⟨60, _⟩ => ⟨S_, .f32⟩
  | .hbm, ⟨61, _⟩ => ⟨S16384x384, .f32⟩
  | .hbm, ⟨62, _⟩ => ⟨S16384x384, .f32⟩
  | .hbm, ⟨63, _⟩ => ⟨S16384x384, .f32⟩
  | .hbm, ⟨64, _⟩ => ⟨S16384x384, .f32⟩
  | .hbm, ⟨65, _⟩ => ⟨S16384x384, .f32⟩
  | .hbm, ⟨66, _⟩ => ⟨S16384x384, .f32⟩
  | .hbm, ⟨67, _⟩ => ⟨S16384x384, .f32⟩
  | .hbm, ⟨68, _⟩ => ⟨S16384x384, .f32⟩
  | .hbm, ⟨69, _⟩ => ⟨S16384x384, .f32⟩
  | .hbm, ⟨70, _⟩ => ⟨S_, .f32⟩
  | .hbm, ⟨71, _⟩ => ⟨S384, .f32⟩
  | .hbm, ⟨72, _⟩ => ⟨S1x384, .f32⟩
  | .hbm, ⟨73, _⟩ => ⟨S_, .f32⟩
  | .hbm, ⟨74, _⟩ => ⟨S384, .f32⟩
  | .hbm, ⟨75, _⟩ => ⟨S16384x384, .f32⟩
  | .hbm, ⟨76, _⟩ => ⟨S_, .f32⟩
  | .hbm, ⟨77, _⟩ => ⟨S384, .f32⟩
  | .hbm, ⟨78, _⟩ => ⟨S1x384, .f32⟩
  | .hbm, ⟨79, _⟩ => ⟨S16384x384, .f32⟩
  | .hbm, ⟨80, _⟩ => ⟨S16384x384, .f32⟩
  | .hbm, ⟨81, _⟩ => ⟨S_, .f32⟩
  | .hbm, ⟨82, _⟩ => ⟨S384, .f32⟩
  | .hbm, ⟨83, _⟩ => ⟨S16384x384, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S16384x384, .f32⟩
  | .hbm, ⟨88, _⟩ => ⟨S16384x384, .f32⟩
  | .hbm, ⟨89, _⟩ => ⟨S16384x1, .f32⟩
  | .hbm, ⟨90, _⟩ => ⟨S16384x384, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S_, .f32⟩
  | .hbm, ⟨98, _⟩ => ⟨S16384, .f32⟩
  | .hbm, ⟨99, _⟩ => ⟨S16384x384, .f32⟩
  | .hbm, ⟨100, _⟩ => ⟨S16384x384, .f32⟩
  | .hbm, ⟨101, _⟩ => ⟨S16384x384, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S16384x384, .f32⟩
  | .hbm, ⟨106, _⟩ => ⟨S16384x1, .f32⟩
  | .hbm, ⟨107, _⟩ => ⟨S_, .f32⟩
  | .hbm, ⟨108, _⟩ => ⟨S16384x1, .f32⟩
  | .hbm, ⟨109, _⟩ => ⟨S16384x1, .f32⟩
  | .hbm, ⟨110, _⟩ => ⟨S_, .f32⟩
  | .hbm, ⟨111, _⟩ => ⟨S16384, .f32⟩
  | .hbm, ⟨112, _⟩ => ⟨S16384x384, .f32⟩
  | .hbm, ⟨113, _⟩ => ⟨S16384x384, .f32⟩
  | .hbm, ⟨114, _⟩ => ⟨S_, .f32⟩
  | .hbm, ⟨115, _⟩ => ⟨S384, .f32⟩
  | .hbm, ⟨116, _⟩ => ⟨S1x384, .f32⟩
  | .hbm, ⟨117, _⟩ => ⟨S1x384, .f32⟩
  | .hbm, ⟨118, _⟩ => ⟨S1x384, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v33_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v33_1 : Ref sig .tc := ⟨.hbm, 63, rfl⟩
abbrev main_v33_0 : Ref sig .tc := ⟨.hbm, 64, rfl⟩
abbrev main_v34 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_9 : Ref sig .tc := ⟨.hbm, 81, rfl⟩
abbrev main_v44 : Ref sig .tc := ⟨.hbm, 82, rfl⟩
abbrev main_v45 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_11 : Ref sig .tc := ⟨.hbm, 91, rfl⟩
abbrev main_v52 : Ref sig .tc := ⟨.hbm, 92, rfl⟩
abbrev main_v53 : Ref sig .tc := ⟨.hbm, 93, rfl⟩
abbrev main_cst_12 : Ref sig .tc := ⟨.hbm, 94, rfl⟩
abbrev main_v54 : Ref sig .tc := ⟨.hbm, 95, rfl⟩
abbrev main_v55 : Ref sig .tc := ⟨.hbm, 96, rfl⟩
abbrev main_cst_13 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_14 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_15 : Ref sig .tc := ⟨.hbm, 107, rfl⟩
abbrev main_v64 : Ref sig .tc := ⟨.hbm, 108, rfl⟩
abbrev main_v65 : Ref sig .tc := ⟨.hbm, 109, rfl⟩
abbrev main_cst_16 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_17 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩

abbrev nD : Nat := 1
abbrev τ : Topo := Topo.v7x

variable {F : FTy → Type} [FloatOps F]
-- ==== Proof.FfnBwdBody.lean ====
/-
  What one grid point of the kernel leaves in its windows and scratches, as the body's own named payloads: the
  found pieces of the three cases (first token block of a shard, middle, last) read back as values.
-/
module

public import proofs.«01_k».proof.Proof.Gen.FfnBwdIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.FfnBwdIdeal.Body

open Cert.FfnBwdIdeal Cert.FfnBwdIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]
variable (c : Dev nD) (i : grid0.Coords)
  (a2 : Memref sig .tc .vmem S512x1024 .bf16) (h2 : a2.IsWhole)
  (a3 : Memref sig .tc .vmem S512x1024 .bf16) (h3 : a3.IsWhole)
  (a4 : Memref sig .tc .vmem S1x512x704 .bf16) (h4 : a4.IsWhole)
  (a5 : Memref sig .tc .vmem S1x512x704 .bf16) (h5 : a5.IsWhole)
  (a6 : Memref sig .tc .vmem S1x1024x704 .bf16) (h6 : a6.IsWhole)
  (a7 : Memref sig .tc .vmem S1x1024x704 .bf16) (h7 : a7.IsWhole)
  (a8 : Memref sig .tc .vmem S1x704x1024 .bf16) (h8 : a8.IsWhole)
  (a9 : Memref sig .tc .vmem S1x512x1024 .bf16) (h9 : a9.IsWhole)
  (a10 : Memref sig .tc .vmem S1x704x1024 .bf16) (h10 : a10.IsWhole)
  (a11 : Memref sig .tc .vmem S1x704x1024 .bf16) (h11 : a11.IsWhole)
  (a12 : Memref sig .tc .vmem S1x704x1024 .bf16) (h12 : a12.IsWhole)
  (a13 : Memref sig .tc .vmem S704x1024 .f32) (h13 : a13.IsWhole)
  (a14 : Memref sig .tc .vmem S704x1024 .f32) (h14 : a14.IsWhole)
  (a15 : Memref sig .tc .vmem S704x1024 .f32) (h15 : a15.IsWhole)
  (x0 : Vec F S512x1024 .bf16) (x1 : Vec F S512x1024 .bf16) (x2 : Vec F S1x512x704 .bf16) (x3 : Vec F S1x512x704 .bf16) (x4 : Vec F S1x1024x704 .bf16) (x5 : Vec F S1x1024x704 .bf16) (x6 : Vec F S1x704x1024 .bf16)
  (w0 w1 w2 : Vec F S704x1024 .f32)

theorem out0_A_7_eq (e0 : cond0_0 i) (e1 : ¬cond0_1 i) :
    out0_A_7 c i a2 h2 a3 h3 a4 h4 a5 h5 a6 h6 a7 h7 a8 h8 a9 h9 a10 h10 a11 h11 a12 h12 a13 h13 a14 h14 a15 h15 e0 e1 x0 x1 x2 x3 x4 x5 x6 =
      k0_pay20 (k0_pay12 x2) (k0_pay15 x1 x6) (k0_pay16 x3 x1 x6) (k0_pay17 x2) x4 x5 := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 a15 h15 e0 e1 x0 x1 x2 x3 x4 x5 x6)]
  unfold kernelRun0_A
  dsimp only
  sl_unfold_words
  rw [View.canon_unit_zero (S := S1x512x1024) hz3]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_A_0_eq (e0 : cond0_0 i) (e1 : ¬cond0_1 i) :
    sout0_A_0 c i a2 h2 a3 h3 a4 h4 a5 h5 a6 h6 a7 h7 a8 h8 a9 h9 a10 h10 a11 h11 a12 h12 a13 h13 a14 h14 a15 h15 e0 e1 x0 x1 x2 x3 x4 x5 x6 =
      k0_pay21 (k0_pay8 x0) (k0_pay16 x3 x1 x6) (k0_pay17 x2) k0_pay5 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 e0 e1 x0 x1 x2 x3 x4 x5 x6)]
  unfold kernelRun0_A
  dsimp only
  sl_unfold_words
  rw [View.canon_cons_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_A_1_eq (e0 : cond0_0 i) (e1 : ¬cond0_1 i) :
    sout0_A_1 c i a2 h2 a3 h3 a4 h4 a5 h5 a6 h6 a7 h7 a8 h8 a9 h9 a10 h10 a11 h11 a12 h12 a13 h13 a14 h14 a15 h15 e0 e1 x0 x1 x2 x3 x4 x5 x6 =
      k0_pay22 (k0_pay8 x0) (k0_pay12 x2) (k0_pay15 x1 x6) k0_pay6 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 e0 e1 x0 x1 x2 x3 x4 x5 x6)]
  unfold kernelRun0_A
  dsimp only
  sl_unfold_words
  rw [View.canon_cons_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_A_2_eq (e0 : cond0_0 i) (e1 : ¬cond0_1 i) :
    sout0_A_2 c i a2 h2 a3 h3 a4 h4 a5 h5 a6 h6 a7 h7 a8 h8 a9 h9 a10 h10 a11 h11 a12 h12 a13 h13 a14 h14 a15 h15 e0 e1 x0 x1 x2 x3 x4 x5 x6 =
      k0_pay1 (k0_pay23 (k0_pay13 x2 x3) (k0_pay14 x1) k0_pay7) := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 a15 h15 e0 e1 x0 x1 x2 x3 x4 x5 x6)]
  unfold kernelRun0_A
  dsimp only
  sl_unfold_words
  rw [View.canon_cons_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem out0_B_7_eq (e0 : ¬cond0_0 i) (e1 : ¬cond0_1 i) :
    out0_B_7 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay20 (k0_pay12 x2) (k0_pay15 x1 x6) (k0_pay16 x3 x1 x6) (k0_pay17 x2) x4 x5 := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_B
  dsimp only
  sl_unfold_words
  rw [View.canon_unit_zero (S := S1x512x1024) hz3]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_B_0_eq (e0 : ¬cond0_0 i) (e1 : ¬cond0_1 i) :
    sout0_B_0 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay21 (k0_pay8 x0) (k0_pay16 x3 x1 x6) (k0_pay17 x2) w0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_B
  dsimp only
  sl_unfold_words
  rw [View.canon_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_B_1_eq (e0 : ¬cond0_0 i) (e1 : ¬cond0_1 i) :
    sout0_B_1 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay22 (k0_pay8 x0) (k0_pay12 x2) (k0_pay15 x1 x6) w1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_B
  dsimp only
  sl_unfold_words
  rw [View.canon_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_B_2_eq (e0 : ¬cond0_0 i) (e1 : ¬cond0_1 i) :
    sout0_B_2 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay1 (k0_pay23 (k0_pay13 x2 x3) (k0_pay14 x1) w2) := by
  unfold sout0_B_2
  rw [View.read_writes_eq_canon _ _ _ (scover0_B_2 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_B
  dsimp only
  sl_unfold_words
  rw [View.canon_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem out0_C_7_eq (e0 : ¬cond0_0 i) (e1 : cond0_1 i) :
    out0_C_7 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay20 (k0_pay12 x2) (k0_pay15 x1 x6) (k0_pay16 x3 x1 x6) (k0_pay17 x2) x4 x5 := by
  unfold out0_C_7
  rw [View.read_writes_eq_canon _ _ _ (cover0_C_7 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_C
  dsimp only
  sl_unfold_words
  rw [View.canon_unit_zero (S := S1x512x1024) hz3]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_C_0_eq (e0 : ¬cond0_0 i) (e1 : cond0_1 i) :
    sout0_C_0 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay21 (k0_pay8 x0) (k0_pay16 x3 x1 x6) (k0_pay17 x2) w0 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_C
  dsimp only
  sl_unfold_words
  rw [View.canon_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_C_1_eq (e0 : ¬cond0_0 i) (e1 : cond0_1 i) :
    sout0_C_1 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay22 (k0_pay8 x0) (k0_pay12 x2) (k0_pay15 x1 x6) w1 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_C
  dsimp only
  sl_unfold_words
  rw [View.canon_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem sout0_C_2_eq (e0 : ¬cond0_0 i) (e1 : cond0_1 i) :
    sout0_C_2 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay1 (k0_pay23 (k0_pay13 x2 x3) (k0_pay14 x1) w2) := by
  unfold sout0_C_2
  rw [View.read_writes_eq_canon _ _ _ (scover0_C_2 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_C
  dsimp only
  sl_unfold_words
  rw [View.canon_unit_zero (S := S704x1024) hz2]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem out0_C_8_eq (e0 : ¬cond0_0 i) (e1 : cond0_1 i) :
    out0_C_8 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay2 (k0_pay21 (k0_pay8 x0) (k0_pay16 x3 x1 x6) (k0_pay17 x2) w0) := by
  unfold out0_C_8
  rw [View.read_writes_eq_canon _ _ _ (cover0_C_8 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_C
  dsimp only
  sl_unfold_words
  rw [View.canon_unit_zero (S := S1x704x1024) hz3]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem out0_C_9_eq (e0 : ¬cond0_0 i) (e1 : cond0_1 i) :
    out0_C_9 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay3 (k0_pay22 (k0_pay8 x0) (k0_pay12 x2) (k0_pay15 x1 x6) w1) := by
  unfold out0_C_9
  rw [View.read_writes_eq_canon _ _ _ (cover0_C_9 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_C
  dsimp only
  sl_unfold_words
  rw [View.canon_unit_zero (S := S1x704x1024) hz3]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

theorem out0_C_10_eq (e0 : ¬cond0_0 i) (e1 : cond0_1 i) :
    out0_C_10 c i a2 h2 a3 h3 a4 h4 a5 h5 a6 h6 a7 h7 a8 h8 a9 h9 a10 h10 a11 h11 a12 h12 a13 h13 a14 h14 a15 h15 e0 e1 x0 x1 x2 x3 x4 x5 x6 w0 w1 w2 =
      k0_pay4 (k0_pay1 (k0_pay23 (k0_pay13 x2 x3) (k0_pay14 x1) w2)) := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 a15 h15 e0 e1 x0 x1 x2 x3 x4 x5 x6 w0 w1 w2)]
  unfold kernelRun0_C
  dsimp only
  sl_unfold_words
  rw [View.canon_unit_zero (S := S1x704x1024) hz3]
  simp only [View.readCov_unit_zero (S := S704x1024) _ hz2, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x1024) hz2, View.ld_unit_zero (S := S704x1024) hz2, View.ld_unit_zero (S := S1x512x704) hz3, View.ld_unit_zero (S := S1x1024x704) hz3, View.ld_unit_zero (S := S1x704x1024) hz3]

end Cert.FfnBwdIdeal.Body
-- ==== Proof.FfnBwdBlocks.lean ====
/-
  The arrays the region finds and the blocks the windows cut from them, read at an index: the tokens, the cotangents,
  the weights and the two saved products as the arguments' own elements.
-/
module

public import proofs.«01_k».proof.Proof.Gen.FfnBwdIdeal.Frame.Runs
public import Idealize.ShloMosaic.Lib.Pipeline.Value
public import Idealize.ShloMosaic.Lib.StableHlo.ReadAt
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.FfnBwdIdeal.Blocks

open Cert.FfnBwdIdeal Cert.FfnBwdIdeal.Gen

variable (m : (ℓ : Loc nD τ sig) → Buf (Elt Ideal) ℓ) (c : Dev nD)

/-- The arguments at an index. -/
abbrev X (t : Fin 16384) (k : Fin 1024) : EReal := m ((c : Thread nD τ).loc main_arg0) (ix2 t k)
abbrev DZ (t : Fin 16384) (k : Fin 1024) : EReal := m ((c : Thread nD τ).loc main_arg1) (ix2 t k)
abbrev WG (s : Fin 4) (k : Fin 1024) (f : Fin 704) : EReal := m ((c : Thread nD τ).loc main_arg2) (ix3 s k f)
abbrev WU (s : Fin 4) (k : Fin 1024) (f : Fin 704) : EReal := m ((c : Thread nD τ).loc main_arg3) (ix3 s k f)
abbrev WD (s : Fin 4) (f : Fin 704) (k : Fin 1024) : EReal := m ((c : Thread nD τ).loc main_arg4) (ix3 s f k)

theorem V_x (t : Fin 16384) (k : Fin 1024) : V m c main_v6 (ix2 t k) = X m c t k := by
  unfold V hostOps0; after_reads_at
theorem V_dz (t : Fin 16384) (k : Fin 1024) : V m c main_v7 (ix2 t k) = DZ m c t k := by
  unfold V hostOps0; after_reads_at
theorem V_wg (s : Fin 4) (k : Fin 1024) (f : Fin 704) : V m c main_v8 (ix3 s k f) = WG m c s k f := by
  unfold V hostOps0; after_reads_at
theorem V_wu (s : Fin 4) (k : Fin 1024) (f : Fin 704) : V m c main_v9 (ix3 s k f) = WU m c s k f := by
  unfold V hostOps0; after_reads_at
theorem V_wd (s : Fin 4) (f : Fin 704) (k : Fin 1024) : V m c main_v10 (ix3 s f k) = WD m c s f k := by
  unfold V hostOps0; after_reads_at
theorem V_g (s : Fin 4) (t : Fin 16384) (f : Fin 704) :
    V m c main_v2 (ix3 s t f) = ∑ k, X m c t k * WG m c s k f := by
  unfold V hostOps0; after_reads_at
  exact Finset.sum_congr rfl fun _ _ => EReal.mul_comm _ _
theorem V_u (s : Fin 4) (t : Fin 16384) (f : Fin 704) :
    V m c main_v5 (ix3 s t f) = ∑ k, X m c t k * WU m c s k f := by
  unfold V hostOps0; after_reads_at
  exact Finset.sum_congr rfl fun _ _ => EReal.mul_comm _ _

/-- The token row that row `r` of the block at point `t` is, and the point's shard. -/
def tok (t : Fin cfg0.N) (r : Fin 512) : Fin 16384 := ⟨512 * (t.val % 32) + r.val, by omega⟩
def shard (t : Fin cfg0.N) : Fin 4 := ⟨t.val / 32, by have := t.isLt; have : cfg0.N = 128 := N_0; omega⟩

theorem index0 : ∀ t : Fin grid0.N, win0_0.index t 0 = t.val % 32 ∧ win0_0.index t 1 = 0 := by decide +kernel
theorem index1 : ∀ t : Fin grid0.N, win0_1.index t 0 = t.val % 32 ∧ win0_1.index t 1 = 0 := by decide +kernel
theorem index2 : ∀ t : Fin grid0.N, win0_2.index t 0 = t.val / 32 ∧ win0_2.index t 1 = t.val % 32 ∧ win0_2.index t 2 = 0 := by
  decide +kernel
theorem index3 : ∀ t : Fin grid0.N, win0_3.index t 0 = t.val / 32 ∧ win0_3.index t 1 = t.val % 32 ∧ win0_3.index t 2 = 0 := by
  decide +kernel
theorem index4 : ∀ t : Fin grid0.N, win0_4.index t 0 = t.val / 32 ∧ win0_4.index t 1 = 0 ∧ win0_4.index t 2 = 0 := by
  decide +kernel
theorem index5 : ∀ t : Fin grid0.N, win0_5.index t 0 = t.val / 32 ∧ win0_5.index t 1 = 0 ∧ win0_5.index t 2 = 0 := by
  decide +kernel
theorem index6 : ∀ t : Fin grid0.N, win0_6.index t 0 = t.val / 32 ∧ win0_6.index t 1 = 0 ∧ win0_6.index t 2 = 0 := by
  decide +kernel

theorem iblk0 (t : Fin cfg0.N) (r : Fin 512) (k : Fin 1024) :
    (iblk m c 0 t : Vec Ideal S512x1024 .bf16) (ix2 r k) = X m c (tok t r) k := by
  unfold iblk
  rw [View.read_apply]
  refine Eq.trans ?_ (V_x m c (tok t r) k)
  show V m c main_v6 _ = V m c main_v6 _
  congr 1
  funext a
  apply Fin.ext
  match a with
  | ⟨0, _⟩ => show win0_0.index t 0 * 512 + 1 * r.val = 512 * (t.val % 32) + r.val; rw [(index0 t).1]; omega
  | ⟨1, _⟩ => show win0_0.index t 1 * 1024 + 1 * k.val = k.val; rw [(index0 t).2]; omega

theorem iblk1 (t : Fin cfg0.N) (r : Fin 512) (k : Fin 1024) :
    (iblk m c 1 t : Vec Ideal S512x1024 .bf16) (ix2 r k) = DZ m c (tok t r) k := by
  unfold iblk
  rw [View.read_apply]
  refine Eq.trans ?_ (V_dz m c (tok t r) k)
  show V m c main_v7 _ = V m c main_v7 _
  congr 1
  funext a
  apply Fin.ext
  match a with
  | ⟨0, _⟩ => show win0_1.index t 0 * 512 + 1 * r.val = 512 * (t.val % 32) + r.val; rw [(index1 t).1]; omega
  | ⟨1, _⟩ => show win0_1.index t 1 * 1024 + 1 * k.val = k.val; rw [(index1 t).2]; omega

theorem iblk2 (t : Fin cfg0.N) (r : Fin 512) (f : Fin 704) :
    (iblk m c 2 t : Vec Ideal S1x512x704 .bf16) (ix3 0 r f) = ∑ k, X m c (tok t r) k * WG m c (shard t) k f := by
  unfold iblk
  rw [View.read_apply]
  refine Eq.trans ?_ (V_g m c (shard t) (tok t r) f)
  show V m c main_v2 _ = V m c main_v2 _
  congr 1
  funext a
  apply Fin.ext
  match a with
  | ⟨0, _⟩ => show win0_2.index t 0 * 1 + 1 * 0 = t.val / 32; rw [(index2 t).1]; omega
  | ⟨1, _⟩ => show win0_2.index t 1 * 512 + 1 * r.val = 512 * (t.val % 32) + r.val; rw [(index2 t).2.1]; omega
  | ⟨2, _⟩ => show win0_2.index t 2 * 704 + 1 * f.val = f.val; rw [(index2 t).2.2]; omega

theorem iblk3 (t : Fin cfg0.N) (r : Fin 512) (f : Fin 704) :
    (iblk m c 3 t : Vec Ideal S1x512x704 .bf16) (ix3 0 r f) = ∑ k, X m c (tok t r) k * WU m c (shard t) k f := by
  unfold iblk
  rw [View.read_apply]
  refine Eq.trans ?_ (V_u m c (shard t) (tok t r) f)
  show V m c main_v5 _ = V m c main_v5 _
  congr 1
  funext a
  apply Fin.ext
  match a with
  | ⟨0, _⟩ => show win0_3.index t 0 * 1 + 1 * 0 = t.val / 32; rw [(index3 t).1]; omega
  | ⟨1, _⟩ => show win0_3.index t 1 * 512 + 1 * r.val = 512 * (t.val % 32) + r.val; rw [(index3 t).2.1]; omega
  | ⟨2, _⟩ => show win0_3.index t 2 * 704 + 1 * f.val = f.val; rw [(index3 t).2.2]; omega

theorem iblk4 (t : Fin cfg0.N) (k : Fin 1024) (f : Fin 704) :
    (iblk m c 4 t : Vec Ideal S1x1024x704 .bf16) (ix3 0 k f) = WG m c (shard t) k f := by
  unfold iblk
  rw [View.read_apply]
  refine Eq.trans ?_ (V_wg m c (shard t) k f)
  show V m c main_v8 _ = V m c main_v8 _
  congr 1
  funext a'
  apply Fin.ext
  match a' with
  | ⟨0, _⟩ => show win0_4.index t 0 * 1 + 1 * 0 = t.val / 32; rw [(index4 t).1]; omega
  | ⟨1, _⟩ => show win0_4.index t 1 * 1024 + 1 * k.val = k.val; rw [(index4 t).2.1]; omega
  | ⟨2, _⟩ => show win0_4.index t 2 * 704 + 1 * f.val = f.val; rw [(index4 t).2.2]; omega

theorem iblk5 (t : Fin cfg0.N) (k : Fin 1024) (f : Fin 704) :
    (iblk m c 5 t : Vec Ideal S1x1024x704 .bf16) (ix3 0 k f) = WU m c (shard t) k f := by
  unfold iblk
  rw [View.read_apply]
  refine Eq.trans ?_ (V_wu m c (shard t) k f)
  show V m c main_v9 _ = V m c main_v9 _
  congr 1
  funext a'
  apply Fin.ext
  match a' with
  | ⟨0, _⟩ => show win0_5.index t 0 * 1 + 1 * 0 = t.val / 32; rw [(index5 t).1]; omega
  | ⟨1, _⟩ => show win0_5.index t 1 * 1024 + 1 * k.val = k.val; rw [(index5 t).2.1]; omega
  | ⟨2, _⟩ => show win0_5.index t 2 * 704 + 1 * f.val = f.val; rw [(index5 t).2.2]; omega

theorem iblk6 (t : Fin cfg0.N) (f : Fin 704) (k : Fin 1024) :
    (iblk m c 6 t : Vec Ideal S1x704x1024 .bf16) (ix3 0 f k) = WD m c (shard t) f k := by
  unfold iblk
  rw [View.read_apply]
  refine Eq.trans ?_ (V_wd m c (shard t) f k)
  show V m c main_v10 _ = V m c main_v10 _
  congr 1
  funext a'
  apply Fin.ext
  match a' with
  | ⟨0, _⟩ => show win0_6.index t 0 * 1 + 1 * 0 = t.val / 32; rw [(index6 t).1]; omega
  | ⟨1, _⟩ => show win0_6.index t 1 * 704 + 1 * f.val = f.val; rw [(index6 t).2.1]; omega
  | ⟨2, _⟩ => show win0_6.index t 2 * 1024 + 1 * k.val = k.val; rw [(index6 t).2.2]; omega

end Cert.FfnBwdIdeal.Blocks
-- ==== Proof.FfnBwdSpec.lean ====
/-
  The gradient of the gated feed-forward layer, over the extended reals and plain indices: every quantity of the backward
  pass as a function of the tokens `X`, the cotangent `DZ` and the three weights.
-/
module

public import Idealize.ShloMosaic.Init
public import Idealize.ShloMosaic.Lib.ValueIdx

@[expose] public section

noncomputable section

open Idealize.ShloMosaic

namespace Cert.FfnBwd.Spec

variable (X DZ : Fin 16384 → Fin 1024 → EReal) (WG WU : Fin 4 → Fin 1024 → Fin 704 → EReal)
  (WD : Fin 4 → Fin 704 → Fin 1024 → EReal)

/-- One half, the output's scale. -/
def half : EReal := ((1 / 2 : ℝ) : EReal)

/-- The logistic function, as a quotient. -/
def sg (v : EReal) : EReal := Ideal.div 1 (1 + Ideal.exp (-v))

/-- The derivative of `v * sg v`. -/
def dsilu (v : EReal) : EReal := sg v * (1 + v * (1 - sg v))

/-- A product of the tokens with a shard's weight: the gate, and the up projection. -/
def proj (W : Fin 4 → Fin 1024 → Fin 704 → EReal) (s : Fin 4) (t : Fin 16384) (f : Fin 704) : EReal := ∑ k, X t k * W s k f

/-- The cotangent of the activation. -/
def da (s : Fin 4) (t : Fin 16384) (f : Fin 704) : EReal := ∑ d, (DZ t d * half) * WD s f d

/-- The cotangent of the gate. -/
def dgate (s : Fin 4) (t : Fin 16384) (f : Fin 704) : EReal :=
  (da DZ WD s t f * proj X WU s t f) * dsilu (proj X WG s t f)

/-- The cotangent of the up projection. -/
def dup (s : Fin 4) (t : Fin 16384) (f : Fin 704) : EReal :=
  da DZ WD s t f * (proj X WG s t f * sg (proj X WG s t f))

/-- The activation. -/
def act (s : Fin 4) (t : Fin 16384) (f : Fin 704) : EReal :=
  (proj X WG s t f * sg (proj X WG s t f)) * proj X WU s t f

/-- The gradients of the tokens and of the three weights. -/
def dx (s : Fin 4) (t : Fin 16384) (k : Fin 1024) : EReal :=
  (∑ f, dgate X DZ WG WU WD s t f * WG s k f) + ∑ f, dup X DZ WG WD s t f * WU s k f
def dwg (s : Fin 4) (f : Fin 704) (k : Fin 1024) : EReal := ∑ t, dgate X DZ WG WU WD s t f * X t k
def dwu (s : Fin 4) (f : Fin 704) (k : Fin 1024) : EReal := ∑ t, dup X DZ WG WD s t f * X t k
def dwd (s : Fin 4) (f : Fin 704) (d : Fin 1024) : EReal := ∑ t, act X WG WU s t f * (DZ t d * half)

end Cert.FfnBwd.Spec
-- ==== Proof.FfnBwdPay.lean ====
/-
  The body's named payloads read at an index, over the extended reals.
-/
module

public import proofs.«01_k».proof.Proof.Gen.FfnBwdIdeal.Skeleton
public import proofs.«01_k».proof.Proof.FfnBwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnBwdIdeal.Pay

open Cert.FfnBwdIdeal Cert.FfnBwdIdeal.Gen Cert.FfnBwd.Spec

variable (x dz : Vec Ideal S512x1024 .bf16) (g u : Vec Ideal S1x512x704 .bf16)
  (wg wu : Vec Ideal S1x1024x704 .bf16) (wd : Vec Ideal S1x704x1024 .bf16)
  (w : Vec Ideal S704x1024 .f32)
  (r : Fin 512) (f : Fin 704) (k : Fin 1024)

theorem half_bits : Ideal.ofBits FTy.bf16 16128#16 = half := by
  unfold half
  simp [Ideal.ofBits, Ideal.ieee, -EReal.coe_mul]
  norm_num

theorem gsg_apply : k0_pay12 g (ix2 r f) = g (ix3 0 r f) * sg (g (ix3 0 r f)) := by
  unfold k0_pay12 k0_pay11 k0_pay9 sg
  pointwise
  simp only [zero_sub]

theorem act_apply : k0_pay13 g u (ix2 r f) = g (ix3 0 r f) * sg (g (ix3 0 r f)) * u (ix3 0 r f) := by
  unfold k0_pay13 k0_pay12 k0_pay11 k0_pay10 k0_pay9 sg
  pointwise
  simp only [zero_sub]

theorem dfb_apply : k0_pay14 dz (ix2 r k) = dz (ix2 r k) * half := by
  unfold k0_pay14
  pointwise
  rw [half_bits]

theorem da_apply : k0_pay15 dz wd (ix2 r f) = ∑ d : Fin 1024, (dz (ix2 r d) * half) * wd (ix3 0 f d) := by
  unfold k0_pay15 k0_pay14
  pointwise
  rw [half_bits]

theorem dsilu_apply : k0_pay17 g (ix2 r f) = dsilu (g (ix3 0 r f)) := by
  unfold k0_pay17 k0_pay11 k0_pay9 dsilu sg
  pointwise
  simp only [zero_sub]

variable (p q s v : Vec Ideal S512x704 .f32)

theorem dx_apply : k0_pay20 p q s v wg wu (ix3 0 r k)
    = (∑ f, (s (ix2 r f) * v (ix2 r f)) * wg (ix3 0 k f)) + ∑ f, (q (ix2 r f) * p (ix2 r f)) * wu (ix3 0 k f) := by
  unfold k0_pay20 k0_pay18 k0_pay19
  pointwise

theorem dwg_apply (x : Vec Ideal S512x1024 .bf16) : k0_pay21 x s v w (ix2 f k)
    = w (ix2 f k) + ∑ r, (s (ix2 r f) * v (ix2 r f)) * x (ix2 r k) := by
  unfold k0_pay21 k0_pay18
  pointwise

theorem dwu_apply (x : Vec Ideal S512x1024 .bf16) : k0_pay22 x p q w (ix2 f k)
    = w (ix2 f k) + ∑ r, (q (ix2 r f) * p (ix2 r f)) * x (ix2 r k) := by
  unfold k0_pay22 k0_pay19
  pointwise

theorem dwd_apply (a : Vec Ideal S512x704 .bf16) (b : Vec Ideal S512x1024 .bf16) : k0_pay1 (k0_pay23 a b w) (ix2 f k)
    = w (ix2 f k) + ∑ r, a (ix2 r f) * b (ix2 r k) := by
  unfold k0_pay1 k0_pay23
  pointwise

theorem x_apply (x : Vec Ideal S512x1024 .bf16) : k0_pay8 x (ix2 r k) = x (ix2 r k) := by
  unfold k0_pay8
  pointwise

theorem dau_apply : k0_pay16 u dz wd (ix2 r f) = (∑ d : Fin 1024, (dz (ix2 r d) * half) * wd (ix3 0 f d)) * u (ix3 0 r f) := by
  unfold k0_pay16 k0_pay10
  pointwise
  rw [da_apply]

theorem zero5_apply : (k0_pay5 (F := Ideal)) (ix2 f k) = 0 := by
  unfold k0_pay5
  pointwise
theorem zero6_apply : (k0_pay6 (F := Ideal)) (ix2 f k) = 0 := by
  unfold k0_pay6
  pointwise
theorem zero7_apply : (k0_pay7 (F := Ideal)) (ix2 f k) = 0 := by
  unfold k0_pay7
  pointwise

theorem out2_apply : k0_pay2 w (ix3 0 f k) = w (ix2 f k) := by
  unfold k0_pay2
  pointwise
theorem out3_apply : k0_pay3 w (ix3 0 f k) = w (ix2 f k) := by
  unfold k0_pay3
  pointwise
theorem out4_apply : k0_pay4 w (ix3 0 f k) = w (ix2 f k) := by
  unfold k0_pay4
  pointwise

end Cert.FfnBwdIdeal.Pay
-- ==== Proof.TokenSum.lean ====
/-
  A sum over the 16384 tokens taken block by block, 512 tokens at a time.
-/
module

public import Idealize.ShloMosaic.Init
public import Mathlib.Data.EReal.Operations
public import Mathlib.Algebra.BigOperators.Fin

@[expose] public section

noncomputable section

namespace Cert.TokenSum

/-- The sum of the first `n` tokens' terms. -/
def upto (p : Fin 16384 → EReal) (n : ℕ) : EReal := ∑ i ∈ Finset.range n, if h : i < 16384 then p ⟨i, h⟩ else 0

theorem upto_zero (p : Fin 16384 → EReal) : upto p 0 = 0 := rfl

/-- One block more. -/
theorem upto_block (p : Fin 16384 → EReal) (j : ℕ) (hj : j < 32) :
    upto p (512 * (j + 1)) = upto p (512 * j) + ∑ r : Fin 512, p ⟨512 * j + r.val, by omega⟩ := by
  unfold upto
  rw [show 512 * (j + 1) = 512 * j + 512 by omega, Finset.sum_range_add, Finset.sum_range (n := 512)]
  congr 1
  refine Finset.sum_congr rfl fun r _ => ?_
  rw [dif_pos]

/-- All the blocks. -/
theorem upto_all (p : Fin 16384 → EReal) : upto p 16384 = ∑ t, p t := by
  unfold upto
  rw [Finset.sum_range]
  refine Finset.sum_congr rfl fun t _ => ?_
  rw [dif_pos t.isLt]

end Cert.TokenSum
-- ==== Proof.FfnBwdFold.lean ====
/-
  The grid folded up: what the windows and the three accumulators hold after each point, as partial sums of the gradient's
  terms over the tokens seen so far in the point's shard; so the four result arrays, entry by entry.
-/
module

public import proofs.«01_k».proof.Proof.FfnBwdBody
public import proofs.«01_k».proof.Proof.FfnBwdBlocks
public import proofs.«01_k».proof.Proof.FfnBwdPay
public import proofs.«01_k».proof.Proof.TokenSum
public import proofs.«01_k».proof.Proof.Gen.FfnBwdIdeal.Value

@[expose] public section

set_option maxRecDepth 16384

noncomputable section

open Idealize.ShloMosaic Idealize.ShloMosaic.TcCoe Idealize.SL.Sem

namespace Cert.FfnBwdIdeal.Fold

open Cert.FfnBwdIdeal Cert.FfnBwdIdeal.Gen Cert.FfnBwdIdeal.Body Cert.FfnBwdIdeal.Blocks Cert.FfnBwdIdeal.Pay
open Cert.FfnBwd.Spec

variable (m : (ℓ : Loc nD τ sig) → Buf (Elt Ideal) ℓ) (c : Dev nD)

/-- The gradient's terms at the launch's arguments. -/
abbrev dgateM := dgate (X m c) (DZ m c) (WG m c) (WU m c) (WD m c)
abbrev dupM := dup (X m c) (DZ m c) (WG m c) (WD m c)
abbrev actM := act (X m c) (WG m c) (WU m c)

section
variable (t : Fin cfg0.N) (r : Fin 512) (f : Fin 704) (k : Fin 1024)

theorem dgate_blk : k0_pay16 (iblk m c 3 t) (iblk m c 1 t) (iblk m c 6 t) (ix2 r f) * k0_pay17 (iblk m c 2 t) (ix2 r f)
    = dgateM m c (shard t) (tok t r) f := by
  rw [dau_apply, dsilu_apply, iblk2, iblk3]
  simp only [iblk1, iblk6]
  rfl

theorem dup_blk : k0_pay15 (iblk m c 1 t) (iblk m c 6 t) (ix2 r f) * k0_pay12 (iblk m c 2 t) (ix2 r f)
    = dupM m c (shard t) (tok t r) f := by
  rw [da_apply, gsg_apply, iblk2]
  simp only [iblk1, iblk6]
  rfl

theorem act_blk : k0_pay13 (iblk m c 2 t) (iblk m c 3 t) (ix2 r f) = actM m c (shard t) (tok t r) f := by
  rw [act_apply, iblk2, iblk3]
  rfl

/-- The token gradient's block at a point. -/
theorem dx_blk : k0_pay20 (k0_pay12 (iblk m c 2 t)) (k0_pay15 (iblk m c 1 t) (iblk m c 6 t))
      (k0_pay16 (iblk m c 3 t) (iblk m c 1 t) (iblk m c 6 t)) (k0_pay17 (iblk m c 2 t)) (iblk m c 4 t) (iblk m c 5 t) (ix3 0 r k)
    = dx (X m c) (DZ m c) (WG m c) (WU m c) (WD m c) (shard t) (tok t r) k := by
  rw [dx_apply]
  simp only [dgate_blk, dup_blk, iblk4, iblk5]
  rfl

variable (w : Vec Ideal S704x1024 .f32)

theorem dwg_blk : k0_pay21 (k0_pay8 (iblk m c 0 t)) (k0_pay16 (iblk m c 3 t) (iblk m c 1 t) (iblk m c 6 t))
      (k0_pay17 (iblk m c 2 t)) w (ix2 f k)
    = w (ix2 f k) + ∑ r, dgateM m c (shard t) (tok t r) f * X m c (tok t r) k := by
  rw [dwg_apply]
  simp only [dgate_blk, x_apply, iblk0]

theorem dwu_blk : k0_pay22 (k0_pay8 (iblk m c 0 t)) (k0_pay12 (iblk m c 2 t)) (k0_pay15 (iblk m c 1 t) (iblk m c 6 t)) w (ix2 f k)
    = w (ix2 f k) + ∑ r, dupM m c (shard t) (tok t r) f * X m c (tok t r) k := by
  rw [dwu_apply]
  simp only [dup_blk, x_apply, iblk0]

theorem dwd_blk : k0_pay1 (k0_pay23 (k0_pay13 (iblk m c 2 t) (iblk m c 3 t)) (k0_pay14 (iblk m c 1 t)) w) (ix2 f k)
    = w (ix2 f k) + ∑ r, actM m c (shard t) (tok t r) f * (DZ m c (tok t r) k * half) := by
  rw [dwd_apply]
  simp only [act_blk, dfb_apply, iblk1]
end

/-- What the three accumulators and the token-gradient window hold after a point. -/
abbrev outs (n : ℕ) (h : n < cfg0.N) := outsAt0 m c n h

theorem out7_eq (t : Fin cfg0.N) : (outsAt0 m c t.val t.isLt).1
    = k0_pay20 (k0_pay12 (iblk m c 2 t)) (k0_pay15 (iblk m c 1 t) (iblk m c 6 t))
      (k0_pay16 (iblk m c 3 t) (iblk m c 1 t) (iblk m c 6 t)) (k0_pay17 (iblk m c 2 t)) (iblk m c 4 t) (iblk m c 5 t) := by
  by_cases h0 : t.val % 32 = 0
  · rw [outsAt0_A m c t h0 (by omega)]; dsimp only; rw [out0_A_7_eq]
  · by_cases h1 : t.val % 32 = 31
    · rw [outsAt0_C m c t h0 h1]; dsimp only; rw [out0_C_7_eq]
    · rw [outsAt0_B m c t h0 h1]; dsimp only; rw [out0_B_7_eq]

theorem s0_first (t : Fin cfg0.N) (h0 : t.val % 32 = 0) : (outsAt0 m c t.val t.isLt).2.2.2.2.1
    = k0_pay21 (k0_pay8 (iblk m c 0 t)) (k0_pay16 (iblk m c 3 t) (iblk m c 1 t) (iblk m c 6 t)) (k0_pay17 (iblk m c 2 t)) (k0_pay5 (F := Ideal)) := by
  rw [outsAt0_A m c t h0 (by omega)]; dsimp only; rw [sout0_A_0_eq]

theorem s0_next (t : Fin cfg0.N) (h0 : ¬t.val % 32 = 0) : (outsAt0 m c t.val t.isLt).2.2.2.2.1
    = k0_pay21 (k0_pay8 (iblk m c 0 t)) (k0_pay16 (iblk m c 3 t) (iblk m c 1 t) (iblk m c 6 t)) (k0_pay17 (iblk m c 2 t)) (outsAt0 m c (t.val - 1) (Nat.lt_of_le_of_lt (Nat.sub_le _ _) t.isLt)).2.2.2.2.1 := by
  by_cases h1 : t.val % 32 = 31
  · rw [outsAt0_C m c t h0 h1]; dsimp only; rw [sout0_C_0_eq]
  · rw [outsAt0_B m c t h0 h1]; dsimp only; rw [sout0_B_0_eq]

theorem out8_eq (t : Fin cfg0.N) (h1 : t.val % 32 = 31) : (outsAt0 m c t.val t.isLt).2.1
    = k0_pay2 ((outsAt0 m c t.val t.isLt).2.2.2.2.1) := by
  rw [s0_next m c t (by omega), outsAt0_C m c t (by omega) h1]; dsimp only; rw [out0_C_8_eq]

/-- The accumulator after point `n`: the terms of the tokens seen so far. -/
theorem s0_sum (f : Fin 704) (k : Fin 1024) : ∀ (n : ℕ) (h : n < cfg0.N), (outsAt0 m c n h).2.2.2.2.1 (ix2 f k)
    = TokenSum.upto (fun t => dgateM m c (shard ⟨n, h⟩) t f * X m c t k) (512 * (n % 32 + 1)) := by
  intro n
  induction n with
  | zero =>
    intro h
    rw [s0_first m c ⟨0, h⟩ rfl, dwg_blk, zero5_apply]
    refine Eq.trans ?_ (TokenSum.upto_block _ 0 (by decide)).symm
    simp only [tok, Nat.zero_mod, TokenSum.upto_zero, Nat.mul_zero]
  | succ n ih =>
    intro h
    have hN : cfg0.N = 128 := N_0
    by_cases h0 : (n + 1) % 32 = 0
    · rw [s0_first m c ⟨n + 1, h⟩ h0, dwg_blk, zero5_apply]
      rw [TokenSum.upto_block _ _ (by omega)]
      simp only [tok, h0, Nat.mul_zero, TokenSum.upto_zero]
    · rw [s0_next m c ⟨n + 1, h⟩ h0, dwg_blk]
      have e : shard ⟨n + 1, h⟩ = shard ⟨n, by omega⟩ := by apply Fin.ext; show (n + 1) / 32 = n / 32; omega
      have e' : (n + 1) % 32 = n % 32 + 1 := by omega
      rw [TokenSum.upto_block _ _ (by omega)]
      show (outsAt0 m c n _).2.2.2.2.1 (ix2 f k) + _ = _
      rw [ih (by omega), e]
      simp only [tok, e']

theorem s1_first (t : Fin cfg0.N) (h0 : t.val % 32 = 0) : (outsAt0 m c t.val t.isLt).2.2.2.2.2.1
    = k0_pay22 (k0_pay8 (iblk m c 0 t)) (k0_pay12 (iblk m c 2 t)) (k0_pay15 (iblk m c 1 t) (iblk m c 6 t)) (k0_pay6 (F := Ideal)) := by
  rw [outsAt0_A m c t h0 (by omega)]; dsimp only; rw [sout0_A_1_eq]

theorem s1_next (t : Fin cfg0.N) (h0 : ¬t.val % 32 = 0) : (outsAt0 m c t.val t.isLt).2.2.2.2.2.1
    = k0_pay22 (k0_pay8 (iblk m c 0 t)) (k0_pay12 (iblk m c 2 t)) (k0_pay15 (iblk m c 1 t) (iblk m c 6 t)) (outsAt0 m c (t.val - 1) (Nat.lt_of_le_of_lt (Nat.sub_le _ _) t.isLt)).2.2.2.2.2.1 := by
  by_cases h1 : t.val % 32 = 31
  · rw [outsAt0_C m c t h0 h1]; dsimp only; rw [sout0_C_1_eq]
  · rw [outsAt0_B m c t h0 h1]; dsimp only; rw [sout0_B_1_eq]

theorem out9_eq (t : Fin cfg0.N) (h1 : t.val % 32 = 31) : (outsAt0 m c t.val t.isLt).2.2.1
    = k0_pay3 ((outsAt0 m c t.val t.isLt).2.2.2.2.2.1) := by
  rw [s1_next m c t (by omega), outsAt0_C m c t (by omega) h1]; dsimp only; rw [out0_C_9_eq]

/-- The accumulator after point `n`: the terms of the tokens seen so far. -/
theorem s1_sum (f : Fin 704) (k : Fin 1024) : ∀ (n : ℕ) (h : n < cfg0.N), (outsAt0 m c n h).2.2.2.2.2.1 (ix2 f k)
    = TokenSum.upto (fun t => dupM m c (shard ⟨n, h⟩) t f * X m c t k) (512 * (n % 32 + 1)) := by
  intro n
  induction n with
  | zero =>
    intro h
    rw [s1_first m c ⟨0, h⟩ rfl, dwu_blk, zero6_apply]
    refine Eq.trans ?_ (TokenSum.upto_block _ 0 (by decide)).symm
    simp only [tok, Nat.zero_mod, TokenSum.upto_zero, Nat.mul_zero]
  | succ n ih =>
    intro h
    have hN : cfg0.N = 128 := N_0
    by_cases h0 : (n + 1) % 32 = 0
    · rw [s1_first m c ⟨n + 1, h⟩ h0, dwu_blk, zero6_apply]
      rw [TokenSum.upto_block _ _ (by omega)]
      simp only [tok, h0, Nat.mul_zero, TokenSum.upto_zero]
    · rw [s1_next m c ⟨n + 1, h⟩ h0, dwu_blk]
      have e : shard ⟨n + 1, h⟩ = shard ⟨n, by omega⟩ := by apply Fin.ext; show (n + 1) / 32 = n / 32; omega
      have e' : (n + 1) % 32 = n % 32 + 1 := by omega
      rw [TokenSum.upto_block _ _ (by omega)]
      show (outsAt0 m c n _).2.2.2.2.2.1 (ix2 f k) + _ = _
      rw [ih (by omega), e]
      simp only [tok, e']

theorem s2_first (t : Fin cfg0.N) (h0 : t.val % 32 = 0) : (outsAt0 m c t.val t.isLt).2.2.2.2.2.2
    = k0_pay1 (k0_pay23 (k0_pay13 (iblk m c 2 t) (iblk m c 3 t)) (k0_pay14 (iblk m c 1 t)) (k0_pay7 (F := Ideal))) := by
  rw [outsAt0_A m c t h0 (by omega)]; dsimp only; rw [sout0_A_2_eq]

theorem s2_next (t : Fin cfg0.N) (h0 : ¬t.val % 32 = 0) : (outsAt0 m c t.val t.isLt).2.2.2.2.2.2
    = k0_pay1 (k0_pay23 (k0_pay13 (iblk m c 2 t) (iblk m c 3 t)) (k0_pay14 (iblk m c 1 t)) (outsAt0 m c (t.val - 1) (Nat.lt_of_le_of_lt (Nat.sub_le _ _) t.isLt)).2.2.2.2.2.2) := by
  by_cases h1 : t.val % 32 = 31
  · rw [outsAt0_C m c t h0 h1]; dsimp only; rw [sout0_C_2_eq]
  · rw [outsAt0_B m c t h0 h1]; dsimp only; rw [sout0_B_2_eq]

theorem out10_eq (t : Fin cfg0.N) (h1 : t.val % 32 = 31) : (outsAt0 m c t.val t.isLt).2.2.2.1
    = k0_pay4 ((outsAt0 m c t.val t.isLt).2.2.2.2.2.2) := by
  rw [s2_next m c t (by omega), outsAt0_C m c t (by omega) h1]; dsimp only; rw [out0_C_10_eq]

/-- The accumulator after point `n`: the terms of the tokens seen so far. -/
theorem s2_sum (f : Fin 704) (k : Fin 1024) : ∀ (n : ℕ) (h : n < cfg0.N), (outsAt0 m c n h).2.2.2.2.2.2 (ix2 f k)
    = TokenSum.upto (fun t => actM m c (shard ⟨n, h⟩) t f * (DZ m c t k * half)) (512 * (n % 32 + 1)) := by
  intro n
  induction n with
  | zero =>
    intro h
    rw [s2_first m c ⟨0, h⟩ rfl, dwd_blk, zero7_apply]
    refine Eq.trans ?_ (TokenSum.upto_block _ 0 (by decide)).symm
    simp only [tok, Nat.zero_mod, TokenSum.upto_zero, Nat.mul_zero]
  | succ n ih =>
    intro h
    have hN : cfg0.N = 128 := N_0
    by_cases h0 : (n + 1) % 32 = 0
    · rw [s2_first m c ⟨n + 1, h⟩ h0, dwd_blk, zero7_apply]
      rw [TokenSum.upto_block _ _ (by omega)]
      simp only [tok, h0, Nat.mul_zero, TokenSum.upto_zero]
    · rw [s2_next m c ⟨n + 1, h⟩ h0, dwd_blk]
      have e : shard ⟨n + 1, h⟩ = shard ⟨n, by omega⟩ := by apply Fin.ext; show (n + 1) / 32 = n / 32; omega
      have e' : (n + 1) % 32 = n % 32 + 1 := by omega
      rw [TokenSum.upto_block _ _ (by omega)]
      show (outsAt0 m c n _).2.2.2.2.2.2 (ix2 f k) + _ = _
      rw [ih (by omega), e]
      simp only [tok, e']

/-! ## The result arrays -/

theorem G7_apply (s : Fin 4) (t : Fin 16384) (k : Fin 1024) :
    Value.G7 m c (ix3 s t k) = dx (X m c) (DZ m c) (WG m c) (WU m c) (WD m c) s t k := by
  have hN : cfg0.N = 128 := N_0
  have hp : Value.pt7Of (ix3 s t k) = 32 * s.val + t.val / 512 := by
    show 32 * (s.val / 1 - 0) + 1 * (t.val / 512 - 0) + 1 * (k.val / 1024 - 0) = _; omega
  have hlt : Value.pt7Of (ix3 s t k) < cfg0.N := by rw [hp]; omega
  unfold Value.G7
  rw [dif_pos hlt, ← Value.outsAt0_sweep m c _ hlt, out7_eq m c ⟨_, hlt⟩]
  have hl : Value.loc7Of (ix3 s t k) = ix3 0 ⟨t.val % 512, Nat.mod_lt _ (by decide)⟩ k := by
    funext a
    apply Fin.ext
    match a with
    | ⟨0, _⟩ => show s.val % 1 = 0; omega
    | ⟨1, _⟩ => rfl
    | ⟨2, _⟩ => show k.val % 1024 = k.val; omega
  rw [hl, dx_blk]
  have hs : shard ⟨Value.pt7Of (ix3 s t k), hlt⟩ = s := by
    apply Fin.ext; show Value.pt7Of (ix3 s t k) / 32 = s.val; rw [hp]; omega
  have ht : tok ⟨Value.pt7Of (ix3 s t k), hlt⟩ ⟨t.val % 512, Nat.mod_lt _ (by decide)⟩ = t := by
    apply Fin.ext; show 512 * (Value.pt7Of (ix3 s t k) % 32) + t.val % 512 = t.val; rw [hp]; omega
  rw [hs, ht]

theorem G8_apply (s : Fin 4) (f : Fin 704) (k : Fin 1024) :
    Value.G8 m c (ix3 s f k) = dwg (X m c) (DZ m c) (WG m c) (WU m c) (WD m c) s f k := by
  have hN : cfg0.N = 128 := N_0
  have hp : Value.pt8Of (ix3 s f k) = 32 * s.val + 31 := by
    show 32 * (1 * (s.val / 1 - 0) + 1 * (f.val / 704 - 0) + 1 * (k.val / 1024 - 0)) + 31 = _; omega
  have hlt : Value.pt8Of (ix3 s f k) < cfg0.N := by rw [hp]; omega
  have hm : Value.pt8Of (ix3 s f k) % 32 = 31 := by rw [hp]; omega
  unfold Value.G8
  rw [dif_pos hlt, ← Value.outsAt0_sweep m c _ hlt, out8_eq m c ⟨_, hlt⟩ hm]
  have hl : Value.loc8Of (ix3 s f k) = ix3 0 f k := by
    funext a
    apply Fin.ext
    match a with
    | ⟨0, _⟩ => show s.val % 1 = 0; omega
    | ⟨1, _⟩ => show f.val % 704 = f.val; omega
    | ⟨2, _⟩ => show k.val % 1024 = k.val; omega
  rw [hl, out2_apply, s0_sum]
  have hs : shard ⟨Value.pt8Of (ix3 s f k), hlt⟩ = s := by
    apply Fin.ext; show Value.pt8Of (ix3 s f k) / 32 = s.val; rw [hp]; omega
  rw [hs, hm]
  exact TokenSum.upto_all _

theorem G9_apply (s : Fin 4) (f : Fin 704) (k : Fin 1024) :
    Value.G9 m c (ix3 s f k) = dwu (X m c) (DZ m c) (WG m c) (WD m c) s f k := by
  have hN : cfg0.N = 128 := N_0
  have hp : Value.pt9Of (ix3 s f k) = 32 * s.val + 31 := by
    show 32 * (1 * (s.val / 1 - 0) + 1 * (f.val / 704 - 0) + 1 * (k.val / 1024 - 0)) + 31 = _; omega
  have hlt : Value.pt9Of (ix3 s f k) < cfg0.N := by rw [hp]; omega
  have hm : Value.pt9Of (ix3 s f k) % 32 = 31 := by rw [hp]; omega
  unfold Value.G9
  rw [dif_pos hlt, ← Value.outsAt0_sweep m c _ hlt, out9_eq m c ⟨_, hlt⟩ hm]
  have hl : Value.loc9Of (ix3 s f k) = ix3 0 f k := by
    funext a
    apply Fin.ext
    match a with
    | ⟨0, _⟩ => show s.val % 1 = 0; omega
    | ⟨1, _⟩ => show f.val % 704 = f.val; omega
    | ⟨2, _⟩ => show k.val % 1024 = k.val; omega
  rw [hl, out3_apply, s1_sum]
  have hs : shard ⟨Value.pt9Of (ix3 s f k), hlt⟩ = s := by
    apply Fin.ext; show Value.pt9Of (ix3 s f k) / 32 = s.val; rw [hp]; omega
  rw [hs, hm]
  exact TokenSum.upto_all _

theorem G10_apply (s : Fin 4) (f : Fin 704) (k : Fin 1024) :
    Value.G10 m c (ix3 s f k) = dwd (X m c) (DZ m c) (WG m c) (WU m c) s f k := by
  have hN : cfg0.N = 128 := N_0
  have hp : Value.pt10Of (ix3 s f k) = 32 * s.val + 31 := by
    show 32 * (1 * (s.val / 1 - 0) + 1 * (f.val / 704 - 0) + 1 * (k.val / 1024 - 0)) + 31 = _; omega
  have hlt : Value.pt10Of (ix3 s f k) < cfg0.N := by rw [hp]; omega
  have hm : Value.pt10Of (ix3 s f k) % 32 = 31 := by rw [hp]; omega
  unfold Value.G10
  rw [dif_pos hlt, ← Value.outsAt0_sweep m c _ hlt, out10_eq m c ⟨_, hlt⟩ hm]
  have hl : Value.loc10Of (ix3 s f k) = ix3 0 f k := by
    funext a
    apply Fin.ext
    match a with
    | ⟨0, _⟩ => show s.val % 1 = 0; omega
    | ⟨1, _⟩ => show f.val % 704 = f.val; omega
    | ⟨2, _⟩ => show k.val % 1024 = k.val; omega
  rw [hl, out4_apply, s2_sum]
  have hs : shard ⟨Value.pt10Of (ix3 s f k), hlt⟩ = s := by
    apply Fin.ext; show Value.pt10Of (ix3 s f k) / 32 = s.val; rw [hp]; omega
  rw [hs, hm]
  exact TokenSum.upto_all _

end Cert.FfnBwdIdeal.Fold
-- ==== Proof.FfnBwdRef.lean ====
/-
  The reference's results read at an index: the gradient's four arrays, with the gate's cotangent as automatic
  differentiation writes it.
-/
module

public import proofs.«01_k».proof.Proof.Gen.FfnBwdRefIdeal.Read
public import proofs.«01_k».proof.Proof.FfnBwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnBwdRefIdeal.Grad

open Cert.FfnBwdRefIdeal Cert.FfnBwdRefIdeal.Read Cert.FfnBwd.Spec

variable (x0 x1 : (⟨S16384x1024, .f32⟩ : BufTy).Contents (Elt Ideal))
  (x2 x3 : (⟨S4x1024x704, .f32⟩ : BufTy).Contents (Elt Ideal)) (x4 : (⟨S4x704x1024, .f32⟩ : BufTy).Contents (Elt Ideal))

/-- The arguments at an index. -/
abbrev A2 (x : (⟨S16384x1024, .f32⟩ : BufTy).Contents (Elt Ideal)) (t : Fin 16384) (k : Fin 1024) : EReal := x (ix2 t k)
abbrev A3 (x : (⟨S4x1024x704, .f32⟩ : BufTy).Contents (Elt Ideal)) (s : Fin 4) (k : Fin 1024) (f : Fin 704) : EReal :=
  x (ix3 s k f)
abbrev A3' (x : (⟨S4x704x1024, .f32⟩ : BufTy).Contents (Elt Ideal)) (s : Fin 4) (f : Fin 704) (k : Fin 1024) : EReal :=
  x (ix3 s f k)

variable (s : Fin 4) (t : Fin 16384) (f : Fin 704) (k : Fin 1024)

theorem gate_eq : val_main_v1 x0 x2 (ix3 s t f) = proj (A2 x0) (A3 x2) s t f := by
  unfold val_main_v1 val_main_v0 proj
  pointwise

theorem up_eq : val_main_v2 x0 x3 (ix3 s t f) = proj (A2 x0) (A3 x3) s t f := by
  unfold val_main_v2 val_main_v0 proj
  pointwise

theorem sg_eq : val_main_v3_2 x0 x2 (ix3 s t f) = sg (proj (A2 x0) (A3 x2) s t f) := by
  unfold val_main_v3_2 val_main_call0_v4 val_main_call0_v3 val_main_call0_v2 val_main_call0_v1 val_main_call0_v0 val_main_call0_cst_0
    val_main_call0_cst sg
  pointwise
  rw [gate_eq]

theorem gsg_eq : val_main_v3_0 x0 x2 (ix3 s t f) = proj (A2 x0) (A3 x2) s t f * sg (proj (A2 x0) (A3 x2) s t f) := by
  unfold val_main_v3_0
  pointwise
  rw [gate_eq, sg_eq]

theorem half_f32 : Ideal.ofBits FTy.f32 0x3F000000#32 = half := by
  unfold half
  simp [Ideal.ofBits, Ideal.ieee, -EReal.coe_mul]
  norm_num

theorem dz_eq : val_main_v11 x1 (ix3 s t k) = A2 x1 t k * half := by
  unfold val_main_v11 val_main_v10 val_main_v9 val_main_cst_1
  pointwise
  rw [half_f32]
  exact EReal.mul_comm _ _

theorem da_eq : val_main_v14 x1 x4 (ix3 s t f) = da (A2 x1) (A3' x4) s t f := by
  unfold val_main_v14 da
  pointwise
  simp only [dz_eq]

theorem act_eq : val_main_v4 x0 x2 x3 (ix3 s t f) = act (A2 x0) (A3 x2) (A3 x3) s t f := by
  unfold val_main_v4 act
  pointwise
  rw [gsg_eq, up_eq]

theorem dup_eq : val_main_v15 x0 x1 x2 x4 (ix3 s t f) = dup (A2 x0) (A2 x1) (A3 x2) (A3' x4) s t f := by
  unfold val_main_v15 dup
  pointwise
  rw [gsg_eq, da_eq, EReal.mul_comm]

/-- The gate's cotangent as the reference adds it up. -/
def dgateRef (s : Fin 4) (t : Fin 16384) (f : Fin 704) : EReal :=
  let g := proj (A2 x0) (A3 x2) s t f
  let a := da (A2 x1) (A3' x4) s t f * proj (A2 x0) (A3 x3) s t f
  a * sg g + (g * a) * (sg g * (1 - sg g))

theorem dgate_eq : val_main_v17 x0 x1 x2 x3 x4 (ix3 s t f) = dgateRef x0 x1 x2 x3 x4 s t f := by
  unfold val_main_v17 val_main_call1_v1 val_main_call1_v2 val_main_call1_v0 val_main_v3_1 val_main_v16 val_main_call0_v7 val_main_call0_v6
    val_main_call0_cst_1 dgateRef
  pointwise
  simp only [sg_eq, gate_eq, up_eq, da_eq]

theorem dx_eq : val_main_v27 x0 x1 x2 x3 x4 (ix3 s t k)
    = (∑ f, dgateRef x0 x1 x2 x3 x4 s t f * A3 x2 s k f) + ∑ f, dup (A2 x0) (A2 x1) (A3 x2) (A3' x4) s t f * A3 x3 s k f := by
  unfold val_main_v27 val_main_v24 val_main_v20 val_main_v23
  pointwise
  simp only [dup_eq, dgate_eq]
  exact add_comm (_ : EReal) _

theorem dwg_eq : val_main_v28 x0 x1 x2 x3 x4 (ix3 s f k) = ∑ t, dgateRef x0 x1 x2 x3 x4 s t f * A2 x0 t k := by
  unfold val_main_v28 val_main_v25 val_main_v22 val_main_v21 val_main_v0
  pointwise
  simp only [dgate_eq]

theorem dwu_eq : val_main_v29 x0 x1 x2 x4 (ix3 s f k) = dwu (A2 x0) (A2 x1) (A3 x2) (A3' x4) s f k := by
  unfold val_main_v29 val_main_v26 val_main_v19 val_main_v18 val_main_v0 dwu
  pointwise
  simp only [dup_eq]

theorem dwd_eq : val_main_v30 x0 x1 x2 x3 (ix3 s f k) = dwd (A2 x0) (A2 x1) (A3 x2) (A3 x3) s f k := by
  unfold val_main_v30 val_main_v13 val_main_v12 dwd
  pointwise
  simp only [dz_eq, act_eq]
  exact Finset.sum_congr rfl fun _ _ => EReal.mul_comm _ _

end Cert.FfnBwdRefIdeal.Grad
-- ==== Proof.Finite.lean ====
/-
  Finite extended reals: sums and products of finite values are finite, and the test `|x| < inf` of a finiteness
  precondition says exactly that every element is a real.
-/
module

public import Idealize.ShloMosaic.Init
public import Idealize.ShloMosaic.PureOps.Ideal
public import Idealize.ShloMosaic.Lib.ReduceAll
public import Idealize.ShloMosaic.Lib.ValueIdx
public import Idealize.ShloMosaic.Lib.Pointwise

@[expose] public section

noncomputable section

open Idealize.ShloMosaic

namespace Cert.Finite

/-- A finite value. -/
def Fin' (x : EReal) : Prop := ∃ r : ℝ, x = r

theorem Fin'.coe (r : ℝ) : Fin' (r : EReal) := ⟨r, rfl⟩
theorem Fin'.zero : Fin' 0 := ⟨0, rfl⟩
theorem Fin'.one : Fin' 1 := ⟨1, rfl⟩
theorem Fin'.add {x y : EReal} : Fin' x → Fin' y → Fin' (x + y) := by
  rintro ⟨a, rfl⟩ ⟨b, rfl⟩; exact ⟨a + b, by push_cast; rfl⟩
theorem Fin'.sub {x y : EReal} : Fin' x → Fin' y → Fin' (x - y) := by
  rintro ⟨a, rfl⟩ ⟨b, rfl⟩; exact ⟨a - b, by push_cast; rfl⟩
theorem Fin'.mul {x y : EReal} : Fin' x → Fin' y → Fin' (x * y) := by
  rintro ⟨a, rfl⟩ ⟨b, rfl⟩; exact ⟨a * b, by push_cast; rfl⟩
theorem Fin'.sum {ι : Type*} (s : Finset ι) (f : ι → EReal) (h : ∀ i ∈ s, Fin' (f i)) : Fin' (∑ i ∈ s, f i) :=
  Finset.sum_induction f Fin' (fun _ _ => Fin'.add) Fin'.zero h

/-- `|x| < inf` says that `x` is finite. -/
theorem fin_of_lt (x : EReal) (h : Ideal.cmp .olt (max x (-x)) (Ideal.ofBits .f32 0x7F800000#32) = 1#1) : Fin' x := by
  have hinf : Ideal.ofBits .f32 0x7F800000#32 = ⊤ := by simp [Ideal.ofBits, Ideal.ieee]
  rw [hinf] at h
  have h' : max x (-x) < ⊤ := by
    by_contra hn
    simp [Ideal.cmp, hn] at h
  induction x with
  | bot => simp at h'
  | top => simp at h'
  | coe r => exact ⟨r, rfl⟩

variable {s u t : Shape} {axes : List (Fin s.rank)}

/-- A finiteness test over a whole array. -/
theorem fin_of_all [Subsingleton t.Idx] (x : FVec Ideal s .f32) (b : FVec Ideal s .f32) (hb : ∀ i, b i = Ideal.ofBits .f32 0x7F800000#32)
    (init : u.Idx → BitVec 1) (h : s.ReducesTo axes t) (hu : 0 < u.numel) (j : t.Idx)
    (e : Host.reduce IntOp.andi (cmpf .olt (Host.absf x) b) init h hu j = 1#1) (i : s.Idx) : Fin' (x i) := by
  have e' := Host.reduce_andi_all _ init h hu j e i
  refine fin_of_lt (x i) ?_
  rw [← hb i]
  exact e'

theorem and_eq_one {a b : BitVec 1} (h : a &&& b = 1#1) : a = 1#1 ∧ b = 1#1 := by
  revert a b; decide

end Cert.Finite
-- ==== Proof.FfnBwdAlg.lean ====
/-
  On finite values the gate's cotangent that the kernel computes is the one automatic differentiation adds up.
-/
module

public import proofs.«01_k».proof.Proof.FfnBwdSpec
public import proofs.«01_k».proof.Proof.FfnBwdRef
public import proofs.«01_k».proof.Proof.Finite

@[expose] public section

noncomputable section

open Idealize.ShloMosaic

namespace Cert.FfnBwd.Alg

open Cert.FfnBwd.Spec Cert.Finite

theorem sg_coe (g : ℝ) : sg (g : EReal) = ((1 / (1 + Real.exp (-g)) : ℝ) : EReal) := by
  unfold sg
  have h : (1 : EReal) + Ideal.exp (-(g : EReal)) = ((1 + Real.exp (-g) : ℝ) : EReal) := by
    rw [← EReal.coe_neg, Ideal.exp_coe]; push_cast; rfl
  rw [h, Ideal.div_coe (by positivity), one_mul]

/-- The two ways to write the cotangent of `v * sg v`. -/
theorem dsilu_mul {g a : EReal} (hg : Fin' g) (ha : Fin' a) :
    a * dsilu g = a * sg g + (g * a) * (sg g * (1 - sg g)) := by
  obtain ⟨g, rfl⟩ := hg
  obtain ⟨a, rfl⟩ := ha
  unfold dsilu
  rw [sg_coe]
  generalize 1 / (1 + Real.exp (-g)) = s
  have : (1 : EReal) = ((1 : ℝ) : EReal) := rfl
  rw [this]
  norm_cast
  ring

variable {X DZ : Fin 16384 → Fin 1024 → EReal} {WG WU : Fin 4 → Fin 1024 → Fin 704 → EReal}
  {WD : Fin 4 → Fin 704 → Fin 1024 → EReal}

theorem fin_proj (hX : ∀ t k, Fin' (X t k)) (hW : ∀ s k f, Fin' (WG s k f)) (s : Fin 4) (t : Fin 16384) (f : Fin 704) :
    Fin' (proj X WG s t f) :=
  Fin'.sum _ _ fun _ _ => (hX _ _).mul (hW _ _ _)

theorem fin_da (hZ : ∀ t k, Fin' (DZ t k)) (hW : ∀ s f k, Fin' (WD s f k)) (s : Fin 4) (t : Fin 16384) (f : Fin 704) :
    Fin' (da DZ WD s t f) :=
  Fin'.sum _ _ fun _ _ => ((hZ _ _).mul (Fin'.coe _)).mul (hW _ _ _)

open Cert.FfnBwdRefIdeal.Grad in
theorem dgate_ref (x0 x1 : (⟨Cert.FfnBwdRefIdeal.S16384x1024, .f32⟩ : BufTy).Contents (Elt Ideal))
    (x2 x3 : (⟨Cert.FfnBwdRefIdeal.S4x1024x704, .f32⟩ : BufTy).Contents (Elt Ideal))
    (x4 : (⟨Cert.FfnBwdRefIdeal.S4x704x1024, .f32⟩ : BufTy).Contents (Elt Ideal))
    (h0 : ∀ i, Fin' (x0 i)) (h1 : ∀ i, Fin' (x1 i)) (h2 : ∀ i, Fin' (x2 i)) (h3 : ∀ i, Fin' (x3 i)) (h4 : ∀ i, Fin' (x4 i))
    (s : Fin 4) (t : Fin 16384) (f : Fin 704) :
    dgateRef x0 x1 x2 x3 x4 s t f = dgate (A2 x0) (A2 x1) (A3 x2) (A3 x3) (A3' x4) s t f := by
  unfold dgateRef dgate
  exact (dsilu_mul (fin_proj (fun _ _ => h0 _) (fun _ _ _ => h2 _) s t f)
    ((fin_da (fun _ _ => h1 _) (fun _ _ _ => h4 _) s t f).mul (fin_proj (fun _ _ => h0 _) (fun _ _ _ => h3 _) s t f))).symm

end Cert.FfnBwd.Alg
-- ==== Proof.FfnBwdPre.lean ====
/-
  The precondition opened: each of the five arguments is finite in every element.
-/
module

public import proofs.«01_k».proof.Defs
public import proofs.«01_k».proof.Proof.Finite

@[expose] public section

noncomputable section

open Idealize.ShloMosaic

namespace Cert.FfnBwdPre

open Cert.Pre_finite Cert.Finite

variable [Cert.Pre_finite.Facts]

instance : Subsingleton S_.Idx := ⟨fun a b => funext fun d => d.elim0⟩

theorem fin_args (x0 x1 : FVec Ideal S16384x1024 .f32) (x2 x3 : FVec Ideal S4x1024x704 .f32) (x4 : FVec Ideal S4x704x1024 .f32)
    (h : fn (F := Ideal) x0 x1 x2 x3 x4 ix0 = 1#1) :
    (∀ i, Fin' (x0 i)) ∧ (∀ i, Fin' (x1 i)) ∧ (∀ i, Fin' (x2 i)) ∧ (∀ i, Fin' (x3 i)) ∧ (∀ i, Fin' (x4 i)) := by
  unfold fn fn_part1 at h
  dsimp only at h
  obtain ⟨h, h4⟩ := and_eq_one h
  obtain ⟨h, h3⟩ := and_eq_one h
  obtain ⟨h, h2⟩ := and_eq_one h
  obtain ⟨h0, h1⟩ := and_eq_one h
  exact ⟨fin_of_all _ _ (fun _ => rfl) _ _ _ _ h0, fin_of_all _ _ (fun _ => rfl) _ _ _ _ h1,
    fin_of_all _ _ (fun _ => rfl) _ _ _ _ h2, fin_of_all _ _ (fun _ => rfl) _ _ _ _ h3,
    fin_of_all _ _ (fun _ => rfl) _ _ _ _ h4⟩

end Cert.FfnBwdPre
-- ==== Proof.FfnBwdValue.lean ====
/-
  The value claim of the feed-forward backward pass: the kernel's four results are the reference's.
-/
module

public import proofs.«01_k».proof.Proof.FfnBwdFold
public import proofs.«01_k».proof.Proof.FfnBwdAlg
public import proofs.«01_k».proof.Proof.FfnBwdPre
public import proofs.«01_k».proof.Proof.Gen.Pre_finite
public import proofs.«01_k».proof.Proof.Gen.FfnBwdRefIdeal.Run

@[expose] public section

set_option maxRecDepth 16384

noncomputable section

open Idealize.ShloMosaic Idealize.ShloMosaic.TcCoe Idealize.SL.Sem

namespace Cert.FfnBwdValue

open Cert.Finite Cert.FfnBwd.Spec Cert.FfnBwd.Alg Cert.FfnBwdIdeal.Blocks
open Cert.FfnBwdRefIdeal.Grad (A2 A3 A3' dgateRef)

variable (m : (ℓ : Loc Cert.FfnBwdIdeal.nD Cert.FfnBwdIdeal.τ Cert.FfnBwdIdeal.sig) → Buf (Elt Ideal) ℓ)
  (c : Dev Cert.FfnBwdIdeal.nD)

/-- The arguments of core `c`. -/
abbrev a0 : (⟨Cert.FfnBwdRefIdeal.S16384x1024, .f32⟩ : BufTy).Contents (Elt Ideal) := m (c.tc.loc Cert.FfnBwdIdeal.main_arg0)
abbrev a1 : (⟨Cert.FfnBwdRefIdeal.S16384x1024, .f32⟩ : BufTy).Contents (Elt Ideal) := m (c.tc.loc Cert.FfnBwdIdeal.main_arg1)
abbrev a2 : (⟨Cert.FfnBwdRefIdeal.S4x1024x704, .f32⟩ : BufTy).Contents (Elt Ideal) := m (c.tc.loc Cert.FfnBwdIdeal.main_arg2)
abbrev a3 : (⟨Cert.FfnBwdRefIdeal.S4x1024x704, .f32⟩ : BufTy).Contents (Elt Ideal) := m (c.tc.loc Cert.FfnBwdIdeal.main_arg3)
abbrev a4 : (⟨Cert.FfnBwdRefIdeal.S4x704x1024, .f32⟩ : BufTy).Contents (Elt Ideal) := m (c.tc.loc Cert.FfnBwdIdeal.main_arg4)

/-- Every argument is finite. -/
abbrev FinArgs : Prop :=
  (∀ i, Fin' (a0 m c i)) ∧ (∀ i, Fin' (a1 m c i)) ∧ (∀ i, Fin' (a2 m c i)) ∧ (∀ i, Fin' (a3 m c i)) ∧ (∀ i, Fin' (a4 m c i))

theorem dx_eq (h : FinArgs m c) :
    Cert.FfnBwdRefIdeal.Read.val_main_v27 (F := Ideal) (a0 m c) (a1 m c) (a2 m c) (a3 m c) (a4 m c) = Cert.FfnBwdIdeal.Value.G7 m c := by
  obtain ⟨h0, h1, h2, h3, h4⟩ := h
  funext i
  obtain ⟨s, t, k, rfl⟩ : ∃ (s : Fin 4) (t : Fin 16384) (k : Fin 1024), i = ix3 s t k := ⟨i 0, i 1, i 2, eq_ix3 i⟩
  rw [Cert.FfnBwdIdeal.Fold.G7_apply, Cert.FfnBwdRefIdeal.Grad.dx_eq]
  simp only [dgate_ref _ _ _ _ _ h0 h1 h2 h3 h4]
  rfl

theorem dwg_eq (h : FinArgs m c) :
    Cert.FfnBwdRefIdeal.Read.val_main_v28 (F := Ideal) (a0 m c) (a1 m c) (a2 m c) (a3 m c) (a4 m c) = Cert.FfnBwdIdeal.Value.G8 m c := by
  obtain ⟨h0, h1, h2, h3, h4⟩ := h
  funext i
  obtain ⟨s, f, k, rfl⟩ : ∃ (s : Fin 4) (f : Fin 704) (k : Fin 1024), i = ix3 s f k := ⟨i 0, i 1, i 2, eq_ix3 i⟩
  rw [Cert.FfnBwdIdeal.Fold.G8_apply, Cert.FfnBwdRefIdeal.Grad.dwg_eq]
  simp only [dgate_ref _ _ _ _ _ h0 h1 h2 h3 h4]
  rfl

theorem dwu_eq :
    Cert.FfnBwdRefIdeal.Read.val_main_v29 (F := Ideal) (a0 m c) (a1 m c) (a2 m c) (a4 m c) = Cert.FfnBwdIdeal.Value.G9 m c := by
  funext i
  obtain ⟨s, f, k, rfl⟩ : ∃ (s : Fin 4) (f : Fin 704) (k : Fin 1024), i = ix3 s f k := ⟨i 0, i 1, i 2, eq_ix3 i⟩
  rw [Cert.FfnBwdIdeal.Fold.G9_apply, Cert.FfnBwdRefIdeal.Grad.dwu_eq]

theorem dwd_eq :
    Cert.FfnBwdRefIdeal.Read.val_main_v30 (F := Ideal) (a0 m c) (a1 m c) (a2 m c) (a3 m c) = Cert.FfnBwdIdeal.Value.G10 m c := by
  funext i
  obtain ⟨s, f, k, rfl⟩ : ∃ (s : Fin 4) (f : Fin 704) (k : Fin 1024), i = ix3 s f k := ⟨i 0, i 1, i 2, eq_ix3 i⟩
  rw [Cert.FfnBwdIdeal.Fold.G10_apply, Cert.FfnBwdRefIdeal.Grad.dwd_eq]

theorem algebraic : algebraic_FfnBwdIdeal_FfnBwdRefIdeal_pre_finite := by
  intro m ρ m' ρ' hpre hagree
  have hfin : ∀ c, FinArgs m c := fun c => Cert.FfnBwdPre.fin_args _ _ _ _ _ (congrFun (hpre c) ix0)
  refine ⟨fun c => Cert.FfnBwdIdeal.Value.G7 m c, fun c => Cert.FfnBwdIdeal.Value.G8 m c,
    fun c => Cert.FfnBwdIdeal.Value.G9 m c, fun c => Cert.FfnBwdIdeal.Value.G10 m c,
    Cert.FfnBwdIdeal.Value.run m ρ, ?_⟩
  refine (θ_run _ _ _).mono (fun _ h c => ?_) (Cert.FfnBwdRefIdeal.Value.run m' ρ')
  obtain ⟨e0, e1, e2, e3, e4⟩ := hagree c
  obtain ⟨r0, r1, r2, r3, k⟩ := h c
  refine ⟨r0.trans ?_, r1.trans ?_, r2.trans ?_, r3.trans ?_, k⟩
  · refine (Cert.FfnBwdRefIdeal.Read.val_main_v27_eq m' c).trans ?_
    rw [e0, e1, e2, e3, e4]; exact dx_eq m c (hfin c)
  · refine (Cert.FfnBwdRefIdeal.Read.val_main_v28_eq _ _ _ _ _).trans ?_
    rw [e0, e1, e2, e3, e4]; exact dwg_eq m c (hfin c)
  · refine (Cert.FfnBwdRefIdeal.Read.val_main_v29_eq _ _ _ _).trans ?_
    rw [e0, e1, e2, e4]; exact dwu_eq m c
  · refine (Cert.FfnBwdRefIdeal.Read.val_main_v30_eq _ _ _ _).trans ?_
    rw [e0, e1, e2, e3]; exact dwd_eq m c

end Cert.FfnBwdValue
-- ==== Proof.FfnFwdBody.lean ====
/-
  What one grid point of the forward kernel leaves in its windows and its scratch, as the body's own named payloads:
  the three cases are the first shard of a token block, a middle shard, and the last one.
-/
module

public import proofs.«01_k».proof.Proof.Gen.FfnFwdIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.FfnFwdIdeal.Body

open Cert.FfnFwdIdeal Cert.FfnFwdIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

theorem out0_A_10_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : cond0_0 i) (hc1 : ¬cond0_1 i) (hc2 : ¬cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 =
      k0_pay9 x1 x2 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6)]
  unfold kernelRun0_A
  dsimp only
  sl_unfold_words
  rw [View.canon_unit_zero (S := S1x512x704) hz3]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_A_11_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : cond0_0 i) (hc1 : ¬cond0_1 i) (hc2 : ¬cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 =
      k0_pay10 x1 x3 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6)]
  unfold kernelRun0_A
  dsimp only
  sl_unfold_words
  rw [View.canon_unit_zero (S := S1x512x704) hz3]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem sout0_A_0_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : cond0_0 i) (hc1 : ¬cond0_1 i) (hc2 : ¬cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 =
      k0_pay1 (k0_pay11 x1 x2 x3 x4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6)]
  unfold kernelRun0_A
  dsimp only
  sl_unfold_words
  rw [View.canon_unit_zero (S := S512x1024) hz2]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_B_10_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : ¬cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay9 x1 x2 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_B
  dsimp only
  sl_unfold_words
  rw [View.canon_unit_zero (S := S1x512x704) hz3]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_B_11_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : ¬cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay10 x1 x3 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_B
  dsimp only
  sl_unfold_words
  rw [View.canon_unit_zero (S := S1x512x704) hz3]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem sout0_B_0_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : ¬cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay2 (k0_pay11 x1 x2 x3 x4) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_B
  dsimp only
  sl_unfold_words
  rw [View.canon_unit_zero (S := S512x1024) hz2]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_C_10_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay9 x1 x2 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_C
  dsimp only
  sl_unfold_words
  rw [View.canon_unit_zero (S := S1x512x704) hz3]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_C_11_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay10 x1 x3 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_C
  dsimp only
  sl_unfold_words
  rw [View.canon_unit_zero (S := S1x512x704) hz3]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem sout0_C_0_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay2 (k0_pay11 x1 x2 x3 x4) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_C
  dsimp only
  sl_unfold_words
  rw [View.canon_unit_zero (S := S512x1024) hz2]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_C_9_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay3 x0 (k0_pay2 (k0_pay11 x1 x2 x3 x4) xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_C
  dsimp only
  sl_unfold_words
  rw [View.canon_unit_zero (S := S512x1024) hz2]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_C_7_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay4 x0 (k0_pay2 (k0_pay11 x1 x2 x3 x4) xs0) x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_C
  dsimp only
  sl_unfold_words
  rw [View.canon_unit_zero (S := S512x1024) hz2]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

theorem out0_C_8_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .f32) (harg14 : arg14.IsWhole) (hc0 : ¬cond0_0 i) (hc1 : cond0_1 i) (hc2 : cond0_2 i)
    (x0 : Vec F S512x1024 .f32) (x1 : Vec F S512x1024 .bf16) (x2 : Vec F S1x1024x704 .bf16) (x3 : Vec F S1x1024x704 .bf16) (x4 : Vec F S1x704x1024 .bf16) (x5 : Vec F S1x1024 .f32) (x6 : Vec F S1x1024 .f32) (xs0 : Vec F S512x1024 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 =
      k0_pay5 x0 (k0_pay2 (k0_pay11 x1 x2 x3 x4) xs0) x5 x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0)]
  unfold kernelRun0_C
  dsimp only
  sl_unfold_words
  rw [View.canon_unit_zero (S := S512x1024) hz2]
  simp only [View.readCov_unit_zero (S := S1x1024) _ hz2, View.readCov_unit_zero (S := S1x1024x704) _ hz3, View.readCov_unit_zero (S := S1x512x704) _ hz3, View.readCov_unit_zero (S := S1x704x1024) _ hz3, View.readCov_unit_zero (S := S512x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024) hz2, View.ld_unit_zero (S := S1x1024x704) hz3, View.ld_unit_zero (S := S1x512x704) hz3, View.ld_unit_zero (S := S1x704x1024) hz3, View.ld_unit_zero (S := S512x1024) hz2]

end Cert.FfnFwdIdeal.Body
-- ==== Proof.FfnFwdBlocks.lean ====
/-
  The arrays the forward region finds and the blocks its windows cut from them, read at an index.
-/
module

public import proofs.«01_k».proof.Proof.Gen.FfnFwdIdeal.Frame.Runs
public import Idealize.ShloMosaic.Lib.Pipeline.Value
public import Idealize.ShloMosaic.Lib.StableHlo.ReadAt
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.FfnFwdIdeal.Blocks

open Cert.FfnFwdIdeal Cert.FfnFwdIdeal.Gen

variable (m : (ℓ : Loc nD τ sig) → Buf (Elt Ideal) ℓ) (c : Dev nD)

/-- The arguments at an index. -/
abbrev X (t : Fin 16384) (k : Fin 1024) : EReal := m ((c : Thread nD τ).loc main_arg0) (ix2 t k)
abbrev WG (s : Fin 4) (k : Fin 1024) (f : Fin 704) : EReal := m ((c : Thread nD τ).loc main_arg1) (ix3 s k f)
abbrev WU (s : Fin 4) (k : Fin 1024) (f : Fin 704) : EReal := m ((c : Thread nD τ).loc main_arg2) (ix3 s k f)
abbrev WD (s : Fin 4) (f : Fin 704) (k : Fin 1024) : EReal := m ((c : Thread nD τ).loc main_arg3) (ix3 s f k)
abbrev LG (k : Fin 1024) : EReal := m ((c : Thread nD τ).loc main_arg4) (ix1 k)
abbrev LB (k : Fin 1024) : EReal := m ((c : Thread nD τ).loc main_arg5) (ix1 k)

theorem V_x (t : Fin 16384) (k : Fin 1024) : V m c main_arg0 (ix2 t k) = X m c t k := by
  unfold V hostOps0; after_reads_at
theorem V_xb (t : Fin 16384) (k : Fin 1024) : V m c main_v0 (ix2 t k) = X m c t k := by
  unfold V hostOps0; after_reads_at
theorem V_wg (s : Fin 4) (k : Fin 1024) (f : Fin 704) : V m c main_v1 (ix3 s k f) = WG m c s k f := by
  unfold V hostOps0; after_reads_at
theorem V_wu (s : Fin 4) (k : Fin 1024) (f : Fin 704) : V m c main_v2 (ix3 s k f) = WU m c s k f := by
  unfold V hostOps0; after_reads_at
theorem V_wd (s : Fin 4) (f : Fin 704) (k : Fin 1024) : V m c main_v3 (ix3 s f k) = WD m c s f k := by
  unfold V hostOps0; after_reads_at
theorem V_g (k : Fin 1024) : V m c main_v4 (ix2 0 k) = LG m c k := by
  unfold V hostOps0; after_reads_at
theorem V_b (k : Fin 1024) : V m c main_v5 (ix2 0 k) = LB m c k := by
  unfold V hostOps0; after_reads_at

/-- The token row that row `r` of the block at point `t` is, and the point's shard. -/
def tok (t : Fin cfg0.N) (r : Fin 512) : Fin 16384 :=
  ⟨512 * (t.val / 4) + r.val, by have := t.isLt; have : cfg0.N = 128 := N_0; omega⟩
def shard (t : Fin cfg0.N) : Fin 4 := ⟨t.val % 4, by omega⟩

theorem index0 : ∀ t : Fin grid0.N, win0_0.index t 0 = t.val / 4 ∧ win0_0.index t 1 = 0 := by
  decide +kernel
theorem index1 : ∀ t : Fin grid0.N, win0_1.index t 0 = t.val / 4 ∧ win0_1.index t 1 = 0 := by
  decide +kernel
theorem index2 : ∀ t : Fin grid0.N, win0_2.index t 0 = t.val % 4 ∧ win0_2.index t 1 = 0 ∧ win0_2.index t 2 = 0 := by
  decide +kernel
theorem index3 : ∀ t : Fin grid0.N, win0_3.index t 0 = t.val % 4 ∧ win0_3.index t 1 = 0 ∧ win0_3.index t 2 = 0 := by
  decide +kernel
theorem index4 : ∀ t : Fin grid0.N, win0_4.index t 0 = t.val % 4 ∧ win0_4.index t 1 = 0 ∧ win0_4.index t 2 = 0 := by
  decide +kernel
theorem index5 : ∀ t : Fin grid0.N, win0_5.index t 0 = 0 ∧ win0_5.index t 1 = 0 := by
  decide +kernel
theorem index6 : ∀ t : Fin grid0.N, win0_6.index t 0 = 0 ∧ win0_6.index t 1 = 0 := by
  decide +kernel

theorem iblk0 (t : Fin cfg0.N) (r : Fin 512) (k : Fin 1024) :
    (iblk m c 0 t : Vec Ideal S512x1024 .f32) (ix2 r k) = X m c (tok t r) k := by
  unfold iblk
  rw [View.read_apply]
  refine Eq.trans ?_ (V_x m c (tok t r) k)
  show V m c main_arg0 _ = V m c main_arg0 _
  congr 1
  funext a
  apply Fin.ext
  match a with
  | ⟨0, _⟩ => show win0_0.index t 0 * 512 + 1 * r.val = 512 * (t.val / 4) + r.val; rw [(index0 t).1]; omega
  | ⟨1, _⟩ => show win0_0.index t 1 * 1024 + 1 * k.val = k.val; rw [(index0 t).2]; omega

theorem iblk1 (t : Fin cfg0.N) (r : Fin 512) (k : Fin 1024) :
    (iblk m c 1 t : Vec Ideal S512x1024 .bf16) (ix2 r k) = X m c (tok t r) k := by
  unfold iblk
  rw [View.read_apply]
  refine Eq.trans ?_ (V_xb m c (tok t r) k)
  show V m c main_v0 _ = V m c main_v0 _
  congr 1
  funext a
  apply Fin.ext
  match a with
  | ⟨0, _⟩ => show win0_1.index t 0 * 512 + 1 * r.val = 512 * (t.val / 4) + r.val; rw [(index1 t).1]; omega
  | ⟨1, _⟩ => show win0_1.index t 1 * 1024 + 1 * k.val = k.val; rw [(index1 t).2]; omega

theorem iblk2 (t : Fin cfg0.N) (k : Fin 1024) (f : Fin 704) :
    (iblk m c 2 t : Vec Ideal S1x1024x704 .bf16) (ix3 0 k f) = WG m c (shard t) k f := by
  unfold iblk
  rw [View.read_apply]
  refine Eq.trans ?_ (V_wg m c (shard t) k f)
  show V m c main_v1 _ = V m c main_v1 _
  congr 1
  funext a
  apply Fin.ext
  match a with
  | ⟨0, _⟩ => show win0_2.index t 0 * 1 + 1 * 0 = t.val % 4; rw [(index2 t).1]; omega
  | ⟨1, _⟩ => show win0_2.index t 1 * 1024 + 1 * k.val = k.val; rw [(index2 t).2.1]; omega
  | ⟨2, _⟩ => show win0_2.index t 2 * 704 + 1 * f.val = f.val; rw [(index2 t).2.2]; omega

theorem iblk3 (t : Fin cfg0.N) (k : Fin 1024) (f : Fin 704) :
    (iblk m c 3 t : Vec Ideal S1x1024x704 .bf16) (ix3 0 k f) = WU m c (shard t) k f := by
  unfold iblk
  rw [View.read_apply]
  refine Eq.trans ?_ (V_wu m c (shard t) k f)
  show V m c main_v2 _ = V m c main_v2 _
  congr 1
  funext a
  apply Fin.ext
  match a with
  | ⟨0, _⟩ => show win0_3.index t 0 * 1 + 1 * 0 = t.val % 4; rw [(index3 t).1]; omega
  | ⟨1, _⟩ => show win0_3.index t 1 * 1024 + 1 * k.val = k.val; rw [(index3 t).2.1]; omega
  | ⟨2, _⟩ => show win0_3.index t 2 * 704 + 1 * f.val = f.val; rw [(index3 t).2.2]; omega

theorem iblk4 (t : Fin cfg0.N) (f : Fin 704) (k : Fin 1024) :
    (iblk m c 4 t : Vec Ideal S1x704x1024 .bf16) (ix3 0 f k) = WD m c (shard t) f k := by
  unfold iblk
  rw [View.read_apply]
  refine Eq.trans ?_ (V_wd m c (shard t) f k)
  show V m c main_v3 _ = V m c main_v3 _
  congr 1
  funext a
  apply Fin.ext
  match a with
  | ⟨0, _⟩ => show win0_4.index t 0 * 1 + 1 * 0 = t.val % 4; rw [(index4 t).1]; omega
  | ⟨1, _⟩ => show win0_4.index t 1 * 704 + 1 * f.val = f.val; rw [(index4 t).2.1]; omega
  | ⟨2, _⟩ => show win0_4.index t 2 * 1024 + 1 * k.val = k.val; rw [(index4 t).2.2]; omega

theorem iblk5 (t : Fin cfg0.N) (k : Fin 1024) :
    (iblk m c 5 t : Vec Ideal S1x1024 .f32) (ix2 0 k) = LG m c k := by
  unfold iblk
  rw [View.read_apply]
  refine Eq.trans ?_ (V_g m c k)
  show V m c main_v4 _ = V m c main_v4 _
  congr 1
  funext a
  apply Fin.ext
  match a with
  | ⟨0, _⟩ => show win0_5.index t 0 * 1 + 1 * 0 = 0; rw [(index5 t).1]
  | ⟨1, _⟩ => show win0_5.index t 1 * 1024 + 1 * k.val = k.val; rw [(index5 t).2]; omega

theorem iblk6 (t : Fin cfg0.N) (k : Fin 1024) :
    (iblk m c 6 t : Vec Ideal S1x1024 .f32) (ix2 0 k) = LB m c k := by
  unfold iblk
  rw [View.read_apply]
  refine Eq.trans ?_ (V_b m c k)
  show V m c main_v5 _ = V m c main_v5 _
  congr 1
  funext a
  apply Fin.ext
  match a with
  | ⟨0, _⟩ => show win0_6.index t 0 * 1 + 1 * 0 = 0; rw [(index6 t).1]
  | ⟨1, _⟩ => show win0_6.index t 1 * 1024 + 1 * k.val = k.val; rw [(index6 t).2]; omega

end Cert.FfnFwdIdeal.Blocks
-- ==== Proof.LayerNorm.lean ====
/-
  The layer norm of one row, over the extended reals: its mean, its variance, its reciprocal deviation and its value.
-/
module

public import Idealize.ShloMosaic.Init
public import Idealize.ShloMosaic.PureOps.Ideal
public import Idealize.ShloMosaic.Lib.ValueIdx

@[expose] public section

noncomputable section

open Idealize.ShloMosaic

namespace Cert.LayerNorm

/-- The row's length 1024, the constant added to the variance, and the residual's scale, as the programs write them. -/
def len : EReal := Ideal.ofBits FTy.f32 0x44800000#32
def eps : EReal := Ideal.ofBits FTy.f32 0x3727C5AC#32
def alpha : EReal := Ideal.ofBits FTy.f32 0x3FD744FD#32

variable (x g b : Fin 1024 → EReal)

def mean : EReal := Ideal.div (∑ k, x k) len

def cen (k : Fin 1024) : EReal := x k - mean x

def rstd : EReal := Ideal.rsqrt (mean (fun k => cen x k * cen x k) + eps)

def norm (k : Fin 1024) : EReal := cen x k * rstd x

def ln (k : Fin 1024) : EReal := norm x k * g k + b k

end Cert.LayerNorm
-- ==== Proof.FfnFwdSpec.lean ====
/-
  The feed-forward layer, over the extended reals and plain indices: the residual's sum of a token and half of the layer's
  value at it, and the layer norm of that.
-/
module

public import proofs.«01_k».proof.Proof.FfnBwdSpec
public import proofs.«01_k».proof.Proof.LayerNorm

@[expose] public section

noncomputable section

open Idealize.ShloMosaic

namespace Cert.FfnFwd.Spec

open Cert.FfnBwd.Spec

variable (X : Fin 16384 → Fin 1024 → EReal) (WG WU : Fin 4 → Fin 1024 → Fin 704 → EReal)
  (WD : Fin 4 → Fin 704 → Fin 1024 → EReal) (G B : Fin 1024 → EReal)

/-- One shard's part of the layer's value. -/
def part (s : Fin 4) (t : Fin 16384) (k : Fin 1024) : EReal := ∑ f, act X WG WU s t f * WD s f k

/-- The residual's sum. -/
def z (t : Fin 16384) (k : Fin 1024) : EReal := LayerNorm.alpha * X t k + half * ∑ s, part X WG WU WD s t k

/-- Its layer norm. -/
def y (t : Fin 16384) (k : Fin 1024) : EReal := LayerNorm.ln (z X WG WU WD t) G B k

end Cert.FfnFwd.Spec
-- ==== Proof.FfnFwdPay.lean ====
/-
  The forward body's named payloads read at an index, over the extended reals.
-/
module

public import proofs.«01_k».proof.Proof.Gen.FfnFwdIdeal.Skeleton
public import proofs.«01_k».proof.Proof.FfnFwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnFwdIdeal.Pay

open Cert.FfnFwdIdeal Cert.FfnFwdIdeal.Gen Cert.FfnBwd.Spec Cert.LayerNorm

variable (x : Vec Ideal S512x1024 .bf16) (wg wu : Vec Ideal S1x1024x704 .bf16) (wd : Vec Ideal S1x704x1024 .bf16)
  (v w : Vec Ideal S512x1024 .f32) (g b : Vec Ideal S1x1024 .f32)
  (r : Fin 512) (f : Fin 704) (k : Fin 1024)

theorem half_f32 : Ideal.ofBits FTy.f32 0x3F000000#32 = half := by
  unfold half
  simp [Ideal.ofBits, Ideal.ieee, -EReal.coe_mul]
  norm_num

theorem gate_apply : k0_pay7 x wg (ix2 r f) = ∑ k, x (ix2 r k) * wg (ix3 0 k f) := by
  unfold k0_pay7 k0_pay6
  pointwise

theorem up_apply : k0_pay8 x wu (ix2 r f) = ∑ k, x (ix2 r k) * wu (ix3 0 k f) := by
  unfold k0_pay8 k0_pay6
  pointwise

theorem gate_out_apply : k0_pay9 x wg (ix3 0 r f) = ∑ k, x (ix2 r k) * wg (ix3 0 k f) := by
  unfold k0_pay9
  pointwise
  rw [gate_apply]

theorem up_out_apply : k0_pay10 x wu (ix3 0 r f) = ∑ k, x (ix2 r k) * wu (ix3 0 k f) := by
  unfold k0_pay10
  pointwise
  rw [up_apply]

theorem part_apply : k0_pay11 x wg wu wd (ix2 r k) = ∑ f, ((∑ k, x (ix2 r k) * wg (ix3 0 k f))
    * sg (∑ k, x (ix2 r k) * wg (ix3 0 k f)) * (∑ k, x (ix2 r k) * wu (ix3 0 k f))) * wd (ix3 0 f k) := by
  unfold k0_pay11 sg
  pointwise
  simp only [zero_sub, gate_apply, up_apply]

theorem first_apply : (k0_pay1 (F := Ideal) v) (ix2 r k) = v (ix2 r k) := by
  unfold k0_pay1
  pointwise

theorem next_apply : k0_pay2 v w (ix2 r k) = w (ix2 r k) + v (ix2 r k) := by
  unfold k0_pay2
  pointwise

theorem z_apply : k0_pay3 v w (ix2 r k) = alpha * v (ix2 r k) + half * w (ix2 r k) := by
  unfold k0_pay3
  pointwise
  rw [half_f32]
  rfl

theorem y_apply : k0_pay4 v w g b (ix2 r k)
    = ln (fun k => alpha * v (ix2 r k) + half * w (ix2 r k)) (fun k => g (ix2 0 k)) (fun k => b (ix2 0 k)) k := by
  unfold k0_pay4 ln LayerNorm.norm rstd cen mean
  pointwise
  simp only [z_apply]
  rfl

theorem yb_apply : k0_pay5 v w g b (ix2 r k)
    = ln (fun k => alpha * v (ix2 r k) + half * w (ix2 r k)) (fun k => g (ix2 0 k)) (fun k => b (ix2 0 k)) k := by
  unfold k0_pay5
  pointwise
  rw [y_apply]

end Cert.FfnFwdIdeal.Pay
-- ==== Proof.FfnFwdFold.lean ====
/-
  The forward grid folded up: what the accumulator holds after each shard of a token block, so the five result arrays,
  entry by entry.
-/
module

public import proofs.«01_k».proof.Proof.FfnFwdBody
public import proofs.«01_k».proof.Proof.FfnFwdBlocks
public import proofs.«01_k».proof.Proof.FfnFwdPay
public import proofs.«01_k».proof.Proof.Gen.FfnFwdIdeal.Value

@[expose] public section

set_option maxRecDepth 16384

noncomputable section

open Idealize.ShloMosaic Idealize.ShloMosaic.TcCoe Idealize.SL.Sem

namespace Cert.FfnFwdIdeal.Fold

open Cert.FfnFwdIdeal Cert.FfnFwdIdeal.Gen Cert.FfnFwdIdeal.Body Cert.FfnFwdIdeal.Blocks Cert.FfnFwdIdeal.Pay
open Cert.FfnBwd.Spec Cert.FfnFwd.Spec

variable (m : (ℓ : Loc nD τ sig) → Buf (Elt Ideal) ℓ) (c : Dev nD)

/-- The forward pass's values at the launch's arguments. -/
abbrev partM := part (X m c) (WG m c) (WU m c) (WD m c)
abbrev zM := z (X m c) (WG m c) (WU m c) (WD m c)
abbrev yM := y (X m c) (WG m c) (WU m c) (WD m c) (LG m c) (LB m c)

/-- The first `n` shards' parts of a token's value. -/
def parts (t : Fin 16384) (k : Fin 1024) (n : ℕ) : EReal :=
  ∑ i ∈ Finset.range n, if h : i < 4 then partM m c ⟨i, h⟩ t k else 0

section
variable (t : Fin cfg0.N) (r : Fin 512) (f : Fin 704) (k : Fin 1024)

theorem gate_blk : k0_pay9 (iblk m c 1 t) (iblk m c 2 t) (ix3 0 r f) = proj (X m c) (WG m c) (shard t) (tok t r) f := by
  rw [gate_out_apply]
  simp only [iblk1, iblk2]
  rfl

theorem up_blk : k0_pay10 (iblk m c 1 t) (iblk m c 3 t) (ix3 0 r f) = proj (X m c) (WU m c) (shard t) (tok t r) f := by
  rw [up_out_apply]
  simp only [iblk1, iblk3]
  rfl

theorem part_blk : k0_pay11 (iblk m c 1 t) (iblk m c 2 t) (iblk m c 3 t) (iblk m c 4 t) (ix2 r k)
    = partM m c (shard t) (tok t r) k := by
  rw [part_apply]
  simp only [iblk1, iblk2, iblk3, iblk4]
  rfl

end

theorem gs_eq (t : Fin cfg0.N) : (outsAt0 m c t.val t.isLt).2.2.2.1 = k0_pay9 (iblk m c 1 t) (iblk m c 2 t) := by
  by_cases h0 : t.val % 4 = 0
  · rw [outsAt0_A m c t h0 (by omega) (by omega)]; dsimp only; rw [out0_A_10_eq]
  · by_cases h2 : t.val % 4 = 3
    · rw [outsAt0_C m c t h0 (by omega) h2]; dsimp only; rw [out0_C_10_eq]
    · rw [outsAt0_B m c t h0 (by omega) h2]; dsimp only; rw [out0_B_10_eq]

theorem us_eq (t : Fin cfg0.N) : (outsAt0 m c t.val t.isLt).2.2.2.2.1 = k0_pay10 (iblk m c 1 t) (iblk m c 3 t) := by
  by_cases h0 : t.val % 4 = 0
  · rw [outsAt0_A m c t h0 (by omega) (by omega)]; dsimp only; rw [out0_A_11_eq]
  · by_cases h2 : t.val % 4 = 3
    · rw [outsAt0_C m c t h0 (by omega) h2]; dsimp only; rw [out0_C_11_eq]
    · rw [outsAt0_B m c t h0 (by omega) h2]; dsimp only; rw [out0_B_11_eq]

theorem acc_first (t : Fin cfg0.N) (h0 : t.val % 4 = 0) : (outsAt0 m c t.val t.isLt).2.2.2.2.2
    = k0_pay1 (k0_pay11 (iblk m c 1 t) (iblk m c 2 t) (iblk m c 3 t) (iblk m c 4 t)) := by
  rw [outsAt0_A m c t h0 (by omega) (by omega)]; dsimp only; rw [sout0_A_0_eq]

theorem acc_next (t : Fin cfg0.N) (h0 : ¬t.val % 4 = 0) : (outsAt0 m c t.val t.isLt).2.2.2.2.2
    = k0_pay2 (k0_pay11 (iblk m c 1 t) (iblk m c 2 t) (iblk m c 3 t) (iblk m c 4 t))
      (outsAt0 m c (t.val - 1) (Nat.lt_of_le_of_lt (Nat.sub_le _ _) t.isLt)).2.2.2.2.2 := by
  by_cases h2 : t.val % 4 = 3
  · rw [outsAt0_C m c t h0 (by omega) h2]; dsimp only; rw [sout0_C_0_eq]
  · rw [outsAt0_B m c t h0 (by omega) h2]; dsimp only; rw [sout0_B_0_eq]

/-- The three windows written at a token block's last shard, from the accumulator that shard leaves. -/
theorem z_eq (t : Fin cfg0.N) (h2 : t.val % 4 = 3) : (outsAt0 m c t.val t.isLt).2.2.1
    = k0_pay3 (iblk m c 0 t) ((outsAt0 m c t.val t.isLt).2.2.2.2.2) := by
  rw [acc_next m c t (by omega), outsAt0_C m c t (by omega) (by omega) h2]; dsimp only; rw [out0_C_9_eq]

theorem y_eq (t : Fin cfg0.N) (h2 : t.val % 4 = 3) : (outsAt0 m c t.val t.isLt).1
    = k0_pay4 (iblk m c 0 t) ((outsAt0 m c t.val t.isLt).2.2.2.2.2) (iblk m c 5 t) (iblk m c 6 t) := by
  rw [acc_next m c t (by omega), outsAt0_C m c t (by omega) (by omega) h2]; dsimp only; rw [out0_C_7_eq]

theorem yb_eq (t : Fin cfg0.N) (h2 : t.val % 4 = 3) : (outsAt0 m c t.val t.isLt).2.1
    = k0_pay5 (iblk m c 0 t) ((outsAt0 m c t.val t.isLt).2.2.2.2.2) (iblk m c 5 t) (iblk m c 6 t) := by
  rw [acc_next m c t (by omega), outsAt0_C m c t (by omega) (by omega) h2]; dsimp only; rw [out0_C_8_eq]

/-- The accumulator after point `n`: the parts of the shards seen so far. -/
theorem acc_sum (r : Fin 512) (k : Fin 1024) : ∀ (n : ℕ) (h : n < cfg0.N), (outsAt0 m c n h).2.2.2.2.2 (ix2 r k)
    = parts m c (tok ⟨n, h⟩ r) k (n % 4 + 1) := by
  intro n
  induction n with
  | zero =>
    intro h
    rw [acc_first m c ⟨0, h⟩ rfl, first_apply, part_blk]
    unfold parts
    rw [Nat.zero_mod, Finset.sum_range_one, dif_pos (by decide)]
    rfl
  | succ n ih =>
    intro h
    have hN : cfg0.N = 128 := N_0
    by_cases h0 : (n + 1) % 4 = 0
    · rw [acc_first m c ⟨n + 1, h⟩ h0, first_apply, part_blk]
      unfold parts
      rw [h0, Finset.sum_range_one, dif_pos (by decide)]
      congr 1
      exact Fin.ext h0
    · rw [acc_next m c ⟨n + 1, h⟩ h0, next_apply, part_blk]
      have e' : (n + 1) % 4 = n % 4 + 1 := by omega
      have e : tok ⟨n + 1, h⟩ r = tok ⟨n, by omega⟩ r := by
        apply Fin.ext; show 512 * ((n + 1) / 4) + r.val = 512 * (n / 4) + r.val; omega
      show (outsAt0 m c n _).2.2.2.2.2 (ix2 r k) + _ = _
      rw [ih (by omega), e]
      unfold parts
      rw [e', Finset.sum_range_succ _ (n % 4 + 1), dif_pos (by omega)]
      congr 2
      exact Fin.ext e'

theorem parts_all (t : Fin 16384) (k : Fin 1024) : parts m c t k 4 = ∑ s, partM m c s t k := by
  unfold parts
  rw [Finset.sum_range]
  refine Finset.sum_congr rfl fun s _ => ?_
  rw [dif_pos s.isLt]

theorem z_blk (t : Fin cfg0.N) (h2 : t.val % 4 = 3) (r : Fin 512) (k : Fin 1024) :
    LayerNorm.alpha * (iblk m c 0 t : Vec Ideal S512x1024 .f32) (ix2 r k)
      + half * ((outsAt0 m c t.val t.isLt).2.2.2.2.2 : Vec Ideal S512x1024 .f32) (ix2 r k) = zM m c (tok t r) k := by
  rw [acc_sum, h2, parts_all, iblk0]
  rfl

theorem zout_blk (t : Fin cfg0.N) (h2 : t.val % 4 = 3) (r : Fin 512) (k : Fin 1024) :
    k0_pay3 (iblk m c 0 t) ((outsAt0 m c t.val t.isLt).2.2.2.2.2) (ix2 r k) = zM m c (tok t r) k := by
  rw [z_apply]
  exact z_blk m c t h2 r k

theorem y_blk (t : Fin cfg0.N) (h2 : t.val % 4 = 3) (r : Fin 512) (k : Fin 1024) :
    k0_pay4 (iblk m c 0 t) ((outsAt0 m c t.val t.isLt).2.2.2.2.2) (iblk m c 5 t) (iblk m c 6 t) (ix2 r k)
      = yM m c (tok t r) k := by
  rw [y_apply, funext (z_blk m c t h2 r), funext (iblk5 m c t), funext (iblk6 m c t)]
  rfl

theorem yb_blk (t : Fin cfg0.N) (h2 : t.val % 4 = 3) (r : Fin 512) (k : Fin 1024) :
    k0_pay5 (iblk m c 0 t) ((outsAt0 m c t.val t.isLt).2.2.2.2.2) (iblk m c 5 t) (iblk m c 6 t) (ix2 r k)
      = yM m c (tok t r) k := by
  rw [yb_apply, funext (z_blk m c t h2 r), funext (iblk5 m c t), funext (iblk6 m c t)]
  rfl

/-! ## The result arrays -/

section
variable (t : Fin 16384) (k : Fin 1024)

/-- The point that writes a token's block, and the token's row in it. -/
theorem lastPoint : ∃ p : Fin cfg0.N, p.val = 4 * (t.val / 512) + 3 ∧ p.val % 4 = 3
    ∧ tok p ⟨t.val % 512, Nat.mod_lt _ (by decide)⟩ = t := by
  have hN : cfg0.N = 128 := N_0
  refine ⟨⟨4 * (t.val / 512) + 3, by omega⟩, rfl, by show (4 * (t.val / 512) + 3) % 4 = 3; omega, ?_⟩
  apply Fin.ext
  show 512 * ((4 * (t.val / 512) + 3) / 4) + t.val % 512 = t.val
  omega

theorem locRow {i : S512x1024.Idx} (h0 : (i 0).val = t.val % 512) (h1 : (i 1).val = k.val % 1024) :
    i = ix2 ⟨t.val % 512, Nat.mod_lt _ (by decide)⟩ k := by
  funext a
  apply Fin.ext
  match a with
  | ⟨0, _⟩ => exact h0
  | ⟨1, _⟩ => rw [show ((i ⟨1, _⟩ : Fin _).val = k.val % 1024) from h1]; show k.val % 1024 = k.val; omega

end

theorem G7_apply (t : Fin 16384) (k : Fin 1024) : Value.G7 m c (ix2 t k) = yM m c t k := by
  obtain ⟨p, hp, hm, ht⟩ := lastPoint t
  have hq : Value.pt7Of (ix2 t k) = p.val := by
    rw [hp]; show 4 * (1 * (t.val / 512 - 0) + 1 * (k.val / 1024 - 0)) + 3 = _; omega
  have hlt : Value.pt7Of (ix2 t k) < cfg0.N := by rw [hq]; exact p.isLt
  obtain rfl : (⟨_, hlt⟩ : Fin cfg0.N) = p := Fin.ext hq
  unfold Value.G7
  rw [dif_pos hlt, ← Value.outsAt0_sweep m c _ hlt, y_eq m c ⟨_, hlt⟩ hm]
  rw [show Value.loc7Of (ix2 t k) = _ from locRow t k rfl rfl, y_blk m c _ hm, ht]

theorem G8_apply (t : Fin 16384) (k : Fin 1024) : Value.G8 m c (ix2 t k) = yM m c t k := by
  obtain ⟨p, hp, hm, ht⟩ := lastPoint t
  have hq : Value.pt8Of (ix2 t k) = p.val := by
    rw [hp]; show 4 * (1 * (t.val / 512 - 0) + 1 * (k.val / 1024 - 0)) + 3 = _; omega
  have hlt : Value.pt8Of (ix2 t k) < cfg0.N := by rw [hq]; exact p.isLt
  obtain rfl : (⟨_, hlt⟩ : Fin cfg0.N) = p := Fin.ext hq
  unfold Value.G8
  rw [dif_pos hlt, ← Value.outsAt0_sweep m c _ hlt, yb_eq m c ⟨_, hlt⟩ hm]
  rw [show Value.loc8Of (ix2 t k) = _ from locRow t k rfl rfl, yb_blk m c _ hm, ht]

theorem G9_apply (t : Fin 16384) (k : Fin 1024) : Value.G9 m c (ix2 t k) = zM m c t k := by
  obtain ⟨p, hp, hm, ht⟩ := lastPoint t
  have hq : Value.pt9Of (ix2 t k) = p.val := by
    rw [hp]; show 4 * (1 * (t.val / 512 - 0) + 1 * (k.val / 1024 - 0)) + 3 = _; omega
  have hlt : Value.pt9Of (ix2 t k) < cfg0.N := by rw [hq]; exact p.isLt
  obtain rfl : (⟨_, hlt⟩ : Fin cfg0.N) = p := Fin.ext hq
  unfold Value.G9
  rw [dif_pos hlt, ← Value.outsAt0_sweep m c _ hlt, z_eq m c ⟨_, hlt⟩ hm]
  rw [show Value.loc9Of (ix2 t k) = _ from locRow t k rfl rfl, zout_blk m c _ hm, ht]

theorem G10_apply (s : Fin 4) (t : Fin 16384) (f : Fin 704) :
    Value.G10 m c (ix3 s t f) = proj (X m c) (WG m c) s t f := by
  have hN : cfg0.N = 128 := N_0
  have hp : Value.pt10Of (ix3 s t f) = 4 * (t.val / 512) + s.val := by
    show 1 * (s.val / 1 - 0) + 4 * (t.val / 512 - 0) + 128 * (f.val / 704 - 0) = _; omega
  have hlt : Value.pt10Of (ix3 s t f) < cfg0.N := by rw [hp]; omega
  unfold Value.G10
  rw [dif_pos hlt, ← Value.outsAt0_sweep m c _ hlt, gs_eq m c ⟨_, hlt⟩]
  have hl : Value.loc10Of (ix3 s t f) = ix3 0 ⟨t.val % 512, Nat.mod_lt _ (by decide)⟩ f := by
    funext a
    apply Fin.ext
    match a with
    | ⟨0, _⟩ => show s.val % 1 = 0; omega
    | ⟨1, _⟩ => rfl
    | ⟨2, _⟩ => show f.val % 704 = f.val; omega
  rw [hl, gate_blk]
  have hs : shard ⟨Value.pt10Of (ix3 s t f), hlt⟩ = s := by
    apply Fin.ext; show Value.pt10Of (ix3 s t f) % 4 = s.val; rw [hp]; omega
  have ht : tok ⟨Value.pt10Of (ix3 s t f), hlt⟩ ⟨t.val % 512, Nat.mod_lt _ (by decide)⟩ = t := by
    apply Fin.ext; show 512 * (Value.pt10Of (ix3 s t f) / 4) + t.val % 512 = t.val; rw [hp]; omega
  rw [hs, ht]

theorem G11_apply (s : Fin 4) (t : Fin 16384) (f : Fin 704) :
    Value.G11 m c (ix3 s t f) = proj (X m c) (WU m c) s t f := by
  have hN : cfg0.N = 128 := N_0
  have hp : Value.pt11Of (ix3 s t f) = 4 * (t.val / 512) + s.val := by
    show 1 * (s.val / 1 - 0) + 4 * (t.val / 512 - 0) + 128 * (f.val / 704 - 0) = _; omega
  have hlt : Value.pt11Of (ix3 s t f) < cfg0.N := by rw [hp]; omega
  unfold Value.G11
  rw [dif_pos hlt, ← Value.outsAt0_sweep m c _ hlt, us_eq m c ⟨_, hlt⟩]
  have hl : Value.loc11Of (ix3 s t f) = ix3 0 ⟨t.val % 512, Nat.mod_lt _ (by decide)⟩ f := by
    funext a
    apply Fin.ext
    match a with
    | ⟨0, _⟩ => show s.val % 1 = 0; omega
    | ⟨1, _⟩ => rfl
    | ⟨2, _⟩ => show f.val % 704 = f.val; omega
  rw [hl, up_blk]
  have hs : shard ⟨Value.pt11Of (ix3 s t f), hlt⟩ = s := by
    apply Fin.ext; show Value.pt11Of (ix3 s t f) % 4 = s.val; rw [hp]; omega
  have ht : tok ⟨Value.pt11Of (ix3 s t f), hlt⟩ ⟨t.val % 512, Nat.mod_lt _ (by decide)⟩ = t := by
    apply Fin.ext; show 512 * (Value.pt11Of (ix3 s t f) / 4) + t.val % 512 = t.val; rw [hp]; omega
  rw [hs, ht]

end Cert.FfnFwdIdeal.Fold
-- ==== Proof.FfnFwdRef.lean ====
/-
  The forward reference's results read at an index.
-/
module

public import proofs.«01_k».proof.Proof.Gen.FfnFwdRefIdeal.Read
public import proofs.«01_k».proof.Proof.FfnFwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnFwdRefIdeal.Forward

open Cert.FfnFwdRefIdeal Cert.FfnFwdRefIdeal.Read Cert.FfnBwd.Spec Cert.FfnFwd.Spec

variable (x0 : (⟨S16384x1024, .f32⟩ : BufTy).Contents (Elt Ideal))
  (x1 x2 : (⟨S4x1024x704, .f32⟩ : BufTy).Contents (Elt Ideal)) (x3 : (⟨S4x704x1024, .f32⟩ : BufTy).Contents (Elt Ideal))
  (x4 x5 : (⟨S1024, .f32⟩ : BufTy).Contents (Elt Ideal))

/-- The arguments at an index. -/
abbrev A1 (x : (⟨S1024, .f32⟩ : BufTy).Contents (Elt Ideal)) (k : Fin 1024) : EReal := x (ix1 k)
abbrev A2 (x : (⟨S16384x1024, .f32⟩ : BufTy).Contents (Elt Ideal)) (t : Fin 16384) (k : Fin 1024) : EReal := x (ix2 t k)
abbrev A3 (x : (⟨S4x1024x704, .f32⟩ : BufTy).Contents (Elt Ideal)) (s : Fin 4) (k : Fin 1024) (f : Fin 704) : EReal :=
  x (ix3 s k f)
abbrev A3' (x : (⟨S4x704x1024, .f32⟩ : BufTy).Contents (Elt Ideal)) (s : Fin 4) (f : Fin 704) (k : Fin 1024) : EReal :=
  x (ix3 s f k)

variable (s : Fin 4) (t : Fin 16384) (f : Fin 704) (k : Fin 1024)

theorem gate_eq : val_main_v1 x0 x1 (ix3 s t f) = proj (A2 x0) (A3 x1) s t f := by
  unfold val_main_v1 val_main_v0 proj
  pointwise
  exact Finset.sum_congr rfl fun _ _ => EReal.mul_comm _ _

theorem up_eq : val_main_v3 x0 x2 (ix3 s t f) = proj (A2 x0) (A3 x2) s t f := by
  unfold val_main_v3 val_main_v2 proj
  pointwise
  exact Finset.sum_congr rfl fun _ _ => EReal.mul_comm _ _

theorem sg_eq : val_main_call0_v5 x0 x1 (ix3 s t f) = sg (proj (A2 x0) (A3 x1) s t f) := by
  unfold val_main_call0_v5 val_main_call0_v4 val_main_call0_v3 val_main_call0_v2 val_main_call0_v1 val_main_call0_v0
    val_main_call0_cst_0 val_main_call0_cst sg
  pointwise
  rw [gate_eq]

theorem act_eq : val_main_v7 x0 x1 x2 (ix3 s t f) = act (A2 x0) (A3 x1) (A3 x2) s t f := by
  unfold val_main_v7 val_main_v6 act
  pointwise
  rw [gate_eq, sg_eq, up_eq]

theorem part_eq : val_main_v8 x0 x1 x2 x3 (ix3 s t k) = part (A2 x0) (A3 x1) (A3 x2) (A3' x3) s t k := by
  unfold val_main_v8 part
  pointwise
  simp only [act_eq]

theorem half_f32 : Ideal.ofBits FTy.f32 0x3F000000#32 = half := by
  unfold half
  simp [Ideal.ofBits, Ideal.ieee, -EReal.coe_mul]
  norm_num

theorem z_eq : val_main_v12 x0 x1 x2 x3 (ix2 t k) = z (A2 x0) (A3 x1) (A3 x2) (A3' x3) t k := by
  unfold val_main_v12 val_main_v11 val_main_v10 val_main_v9 val_main_v5 val_main_v4 val_main_cst val_main_cst_0 val_main_cst_1 z
    LayerNorm.alpha
  pointwise
  simp only [half_f32, part_eq]

theorem y_eq : val_main_v36 x0 x1 x2 x3 x4 x5 (ix2 t k)
    = y (A2 x0) (A3 x1) (A3 x2) (A3' x3) (A1 x4) (A1 x5) t k := by
  unfold val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19
    val_main_v18 val_main_v17 val_main_v16 val_main_v15 val_main_v14 val_main_v13
    val_main_cst_2 val_main_cst_3 val_main_cst_4 val_main_cst_5 val_main_cst_6 y LayerNorm.ln LayerNorm.norm LayerNorm.rstd
    LayerNorm.cen LayerNorm.mean
  pointwise
  simp only [z_eq]
  rfl

theorem yb_eq : val_main_v37 x0 x1 x2 x3 x4 x5 (ix2 t k)
    = y (A2 x0) (A3 x1) (A3 x2) (A3' x3) (A1 x4) (A1 x5) t k := by
  unfold val_main_v37
  pointwise
  rw [y_eq]

theorem gs_eq : val_main_v38 x0 x1 (ix3 s t f) = proj (A2 x0) (A3 x1) s t f := by
  unfold val_main_v38
  pointwise
  rw [gate_eq]

theorem us_eq : val_main_v39 x0 x2 (ix3 s t f) = proj (A2 x0) (A3 x2) s t f := by
  unfold val_main_v39
  pointwise
  rw [up_eq]

end Cert.FfnFwdRefIdeal.Forward
-- ==== Proof.FfnFwdValue.lean ====
/-
  The value claim of the feed-forward layer's forward pass: the kernel's five results are the reference's.
-/
module

public import proofs.«01_k».proof.Defs
public import proofs.«01_k».proof.Proof.FfnFwdFold
public import proofs.«01_k».proof.Proof.FfnFwdRef
public import proofs.«01_k».proof.Proof.Gen.FfnFwdRefIdeal.Run

@[expose] public section

set_option maxRecDepth 16384

noncomputable section

open Idealize.ShloMosaic Idealize.ShloMosaic.TcCoe Idealize.SL.Sem

namespace Cert.FfnFwdValue

variable (m : (ℓ : Loc Cert.FfnFwdIdeal.nD Cert.FfnFwdIdeal.τ Cert.FfnFwdIdeal.sig) → Buf (Elt Ideal) ℓ)
  (c : Dev Cert.FfnFwdIdeal.nD)

/-- The arguments of core `c`. -/
abbrev a0 : (⟨Cert.FfnFwdRefIdeal.S16384x1024, .f32⟩ : BufTy).Contents (Elt Ideal) := m (c.tc.loc Cert.FfnFwdIdeal.main_arg0)
abbrev a1 : (⟨Cert.FfnFwdRefIdeal.S4x1024x704, .f32⟩ : BufTy).Contents (Elt Ideal) := m (c.tc.loc Cert.FfnFwdIdeal.main_arg1)
abbrev a2 : (⟨Cert.FfnFwdRefIdeal.S4x1024x704, .f32⟩ : BufTy).Contents (Elt Ideal) := m (c.tc.loc Cert.FfnFwdIdeal.main_arg2)
abbrev a3 : (⟨Cert.FfnFwdRefIdeal.S4x704x1024, .f32⟩ : BufTy).Contents (Elt Ideal) := m (c.tc.loc Cert.FfnFwdIdeal.main_arg3)
abbrev a4 : (⟨Cert.FfnFwdRefIdeal.S1024, .f32⟩ : BufTy).Contents (Elt Ideal) := m (c.tc.loc Cert.FfnFwdIdeal.main_arg4)
abbrev a5 : (⟨Cert.FfnFwdRefIdeal.S1024, .f32⟩ : BufTy).Contents (Elt Ideal) := m (c.tc.loc Cert.FfnFwdIdeal.main_arg5)

theorem y_eq : Cert.FfnFwdRefIdeal.Read.val_main_v36 (F := Ideal) (a0 m c) (a1 m c) (a2 m c) (a3 m c) (a4 m c) (a5 m c)
    = Cert.FfnFwdIdeal.Value.G7 m c := by
  funext i
  obtain ⟨t, k, rfl⟩ : ∃ (t : Fin 16384) (k : Fin 1024), i = ix2 t k := ⟨i 0, i 1, eq_ix2 i⟩
  rw [Cert.FfnFwdIdeal.Fold.G7_apply, Cert.FfnFwdRefIdeal.Forward.y_eq]

theorem yb_eq : Cert.FfnFwdRefIdeal.Read.val_main_v37 (F := Ideal) (a0 m c) (a1 m c) (a2 m c) (a3 m c) (a4 m c) (a5 m c)
    = Cert.FfnFwdIdeal.Value.G8 m c := by
  funext i
  obtain ⟨t, k, rfl⟩ : ∃ (t : Fin 16384) (k : Fin 1024), i = ix2 t k := ⟨i 0, i 1, eq_ix2 i⟩
  rw [Cert.FfnFwdIdeal.Fold.G8_apply, Cert.FfnFwdRefIdeal.Forward.yb_eq]

theorem z_eq : Cert.FfnFwdRefIdeal.Read.val_main_v12 (F := Ideal) (a0 m c) (a1 m c) (a2 m c) (a3 m c)
    = Cert.FfnFwdIdeal.Value.G9 m c := by
  funext i
  obtain ⟨t, k, rfl⟩ : ∃ (t : Fin 16384) (k : Fin 1024), i = ix2 t k := ⟨i 0, i 1, eq_ix2 i⟩
  rw [Cert.FfnFwdIdeal.Fold.G9_apply, Cert.FfnFwdRefIdeal.Forward.z_eq]

theorem gs_eq : Cert.FfnFwdRefIdeal.Read.val_main_v38 (F := Ideal) (a0 m c) (a1 m c) = Cert.FfnFwdIdeal.Value.G10 m c := by
  funext i
  obtain ⟨s, t, f, rfl⟩ : ∃ (s : Fin 4) (t : Fin 16384) (f : Fin 704), i = ix3 s t f := ⟨i 0, i 1, i 2, eq_ix3 i⟩
  rw [Cert.FfnFwdIdeal.Fold.G10_apply, Cert.FfnFwdRefIdeal.Forward.gs_eq]

theorem us_eq : Cert.FfnFwdRefIdeal.Read.val_main_v39 (F := Ideal) (a0 m c) (a2 m c) = Cert.FfnFwdIdeal.Value.G11 m c := by
  funext i
  obtain ⟨s, t, f, rfl⟩ : ∃ (s : Fin 4) (t : Fin 16384) (f : Fin 704), i = ix3 s t f := ⟨i 0, i 1, i 2, eq_ix3 i⟩
  rw [Cert.FfnFwdIdeal.Fold.G11_apply, Cert.FfnFwdRefIdeal.Forward.us_eq]

theorem algebraic : algebraic_FfnFwdIdeal_FfnFwdRefIdeal := by
  intro m ρ m' ρ' _ hagree
  refine ⟨fun c => Cert.FfnFwdIdeal.Value.G7 m c, fun c => Cert.FfnFwdIdeal.Value.G8 m c,
    fun c => Cert.FfnFwdIdeal.Value.G9 m c, fun c => Cert.FfnFwdIdeal.Value.G10 m c,
    fun c => Cert.FfnFwdIdeal.Value.G11 m c, Cert.FfnFwdIdeal.Value.run m ρ, ?_⟩
  refine (θ_run _ _ _).mono (fun _ h c => ?_) (Cert.FfnFwdRefIdeal.Value.run m' ρ')
  obtain ⟨e0, e1, e2, e3, e4, e5⟩ := hagree c
  obtain ⟨r0, r1, r2, r3, r4, k⟩ := h c
  refine ⟨r0.trans ?_, r1.trans ?_, r2.trans ?_, r3.trans ?_, r4.trans ?_, k⟩
  · refine (Cert.FfnFwdRefIdeal.Read.val_main_v36_eq m' c).trans ?_
    rw [e0, e1, e2, e3, e4, e5]; exact y_eq m c
  · refine (Cert.FfnFwdRefIdeal.Read.val_main_v37_eq m' c).trans ?_
    rw [e0, e1, e2, e3, e4, e5]; exact yb_eq m c
  · refine (Cert.FfnFwdRefIdeal.Read.val_main_v12_eq _ _ _ _).trans ?_
    rw [e0, e1, e2, e3]; exact z_eq m c
  · refine (Cert.FfnFwdRefIdeal.Read.val_main_v38_eq _ _).trans ?_
    rw [e0, e1]; exact gs_eq m c
  · refine (Cert.FfnFwdRefIdeal.Read.val_main_v39_eq _ _).trans ?_
    rw [e0, e2]; exact us_eq m c

end Cert.FfnFwdValue
-- ==== Proof.LnBwdBody.lean ====
/-
  What one grid point of the layer norm's backward kernel leaves in its windows, as the body's own named payloads:
  the two cases are the first token block and the later ones.
-/
module

public import proofs.«01_k».proof.Proof.Gen.LnBwdIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.LnBwdIdeal.Body

open Cert.LnBwdIdeal Cert.LnBwdIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

theorem out0_A_5_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x2176 .bf16) (x2 : Vec F S2176x1024 .bf16) (x3 : Vec F S512x1024 .f32) (x4 : Vec F S1x1024 .f32) :
    out0_A_5 c i arg1 harg1 arg2 harg2 arg3 harg3 arg4 harg4 arg5 harg5 arg6 harg6 arg7 harg7 arg8 harg8 arg9 harg9 hc0 x0 x1 x2 x3 x4 =
      k0_pay2 (k0_pay10 x3) (k0_pay11 x3) (k0_pay12 x0 x1 x2 x4) (k0_pay13 x0 x1 x2 x3 x4) (k0_pay14 x0 x1 x2 x4) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

theorem out0_A_6_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x2176 .bf16) (x2 : Vec F S2176x1024 .bf16) (x3 : Vec F S512x1024 .f32) (x4 : Vec F S1x1024 .f32) :
    out0_A_6 c i arg1 harg1 arg2 harg2 arg3 harg3 arg4 harg4 arg5 harg5 arg6 harg6 arg7 harg7 arg8 harg8 arg9 harg9 hc0 x0 x1 x2 x3 x4 =
      k0_pay3 (k0_pay10 x3) (k0_pay11 x3) (k0_pay12 x0 x1 x2 x4) (k0_pay13 x0 x1 x2 x3 x4) (k0_pay14 x0 x1 x2 x4) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

theorem out0_A_7_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x2176 .bf16) (x2 : Vec F S2176x1024 .bf16) (x3 : Vec F S512x1024 .f32) (x4 : Vec F S1x1024 .f32) :
    out0_A_7 c i arg1 harg1 arg2 harg2 arg3 harg3 arg4 harg4 arg5 harg5 arg6 harg6 arg7 harg7 arg8 harg8 arg9 harg9 hc0 x0 x1 x2 x3 x4 =
      k0_pay6 (k0_pay8 x0 x1 x2) (k0_pay11 x3) k0_pay4 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

theorem out0_A_8_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S512x1024 .f32) (x1 : Vec F S512x2176 .bf16) (x2 : Vec F S2176x1024 .bf16) (x3 : Vec F S512x1024 .f32) (x4 : Vec F S1x1024 .f32) :
    out0_A_8 c i arg1 harg1 arg2 harg2 arg3 harg3 arg4 harg4 arg5 harg5 arg6 harg6 arg7 harg7 arg8 harg8 arg9 harg9 hc0 x0 x1 x2 x3 x4 =
      k0_pay7 (k0_pay8 x0 x1 x2) k0_pay5 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

theorem out0_B_5_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x2176 .bf16) (x2 : Vec F S2176x1024 .bf16) (x3 : Vec F S512x1024 .f32) (x4 : Vec F S1x1024 .f32) (xo7 : Vec F S1x1024 .f32) (xo8 : Vec F S1x1024 .f32) :
    out0_B_5 c i arg1 harg1 arg2 harg2 arg3 harg3 arg4 harg4 arg5 harg5 arg6 harg6 arg7 harg7 arg8 harg8 arg9 harg9 hc0 x0 x1 x2 x3 x4 xo7 xo8 =
      k0_pay2 (k0_pay10 x3) (k0_pay11 x3) (k0_pay12 x0 x1 x2 x4) (k0_pay13 x0 x1 x2 x3 x4) (k0_pay14 x0 x1 x2 x4) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S512x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

theorem out0_B_6_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x2176 .bf16) (x2 : Vec F S2176x1024 .bf16) (x3 : Vec F S512x1024 .f32) (x4 : Vec F S1x1024 .f32) (xo7 : Vec F S1x1024 .f32) (xo8 : Vec F S1x1024 .f32) :
    out0_B_6 c i arg1 harg1 arg2 harg2 arg3 harg3 arg4 harg4 arg5 harg5 arg6 harg6 arg7 harg7 arg8 harg8 arg9 harg9 hc0 x0 x1 x2 x3 x4 xo7 xo8 =
      k0_pay3 (k0_pay10 x3) (k0_pay11 x3) (k0_pay12 x0 x1 x2 x4) (k0_pay13 x0 x1 x2 x3 x4) (k0_pay14 x0 x1 x2 x4) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S512x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

theorem out0_B_7_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x2176 .bf16) (x2 : Vec F S2176x1024 .bf16) (x3 : Vec F S512x1024 .f32) (x4 : Vec F S1x1024 .f32) (xo7 : Vec F S1x1024 .f32) (xo8 : Vec F S1x1024 .f32) :
    out0_B_7 c i arg1 harg1 arg2 harg2 arg3 harg3 arg4 harg4 arg5 harg5 arg6 harg6 arg7 harg7 arg8 harg8 arg9 harg9 hc0 x0 x1 x2 x3 x4 xo7 xo8 =
      k0_pay6 (k0_pay8 x0 x1 x2) (k0_pay11 x3) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S1x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

theorem out0_B_8_eq (c : Dev nD) (i : grid0.Coords) (arg1 : Memref sig .tc .vmem S512x1024 .f32) (harg1 : arg1.IsWhole) (arg2 : Memref sig .tc .vmem S512x2176 .bf16) (harg2 : arg2.IsWhole) (arg3 : Memref sig .tc .vmem S2176x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S512x1024 .f32) (x1 : Vec F S512x2176 .bf16) (x2 : Vec F S2176x1024 .bf16) (x3 : Vec F S512x1024 .f32) (x4 : Vec F S1x1024 .f32) (xo7 : Vec F S1x1024 .f32) (xo8 : Vec F S1x1024 .f32) :
    out0_B_8 c i arg1 harg1 arg2 harg2 arg3 harg3 arg4 harg4 arg5 harg5 arg6 harg6 arg7 harg7 arg8 harg8 arg9 harg9 hc0 x0 x1 x2 x3 x4 xo7 xo8 =
      k0_pay7 (k0_pay8 x0 x1 x2) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S1x1024) hz2]
  simp only [View.readCov_unit_zero (S := S1x1024) _ hz2, View.readCov_unit_zero (S := S2176x1024) _ hz2, View.readCov_unit_zero (S := S512x1024) _ hz2, View.readCov_unit_zero (S := S512x2176) _ hz2, View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S2176x1024) hz2, View.ld_unit_zero (S := S512x1024) hz2, View.ld_unit_zero (S := S512x2176) hz2]

end Cert.LnBwdIdeal.Body
-- ==== Proof.LnBwdSpec.lean ====
/-
  The layer norm's gradient, over the extended reals: of one row in its closed form and in the form automatic
  differentiation writes it, and of the gain and the bias as sums over the tokens.
-/
module

public import proofs.«01_k».proof.Proof.LayerNorm

@[expose] public section

noncomputable section

open Idealize.ShloMosaic

namespace Cert.LnBwd.Spec

open Cert.LayerNorm

section
variable (x d g : Fin 1024 → EReal)

/-- The closed form: `r * (q - mean q - n * mean (q * n))` of the cotangent `q = d * g` and the normalised row `n`. -/
def dz (k : Fin 1024) : EReal :=
  rstd x * ((d k * g k - mean (fun k => d k * g k)) - LayerNorm.norm x k * mean (fun k => (d k * g k) * LayerNorm.norm x k))

/-- The numbers 2 and -1/2 of the chain rule. -/
def two : EReal := Ideal.ofBits FTy.f32 0x40000000#32
def mhalf : EReal := Ideal.ofBits FTy.f32 0xBF000000#32

/-- The cotangent of the row's sum of squares. -/
def dvar : EReal :=
  Ideal.div ((∑ k, cen x k * (d k * g k))
    * (mhalf * Ideal.div (rstd x) (mean (fun k => cen x k * cen x k) + eps))) len

/-- The chain rule's form: the cotangent of the centred row, and minus its mean. -/
def dzChain (k : Fin 1024) : EReal :=
  ((d k * g k) * rstd x + dvar x d g * (two * cen x k))
    + Ideal.div ((∑ k, -((d k * g k) * rstd x)) + ∑ k, -(dvar x d g * (two * cen x k))) len

end

variable (DY : Fin 16384 → Fin 1024 → EReal) (DP : Fin 16384 → Fin 2176 → EReal) (W : Fin 1024 → Fin 2176 → EReal)
  (X F : Fin 16384 → Fin 1024 → EReal) (G : Fin 1024 → EReal)

/-- The layer norm's input, and the cotangent of its value. -/
def z (t : Fin 16384) (k : Fin 1024) : EReal := alpha * X t k + F t k
def d (t : Fin 16384) (k : Fin 1024) : EReal := DY t k + ∑ j, DP t j * W k j

/-- The gradients of the gain and of the bias. -/
def dg (k : Fin 1024) : EReal := ∑ t, d DY DP W t k * LayerNorm.norm (z X F t) k
def db (k : Fin 1024) : EReal := ∑ t, d DY DP W t k

end Cert.LnBwd.Spec
-- ==== Proof.LnBwdBlocks.lean ====
/-
  The arrays the layer norm backward region finds and the blocks its windows cut from them, read at an index.
-/
module

public import proofs.«01_k».proof.Proof.Gen.LnBwdIdeal.Frame.Runs
public import proofs.«01_k».proof.Proof.LnBwdSpec
public import Idealize.ShloMosaic.Lib.Pipeline.Value
public import Idealize.ShloMosaic.Lib.StableHlo.ReadAt
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.LnBwdIdeal.Blocks

open Cert.LnBwdIdeal Cert.LnBwdIdeal.Gen

variable (m : (ℓ : Loc nD τ sig) → Buf (Elt Ideal) ℓ) (c : Dev nD)

open Cert.LnBwd.Spec

/-- The arguments at an index. -/
abbrev DY (t : Fin 16384) (k : Fin 1024) : EReal := m ((c : Thread nD τ).loc main_arg0) (ix2 t k)
abbrev DP (t : Fin 16384) (j : Fin 2176) : EReal := m ((c : Thread nD τ).loc main_arg1) (ix2 t j)
abbrev W (k : Fin 1024) (j : Fin 2176) : EReal := m ((c : Thread nD τ).loc main_arg2) (ix2 k j)
abbrev X (t : Fin 16384) (k : Fin 1024) : EReal := m ((c : Thread nD τ).loc main_arg3) (ix2 t k)
abbrev FV (t : Fin 16384) (k : Fin 1024) : EReal := m ((c : Thread nD τ).loc main_arg4) (ix2 t k)
abbrev LG (k : Fin 1024) : EReal := m ((c : Thread nD τ).loc main_arg5) (ix1 k)

theorem V_dy (t : Fin 16384) (k : Fin 1024) : V m c main_arg0 (ix2 t k) = DY m c t k := by
  unfold V hostOps0; after_reads_at
theorem V_dp (t : Fin 16384) (j : Fin 2176) : V m c main_v4 (ix2 t j) = DP m c t j := by
  unfold V hostOps0; after_reads_at
theorem V_w (j : Fin 2176) (k : Fin 1024) : V m c main_v6 (ix2 j k) = W m c k j := by
  unfold V hostOps0; after_reads_at
theorem V_z (t : Fin 16384) (k : Fin 1024) : V m c main_v2 (ix2 t k) = z (X m c) (FV m c) t k := by
  unfold V hostOps0 z LayerNorm.alpha; after_reads_at
theorem V_g (k : Fin 1024) : V m c main_v3 (ix2 0 k) = LG m c k := by
  unfold V hostOps0; after_reads_at

/-- The token row that row `r` of the block at point `t` is. -/
def tok (t : Fin cfg0.N) (r : Fin 512) : Fin 16384 := ⟨512 * (t.val % 32) + r.val, by omega⟩

theorem index0 : ∀ t : Fin grid0.N, win0_0.index t 0 = t.val % 32 ∧ win0_0.index t 1 = 0 := by
  decide +kernel
theorem index1 : ∀ t : Fin grid0.N, win0_1.index t 0 = t.val % 32 ∧ win0_1.index t 1 = 0 := by
  decide +kernel
theorem index2 : ∀ t : Fin grid0.N, win0_2.index t 0 = 0 ∧ win0_2.index t 1 = 0 := by
  decide +kernel
theorem index3 : ∀ t : Fin grid0.N, win0_3.index t 0 = t.val % 32 ∧ win0_3.index t 1 = 0 := by
  decide +kernel
theorem index4 : ∀ t : Fin grid0.N, win0_4.index t 0 = 0 ∧ win0_4.index t 1 = 0 := by
  decide +kernel
theorem index5 : ∀ t : Fin grid0.N, win0_5.index t 0 = t.val % 32 ∧ win0_5.index t 1 = 0 := by
  decide +kernel
theorem index6 : ∀ t : Fin grid0.N, win0_6.index t 0 = t.val % 32 ∧ win0_6.index t 1 = 0 := by
  decide +kernel
theorem index7 : ∀ t : Fin grid0.N, win0_7.index t 0 = 0 ∧ win0_7.index t 1 = 0 := by
  decide +kernel
theorem index8 : ∀ t : Fin grid0.N, win0_8.index t 0 = 0 ∧ win0_8.index t 1 = 0 := by
  decide +kernel

theorem iblk0 (t : Fin cfg0.N) (r : Fin 512) (k : Fin 1024) :
    (iblk m c 0 t : Vec Ideal S512x1024 .f32) (ix2 r k) = DY m c (tok t r) k := by
  unfold iblk
  rw [View.read_apply]
  refine Eq.trans ?_ (V_dy m c (tok t r) k)
  show V m c main_arg0 _ = V m c main_arg0 _
  congr 1
  funext a
  apply Fin.ext
  match a with
  | ⟨0, _⟩ => show win0_0.index t 0 * 512 + 1 * r.val = 512 * (t.val % 32) + r.val; rw [(index0 t).1]; omega
  | ⟨1, _⟩ => show win0_0.index t 1 * 1024 + 1 * k.val = k.val; rw [(index0 t).2]; omega

theorem iblk1 (t : Fin cfg0.N) (r : Fin 512) (j : Fin 2176) :
    (iblk m c 1 t : Vec Ideal S512x2176 .bf16) (ix2 r j) = DP m c (tok t r) j := by
  unfold iblk
  rw [View.read_apply]
  refine Eq.trans ?_ (V_dp m c (tok t r) j)
  show V m c main_v4 _ = V m c main_v4 _
  congr 1
  funext a
  apply Fin.ext
  match a with
  | ⟨0, _⟩ => show win0_1.index t 0 * 512 + 1 * r.val = 512 * (t.val % 32) + r.val; rw [(index1 t).1]; omega
  | ⟨1, _⟩ => show win0_1.index t 1 * 2176 + 1 * j.val = j.val; rw [(index1 t).2]; omega

theorem iblk2 (t : Fin cfg0.N) (j : Fin 2176) (k : Fin 1024) :
    (iblk m c 2 t : Vec Ideal S2176x1024 .bf16) (ix2 j k) = W m c k j := by
  unfold iblk
  rw [View.read_apply]
  refine Eq.trans ?_ (V_w m c j k)
  show V m c main_v6 _ = V m c main_v6 _
  congr 1
  funext a
  apply Fin.ext
  match a with
  | ⟨0, _⟩ => show win0_2.index t 0 * 2176 + 1 * j.val = j.val; rw [(index2 t).1]; omega
  | ⟨1, _⟩ => show win0_2.index t 1 * 1024 + 1 * k.val = k.val; rw [(index2 t).2]; omega

theorem iblk3 (t : Fin cfg0.N) (r : Fin 512) (k : Fin 1024) :
    (iblk m c 3 t : Vec Ideal S512x1024 .f32) (ix2 r k) = z (X m c) (FV m c) (tok t r) k := by
  unfold iblk
  rw [View.read_apply]
  refine Eq.trans ?_ (V_z m c (tok t r) k)
  show V m c main_v2 _ = V m c main_v2 _
  congr 1
  funext a
  apply Fin.ext
  match a with
  | ⟨0, _⟩ => show win0_3.index t 0 * 512 + 1 * r.val = 512 * (t.val % 32) + r.val; rw [(index3 t).1]; omega
  | ⟨1, _⟩ => show win0_3.index t 1 * 1024 + 1 * k.val = k.val; rw [(index3 t).2]; omega

theorem iblk4 (t : Fin cfg0.N) (k : Fin 1024) :
    (iblk m c 4 t : Vec Ideal S1x1024 .f32) (ix2 0 k) = LG m c k := by
  unfold iblk
  rw [View.read_apply]
  refine Eq.trans ?_ (V_g m c k)
  show V m c main_v3 _ = V m c main_v3 _
  congr 1
  funext a
  apply Fin.ext
  match a with
  | ⟨0, _⟩ => show win0_4.index t 0 * 1 + 1 * 0 = 0; rw [(index4 t).1]
  | ⟨1, _⟩ => show win0_4.index t 1 * 1024 + 1 * k.val = k.val; rw [(index4 t).2]; omega

end Cert.LnBwdIdeal.Blocks
-- ==== Proof.LnBwdPay.lean ====
/-
  The layer norm backward body's named payloads read at an index, over the extended reals.
-/
module

public import proofs.«01_k».proof.Proof.Gen.LnBwdIdeal.Skeleton
public import proofs.«01_k».proof.Proof.LnBwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.LnBwdIdeal.Pay

open Cert.LnBwdIdeal Cert.LnBwdIdeal.Gen Cert.LnBwd.Spec Cert.LayerNorm

variable (dy : Vec Ideal S512x1024 .f32) (dp : Vec Ideal S512x2176 .bf16) (w : Vec Ideal S2176x1024 .bf16)
  (x : Vec Ideal S512x1024 .f32) (g v : Vec Ideal S1x1024 .f32) (r : Fin 512) (k : Fin 1024)

/-- A block's row, and the cotangent's. -/
abbrev row (k : Fin 1024) : EReal := x (ix2 r k)
abbrev cot (k : Fin 1024) : EReal := dy (ix2 r k) + ∑ j, dp (ix2 r j) * w (ix2 j k)

theorem cot_apply : k0_pay8 dy dp w (ix2 r k) = cot dy dp w r k := by
  unfold k0_pay8
  pointwise

theorem cen_apply : k0_pay9 x (ix2 r k) = cen (row x r) k := by
  unfold k0_pay9 cen mean
  pointwise
  rfl

theorem rstd_apply : k0_pay10 x (ix2 r 0) = rstd (row x r) := by
  unfold k0_pay10 rstd mean
  pointwise
  simp only [cen_apply]
  rfl

theorem norm_apply : k0_pay11 x (ix2 r k) = LayerNorm.norm (row x r) k := by
  unfold k0_pay11 LayerNorm.norm
  pointwise
  rw [cen_apply, rstd_apply]

theorem q_apply : k0_pay12 dy dp w g (ix2 r k) = cot dy dp w r k * g (ix2 0 k) := by
  unfold k0_pay12
  pointwise
  rw [cot_apply]

theorem dz_apply : k0_pay1 (k0_pay10 x) (k0_pay11 x) (k0_pay12 dy dp w g) (k0_pay13 dy dp w x g) (k0_pay14 dy dp w g) (ix2 r k)
    = dz (row x r) (cot dy dp w r) (fun k => g (ix2 0 k)) k := by
  unfold k0_pay1 k0_pay13 k0_pay14 dz mean
  pointwise
  simp only [rstd_apply, norm_apply, q_apply]
  rfl

theorem dzb_apply : k0_pay2 (k0_pay10 x) (k0_pay11 x) (k0_pay12 dy dp w g) (k0_pay13 dy dp w x g) (k0_pay14 dy dp w g) (ix2 r k)
    = dz (row x r) (cot dy dp w r) (fun k => g (ix2 0 k)) k := by
  unfold k0_pay2
  pointwise
  rw [dz_apply]

theorem dx_apply : k0_pay3 (k0_pay10 x) (k0_pay11 x) (k0_pay12 dy dp w g) (k0_pay13 dy dp w x g) (k0_pay14 dy dp w g) (ix2 r k)
    = alpha * dz (row x r) (cot dy dp w r) (fun k => g (ix2 0 k)) k := by
  unfold k0_pay3
  pointwise
  rw [dz_apply]
  rfl

theorem dg_apply : k0_pay6 (k0_pay8 dy dp w) (k0_pay11 x) v (ix2 0 k)
    = v (ix2 0 k) + ∑ r, cot dy dp w r k * LayerNorm.norm (row x r) k := by
  unfold k0_pay6
  pointwise
  simp only [cot_apply, norm_apply]

theorem db_apply : k0_pay7 (k0_pay8 dy dp w) v (ix2 0 k) = v (ix2 0 k) + ∑ r, cot dy dp w r k := by
  unfold k0_pay7
  pointwise
  simp only [cot_apply]

theorem zero4_apply : k0_pay4 (F := Ideal) (ix2 0 k) = 0 := by
  unfold k0_pay4
  pointwise

theorem zero5_apply : k0_pay5 (F := Ideal) (ix2 0 k) = 0 := by
  unfold k0_pay5
  pointwise

end Cert.LnBwdIdeal.Pay
-- ==== Proof.LnBwdFold.lean ====
/-
  The layer norm backward grid folded up: the two windows of the token gradient block by block, and the gain's and the
  bias's gradients as partial sums over the tokens seen so far; so the four result arrays, entry by entry.
-/
module

public import proofs.«01_k».proof.Proof.LnBwdBody
public import proofs.«01_k».proof.Proof.LnBwdBlocks
public import proofs.«01_k».proof.Proof.LnBwdPay
public import proofs.«01_k».proof.Proof.TokenSum
public import proofs.«01_k».proof.Proof.Gen.LnBwdIdeal.Value

@[expose] public section

set_option maxRecDepth 16384

noncomputable section

open Idealize.ShloMosaic Idealize.ShloMosaic.TcCoe Idealize.SL.Sem

namespace Cert.LnBwdIdeal.Fold

open Cert.LnBwdIdeal Cert.LnBwdIdeal.Gen Cert.LnBwdIdeal.Body Cert.LnBwdIdeal.Blocks Cert.LnBwdIdeal.Pay
open Cert.LnBwd.Spec Cert.LayerNorm

variable (m : (ℓ : Loc nD τ sig) → Buf (Elt Ideal) ℓ) (c : Dev nD)

/-- The rows at the launch's arguments. -/
abbrev zM := z (X m c) (FV m c)
abbrev dM := d (DY m c) (DP m c) (W m c)

section
variable (t : Fin cfg0.N) (r : Fin 512) (k : Fin 1024)

theorem row_blk : row (iblk m c 3 t) r = zM m c (tok t r) := funext (iblk3 m c t r)

theorem cot_blk : cot (iblk m c 0 t) (iblk m c 1 t) (iblk m c 2 t) r = dM m c (tok t r) := by
  funext k
  unfold cot
  simp only [iblk0, iblk1, iblk2]
  rfl

theorem dzb_blk : k0_pay2 (k0_pay10 (iblk m c 3 t)) (k0_pay11 (iblk m c 3 t))
      (k0_pay12 (iblk m c 0 t) (iblk m c 1 t) (iblk m c 2 t) (iblk m c 4 t))
      (k0_pay13 (iblk m c 0 t) (iblk m c 1 t) (iblk m c 2 t) (iblk m c 3 t) (iblk m c 4 t))
      (k0_pay14 (iblk m c 0 t) (iblk m c 1 t) (iblk m c 2 t) (iblk m c 4 t)) (ix2 r k)
    = dz (zM m c (tok t r)) (dM m c (tok t r)) (LG m c) k := by
  rw [dzb_apply, row_blk, cot_blk, funext (iblk4 m c t)]

theorem dx_blk : k0_pay3 (k0_pay10 (iblk m c 3 t)) (k0_pay11 (iblk m c 3 t))
      (k0_pay12 (iblk m c 0 t) (iblk m c 1 t) (iblk m c 2 t) (iblk m c 4 t))
      (k0_pay13 (iblk m c 0 t) (iblk m c 1 t) (iblk m c 2 t) (iblk m c 3 t) (iblk m c 4 t))
      (k0_pay14 (iblk m c 0 t) (iblk m c 1 t) (iblk m c 2 t) (iblk m c 4 t)) (ix2 r k)
    = alpha * dz (zM m c (tok t r)) (dM m c (tok t r)) (LG m c) k := by
  rw [dx_apply, row_blk, cot_blk, funext (iblk4 m c t)]

variable (v : Vec Ideal S1x1024 .f32)

theorem dg_blk : k0_pay6 (k0_pay8 (iblk m c 0 t) (iblk m c 1 t) (iblk m c 2 t)) (k0_pay11 (iblk m c 3 t)) v (ix2 0 k)
    = v (ix2 0 k) + ∑ r, dM m c (tok t r) k * LayerNorm.norm (zM m c (tok t r)) k := by
  rw [dg_apply]
  refine congrArg (v (ix2 0 k) + ·) (Finset.sum_congr rfl fun r _ => ?_)
  rw [row_blk, congrFun (cot_blk m c t r) k]

theorem db_blk : k0_pay7 (k0_pay8 (iblk m c 0 t) (iblk m c 1 t) (iblk m c 2 t)) v (ix2 0 k)
    = v (ix2 0 k) + ∑ r, dM m c (tok t r) k := by
  rw [db_apply]
  exact congrArg (v (ix2 0 k) + ·) (Finset.sum_congr rfl fun r _ => congrFun (cot_blk m c t r) k)

end

theorem out5_eq (t : Fin cfg0.N) : (outsAt0 m c t.val t.isLt).1 = k0_pay2 (k0_pay10 (iblk m c 3 t)) (k0_pay11 (iblk m c 3 t))
      (k0_pay12 (iblk m c 0 t) (iblk m c 1 t) (iblk m c 2 t) (iblk m c 4 t))
      (k0_pay13 (iblk m c 0 t) (iblk m c 1 t) (iblk m c 2 t) (iblk m c 3 t) (iblk m c 4 t))
      (k0_pay14 (iblk m c 0 t) (iblk m c 1 t) (iblk m c 2 t) (iblk m c 4 t)) := by
  by_cases h0 : t.val % 32 = 0
  · rw [outsAt0_A m c t h0]; dsimp only; rw [out0_A_5_eq]
  · rw [outsAt0_B m c t h0]; dsimp only; rw [out0_B_5_eq]

theorem out6_eq (t : Fin cfg0.N) : (outsAt0 m c t.val t.isLt).2.1 = k0_pay3 (k0_pay10 (iblk m c 3 t)) (k0_pay11 (iblk m c 3 t))
      (k0_pay12 (iblk m c 0 t) (iblk m c 1 t) (iblk m c 2 t) (iblk m c 4 t))
      (k0_pay13 (iblk m c 0 t) (iblk m c 1 t) (iblk m c 2 t) (iblk m c 3 t) (iblk m c 4 t))
      (k0_pay14 (iblk m c 0 t) (iblk m c 1 t) (iblk m c 2 t) (iblk m c 4 t)) := by
  by_cases h0 : t.val % 32 = 0
  · rw [outsAt0_A m c t h0]; dsimp only; rw [out0_A_6_eq]
  · rw [outsAt0_B m c t h0]; dsimp only; rw [out0_B_6_eq]

theorem dg_first (t : Fin cfg0.N) (h0 : t.val % 32 = 0) : (outsAt0 m c t.val t.isLt).2.2.1
    = k0_pay6 (k0_pay8 (iblk m c 0 t) (iblk m c 1 t) (iblk m c 2 t)) (k0_pay11 (iblk m c 3 t)) (k0_pay4 (F := Ideal)) := by
  rw [outsAt0_A m c t h0]; dsimp only; rw [out0_A_7_eq]

theorem dg_next (t : Fin cfg0.N) (h0 : ¬t.val % 32 = 0) : (outsAt0 m c t.val t.isLt).2.2.1
    = k0_pay6 (k0_pay8 (iblk m c 0 t) (iblk m c 1 t) (iblk m c 2 t)) (k0_pay11 (iblk m c 3 t))
      (outsAt0 m c (t.val - 1) (Nat.lt_of_le_of_lt (Nat.sub_le _ _) t.isLt)).2.2.1 := by
  rw [outsAt0_B m c t h0]; dsimp only; rw [out0_B_7_eq]

/-- The window after point `n`: the terms of the tokens seen so far. -/
theorem dg_sum (k : Fin 1024) : ∀ (n : ℕ) (h : n < cfg0.N), (outsAt0 m c n h).2.2.1 (ix2 0 k)
    = TokenSum.upto (fun t => dM m c t k * LayerNorm.norm (zM m c t) k) (512 * (n % 32 + 1)) := by
  intro n
  induction n with
  | zero =>
    intro h
    rw [dg_first m c ⟨0, h⟩ rfl, dg_blk, zero4_apply]
    refine Eq.trans ?_ (TokenSum.upto_block _ 0 (by decide)).symm
    simp only [tok, Nat.zero_mod, TokenSum.upto_zero, Nat.mul_zero]
  | succ n ih =>
    intro h
    have hN : cfg0.N = 32 := N_0
    rw [dg_next m c ⟨n + 1, h⟩ (by show ¬(n + 1) % 32 = 0; omega), dg_blk]
    have e' : (n + 1) % 32 = n % 32 + 1 := by omega
    rw [TokenSum.upto_block _ _ (by omega)]
    show (outsAt0 m c n _).2.2.1 (ix2 0 k) + _ = _
    rw [ih (by omega)]
    simp only [tok, e']

theorem db_first (t : Fin cfg0.N) (h0 : t.val % 32 = 0) : (outsAt0 m c t.val t.isLt).2.2.2
    = k0_pay7 (k0_pay8 (iblk m c 0 t) (iblk m c 1 t) (iblk m c 2 t)) (k0_pay5 (F := Ideal)) := by
  rw [outsAt0_A m c t h0]; dsimp only; rw [out0_A_8_eq]

theorem db_next (t : Fin cfg0.N) (h0 : ¬t.val % 32 = 0) : (outsAt0 m c t.val t.isLt).2.2.2
    = k0_pay7 (k0_pay8 (iblk m c 0 t) (iblk m c 1 t) (iblk m c 2 t))
      (outsAt0 m c (t.val - 1) (Nat.lt_of_le_of_lt (Nat.sub_le _ _) t.isLt)).2.2.2 := by
  rw [outsAt0_B m c t h0]; dsimp only; rw [out0_B_8_eq]

/-- The window after point `n`: the terms of the tokens seen so far. -/
theorem db_sum (k : Fin 1024) : ∀ (n : ℕ) (h : n < cfg0.N), (outsAt0 m c n h).2.2.2 (ix2 0 k)
    = TokenSum.upto (fun t => dM m c t k) (512 * (n % 32 + 1)) := by
  intro n
  induction n with
  | zero =>
    intro h
    rw [db_first m c ⟨0, h⟩ rfl, db_blk, zero5_apply]
    refine Eq.trans ?_ (TokenSum.upto_block _ 0 (by decide)).symm
    simp only [tok, Nat.zero_mod, TokenSum.upto_zero, Nat.mul_zero]
  | succ n ih =>
    intro h
    have hN : cfg0.N = 32 := N_0
    rw [db_next m c ⟨n + 1, h⟩ (by show ¬(n + 1) % 32 = 0; omega), db_blk]
    have e' : (n + 1) % 32 = n % 32 + 1 := by omega
    rw [TokenSum.upto_block _ _ (by omega)]
    show (outsAt0 m c n _).2.2.2 (ix2 0 k) + _ = _
    rw [ih (by omega)]
    simp only [tok, e']

/-! ## The result arrays -/

section
variable (t : Fin 16384) (k : Fin 1024)

/-- The point that writes a token's block, and the token's row in it. -/
def pt : Fin cfg0.N := ⟨t.val / 512, by have : cfg0.N = 32 := N_0; omega⟩
def rowOf : Fin 512 := ⟨t.val % 512, Nat.mod_lt _ (by decide)⟩

theorem tok_pt : tok (pt t) (rowOf t) = t := by
  apply Fin.ext
  show 512 * (t.val / 512 % 32) + t.val % 512 = t.val
  omega

theorem emb5 : ((cfg0.win 5).blk (pt t)).view.emb (ix2 (rowOf t) k) = ix2 t k := by
  funext a
  apply Fin.ext
  match a with
  | ⟨0, _⟩ =>
    show win0_5.index (pt t) 0 * 512 + 1 * (t.val % 512) = t.val
    rw [(index5 (pt t)).1]; show t.val / 512 % 32 * 512 + 1 * (t.val % 512) = t.val; omega
  | ⟨1, _⟩ => show win0_5.index (pt t) 1 * 1024 + 1 * k.val = k.val; rw [(index5 (pt t)).2]; omega

theorem arr5_apply : (dats m 0 c).arrAt 5 cfg0.N (ix2 t k) = dz (zM m c t) (dM m c t) (LG m c) k := by
  have h := (dats m 0 c).arrAt_emb_eq_flushed 5 Value.disjoint5 (pt t) ((flush0_5 (pt t))) (ix2 (rowOf t) k)
  rw [emb5] at h
  refine h.trans ?_
  rw [Value.flushed5, out5_eq]
  refine Eq.trans (dzb_blk m c (pt t) (rowOf t) k) ?_
  rw [tok_pt]

theorem emb6 : ((cfg0.win 6).blk (pt t)).view.emb (ix2 (rowOf t) k) = ix2 t k := by
  funext a
  apply Fin.ext
  match a with
  | ⟨0, _⟩ =>
    show win0_6.index (pt t) 0 * 512 + 1 * (t.val % 512) = t.val
    rw [(index6 (pt t)).1]; show t.val / 512 % 32 * 512 + 1 * (t.val % 512) = t.val; omega
  | ⟨1, _⟩ => show win0_6.index (pt t) 1 * 1024 + 1 * k.val = k.val; rw [(index6 (pt t)).2]; omega

theorem arr6_apply : (dats m 0 c).arrAt 6 cfg0.N (ix2 t k) = alpha * dz (zM m c t) (dM m c t) (LG m c) k := by
  have h := (dats m 0 c).arrAt_emb_eq_flushed 6 Value.disjoint6 (pt t) ((flush0_6 (pt t))) (ix2 (rowOf t) k)
  rw [emb6] at h
  refine h.trans ?_
  rw [Value.flushed6, out6_eq]
  refine Eq.trans (dx_blk m c (pt t) (rowOf t) k) ?_
  rw [tok_pt]

end

/-- The last point, which writes the gain's and the bias's gradients back. -/
def last : Fin cfg0.N := ⟨31, by have : cfg0.N = 32 := N_0; omega⟩

theorem disjoint7 : ∀ t t' : Fin cfg0.N, (cfg0.win 7).flush t = true → (cfg0.win 7).flush t' = true → t ≠ t' →
    Disjoint ((cfg0.win 7).blk t).view.set ((cfg0.win 7).blk t').view.set := by
  intro t t' h h' hne
  have hN : cfg0.N = 32 := N_0
  have e := (flush0_7 t).mp h
  have e' := (flush0_7 t').mp h'
  exact absurd (Fin.ext (by omega)) hne

theorem emb7 (k : Fin 1024) : ((cfg0.win 7).blk last).view.emb (ix2 (0 : Fin 1) k) = ix2 0 k := by
  funext a
  apply Fin.ext
  match a with
  | ⟨0, _⟩ => show win0_7.index last 0 * 1 + 1 * 0 = 0; rw [(index7 last).1]
  | ⟨1, _⟩ => show win0_7.index last 1 * 1024 + 1 * k.val = k.val; rw [(index7 last).2]; omega

theorem arr7_apply (k : Fin 1024) : (dats m 0 c).arrAt 7 cfg0.N (ix2 0 k) = dg (DY m c) (DP m c) (W m c) (X m c) (FV m c) k := by
  have h := (dats m 0 c).arrAt_emb_eq_flushed 7 disjoint7 last ((flush0_7 last).mpr rfl) (ix2 (0 : Fin 1) k)
  rw [emb7] at h
  refine h.trans ?_
  rw [Value.flushed7]
  refine Eq.trans (dg_sum m c k 31 last.isLt) ?_
  exact TokenSum.upto_all _

theorem disjoint8 : ∀ t t' : Fin cfg0.N, (cfg0.win 8).flush t = true → (cfg0.win 8).flush t' = true → t ≠ t' →
    Disjoint ((cfg0.win 8).blk t).view.set ((cfg0.win 8).blk t').view.set := by
  intro t t' h h' hne
  have hN : cfg0.N = 32 := N_0
  have e := (flush0_8 t).mp h
  have e' := (flush0_8 t').mp h'
  exact absurd (Fin.ext (by omega)) hne

theorem emb8 (k : Fin 1024) : ((cfg0.win 8).blk last).view.emb (ix2 (0 : Fin 1) k) = ix2 0 k := by
  funext a
  apply Fin.ext
  match a with
  | ⟨0, _⟩ => show win0_8.index last 0 * 1 + 1 * 0 = 0; rw [(index8 last).1]
  | ⟨1, _⟩ => show win0_8.index last 1 * 1024 + 1 * k.val = k.val; rw [(index8 last).2]; omega

theorem arr8_apply (k : Fin 1024) : (dats m 0 c).arrAt 8 cfg0.N (ix2 0 k) = db (DY m c) (DP m c) (W m c) k := by
  have h := (dats m 0 c).arrAt_emb_eq_flushed 8 disjoint8 last ((flush0_8 last).mpr rfl) (ix2 (0 : Fin 1) k)
  rw [emb8] at h
  refine h.trans ?_
  rw [Value.flushed8]
  refine Eq.trans (db_sum m c k 31 last.isLt) ?_
  exact TokenSum.upto_all _

end Cert.LnBwdIdeal.Fold
-- ==== Proof.LnBwdRef.lean ====
/-
  The layer norm gradient's reference results read at an index.
-/
module

public import proofs.«01_k».proof.Proof.Gen.LnBwdRefIdeal.Read
public import proofs.«01_k».proof.Proof.LnBwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.LnBwdRefIdeal.Grad

open Cert.LnBwdRefIdeal Cert.LnBwdRefIdeal.Read Cert.LnBwd.Spec Cert.LayerNorm

variable (x0 x3 x4 : (⟨S16384x1024, .f32⟩ : BufTy).Contents (Elt Ideal))
  (x1 : (⟨S16384x2176, .f32⟩ : BufTy).Contents (Elt Ideal)) (x2 : (⟨S1024x2176, .f32⟩ : BufTy).Contents (Elt Ideal))
  (x5 : (⟨S1024, .f32⟩ : BufTy).Contents (Elt Ideal))

/-- The arguments at an index. -/
abbrev A1 (x : (⟨S1024, .f32⟩ : BufTy).Contents (Elt Ideal)) (k : Fin 1024) : EReal := x (ix1 k)
abbrev A2 (x : (⟨S16384x1024, .f32⟩ : BufTy).Contents (Elt Ideal)) (t : Fin 16384) (k : Fin 1024) : EReal := x (ix2 t k)
abbrev AP (x : (⟨S16384x2176, .f32⟩ : BufTy).Contents (Elt Ideal)) (t : Fin 16384) (j : Fin 2176) : EReal := x (ix2 t j)
abbrev AW (x : (⟨S1024x2176, .f32⟩ : BufTy).Contents (Elt Ideal)) (k : Fin 1024) (j : Fin 2176) : EReal := x (ix2 k j)

variable (t : Fin 16384) (k : Fin 1024)

abbrev zR := z (A2 x3) (A2 x4)
abbrev dR := d (A2 x0) (AP x1) (AW x2)

theorem z_eq : val_main_v2 x3 x4 (ix2 t k) = zR x3 x4 t k := by
  unfold val_main_v2 val_main_v1 val_main_v0 val_main_cst zR z alpha
  pointwise

theorem cen_eq : val_main_v8 x3 x4 (ix2 t k) = cen (zR x3 x4 t) k := by
  unfold val_main_v8 val_main_v7 val_main_v6 val_main_v5 val_main_v4 val_main_v3 val_main_cst_0 val_main_cst_1 cen mean len
  pointwise
  simp only [z_eq]

theorem cen_eq' : val_main_v17 x3 x4 (ix2 t k) = cen (zR x3 x4 t) k := by
  rw [← cen_eq]
  rfl

theorem var_eq : val_main_v19 x3 x4 (ix2 t 0) = mean (fun k => cen (zR x3 x4 t) k * cen (zR x3 x4 t) k) + eps := by
  unfold val_main_v19 val_main_v18 val_main_v15 val_main_v14 val_main_v13 val_main_v12 val_main_v9 val_main_cst_3 val_main_cst_4
    val_main_cst_5 mean len eps
  pointwise
  simp only [cen_eq]

theorem rstd_eq : val_main_v20 x3 x4 (ix2 t 0) = rstd (zR x3 x4 t) := by
  unfold val_main_v20 rstd
  pointwise
  rw [var_eq]

theorem d_eq : val_main_v34 x0 x1 x2 (ix2 t k) = dR x0 x1 x2 t k := by
  unfold val_main_v34 val_main_v33 dR d
  pointwise

theorem q_eq : val_main_v43 x0 x1 x2 x5 (ix2 t k) = dR x0 x1 x2 t k * A1 x5 k := by
  unfold val_main_v43 val_main_v42 val_main_v35 val_main_v26
  pointwise
  rw [d_eq]

theorem dvar_eq : val_main_v57 x0 x1 x2 x3 x4 x5 (ix2 t k) = dvar (zR x3 x4 t) (dR x0 x1 x2 t) (A1 x5) := by
  unfold val_main_v57 val_main_v56 val_main_v55 val_main_v54 val_main_v50 val_main_v47 val_main_v46 val_main_v45 val_main_v23
    val_main_v22 val_main_v21 val_main_cst_6 val_main_cst_11 val_main_cst_13 val_main_cst_14 dvar len mhalf
  pointwise
  simp only [Fin.sum_univ_one, cen_eq', q_eq, rstd_eq, var_eq]

theorem t1_eq : val_main_v49 x0 x1 x2 x3 x4 x5 (ix2 t k) = (dR x0 x1 x2 t k * A1 x5 k) * rstd (zR x3 x4 t) := by
  unfold val_main_v49 val_main_v48
  pointwise
  rw [q_eq, rstd_eq]

theorem t2_eq : val_main_v58 x0 x1 x2 x3 x4 x5 (ix2 t k)
    = dvar (zR x3 x4 t) (dR x0 x1 x2 t) (A1 x5) * (two * cen (zR x3 x4 t) k) := by
  unfold val_main_v58 val_main_v11 val_main_v10 val_main_cst_2 two
  pointwise
  rw [cen_eq, dvar_eq]

theorem dz_eq : val_main_v68 x0 x1 x2 x3 x4 x5 (ix2 t k) = dzChain (zR x3 x4 t) (dR x0 x1 x2 t) (A1 x5) k := by
  unfold val_main_v68 val_main_v67 val_main_v66 val_main_v65 val_main_v64 val_main_v63 val_main_v62 val_main_v61 val_main_v60
    val_main_v59 val_main_v53 val_main_v52 val_main_v51 val_main_cst_12 val_main_cst_15 val_main_cst_16 val_main_cst_17 dzChain len
  pointwise
  simp only [Fin.sum_univ_one, t1_eq, t2_eq]

theorem dx_eq : val_main_v70 x0 x1 x2 x3 x4 x5 (ix2 t k) = alpha * dzChain (zR x3 x4 t) (dR x0 x1 x2 t) (A1 x5) k := by
  unfold val_main_v70 val_main_v69 val_main_cst_18 alpha
  pointwise
  rw [dz_eq]

theorem dzb_eq : val_main_v71 x0 x1 x2 x3 x4 x5 (ix2 t k) = dzChain (zR x3 x4 t) (dR x0 x1 x2 t) (A1 x5) k := by
  unfold val_main_v71
  pointwise
  rw [dz_eq]

theorem dg_eq : val_main_v72 x0 x1 x2 x3 x4 (ix2 0 k) = dg (A2 x0) (AP x1) (AW x2) (A2 x3) (A2 x4) k := by
  unfold val_main_v72 val_main_v44 val_main_v41 val_main_v40 val_main_v39 val_main_v35 val_main_v25 val_main_v24 val_main_cst_9
    val_main_cst_10 dg LayerNorm.norm
  pointwise
  simp only [Fin.sum_univ_one, cen_eq', rstd_eq, d_eq]
  exact Finset.sum_congr rfl fun _ _ => EReal.mul_comm _ _

theorem db_eq : val_main_v73 x0 x1 x2 (ix2 0 k) = db (A2 x0) (AP x1) (AW x2) k := by
  unfold val_main_v73 val_main_v38 val_main_v37 val_main_v36 val_main_cst_7 val_main_cst_8 db
  pointwise
  simp only [Fin.sum_univ_one, d_eq]

end Cert.LnBwdRefIdeal.Grad
-- ==== Proof.LnBwdAlg.lean ====
/-
  The layer norm's gradient in the chain rule's form is the closed form, over the reals.
-/
module

public import proofs.«01_k».proof.Proof.LnBwdSpec
public import proofs.«01_k».proof.Proof.Finite

@[expose] public section

noncomputable section

open Idealize.ShloMosaic

namespace Cert.LnBwd.Alg

open Cert.LayerNorm Cert.LnBwd.Spec Cert.Finite

theorem len_eq : len = ((1024 : ℝ) : EReal) := by
  unfold len
  simp [Ideal.ofBits, Ideal.ieee, -EReal.coe_mul]
  norm_num

theorem two_eq : two = ((2 : ℝ) : EReal) := by
  unfold two
  simp [Ideal.ofBits, Ideal.ieee, -EReal.coe_mul]
  norm_num

theorem mhalf_eq : mhalf = ((-(1 / 2) : ℝ) : EReal) := by
  unfold mhalf
  simp [Ideal.ofBits, Ideal.ieee, -EReal.coe_mul]
  norm_num

theorem eps_pos : ∃ e : ℝ, 0 < e ∧ eps = (e : EReal) := by
  unfold eps
  refine ⟨_, ?_, by simp [Ideal.ofBits, Ideal.ieee, -EReal.coe_mul]; rfl⟩
  positivity

theorem alpha_fin : Fin' alpha := by
  unfold alpha
  exact ⟨_, by simp [Ideal.ofBits, Ideal.ieee, -EReal.coe_mul]; rfl⟩

theorem coe_sum (f : Fin 1024 → ℝ) : ∑ k, (f k : EReal) = ((∑ k, f k : ℝ) : EReal) :=
  (map_sum (⟨⟨fun r : ℝ => (r : EReal), EReal.coe_zero⟩, EReal.coe_add⟩ : ℝ →+ EReal) f Finset.univ).symm

theorem div_len (a : ℝ) : Ideal.div (a : EReal) len = ((a * (1 / 1024) : ℝ) : EReal) := by
  rw [len_eq, Ideal.div_coe (by norm_num)]
  norm_cast

theorem mean_coe (f : Fin 1024 → ℝ) : mean (fun k => (f k : EReal)) = (((∑ k, f k) * (1 / 1024) : ℝ) : EReal) := by
  unfold mean
  rw [coe_sum, div_len]

variable (x : Fin 1024 → ℝ)

/-- The centred row, over the reals. -/
def cenR (k : Fin 1024) : ℝ := x k - (∑ k, x k) * (1 / 1024)

theorem cen_coe (k : Fin 1024) : cen (fun k => (x k : EReal)) k = (cenR x k : EReal) := by
  unfold cen cenR
  rw [mean_coe]
  norm_cast

theorem sum_cenR : ∑ k, cenR x k = 0 := by
  unfold cenR
  rw [Finset.sum_sub_distrib, Finset.sum_const, Finset.card_univ, Fintype.card_fin]
  simp only [nsmul_eq_mul]
  push_cast
  ring

/-- A real row's reciprocal deviation is a real number whose square is the reciprocal of the variance. -/
theorem rstd_coe : ∃ r s : ℝ, s ≠ 0 ∧ rstd (fun k => (x k : EReal)) = (r : EReal)
    ∧ mean (fun k => cen (fun k => (x k : EReal)) k * cen (fun k => (x k : EReal)) k) + eps = (s : EReal) ∧ 1 / s = r * r := by
  obtain ⟨e, he, hee⟩ := eps_pos
  have hv : mean (fun k => cen (fun k => (x k : EReal)) k * cen (fun k => (x k : EReal)) k) + eps
      = (((∑ k, cenR x k * cenR x k) * (1 / 1024) + e : ℝ) : EReal) := by
    have h : (fun k => cen (fun k => (x k : EReal)) k * cen (fun k => (x k : EReal)) k)
        = fun k => ((cenR x k * cenR x k : ℝ) : EReal) := by
      funext k; rw [cen_coe]; norm_cast
    rw [h, mean_coe, hee]
    norm_cast
  have hpos : 0 < (∑ k, cenR x k * cenR x k) * (1 / 1024) + e := by
    have : 0 ≤ ∑ k, cenR x k * cenR x k := Finset.sum_nonneg fun k _ => mul_self_nonneg _
    positivity
  generalize (∑ k, cenR x k * cenR x k) * (1 / 1024) + e = s at hv hpos
  refine ⟨(Real.sqrt s)⁻¹, s, hpos.ne', ?_, hv, ?_⟩
  · unfold rstd
    rw [hv, Ideal.rsqrt_coe, if_neg (not_lt.mpr hpos.le), if_neg hpos.ne']
  · rw [← mul_inv, Real.mul_self_sqrt hpos.le, one_div]

/-- The two forms of the gradient agree on rows of real numbers. -/
theorem dzChain_eq {x d g : Fin 1024 → EReal} (hx : ∀ k, Fin' (x k)) (hd : ∀ k, Fin' (d k)) (hg : ∀ k, Fin' (g k))
    (k : Fin 1024) : dzChain x d g k = dz x d g k := by
  choose x' hx using hx
  choose d' hd using hd
  choose g' hg using hg
  obtain rfl : x = fun k => (x' k : EReal) := funext hx
  obtain rfl : d = fun k => (d' k : EReal) := funext hd
  obtain rfl : g = fun k => (g' k : EReal) := funext hg
  obtain ⟨r, s, hs, hr, hv, hrs⟩ := rstd_coe x'
  have hc0 := sum_cenR x'
  unfold dzChain dvar dz LayerNorm.norm
  rw [hv, hr]
  simp only [cen_coe, two_eq, mhalf_eq]
  rw [Ideal.div_coe hs, hrs]
  generalize cenR x' = c at hc0 ⊢
  simp only [← EReal.coe_mul, ← EReal.coe_neg, coe_sum, mean_coe, ← EReal.coe_add, ← EReal.coe_sub, div_len]
  congr 1
  simp only [Finset.sum_neg_distrib, ← Finset.mul_sum, ← Finset.sum_mul, hc0]
  have h : ∑ k, d' k * g' k * (c k * r) = (∑ k, c k * (d' k * g' k)) * r := by
    rw [Finset.sum_mul]
    exact Finset.sum_congr rfl fun _ _ => by ring
  rw [h]
  ring

end Cert.LnBwd.Alg
-- ==== Proof.LnBwdPre.lean ====
/-
  The precondition opened: each argument but the bias is finite in every element.
-/
module

public import proofs.«01_k».proof.Defs
public import proofs.«01_k».proof.Proof.Finite

@[expose] public section

noncomputable section

open Idealize.ShloMosaic

namespace Cert.LnBwdPre

open Cert.Pre_finite_ln Cert.Finite

variable [Cert.Pre_finite_ln.Facts]

instance : Subsingleton S_.Idx := ⟨fun a b => funext fun d => d.elim0⟩

theorem fin_args (x0 : FVec Ideal S16384x1024 .f32) (x1 : FVec Ideal S16384x2176 .f32) (x2 : FVec Ideal S1024x2176 .f32)
    (x3 x4 : FVec Ideal S16384x1024 .f32) (x5 x6 : FVec Ideal S1024 .f32)
    (h : fn (F := Ideal) x0 x1 x2 x3 x4 x5 x6 ix0 = 1#1) :
    (∀ i, Fin' (x0 i)) ∧ (∀ i, Fin' (x1 i)) ∧ (∀ i, Fin' (x2 i)) ∧ (∀ i, Fin' (x3 i)) ∧ (∀ i, Fin' (x4 i))
      ∧ (∀ i, Fin' (x5 i)) := by
  unfold fn fn_part1 at h
  dsimp only at h
  obtain ⟨h, h5⟩ := and_eq_one h
  obtain ⟨h, h4⟩ := and_eq_one h
  obtain ⟨h, h3⟩ := and_eq_one h
  obtain ⟨h, h2⟩ := and_eq_one h
  obtain ⟨h0, h1⟩ := and_eq_one h
  exact ⟨fin_of_all _ _ (fun _ => rfl) _ _ _ _ h0, fin_of_all _ _ (fun _ => rfl) _ _ _ _ h1,
    fin_of_all _ _ (fun _ => rfl) _ _ _ _ h2, fin_of_all _ _ (fun _ => rfl) _ _ _ _ h3,
    fin_of_all _ _ (fun _ => rfl) _ _ _ _ h4, fin_of_all _ _ (fun _ => rfl) _ _ _ _ h5⟩

end Cert.LnBwdPre
-- ==== Proof.LnBwdValue.lean ====
/-
  The value claim of the layer norm's backward pass: the kernel's four results are the reference's.
-/
module

public import proofs.«01_k».proof.Proof.LnBwdFold
public import proofs.«01_k».proof.Proof.LnBwdRef
public import proofs.«01_k».proof.Proof.LnBwdAlg
public import proofs.«01_k».proof.Proof.LnBwdPre
public import proofs.«01_k».proof.Proof.Gen.Pre_finite_ln
public import proofs.«01_k».proof.Proof.Gen.LnBwdRefIdeal.Run

@[expose] public section

set_option maxRecDepth 16384

noncomputable section

open Idealize.ShloMosaic Idealize.ShloMosaic.TcCoe Idealize.SL.Sem

namespace Cert.LnBwdValue

open Cert.Finite Cert.LnBwd.Spec Cert.LnBwd.Alg
open Cert.LnBwdRefIdeal.Grad (zR dR A1)

variable (m : (ℓ : Loc Cert.LnBwdIdeal.nD Cert.LnBwdIdeal.τ Cert.LnBwdIdeal.sig) → Buf (Elt Ideal) ℓ)
  (c : Dev Cert.LnBwdIdeal.nD)

/-- The arguments of core `c`. -/
abbrev a0 : (⟨Cert.LnBwdRefIdeal.S16384x1024, .f32⟩ : BufTy).Contents (Elt Ideal) := m (c.tc.loc Cert.LnBwdIdeal.main_arg0)
abbrev a1 : (⟨Cert.LnBwdRefIdeal.S16384x2176, .f32⟩ : BufTy).Contents (Elt Ideal) := m (c.tc.loc Cert.LnBwdIdeal.main_arg1)
abbrev a2 : (⟨Cert.LnBwdRefIdeal.S1024x2176, .f32⟩ : BufTy).Contents (Elt Ideal) := m (c.tc.loc Cert.LnBwdIdeal.main_arg2)
abbrev a3 : (⟨Cert.LnBwdRefIdeal.S16384x1024, .f32⟩ : BufTy).Contents (Elt Ideal) := m (c.tc.loc Cert.LnBwdIdeal.main_arg3)
abbrev a4 : (⟨Cert.LnBwdRefIdeal.S16384x1024, .f32⟩ : BufTy).Contents (Elt Ideal) := m (c.tc.loc Cert.LnBwdIdeal.main_arg4)
abbrev a5 : (⟨Cert.LnBwdRefIdeal.S1024, .f32⟩ : BufTy).Contents (Elt Ideal) := m (c.tc.loc Cert.LnBwdIdeal.main_arg5)

/-- Every argument but the bias is finite. -/
abbrev FinArgs : Prop :=
  (∀ i, Fin' (a0 m c i)) ∧ (∀ i, Fin' (a1 m c i)) ∧ (∀ i, Fin' (a2 m c i)) ∧ (∀ i, Fin' (a3 m c i)) ∧ (∀ i, Fin' (a4 m c i))
    ∧ (∀ i, Fin' (a5 m c i))

theorem chain_eq (h : FinArgs m c) (t : Fin 16384) (k : Fin 1024) :
    dzChain (zR (a3 m c) (a4 m c) t) (dR (a0 m c) (a1 m c) (a2 m c) t) (A1 (a5 m c)) k
      = dz (zR (a3 m c) (a4 m c) t) (dR (a0 m c) (a1 m c) (a2 m c) t) (A1 (a5 m c)) k := by
  obtain ⟨h0, h1, h2, h3, h4, h5⟩ := h
  exact dzChain_eq (fun _ => (alpha_fin.mul (h3 _)).add (h4 _))
    (fun _ => (h0 _).add (Fin'.sum _ _ fun _ _ => (h1 _).mul (h2 _))) (fun _ => h5 _) k

theorem dzb_eq (h : FinArgs m c) :
    Cert.LnBwdRefIdeal.Read.val_main_v71 (F := Ideal) (a0 m c) (a1 m c) (a2 m c) (a3 m c) (a4 m c) (a5 m c)
      = (Cert.LnBwdIdeal.Gen.dats m 0 c).arrAt 5 Cert.LnBwdIdeal.cfg0.N := by
  funext i
  obtain ⟨t, k, rfl⟩ : ∃ (t : Fin 16384) (k : Fin 1024), i = ix2 t k := ⟨i 0, i 1, eq_ix2 i⟩
  refine Eq.trans ?_ (Cert.LnBwdIdeal.Fold.arr5_apply m c t k).symm
  rw [Cert.LnBwdRefIdeal.Grad.dzb_eq, chain_eq m c h]

theorem dx_eq (h : FinArgs m c) :
    Cert.LnBwdRefIdeal.Read.val_main_v70 (F := Ideal) (a0 m c) (a1 m c) (a2 m c) (a3 m c) (a4 m c) (a5 m c)
      = (Cert.LnBwdIdeal.Gen.dats m 0 c).arrAt 6 Cert.LnBwdIdeal.cfg0.N := by
  funext i
  obtain ⟨t, k, rfl⟩ : ∃ (t : Fin 16384) (k : Fin 1024), i = ix2 t k := ⟨i 0, i 1, eq_ix2 i⟩
  refine Eq.trans ?_ (Cert.LnBwdIdeal.Fold.arr6_apply m c t k).symm
  rw [Cert.LnBwdRefIdeal.Grad.dx_eq, chain_eq m c h]

theorem dg_eq : Cert.LnBwdRefIdeal.Read.val_main_v72 (F := Ideal) (a0 m c) (a1 m c) (a2 m c) (a3 m c) (a4 m c)
    = (Cert.LnBwdIdeal.Gen.dats m 0 c).arrAt 7 Cert.LnBwdIdeal.cfg0.N := by
  funext i
  obtain ⟨z, k, rfl⟩ : ∃ (z : Fin 1) (k : Fin 1024), i = ix2 z k := ⟨i 0, i 1, eq_ix2 i⟩
  obtain rfl : z = 0 := Subsingleton.elim _ _
  refine Eq.trans ?_ (Cert.LnBwdIdeal.Fold.arr7_apply m c k).symm
  rw [Cert.LnBwdRefIdeal.Grad.dg_eq]

theorem db_eq : Cert.LnBwdRefIdeal.Read.val_main_v73 (F := Ideal) (a0 m c) (a1 m c) (a2 m c)
    = (Cert.LnBwdIdeal.Gen.dats m 0 c).arrAt 8 Cert.LnBwdIdeal.cfg0.N := by
  funext i
  obtain ⟨z, k, rfl⟩ : ∃ (z : Fin 1) (k : Fin 1024), i = ix2 z k := ⟨i 0, i 1, eq_ix2 i⟩
  obtain rfl : z = 0 := Subsingleton.elim _ _
  refine Eq.trans ?_ (Cert.LnBwdIdeal.Fold.arr8_apply m c k).symm
  rw [Cert.LnBwdRefIdeal.Grad.db_eq]

theorem algebraic : algebraic_LnBwdIdeal_LnBwdRefIdeal_pre_finite_ln := by
  intro m ρ m' ρ' hpre hagree
  have hfin : ∀ c, FinArgs m c := fun c => Cert.LnBwdPre.fin_args _ _ _ _ _ _ _ (congrFun (hpre c) ix0)
  refine ⟨fun c => (Cert.LnBwdIdeal.Gen.dats m 0 c).arrAt 5 Cert.LnBwdIdeal.cfg0.N,
    fun c => (Cert.LnBwdIdeal.Gen.dats m 0 c).arrAt 6 Cert.LnBwdIdeal.cfg0.N,
    fun c => (Cert.LnBwdIdeal.Gen.dats m 0 c).arrAt 7 Cert.LnBwdIdeal.cfg0.N,
    fun c => (Cert.LnBwdIdeal.Gen.dats m 0 c).arrAt 8 Cert.LnBwdIdeal.cfg0.N, Cert.LnBwdIdeal.Value.run_blocks m ρ, ?_⟩
  refine (θ_run _ _ _).mono (fun _ h c => ?_) (Cert.LnBwdRefIdeal.Value.run m' ρ')
  obtain ⟨e0, e1, e2, e3, e4, e5, e6⟩ := hagree c
  obtain ⟨r0, r1, r2, r3, k⟩ := h c
  refine ⟨r0.trans ?_, r1.trans ?_, r2.trans ?_, r3.trans ?_, k⟩
  · refine (Cert.LnBwdRefIdeal.Read.val_main_v71_eq m' c).trans ?_
    rw [e0, e1, e2, e3, e4, e5]; exact dzb_eq m c (hfin c)
  · refine (Cert.LnBwdRefIdeal.Read.val_main_v70_eq m' c).trans ?_
    rw [e0, e1, e2, e3, e4, e5]; exact dx_eq m c (hfin c)
  · refine (Cert.LnBwdRefIdeal.Read.val_main_v72_eq _ _ _ _ _).trans ?_
    rw [e0, e1, e2, e3, e4]; exact dg_eq m c
  · refine (Cert.LnBwdRefIdeal.Read.val_main_v73_eq _ _ _).trans ?_
    rw [e0, e1, e2]; exact db_eq m c

end Cert.LnBwdValue
-- ==== Proof.MixNorm.lean ====
/-
  The layer norm of one row of length 384, over the extended reals: its mean, its variance, its reciprocal deviation and its value.
-/
module

public import Idealize.ShloMosaic.Init
public import Idealize.ShloMosaic.PureOps.Ideal
public import Idealize.ShloMosaic.Lib.ValueIdx

@[expose] public section

noncomputable section

open Idealize.ShloMosaic

namespace Cert.MixNorm

/-- The row's length 384 and the constant added to the variance, as the programs write them. -/
def len : EReal := Ideal.ofBits FTy.f32 0x43C00000#32
def eps : EReal := Ideal.ofBits FTy.f32 0x3727C5AC#32

variable (x g b : Fin 384 → EReal)

def mean : EReal := Ideal.div (∑ k, x k) len

def cen (k : Fin 384) : EReal := x k - mean x

def rstd : EReal := Ideal.rsqrt (mean (fun k => cen x k * cen x k) + eps)

def norm (k : Fin 384) : EReal := cen x k * rstd x

def ln (k : Fin 384) : EReal := norm x k * g k + b k

end Cert.MixNorm
-- ==== Proof.MixSpec.lean ====
/-
  The mixer, over the extended reals and plain indices: the projection's column groups, the pooling head, the short gated
  convolution, the convolution module, and their concatenation. A sequence is read past its ends through `ext`, which places
  it at the positions 32 … 16415 and is zero elsewhere.
-/
module

public import proofs.«01_k».proof.Proof.FfnBwdSpec
public import proofs.«01_k».proof.Proof.LayerNorm
public import proofs.«01_k».proof.Proof.MixNorm

@[expose] public section

noncomputable section

open Idealize.ShloMosaic

namespace Cert.Mix.Spec

open Cert.FfnBwd.Spec (sg)

/-- A sequence placed at the positions 32 … 16415, zero elsewhere. -/
def ext (f : Fin 16384 → EReal) (p : ℕ) : EReal := if h : 32 ≤ p ∧ p < 16416 then f ⟨p - 32, by omega⟩ else 0

theorem ext_main (f : Fin 16384 → EReal) (t : Fin 16384) (p : ℕ) (h : p = t.val + 32) : ext f p = f t := by
  subst h
  unfold ext
  rw [dif_pos (by omega)]
  congr 1

theorem ext_out (f : Fin 16384 → EReal) (p : ℕ) (h : p < 32 ∨ 16416 ≤ p) : ext f p = 0 := by
  unfold ext
  rw [dif_neg (by omega)]

/-- A pointwise operation that keeps zero commutes with placing. -/
theorem ext_map (f : Fin 16384 → EReal) (F : EReal → EReal) (h0 : F 0 = 0) (p : ℕ) :
    F (ext f p) = ext (fun t => F (f t)) p := by
  unfold ext
  split <;> simp [h0]

theorem ext_map₂ (f g : Fin 16384 → EReal) (F : EReal → EReal → EReal) (h0 : F 0 0 = 0) (p : ℕ) :
    F (ext f p) (ext g p) = ext (fun t => F (f t) (g t)) p := by
  unfold ext
  split <;> simp [h0]

/-- The columns of the projection that a channel of each of its last five groups stands at. -/
def colGB (c : Fin 384) : Fin 2176 := ⟨256 + c.val, by omega⟩
def colGC (c : Fin 384) : Fin 2176 := ⟨640 + c.val, by omega⟩
def colV (c : Fin 384) : Fin 2176 := ⟨1024 + c.val, by omega⟩
def colCV (c : Fin 384) : Fin 2176 := ⟨1408 + c.val, by omega⟩
def colCG (c : Fin 384) : Fin 2176 := ⟨1792 + c.val, by omega⟩
def colP (l : Fin 256) : Fin 2176 := ⟨l.val, by omega⟩

/-- The projection. -/
def proj (Y : Fin 16384 → Fin 1024 → EReal) (WI : Fin 1024 → Fin 2176 → EReal) (t : Fin 16384) (j : Fin 2176) : EReal :=
  ∑ k, Y t k * WI k j

variable (P : Fin 16384 → Fin 2176 → EReal)

/-- Half the window of a pooling channel, and how many of its window's positions lie inside the sequence. -/
def half (l : Fin 256) : ℕ := 2 ^ (l.val / 64)
def count (t : Fin 16384) (h : ℕ) : ℕ := min (t.val + h) 16384 - (t.val - h)

/-- The pooled channel: the mean over its window, minus the token. -/
def pooled (t : Fin 16384) (l : Fin 256) : EReal :=
  Ideal.div (∑ k ∈ Finset.range (2 * half l), ext (fun t => P t (colP l)) (t.val + 32 - half l + k))
    (((count t (half l) : ℕ) : ℝ) : EReal) - P t (colP l)

/-- The block-diagonal matrix of the four groups' weights. -/
def bd (PW : Fin 4 → Fin 64 → Fin 64 → EReal) (a b : Fin 256) : EReal :=
  if a.val / 64 = b.val / 64 then PW ⟨b.val / 64, by omega⟩ ⟨a.val % 64, by omega⟩ ⟨b.val % 64, by omega⟩ else 0

/-- The pooling head. -/
def ya (PW : Fin 4 → Fin 64 → Fin 64 → EReal) (PS : Fin 256 → EReal) (t : Fin 16384) (l : Fin 256) : EReal :=
  (∑ a, pooled P t a * bd PW a l) * PS l

/-- The short convolution and its gated head; its taps are numbered from zero. -/
def q (t : Fin 16384) (c : Fin 384) : EReal := P t (colGC c) * P t (colV c)
def sconv (SW : ℕ → Fin 384 → EReal) (t : Fin 16384) (c : Fin 384) : EReal :=
  ∑ k ∈ Finset.range 3, SW k c * ext (fun t => q P t c) (t.val + 31 + k)
def yb (SW : ℕ → Fin 384 → EReal) (t : Fin 16384) (c : Fin 384) : EReal := P t (colGB c) * sconv P SW t c

/-- The convolution module: its gated input, its convolution, and its head. -/
def a0 (t : Fin 16384) (c : Fin 384) : EReal := P t (colCV c) * sg (P t (colCG c))
def a1 (CW : ℕ → Fin 384 → EReal) (CB : Fin 384 → EReal) (t : Fin 16384) (c : Fin 384) : EReal :=
  (∑ k ∈ Finset.range 31, CW k c * ext (fun t => a0 P t c) (t.val + 17 + k)) + CB c
def yc (CW : ℕ → Fin 384 → EReal) (CB CG CN : Fin 384 → EReal) (t : Fin 16384) (c : Fin 384) : EReal :=
  MixNorm.ln (a1 P CW CB t) CG CN c * sg (MixNorm.ln (a1 P CW CB t) CG CN c)

variable (PW : Fin 4 → Fin 64 → Fin 64 → EReal) (PS : Fin 256 → EReal) (SW CW : ℕ → Fin 384 → EReal)
  (CB CG CN : Fin 384 → EReal)

/-- The three heads, concatenated. -/
def ycat (t : Fin 16384) (j : Fin 1024) : EReal :=
  if h : j.val < 256 then ya P PW PS t ⟨j.val, h⟩
  else if h' : j.val < 640 then yb P SW t ⟨j.val - 256, by omega⟩
  else yc P CW CB CG CN t ⟨j.val - 640, by omega⟩

/-- The residual's sum and its layer norm. -/
def z (Y : Fin 16384 → Fin 1024 → EReal) (WO : Fin 1024 → Fin 1024 → EReal) (t : Fin 16384) (k : Fin 1024) : EReal :=
  LayerNorm.alpha * Y t k + ∑ j, ycat P PW PS SW CW CB CG CN t j * WO j k
def y2 (Y : Fin 16384 → Fin 1024 → EReal) (WO : Fin 1024 → Fin 1024 → EReal) (G B : Fin 1024 → EReal)
    (t : Fin 16384) (k : Fin 1024) : EReal := LayerNorm.ln (z P PW PS SW CW CB CG CN Y WO t) G B k

end Cert.Mix.Spec
-- ==== Proof.MixWord.lean ====
/-
  Small signed words: sums, differences, maxima, minima and conversions of words that hold small integers.
-/
module

public import Idealize.ShloMosaic.Lib.Pointwise
public import Idealize.ShloMosaic.Lib.Tactic
public import Idealize.ShloMosaic.PureOps

@[expose] public section

noncomputable section

open Idealize.ShloMosaic Idealize.ShloMosaic.TcCoe

namespace Cert.Mix.Word

theorem toInt_small (a : ℤ) (h : -2147483648 ≤ a ∧ a < 2147483648) : (BitVec.ofInt 32 a).toInt = a := by
  rw [BitVec.toInt_ofInt, Int.bmod_eq_of_le] <;> omega

theorem ofNat_eq (n : ℕ) : BitVec.ofNat 32 n = BitVec.ofInt 32 (n : ℤ) := (BitVec.ofInt_natCast 32 n).symm

theorem addi_eq (a b : ℤ) : IntOp.addi (BitVec.ofInt 32 a) (BitVec.ofInt 32 b) = BitVec.ofInt 32 (a + b) := (BitVec.ofInt_add a b).symm

theorem subi_eq (a b : ℤ) : IntOp.subi (BitVec.ofInt 32 a) (BitVec.ofInt 32 b) = BitVec.ofInt 32 (a - b) := by
  rw [Int.sub_eq_add_neg, BitVec.ofInt_add, BitVec.ofInt_neg, ← BitVec.sub_eq_add_neg]
  rfl

theorem muli_eq (a b : ℤ) : IntOp.muli (BitVec.ofInt 32 a) (BitVec.ofInt 32 b) = BitVec.ofInt 32 (a * b) := (BitVec.ofInt_mul a b).symm

theorem maxsi_eq (a b : ℤ) (ha : -2147483648 ≤ a ∧ a < 2147483648) (hb : -2147483648 ≤ b ∧ b < 2147483648) :
    IntOp.maxsi (BitVec.ofInt 32 a) (BitVec.ofInt 32 b) = BitVec.ofInt 32 (max a b) := by
  unfold IntOp.maxsi
  simp only [BitVec.slt, BitVec.sle, toInt_small a ha, toInt_small b hb]
  split <;> (simp only [decide_eq_true_eq] at *; congr 1; omega)

theorem minsi_eq (a b : ℤ) (ha : -2147483648 ≤ a ∧ a < 2147483648) (hb : -2147483648 ≤ b ∧ b < 2147483648) :
    IntOp.minsi (BitVec.ofInt 32 a) (BitVec.ofInt 32 b) = BitVec.ofInt 32 (min a b) := by
  unfold IntOp.minsi
  simp only [BitVec.slt, BitVec.sle, toInt_small a ha, toInt_small b hb]
  split <;> (simp only [decide_eq_true_eq] at *; congr 1; omega)

theorem sitofp_eq (a : ℤ) (ha : -2147483648 ≤ a ∧ a < 2147483648) :
    (FloatOps.sitofp .f32 (BitVec.ofInt 32 a) : Ideal .f32) = ((a : ℝ) : EReal) := by
  simp only [FloatOps.sitofp, toInt_small a ha]

/-- How many positions of a window of half-length h about the token t lie inside the sequence. -/
theorem count_word (t h : ℕ) (ht : t < 16384) (hh : h ≤ 8) (h1 : 1 ≤ h) :
    IntOp.maxsi (IntOp.subi (IntOp.minsi (IntOp.addi (BitVec.ofNat 32 t) (BitVec.ofNat 32 h)) 16384#32)
      (IntOp.maxsi (IntOp.subi (BitVec.ofNat 32 t) (BitVec.ofNat 32 h)) 0#32)) 1#32
      = BitVec.ofNat 32 (min (t + h) 16384 - (t - h)) := by
  have z : (0#32 : BitVec 32) = BitVec.ofInt 32 0 := rfl
  have o : (1#32 : BitVec 32) = BitVec.ofInt 32 1 := rfl
  have n : (16384#32 : BitVec 32) = BitVec.ofInt 32 16384 := rfl
  rw [z, o, n]
  simp only [ofNat_eq]
  rw [addi_eq, subi_eq, minsi_eq _ _ (by omega) (by omega), maxsi_eq _ _ (by omega) (by omega), subi_eq, maxsi_eq _ _ (by omega) (by omega)]
  congr 1
  omega

/-- The same count as the window's two ends, its length first added and then cut off. -/
theorem host_count_word (t h : ℕ) (ht : t < 16384) (hh : h ≤ 8) (h1 : 1 ≤ h) :
    IntOp.subi (IntOp.minsi (IntOp.addi (IntOp.subi (BitVec.ofNat 32 t) (BitVec.ofNat 32 h)) (BitVec.ofNat 32 (2 * h))) 16384#32)
      (IntOp.maxsi (IntOp.subi (BitVec.ofNat 32 t) (BitVec.ofNat 32 h)) 0#32)
      = BitVec.ofNat 32 (min (t + h) 16384 - (t - h)) := by
  have z : (0#32 : BitVec 32) = BitVec.ofInt 32 0 := rfl
  have n : (16384#32 : BitVec 32) = BitVec.ofInt 32 16384 := rfl
  rw [z, n]
  simp only [ofNat_eq]
  rw [subi_eq, addi_eq, minsi_eq _ _ (by omega) (by omega), maxsi_eq _ _ (by omega) (by omega), subi_eq]
  congr 1
  omega

end Cert.Mix.Word
-- ==== Proof.MixFwdPay.lean ====
/-
  The mixer's forward body: its named payloads read at an index, over the extended reals.
-/
module

public import proofs.«01_k».proof.Proof.Gen.MixFwdIdeal.Skeleton
public import proofs.«01_k».proof.Proof.MixSpec
public import proofs.«01_k».proof.Proof.MixWord
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MixFwdIdeal.Pay

open Cert.MixFwdIdeal Cert.MixFwdIdeal.Gen Cert.Mix.Spec
open Cert.FfnBwd.Spec (sg)

theorem first_word : ∀ T : Fin 64, Scalar.cmpi .sgt (BitVec.ofNat 32 T.val) 0#32 = if 0 < T.val then 1#1 else 0#1 := by
  decide +kernel

theorem last_word : ∀ T : Fin 64, Scalar.cmpi .slt (BitVec.ofNat 32 T.val) 63#32 = if T.val < 63 then 1#1 else 0#1 := by
  decide +kernel

theorem prev_apply (i : grid0.Coords) (T : Fin 64) (hi : (i 0).val = T.val) (v : Vec Ideal S32x1024 .bf16) (r : Fin 32) (k : Fin 1024) :
    k0_pay3 i v (ix2 r k) = if 0 < T.val then v (ix2 r k) else 0 := by
  unfold k0_pay3
  rw [hi]
  rw [first_word T]
  split
  · pointwise
  · pointwise

theorem next_apply (i : grid0.Coords) (T : Fin 64) (hi : (i 0).val = T.val) (v : Vec Ideal S32x1024 .bf16) (r : Fin 32) (k : Fin 1024) :
    k0_pay5 i v (ix2 r k) = if T.val < 63 then v (ix2 r k) else 0 := by
  unfold k0_pay5
  rw [hi]
  rw [last_word T]
  split
  · pointwise
  · pointwise

theorem main_apply (v : Vec Ideal S256x1024 .bf16) (r : Fin 256) (k : Fin 1024) : (k0_pay4 (F := Ideal) v) (ix2 r k) = v (ix2 r k) := by
  unfold k0_pay4
  pointwise

theorem proj_apply (v : Vec Ideal S320x1024 .bf16) (w : Vec Ideal S1024x2176 .bf16) (e : Fin 320) (j : Fin 2176) :
    k0_pay6 v w (ix2 e j) = ∑ k, v (ix2 e k) * w (ix2 k j) := by
  unfold k0_pay6
  pointwise

theorem half_apply : ∀ l : Fin 256, k0_pay7 (ix2 0 l) = BitVec.ofNat 32 (half l) := by
  decide +kernel

theorem half_cases (l : Fin 256) : half l = 1 ∨ half l = 2 ∨ half l = 4 ∨ half l = 8 := by
  have : l.val / 64 = 0 ∨ l.val / 64 = 1 ∨ l.val / 64 = 2 ∨ l.val / 64 = 3 := by omega
  unfold half
  rcases this with h | h | h | h <;> rw [h] <;> simp

theorem q_apply (v w : Vec Ideal S320x384 .f32) (e : Fin 320) (k : Fin 384) :
    k0_pay29 v w (ix2 e k) = v (ix2 e k) * w (ix2 e k) := by
  unfold k0_pay29
  pointwise

theorem sconv_apply (s0 s1 s2 : Vec Ideal S1x384 .f32) (w0 w1 w2 g : Vec Ideal S256x384 .f32) (r : Fin 256) (k : Fin 384) :
    k0_pay30 s0 w0 s1 w1 s2 w2 g (ix2 r k)
      = g (ix2 r k) * (s0 (ix2 0 k) * w0 (ix2 r k) + s1 (ix2 0 k) * w1 (ix2 r k) + s2 (ix2 0 k) * w2 (ix2 r k)) := by
  unfold k0_pay30
  pointwise

theorem gated_apply (v w : Vec Ideal S320x384 .f32) (e : Fin 320) (k : Fin 384) :
    k0_pay32 v (k0_pay31 w) (ix2 e k) = v (ix2 e k) * sg (w (ix2 e k)) := by
  unfold k0_pay32 k0_pay31 sg
  pointwise
  simp only [zero_sub]

theorem ln_apply (v : Vec Ideal S256x384 .f32) (g b : Vec Ideal S1x384 .f32) (r : Fin 256) (k : Fin 384) :
    k0_pay82 v g b (ix2 r k) = MixNorm.ln (fun k => v (ix2 r k)) (fun k => g (ix2 0 k)) (fun k => b (ix2 0 k)) k := by
  unfold k0_pay82 MixNorm.ln MixNorm.norm MixNorm.rstd MixNorm.cen MixNorm.mean
  pointwise
  rfl

theorem silu_apply (v : Vec Ideal S256x384 .f32) (g b : Vec Ideal S1x384 .f32) (r : Fin 256) (k : Fin 384) :
    k0_pay84 (k0_pay82 v g b) (k0_pay83 v g b) (ix2 r k)
      = MixNorm.ln (fun k => v (ix2 r k)) (fun k => g (ix2 0 k)) (fun k => b (ix2 0 k)) k
        * sg (MixNorm.ln (fun k => v (ix2 r k)) (fun k => g (ix2 0 k)) (fun k => b (ix2 0 k)) k) := by
  unfold k0_pay84 k0_pay83 sg
  pointwise
  simp only [zero_sub, ln_apply]

theorem z_apply (y : Vec Ideal S256x1024 .f32) (v : Vec Ideal S256x1024 .bf16) (w : Vec Ideal S1024x1024 .bf16) (r : Fin 256) (k : Fin 1024) :
    k0_pay85 y v w (ix2 r k) = LayerNorm.alpha * y (ix2 r k) + ∑ j, v (ix2 r j) * w (ix2 j k) := by
  unfold k0_pay85
  pointwise
  rfl

theorem y2_apply (y : Vec Ideal S256x1024 .f32) (v : Vec Ideal S256x1024 .bf16) (w : Vec Ideal S1024x1024 .bf16)
    (g b : Vec Ideal S1x1024 .f32) (r : Fin 256) (k : Fin 1024) :
    k0_pay1 (k0_pay86 g) (k0_pay87 b) (k0_pay88 y v w) (k0_pay89 y v w) (ix2 r k)
      = LayerNorm.ln (fun k => LayerNorm.alpha * y (ix2 r k) + ∑ j, v (ix2 r j) * w (ix2 j k))
        (fun k => g (ix2 0 k)) (fun k => b (ix2 0 k)) k := by
  unfold k0_pay1 k0_pay86 k0_pay87 k0_pay89 k0_pay88 LayerNorm.ln LayerNorm.norm LayerNorm.rstd LayerNorm.cen LayerNorm.mean
  pointwise
  simp only [z_apply]
  rfl

theorem y2b_apply (y : Vec Ideal S256x1024 .f32) (v : Vec Ideal S256x1024 .bf16) (w : Vec Ideal S1024x1024 .bf16)
    (g b : Vec Ideal S1x1024 .f32) (r : Fin 256) (k : Fin 1024) :
    k0_pay2 (k0_pay86 g) (k0_pay87 b) (k0_pay88 y v w) (k0_pay89 y v w) (ix2 r k)
      = LayerNorm.ln (fun k => LayerNorm.alpha * y (ix2 r k) + ∑ j, v (ix2 r j) * w (ix2 j k))
        (fun k => g (ix2 0 k)) (fun k => b (ix2 0 k)) k := by
  unfold k0_pay2
  pointwise
  rw [y2_apply]

/-- A pair of comparisons as a factor. -/
theorem mask_word : ∀ x y : BitVec 1, (BitVec.setWidth 32 (IntOp.andi x y)) = if x = 1#1 ∧ y = 1#1 then 1#32 else 0#32 := by
  decide +kernel

theorem mask_eq (x y : BitVec 1) :
    (FloatOps.sitofp .f32 (BitVec.setWidth 32 (IntOp.andi x y)) : Ideal .f32) = if x = 1#1 ∧ y = 1#1 then 1 else 0 := by
  rw [mask_word]
  split <;> simp [FloatOps.sitofp]

/-- The half-window word, computed from the lane's number. -/
theorem half_word : ∀ x : Fin 256,
    IntOp.shli ArithUnit.vector (1#32)
      (Scalar.select
        (IntOp.andi
          (IntOp.cmpi CmpIPredicate.ne
            (IntOp.subi
              (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 x.val) 64#32) 0#32))
        (IntOp.subi (IntOp.divsi ArithUnit.vector (BitVec.ofNat 32 x.val) 64#32) 1#32)
        (IntOp.divsi ArithUnit.vector (BitVec.ofNat 32 x.val) 64#32)) = BitVec.ofNat 32 (half x) := by
  decide +kernel

theorem mul_one_div (x : EReal) (n : ℕ) (h : 1 ≤ n) (h' : n < 2147483648) :
    x * Ideal.div 1 (FloatOps.sitofp .f32 (BitVec.ofNat 32 n) : Ideal .f32) = Ideal.div x (((n : ℕ) : ℝ) : EReal) := by
  have h0 : ((n : ℕ) : ℝ) ≠ 0 := by
    have : (0 : ℝ) < n := by exact_mod_cast h
    exact ne_of_gt this
  rw [Mix.Word.ofNat_eq, Mix.Word.sitofp_eq _ (by omega)]
  simp only [Int.cast_natCast]
  rw [Ideal.div_coe h0, Ideal.div_coe h0, one_mul]

/-- The pooling head's payload. -/
theorem head_apply (T : Fin 64) (w : BitVec 32) (hw : w = BitVec.ofNat 32 (256 * T.val)) (t u : Vec Ideal S256x256 .f32)
    (m : Vec Ideal S256x256 .bf16) (s : Vec Ideal S1x256 .f32) (r l : Fin 256) :
    k0_pay28 w t u (iota .tc S1x256 32 [1] iota_S1x256_d1_w32) 64#32 k0_pay26 k0_pay27 m s (ix2 r l)
      = (∑ x, (Ideal.div (t (ix2 r x)) (((count ⟨256 * T.val + r.val, by omega⟩ (half x) : ℕ) : ℝ) : EReal) - u (ix2 r x))
          * m (ix2 x l)) * s (ix2 0 l) := by
  unfold k0_pay28 k0_pay26 k0_pay27
  pointwise
  have hc (x : Fin 256) : half x ≤ 8 ∧ 1 ≤ half x := by
    have := half_cases x
    omega
  have hw' : IntOp.addi w (BitVec.ofNat 32 r.val) = BitVec.ofNat 32 (256 * T.val + r.val) := by
    rw [hw, BitVec.ofNat_add]
    rfl
  simp only [half_word, hw']
  simp only [fun x : Fin 256 => Mix.Word.count_word (256 * T.val + r.val) (half x) (by omega) (hc x).1 (hc x).2]
  refine congrArg (· * _) (Finset.sum_congr rfl fun x _ => ?_)
  have hx := hc x
  rw [mul_one_div _ _ (by omega) (by omega)]
  rfl

end Cert.MixFwdIdeal.Pay
-- ==== Proof.MixRead.lean ====
/-
  A load through a unit rectangle, at an index, of a buffer that was written piece by piece: the last piece's value where that
  piece lies, and what the earlier pieces left elsewhere.
-/
module

public import Idealize.ShloMosaic.Lib.Pipeline.FrameBody
public import Idealize.ShloMosaic.Lib.ValueIdx
public import Idealize.ShloMosaic.Lib.Pointwise

@[expose] public section

noncomputable section

open Idealize.ShloMosaic

namespace Cert.Mix.Read

variable {sig : RefSig} {κ : Kind} {sp : Space} {e : EltTy} {Val : EltTy → Type} [∀ e, Nonempty (Val e)]

section Two

variable {n0 n1 a0 a1 b0 b1 o0 o1 p0 p1 : ℕ}

/-- The contents at an index of the last piece. -/
theorem canon_top2 {inb : ∀ a, (![o0, o1] : Fin 2 → ℕ) a + (![a0, a1] : Fin 2 → ℕ) a ≤ (![n0, n1] : Fin 2 → ℕ) a}
    (Z : (⟨2, ![a0, a1]⟩ : Shape).Idx → Val e) (L : List (View.Piece Val ⟨2, ![n0, n1]⟩ e)) (r : Fin n0) (k : Fin n1)
    (y0 : Fin a0) (y1 : Fin a1) (h0 : r.val = o0 + y0.val) (h1 : k.val = o1 + y1.val) :
    View.canon (⟨Rect.unit (s := ⟨2, ![n0, n1]⟩) ![o0, o1] ![a0, a1] inb, Z⟩ :: L) (ix2 r k) = Z (ix2 y0 y1) := by
  refine Eq.trans (congrArg _ ?_) (View.canon_cons_emb (Rect.unit (s := ⟨2, ![n0, n1]⟩) ![o0, o1] ![a0, a1] inb) Z L (ix2 y0 y1))
  funext a
  apply Fin.ext
  match a with
  | ⟨0, _⟩ => show r.val = o0 + 1 * y0.val; omega
  | ⟨1, _⟩ => show k.val = o1 + 1 * y1.val; omega

/-- The contents at an index off the last piece. -/
theorem canon_skip2 {inb : ∀ a, (![o0, o1] : Fin 2 → ℕ) a + (![a0, a1] : Fin 2 → ℕ) a ≤ (![n0, n1] : Fin 2 → ℕ) a}
    (Z : (⟨2, ![a0, a1]⟩ : Shape).Idx → Val e) (L : List (View.Piece Val ⟨2, ![n0, n1]⟩ e)) (r : Fin n0) (k : Fin n1)
    (h : r.val < o0 ∨ o0 + a0 ≤ r.val ∨ k.val < o1 ∨ o1 + a1 ≤ k.val) :
    View.canon (⟨Rect.unit (s := ⟨2, ![n0, n1]⟩) ![o0, o1] ![a0, a1] inb, Z⟩ :: L) (ix2 r k) = View.canon L (ix2 r k) := by
  refine View.canon_cons_of_not_mem _ _ fun hm => ?_
  have hm := (Rect.unit (s := ⟨2, ![n0, n1]⟩) ![o0, o1] ![a0, a1] inb).mem_set.mp hm
  obtain ⟨j0, hj0, e0⟩ := hm 0
  obtain ⟨j1, hj1, e1⟩ := hm 1
  change r.val = o0 + 1 * j0 at e0
  change k.val = o1 + 1 * j1 at e1
  change j0 < a0 at hj0
  change j1 < a1 at hj1
  omega

/-- A load of two axes is its contents at the shifted index. -/
theorem load2 (v : View sig κ sp ⟨2, ![n0, n1]⟩ e) (L : List (View.Piece Val ⟨2, ![n0, n1]⟩ e))
    {inb : ∀ a, (![p0, p1] : Fin 2 → ℕ) a + (![b0, b1] : Fin 2 → ℕ) a ≤ (![n0, n1] : Fin 2 → ℕ) a} (r : Fin b0) (k : Fin b1)
    (x0 : Fin n0) (x1 : Fin n1) (h0 : x0.val = p0 + r.val) (h1 : x1.val = p1 + k.val) :
    v.readCov L (Rect.unit (s := ⟨2, ![n0, n1]⟩) ![p0, p1] ![b0, b1] inb).toLoadRect (ix2 r k) = View.canon L (ix2 x0 x1) := by
  rw [View.readCov_eq_canon']
  refine congrArg (View.canon L) ?_
  funext a
  apply Fin.ext
  match a with
  | ⟨0, _⟩ => show p0 + 1 * r.val = x0.val; omega
  | ⟨1, _⟩ => show p1 + 1 * k.val = x1.val; omega

/-- A window of an argument's contents, at an index. -/
theorem ld2 (X : (⟨2, ![n0, n1]⟩ : Shape).Idx → Val e)
    {inb : ∀ a, (![p0, p1] : Fin 2 → ℕ) a + (![b0, b1] : Fin 2 → ℕ) a ≤ (![n0, n1] : Fin 2 → ℕ) a} (r : Fin b0) (k : Fin b1)
    (x0 : Fin n0) (x1 : Fin n1) (h0 : x0.val = p0 + r.val) (h1 : x1.val = p1 + k.val) :
    View.ld X (Rect.unit (s := ⟨2, ![n0, n1]⟩) ![p0, p1] ![b0, b1] inb) (ix2 r k) = X (ix2 x0 x1) := by
  refine congrArg X ?_
  funext a
  apply Fin.ext
  match a with
  | ⟨0, _⟩ => show p0 + 1 * r.val = x0.val; omega
  | ⟨1, _⟩ => show p1 + 1 * k.val = x1.val; omega

end Two

section Three

variable {n0 n1 n2 a0 a1 a2 b0 b1 b2 o0 o1 o2 p0 p1 p2 : ℕ}

/-- The same of three axes. -/
theorem canon_top3 {inb : ∀ a, (![o0, o1, o2] : Fin 3 → ℕ) a + (![a0, a1, a2] : Fin 3 → ℕ) a ≤ (![n0, n1, n2] : Fin 3 → ℕ) a}
    (Z : (⟨3, ![a0, a1, a2]⟩ : Shape).Idx → Val e) (L : List (View.Piece Val ⟨3, ![n0, n1, n2]⟩ e))
    (g : Fin n0) (r : Fin n1) (k : Fin n2) (y0 : Fin a0) (y1 : Fin a1) (y2 : Fin a2)
    (h0 : g.val = o0 + y0.val) (h1 : r.val = o1 + y1.val) (h2 : k.val = o2 + y2.val) :
    View.canon (⟨Rect.unit (s := ⟨3, ![n0, n1, n2]⟩) ![o0, o1, o2] ![a0, a1, a2] inb, Z⟩ :: L) (ix3 g r k) = Z (ix3 y0 y1 y2) := by
  refine Eq.trans (congrArg _ ?_)
    (View.canon_cons_emb (Rect.unit (s := ⟨3, ![n0, n1, n2]⟩) ![o0, o1, o2] ![a0, a1, a2] inb) Z L (ix3 y0 y1 y2))
  funext a
  apply Fin.ext
  match a with
  | ⟨0, _⟩ => show g.val = o0 + 1 * y0.val; omega
  | ⟨1, _⟩ => show r.val = o1 + 1 * y1.val; omega
  | ⟨2, _⟩ => show k.val = o2 + 1 * y2.val; omega

/-- Off the last piece, where the two differ on the first axis. -/
theorem canon_skip3 {inb : ∀ a, (![o0, o1, o2] : Fin 3 → ℕ) a + (![a0, a1, a2] : Fin 3 → ℕ) a ≤ (![n0, n1, n2] : Fin 3 → ℕ) a}
    (Z : (⟨3, ![a0, a1, a2]⟩ : Shape).Idx → Val e) (L : List (View.Piece Val ⟨3, ![n0, n1, n2]⟩ e))
    (g : Fin n0) (r : Fin n1) (k : Fin n2) (h : g.val < o0 ∨ o0 + a0 ≤ g.val) :
    View.canon (⟨Rect.unit (s := ⟨3, ![n0, n1, n2]⟩) ![o0, o1, o2] ![a0, a1, a2] inb, Z⟩ :: L) (ix3 g r k) = View.canon L (ix3 g r k) := by
  refine View.canon_cons_of_not_mem _ _ fun hm => ?_
  obtain ⟨j0, hj0, e0⟩ := (Rect.unit (s := ⟨3, ![n0, n1, n2]⟩) ![o0, o1, o2] ![a0, a1, a2] inb).mem_set.mp hm 0
  change g.val = o0 + 1 * j0 at e0
  change j0 < a0 at hj0
  omega

theorem load3 (v : View sig κ sp ⟨3, ![n0, n1, n2]⟩ e) (L : List (View.Piece Val ⟨3, ![n0, n1, n2]⟩ e))
    {inb : ∀ a, (![p0, p1, p2] : Fin 3 → ℕ) a + (![b0, b1, b2] : Fin 3 → ℕ) a ≤ (![n0, n1, n2] : Fin 3 → ℕ) a}
    (g : Fin b0) (r : Fin b1) (k : Fin b2) (x0 : Fin n0) (x1 : Fin n1) (x2 : Fin n2)
    (h0 : x0.val = p0 + g.val) (h1 : x1.val = p1 + r.val) (h2 : x2.val = p2 + k.val) :
    v.readCov L (Rect.unit (s := ⟨3, ![n0, n1, n2]⟩) ![p0, p1, p2] ![b0, b1, b2] inb).toLoadRect (ix3 g r k)
      = View.canon L (ix3 x0 x1 x2) := by
  rw [View.readCov_eq_canon']
  refine congrArg (View.canon L) ?_
  funext a
  apply Fin.ext
  match a with
  | ⟨0, _⟩ => show p0 + 1 * g.val = x0.val; omega
  | ⟨1, _⟩ => show p1 + 1 * r.val = x1.val; omega
  | ⟨2, _⟩ => show p2 + 1 * k.val = x2.val; omega

end Three

end Cert.Mix.Read
-- ==== Proof.MixFwdBody.lean ====
/-
  What one token block of the mixer's forward kernel computes: every scratch buffer, every window loaded from one and
  every output, in the terms of the mathematics. A position counts from the block's left halo: it stands for the
  padded sequence's position 256·T + e, whose token is 256·T + e − 32.
-/
module

public import proofs.«01_k».proof.Proof.Gen.MixFwdIdeal.Frame
public import proofs.«01_k».proof.Proof.MixFwdPay
public import proofs.«01_k».proof.Proof.MixRead
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MixFwdIdeal.Body

open Cert.MixFwdIdeal Cert.MixFwdIdeal.Gen Cert.Mix.Spec Cert.Mix.Read Cert.MixFwdIdeal.Pay
open Cert.FfnBwd.Spec (sg)

theorem hz2 : (![0, 0] : Fin 2 → Nat) = fun _ => 0 := funext fun a => by fin_cases a <;> rfl

/-- What the windows of the block T hold. -/
structure Holds (Y : Fin 16384 → Fin 1024 → EReal) (WI : Fin 1024 → Fin 2176 → EReal) (PW : Fin 4 → Fin 64 → Fin 64 → EReal)
    (PS : Fin 256 → EReal) (SW CW : ℕ → Fin 384 → EReal) (CB CG CN : Fin 384 → EReal) (WO : Fin 1024 → Fin 1024 → EReal)
    (LG LB : Fin 1024 → EReal) (T : Fin 64) (i : grid0.Coords)
    (x0 : Vec Ideal S32x1024 .bf16) (x1 : Vec Ideal S256x1024 .bf16) (x2 : Vec Ideal S32x1024 .bf16) (x3 : Vec Ideal S256x1024 .f32) (x4 : Vec Ideal S1024x2176 .bf16) (x5 : Vec Ideal S1024x1024 .bf16) (x6 : Vec Ideal S1x1024 .f32) (x7 : Vec Ideal S1x1024 .f32) (x8 : Vec Ideal S256x256 .bf16) (x9 : Vec Ideal S1x256 .f32) (x10 : Vec Ideal S8x384 .f32) (x11 : Vec Ideal S32x384 .f32) (x12 : Vec Ideal S1x384 .f32) (x13 : Vec Ideal S1x384 .f32) (x14 : Vec Ideal S1x384 .f32) : Prop where
  point : (i 0).val = T.val
  prev (h : 0 < T.val) (r : Fin 32) (k : Fin 1024) : x0 (ix2 r k) = ext (fun t => Y t k) (256 * T.val + r.val)
  main (r : Fin 256) (k : Fin 1024) : x1 (ix2 r k) = Y ⟨256 * T.val + r.val, by omega⟩ k
  next (h : T.val < 63) (r : Fin 32) (k : Fin 1024) : x2 (ix2 r k) = ext (fun t => Y t k) (256 * T.val + (288 + r.val))
  res (r : Fin 256) (k : Fin 1024) : x3 (ix2 r k) = Y ⟨256 * T.val + r.val, by omega⟩ k
  wi (k : Fin 1024) (j : Fin 2176) : x4 (ix2 k j) = WI k j
  wo (k : Fin 1024) (j : Fin 1024) : x5 (ix2 k j) = WO k j
  lg (k : Fin 1024) : x6 (ix2 0 k) = LG k
  lb (k : Fin 1024) : x7 (ix2 0 k) = LB k
  pw (p q : Fin 256) : x8 (ix2 p q) = bd PW p q
  ps (l : Fin 256) : x9 (ix2 0 l) = PS l
  sw (r : Fin 8) (k : Fin 384) : x10 (ix2 r k) = SW r.val k
  cw (r : Fin 32) (k : Fin 384) : x11 (ix2 r k) = CW r.val k
  cb (k : Fin 384) : x12 (ix2 0 k) = CB k
  cg (k : Fin 384) : x13 (ix2 0 k) = CG k
  cn (k : Fin 384) : x14 (ix2 0 k) = CN k

variable {Y : Fin 16384 → Fin 1024 → EReal} {WI : Fin 1024 → Fin 2176 → EReal} {PW : Fin 4 → Fin 64 → Fin 64 → EReal}
  {PS : Fin 256 → EReal} {SW CW : ℕ → Fin 384 → EReal} {CB CG CN : Fin 384 → EReal} {WO : Fin 1024 → Fin 1024 → EReal}
  {LG LB : Fin 1024 → EReal} {T : Fin 64}
  {c : Dev nD} {i : grid0.Coords} {arg1 : Memref sig .tc .vmem S32x1024 .bf16} {harg1 : arg1.IsWhole} {arg2 : Memref sig .tc .vmem S256x1024 .bf16} {harg2 : arg2.IsWhole} {arg3 : Memref sig .tc .vmem S32x1024 .bf16} {harg3 : arg3.IsWhole} {arg4 : Memref sig .tc .vmem S256x1024 .f32} {harg4 : arg4.IsWhole} {arg5 : Memref sig .tc .vmem S1024x2176 .bf16} {harg5 : arg5.IsWhole} {arg6 : Memref sig .tc .vmem S1024x1024 .bf16} {harg6 : arg6.IsWhole} {arg7 : Memref sig .tc .vmem S1x1024 .f32} {harg7 : arg7.IsWhole} {arg8 : Memref sig .tc .vmem S1x1024 .f32} {harg8 : arg8.IsWhole} {arg9 : Memref sig .tc .vmem S256x256 .bf16} {harg9 : arg9.IsWhole} {arg10 : Memref sig .tc .vmem S1x256 .f32} {harg10 : arg10.IsWhole} {arg11 : Memref sig .tc .vmem S8x384 .f32} {harg11 : arg11.IsWhole} {arg12 : Memref sig .tc .vmem S32x384 .f32} {harg12 : arg12.IsWhole} {arg13 : Memref sig .tc .vmem S1x384 .f32} {harg13 : arg13.IsWhole} {arg14 : Memref sig .tc .vmem S1x384 .f32} {harg14 : arg14.IsWhole} {arg15 : Memref sig .tc .vmem S1x384 .f32} {harg15 : arg15.IsWhole} {arg16 : Memref sig .tc .vmem S256x2176 .f32} {harg16 : arg16.IsWhole} {arg17 : Memref sig .tc .vmem S256x1024 .bf16} {harg17 : arg17.IsWhole} {arg18 : Memref sig .tc .vmem S256x384 .f32} {harg18 : arg18.IsWhole} {arg19 : Memref sig .tc .vmem S256x1024 .f32} {harg19 : arg19.IsWhole} {arg20 : Memref sig .tc .vmem S256x1024 .bf16} {harg20 : arg20.IsWhole} {arg21 : Memref sig .tc .vmem S256x1024 .f32} {harg21 : arg21.IsWhole} {arg22 : Memref sig .tc .vmem S320x1024 .bf16} {harg22 : arg22.IsWhole} {arg23 : Memref sig .tc .vmem S320x2176 .f32} {harg23 : arg23.IsWhole} {arg24 : Memref sig .tc .vmem S320x384 .f32} {harg24 : arg24.IsWhole} {arg25 : Memref sig .tc .vmem S320x384 .f32} {harg25 : arg25.IsWhole} {arg26 : Memref sig .tc .vmem S312x384 .f32} {harg26 : arg26.IsWhole} {arg27 : Memref sig .tc .vmem S8x312x384 .f32} {harg27 : arg27.IsWhole} {arg28 : Memref sig .tc .vmem S256x384 .f32} {harg28 : arg28.IsWhole}
  {x0 : Vec Ideal S32x1024 .bf16} {x1 : Vec Ideal S256x1024 .bf16} {x2 : Vec Ideal S32x1024 .bf16} {x3 : Vec Ideal S256x1024 .f32} {x4 : Vec Ideal S1024x2176 .bf16} {x5 : Vec Ideal S1024x1024 .bf16} {x6 : Vec Ideal S1x1024 .f32} {x7 : Vec Ideal S1x1024 .f32} {x8 : Vec Ideal S256x256 .bf16} {x9 : Vec Ideal S1x256 .f32} {x10 : Vec Ideal S8x384 .f32} {x11 : Vec Ideal S32x384 .f32} {x12 : Vec Ideal S1x384 .f32} {x13 : Vec Ideal S1x384 .f32} {x14 : Vec Ideal S1x384 .f32}
  (H : Holds Y WI PW PS SW CW CB CG CN WO LG LB T i x0 x1 x2 x3 x4 x5 x6 x7 x8 x9 x10 x11 x12 x13 x14)

include H

theorem halo_at (e : Fin 320) (d : Fin 1024) : (kernelRun0_A.sl.v23 (F := Ideal) c i arg1 harg1 arg2 harg2 arg3 harg3 arg22 x0 x1 x2) (ix2 e d) = ext (fun t => Y t d) (256 * T.val + e.val) := by
  unfold kernelRun0_A.sl.v23
  refine (load2 _ _ e d e d (by omega) (by omega)).trans ?_
  unfold kernelRun0_A.sl.HS0_3
  simp only [View.readAt_eq_ld, harg1.read_unread, harg2.read_unread, harg3.read_unread, View.ld_unit_zero (S := S256x1024) hz2, View.ld_unit_zero (S := S32x1024) hz2]
  by_cases h2 : 288 ≤ e.val
  · refine (canon_top2 _ _ e d ⟨e.val - 288, by omega⟩ d (by show e.val = 288 + (e.val - 288); omega) (by omega)).trans ?_
    rw [next_apply i T H.point]
    split
    · rw [H.next (by assumption)]
      refine congrArg _ ?_
      show 256 * T.val + (288 + (e.val - 288)) = _
      omega
    · rw [ext_out _ _ (by omega)]
  · refine (canon_skip2 _ _ e d (by omega)).trans ?_
    by_cases h1 : 32 ≤ e.val
    · refine (canon_top2 _ _ e d ⟨e.val - 32, by omega⟩ d (by show e.val = 32 + (e.val - 32); omega) (by omega)).trans ?_
      rw [main_apply, H.main]
      exact (ext_main (fun t => Y t d) _ _ (by show _ = 256 * T.val + (e.val - 32) + 32; omega)).symm
    · refine (canon_skip2 _ _ e d (by omega)).trans ?_
      refine (canon_top2 _ _ e d ⟨e.val, by omega⟩ d (by show e.val = 0 + e.val; omega) (by omega)).trans ?_
      rw [prev_apply i T H.point]
      split
      · rw [H.prev (by assumption)]
      · rw [ext_out _ _ (by omega)]

/-- The projection's buffer. -/
theorem proj_at (e : Fin 320) (j : Fin 2176) :
    View.canon (kernelRun0_A.sl.HS1_1 (F := Ideal) c i arg1 harg1 arg2 harg2 arg3 harg3 arg5 harg5 arg22 x0 x1 x2 x4) (ix2 e j) = ext (fun t => proj Y WI t j) (256 * T.val + e.val) := by
  unfold kernelRun0_A.sl.HS1_1
  simp only [View.readAt_eq_ld, harg5.read_unread, View.ld_unit_zero (S := S1024x2176) hz2]
  refine (canon_top2 _ _ e j e j (by omega) (by omega)).trans ?_
  rw [proj_apply]
  simp only [halo_at H, H.wi]
  unfold ext proj
  split
  · rfl
  · simp

theorem proj_load_256x256 (o p : ℕ) {inb : ∀ a, (![o, p] : Fin 2 → ℕ) a + S256x256.size a ≤ S320x2176.size a} (v : View sig .tc .vmem S320x2176 .f32)
    (r : Fin 256) (k : Fin 256) :
    v.readCov (Val := Elt Ideal) (kernelRun0_A.sl.HS1_1 (F := Ideal) c i arg1 harg1 arg2 harg2 arg3 harg3 arg5 harg5 arg22 x0 x1 x2 x4) (Rect.unit (s := S320x2176) ![o, p] S256x256.size inb).toLoadRect (ix2 r k)
      = ext (fun t => proj Y WI t ⟨p + k.val, by have h1 : p + 256 ≤ 2176 := inb 1; omega⟩) (256 * T.val + (o + r.val)) := by
  have h0 : o + 256 ≤ 320 := inb 0
  have h1 : p + 256 ≤ 2176 := inb 1
  refine (load2 _ _ r k ⟨o + r.val, by omega⟩ ⟨p + k.val, by omega⟩ rfl rfl).trans ?_
  exact proj_at H _ _

theorem proj_load_312x256 (o p : ℕ) {inb : ∀ a, (![o, p] : Fin 2 → ℕ) a + S312x256.size a ≤ S320x2176.size a} (v : View sig .tc .vmem S320x2176 .f32)
    (r : Fin 312) (k : Fin 256) :
    v.readCov (Val := Elt Ideal) (kernelRun0_A.sl.HS1_1 (F := Ideal) c i arg1 harg1 arg2 harg2 arg3 harg3 arg5 harg5 arg22 x0 x1 x2 x4) (Rect.unit (s := S320x2176) ![o, p] S312x256.size inb).toLoadRect (ix2 r k)
      = ext (fun t => proj Y WI t ⟨p + k.val, by have h1 : p + 256 ≤ 2176 := inb 1; omega⟩) (256 * T.val + (o + r.val)) := by
  have h0 : o + 312 ≤ 320 := inb 0
  have h1 : p + 256 ≤ 2176 := inb 1
  refine (load2 _ _ r k ⟨o + r.val, by omega⟩ ⟨p + k.val, by omega⟩ rfl rfl).trans ?_
  exact proj_at H _ _

theorem proj_load_256x384 (o p : ℕ) {inb : ∀ a, (![o, p] : Fin 2 → ℕ) a + S256x384.size a ≤ S320x2176.size a} (v : View sig .tc .vmem S320x2176 .f32)
    (r : Fin 256) (k : Fin 384) :
    v.readCov (Val := Elt Ideal) (kernelRun0_A.sl.HS1_1 (F := Ideal) c i arg1 harg1 arg2 harg2 arg3 harg3 arg5 harg5 arg22 x0 x1 x2 x4) (Rect.unit (s := S320x2176) ![o, p] S256x384.size inb).toLoadRect (ix2 r k)
      = ext (fun t => proj Y WI t ⟨p + k.val, by have h1 : p + 384 ≤ 2176 := inb 1; omega⟩) (256 * T.val + (o + r.val)) := by
  have h0 : o + 256 ≤ 320 := inb 0
  have h1 : p + 384 ≤ 2176 := inb 1
  refine (load2 _ _ r k ⟨o + r.val, by omega⟩ ⟨p + k.val, by omega⟩ rfl rfl).trans ?_
  exact proj_at H _ _

theorem proj_load_320x384 (o p : ℕ) {inb : ∀ a, (![o, p] : Fin 2 → ℕ) a + S320x384.size a ≤ S320x2176.size a} (v : View sig .tc .vmem S320x2176 .f32)
    (r : Fin 320) (k : Fin 384) :
    v.readCov (Val := Elt Ideal) (kernelRun0_A.sl.HS1_1 (F := Ideal) c i arg1 harg1 arg2 harg2 arg3 harg3 arg5 harg5 arg22 x0 x1 x2 x4) (Rect.unit (s := S320x2176) ![o, p] S320x384.size inb).toLoadRect (ix2 r k)
      = ext (fun t => proj Y WI t ⟨p + k.val, by have h1 : p + 384 ≤ 2176 := inb 1; omega⟩) (256 * T.val + (o + r.val)) := by
  have h0 : o + 320 ≤ 320 := inb 0
  have h1 : p + 384 ≤ 2176 := inb 1
  refine (load2 _ _ r k ⟨o + r.val, by omega⟩ ⟨p + k.val, by omega⟩ rfl rfl).trans ?_
  exact proj_at H _ _

theorem proj_load_256x2176 (o p : ℕ) {inb : ∀ a, (![o, p] : Fin 2 → ℕ) a + S256x2176.size a ≤ S320x2176.size a} (v : View sig .tc .vmem S320x2176 .f32)
    (r : Fin 256) (k : Fin 2176) :
    v.readCov (Val := Elt Ideal) (kernelRun0_A.sl.HS1_1 (F := Ideal) c i arg1 harg1 arg2 harg2 arg3 harg3 arg5 harg5 arg22 x0 x1 x2 x4) (Rect.unit (s := S320x2176) ![o, p] S256x2176.size inb).toLoadRect (ix2 r k)
      = ext (fun t => proj Y WI t ⟨p + k.val, by have h1 : p + 2176 ≤ 2176 := inb 1; omega⟩) (256 * T.val + (o + r.val)) := by
  have h0 : o + 256 ≤ 320 := inb 0
  have h1 : p + 2176 ≤ 2176 := inb 1
  refine (load2 _ _ r k ⟨o + r.val, by omega⟩ ⟨p + k.val, by omega⟩ rfl rfl).trans ?_
  exact proj_at H _ _

theorem tmp_load_1 (o : ℕ) {inb : ∀ a, (![o, 0] : Fin 2 → ℕ) a + S256x256.size a ≤ S312x384.size a} (v : View sig .tc .vmem S312x384 .f32)
    (r l : Fin 256) :
    v.readCov (Val := Elt Ideal) (kernelRun0_A.sl.HS4_1 (F := Ideal) c i arg1 harg1 arg2 harg2 arg3 harg3 arg5 harg5 arg22 arg23 x0 x1 x2 x4) (Rect.unit (s := S312x384) ![o, 0] S256x256.size inb).toLoadRect (ix2 r l)
      = ext (fun t => proj Y WI t (colP l)) (256 * T.val + (1 + (o + r.val))) := by
  have h0 : o + 256 ≤ 312 := inb 0
  refine (load2 _ _ r l ⟨o + r.val, by omega⟩ ⟨l.val, by omega⟩ rfl (by show l.val = 0 + l.val; omega)).trans ?_
  unfold kernelRun0_A.sl.HS4_1
  refine (canon_top2 _ _ _ _ ⟨o + r.val, by omega⟩ l (by show _ = 0 + _; omega) (by show l.val = 0 + l.val; omega)).trans ?_
  unfold k0_pay10 kernelRun0_A.sl.v87
  pointwise
  rw [proj_load_312x256 H]
  simp only [Nat.zero_add]
  rfl

theorem tmp_load_2 (o : ℕ) {inb : ∀ a, (![o, 0] : Fin 2 → ℕ) a + S256x256.size a ≤ S312x384.size a} (v : View sig .tc .vmem S312x384 .f32)
    (r l : Fin 256) :
    v.readCov (Val := Elt Ideal) (kernelRun0_A.sl.HS4_2 (F := Ideal) c i arg1 harg1 arg2 harg2 arg3 harg3 arg5 harg5 arg22 arg23 x0 x1 x2 x4) (Rect.unit (s := S312x384) ![o, 0] S256x256.size inb).toLoadRect (ix2 r l)
      = ext (fun t => proj Y WI t (colP l)) (256 * T.val + (2 + (o + r.val))) := by
  have h0 : o + 256 ≤ 312 := inb 0
  refine (load2 _ _ r l ⟨o + r.val, by omega⟩ ⟨l.val, by omega⟩ rfl (by show l.val = 0 + l.val; omega)).trans ?_
  unfold kernelRun0_A.sl.HS4_2
  refine (canon_top2 _ _ _ _ ⟨o + r.val, by omega⟩ l (by show _ = 0 + _; omega) (by show l.val = 0 + l.val; omega)).trans ?_
  unfold k0_pay13 kernelRun0_A.sl.v117
  pointwise
  rw [proj_load_312x256 H]
  simp only [Nat.zero_add]
  rfl

theorem tmp_load_3 (o : ℕ) {inb : ∀ a, (![o, 0] : Fin 2 → ℕ) a + S256x256.size a ≤ S312x384.size a} (v : View sig .tc .vmem S312x384 .f32)
    (r l : Fin 256) :
    v.readCov (Val := Elt Ideal) (kernelRun0_A.sl.HS4_3 (F := Ideal) c i arg1 harg1 arg2 harg2 arg3 harg3 arg5 harg5 arg22 arg23 x0 x1 x2 x4) (Rect.unit (s := S312x384) ![o, 0] S256x256.size inb).toLoadRect (ix2 r l)
      = ext (fun t => proj Y WI t (colP l)) (256 * T.val + (3 + (o + r.val))) := by
  have h0 : o + 256 ≤ 312 := inb 0
  refine (load2 _ _ r l ⟨o + r.val, by omega⟩ ⟨l.val, by omega⟩ rfl (by show l.val = 0 + l.val; omega)).trans ?_
  unfold kernelRun0_A.sl.HS4_3
  refine (canon_top2 _ _ _ _ ⟨o + r.val, by omega⟩ l (by show _ = 0 + _; omega) (by show l.val = 0 + l.val; omega)).trans ?_
  unfold k0_pay15 kernelRun0_A.sl.v147
  pointwise
  rw [proj_load_312x256 H]
  simp only [Nat.zero_add]
  rfl

theorem tmp_load_4 (o : ℕ) {inb : ∀ a, (![o, 0] : Fin 2 → ℕ) a + S256x256.size a ≤ S312x384.size a} (v : View sig .tc .vmem S312x384 .f32)
    (r l : Fin 256) :
    v.readCov (Val := Elt Ideal) (kernelRun0_A.sl.HS4_4 (F := Ideal) c i arg1 harg1 arg2 harg2 arg3 harg3 arg5 harg5 arg22 arg23 x0 x1 x2 x4) (Rect.unit (s := S312x384) ![o, 0] S256x256.size inb).toLoadRect (ix2 r l)
      = ext (fun t => proj Y WI t (colP l)) (256 * T.val + (4 + (o + r.val))) := by
  have h0 : o + 256 ≤ 312 := inb 0
  refine (load2 _ _ r l ⟨o + r.val, by omega⟩ ⟨l.val, by omega⟩ rfl (by show l.val = 0 + l.val; omega)).trans ?_
  unfold kernelRun0_A.sl.HS4_4
  refine (canon_top2 _ _ _ _ ⟨o + r.val, by omega⟩ l (by show _ = 0 + _; omega) (by show l.val = 0 + l.val; omega)).trans ?_
  unfold k0_pay17 kernelRun0_A.sl.v177
  pointwise
  rw [proj_load_312x256 H]
  simp only [Nat.zero_add]
  rfl

theorem tmp_load_5 (o : ℕ) {inb : ∀ a, (![o, 0] : Fin 2 → ℕ) a + S256x256.size a ≤ S312x384.size a} (v : View sig .tc .vmem S312x384 .f32)
    (r l : Fin 256) :
    v.readCov (Val := Elt Ideal) (kernelRun0_A.sl.HS4_5 (F := Ideal) c i arg1 harg1 arg2 harg2 arg3 harg3 arg5 harg5 arg22 arg23 x0 x1 x2 x4) (Rect.unit (s := S312x384) ![o, 0] S256x256.size inb).toLoadRect (ix2 r l)
      = ext (fun t => proj Y WI t (colP l)) (256 * T.val + (5 + (o + r.val))) := by
  have h0 : o + 256 ≤ 312 := inb 0
  refine (load2 _ _ r l ⟨o + r.val, by omega⟩ ⟨l.val, by omega⟩ rfl (by show l.val = 0 + l.val; omega)).trans ?_
  unfold kernelRun0_A.sl.HS4_5
  refine (canon_top2 _ _ _ _ ⟨o + r.val, by omega⟩ l (by show _ = 0 + _; omega) (by show l.val = 0 + l.val; omega)).trans ?_
  unfold k0_pay19 kernelRun0_A.sl.v207
  pointwise
  rw [proj_load_312x256 H]
  simp only [Nat.zero_add]
  rfl

theorem tmp_load_6 (o : ℕ) {inb : ∀ a, (![o, 0] : Fin 2 → ℕ) a + S256x256.size a ≤ S312x384.size a} (v : View sig .tc .vmem S312x384 .f32)
    (r l : Fin 256) :
    v.readCov (Val := Elt Ideal) (kernelRun0_A.sl.HS4_6 (F := Ideal) c i arg1 harg1 arg2 harg2 arg3 harg3 arg5 harg5 arg22 arg23 x0 x1 x2 x4) (Rect.unit (s := S312x384) ![o, 0] S256x256.size inb).toLoadRect (ix2 r l)
      = ext (fun t => proj Y WI t (colP l)) (256 * T.val + (6 + (o + r.val))) := by
  have h0 : o + 256 ≤ 312 := inb 0
  refine (load2 _ _ r l ⟨o + r.val, by omega⟩ ⟨l.val, by omega⟩ rfl (by show l.val = 0 + l.val; omega)).trans ?_
  unfold kernelRun0_A.sl.HS4_6
  refine (canon_top2 _ _ _ _ ⟨o + r.val, by omega⟩ l (by show _ = 0 + _; omega) (by show l.val = 0 + l.val; omega)).trans ?_
  unfold k0_pay22 kernelRun0_A.sl.v237
  pointwise
  rw [proj_load_312x256 H]
  simp only [Nat.zero_add]
  rfl

theorem tmp_load_7 (o : ℕ) {inb : ∀ a, (![o, 0] : Fin 2 → ℕ) a + S256x256.size a ≤ S312x384.size a} (v : View sig .tc .vmem S312x384 .f32)
    (r l : Fin 256) :
    v.readCov (Val := Elt Ideal) (kernelRun0_A.sl.HS4_7 (F := Ideal) c i arg1 harg1 arg2 harg2 arg3 harg3 arg5 harg5 arg22 arg23 x0 x1 x2 x4) (Rect.unit (s := S312x384) ![o, 0] S256x256.size inb).toLoadRect (ix2 r l)
      = ext (fun t => proj Y WI t (colP l)) (256 * T.val + (7 + (o + r.val))) := by
  have h0 : o + 256 ≤ 312 := inb 0
  refine (load2 _ _ r l ⟨o + r.val, by omega⟩ ⟨l.val, by omega⟩ rfl (by show l.val = 0 + l.val; omega)).trans ?_
  unfold kernelRun0_A.sl.HS4_7
  refine (canon_top2 _ _ _ _ ⟨o + r.val, by omega⟩ l (by show _ = 0 + _; omega) (by show l.val = 0 + l.val; omega)).trans ?_
  unfold k0_pay24 kernelRun0_A.sl.v267
  pointwise
  rw [proj_load_312x256 H]
  simp only [Nat.zero_add]
  rfl

/-- The masked sum over the sixteen offsets is the sum over the channel's window. -/
theorem total_at (r l : Fin 256) : (kernelRun0_A.sl.r_5 (F := Ideal) c i arg1 harg1 arg2 harg2 arg3 harg3 arg5 harg5 arg22 arg23 arg26 x0 x1 x2 x4) (ix2 r l)
    = ∑ k ∈ Finset.range (2 * half l), ext (fun t => proj Y WI t (colP l)) (256 * T.val + r.val + 32 - half l + k) := by
  unfold kernelRun0_A.sl.r_5 kernelRun0_A.sl.r_4 kernelRun0_A.sl.r_3 kernelRun0_A.sl.r_2 kernelRun0_A.sl.r_1 kernelRun0_A.sl.r
  unfold k0_pay8 k0_pay9 k0_pay11 k0_pay12 k0_pay14 k0_pay16 k0_pay18 k0_pay20 k0_pay21 k0_pay23 k0_pay25
  unfold kernelRun0_A.sl.v61 kernelRun0_A.sl.v74 kernelRun0_A.sl.v91 kernelRun0_A.sl.v104 kernelRun0_A.sl.v121 kernelRun0_A.sl.v134 kernelRun0_A.sl.v151 kernelRun0_A.sl.v164 kernelRun0_A.sl.v181 kernelRun0_A.sl.v194 kernelRun0_A.sl.v211 kernelRun0_A.sl.v224 kernelRun0_A.sl.v241 kernelRun0_A.sl.v254 kernelRun0_A.sl.v271 kernelRun0_A.sl.v284
  pointwise
  simp only [proj_load_256x256 H, tmp_load_1 H, tmp_load_2 H, tmp_load_3 H, tmp_load_4 H, tmp_load_5 H, tmp_load_6 H, tmp_load_7 H, half_apply l]
  rw [Finset.sum_congr rfl fun k _ => congrArg (ext fun t => proj Y WI t (colP l))
    (show 256 * T.val + r.val + 32 - half l + k = 256 * T.val + ((32 - half l + k) + r.val) by
      have := half_cases l
      omega)]
  rcases half_cases l with h | h | h | h
  all_goals
    rw [h]
    generalize hf : (fun t => proj Y WI t (colP l)) = f
    have hf0 : ∀ p, (fun t => proj Y WI t ⟨l.val, p⟩) = f := fun p => hf
    have e (a b : ℕ) : ext f (256 * T.val + (a + (b + r.val))) = ext f (256 * T.val + ((a + b) + r.val)) := by rw [Nat.add_assoc a b]
    simp (decide := true) only [hf0, e, mask_eq, Finset.sum_range_succ, Finset.sum_range_zero, if_true, if_false, one_mul, zero_mul,
      add_zero, zero_add, Nat.reduceAdd, Nat.reduceSub, Nat.reduceMul]
    try ac_rfl

/-- The short convolution's gated input. -/
theorem q_at (e : Fin 320) (k : Fin 384) :
    View.canon (kernelRun0_A.sl.HS2_1 (F := Ideal) c i arg1 harg1 arg2 harg2 arg3 harg3 arg5 harg5 arg22 arg23 x0 x1 x2 x4) (ix2 e k) = ext (fun t => q (proj Y WI) t k) (256 * T.val + e.val) := by
  unfold kernelRun0_A.sl.HS2_1
  refine (canon_top2 _ _ e k e k (by omega) (by omega)).trans ?_
  rw [q_apply]
  unfold kernelRun0_A.sl.v356 kernelRun0_A.sl.v357
  rw [proj_load_320x384 H, proj_load_320x384 H, ext_map₂ _ _ (fun a b => a * b) (zero_mul _)]
  simp only [Nat.zero_add]
  rfl

/-- The convolution module's gated input. -/
theorem a0_at (e : Fin 320) (k : Fin 384) :
    View.canon (kernelRun0_A.sl.HS3_1 (F := Ideal) c i arg1 harg1 arg2 harg2 arg3 harg3 arg5 harg5 arg22 arg23 x0 x1 x2 x4) (ix2 e k) = ext (fun t => a0 (proj Y WI) t k) (256 * T.val + e.val) := by
  unfold kernelRun0_A.sl.HS3_1 kernelRun0_A.sl.r_6
  refine (canon_top2 _ _ e k e k (by omega) (by omega)).trans ?_
  rw [gated_apply]
  unfold kernelRun0_A.sl.v385 kernelRun0_A.sl.v386
  rw [proj_load_320x384 H, proj_load_320x384 H, ext_map₂ _ _ (fun a b => a * sg b) (zero_mul _)]
  simp only [Nat.zero_add]
  rfl

theorem q_load (o : ℕ) {inb : ∀ a, (![o, 0] : Fin 2 → ℕ) a + S256x384.size a ≤ S320x384.size a} (v : View sig .tc .vmem S320x384 .f32)
    (r : Fin 256) (k : Fin 384) :
    v.readCov (Val := Elt Ideal) (kernelRun0_A.sl.HS2_1 (F := Ideal) c i arg1 harg1 arg2 harg2 arg3 harg3 arg5 harg5 arg22 arg23 x0 x1 x2 x4) (Rect.unit (s := S320x384) ![o, 0] S256x384.size inb).toLoadRect (ix2 r k)
      = ext (fun t => q (proj Y WI) t k) (256 * T.val + (o + r.val)) := by
  have h0 : o + 256 ≤ 320 := inb 0
  refine (load2 _ _ r k ⟨o + r.val, by omega⟩ k rfl (by omega)).trans ?_
  exact q_at H _ _

theorem a0_load (o : ℕ) {inb : ∀ a, (![o, 0] : Fin 2 → ℕ) a + S312x384.size a ≤ S320x384.size a} (v : View sig .tc .vmem S320x384 .f32)
    (r : Fin 312) (k : Fin 384) :
    v.readCov (Val := Elt Ideal) (kernelRun0_A.sl.HS3_1 (F := Ideal) c i arg1 harg1 arg2 harg2 arg3 harg3 arg5 harg5 arg22 arg23 x0 x1 x2 x4) (Rect.unit (s := S320x384) ![o, 0] S312x384.size inb).toLoadRect (ix2 r k)
      = ext (fun t => a0 (proj Y WI) t k) (256 * T.val + (o + r.val)) := by
  have h0 : o + 312 ≤ 320 := inb 0
  refine (load2 _ _ r k ⟨o + r.val, by omega⟩ k rfl (by omega)).trans ?_
  exact a0_at H _ _

/-- The eight copies of the gated input, the g-th starting g rows further down. -/
theorem copies_at (g : Fin 8) (e : Fin 312) (k : Fin 384) :
    View.canon (kernelRun0_A.sl.HS5_8 (F := Ideal) c i arg1 harg1 arg2 harg2 arg3 harg3 arg5 harg5 arg22 arg23 arg25 x0 x1 x2 x4) (ix3 g e k) = ext (fun t => a0 (proj Y WI) t k) (256 * T.val + (g.val + e.val)) := by
  unfold kernelRun0_A.sl.HS5_8
  by_cases h7 : 7 ≤ g.val
  · have hg : g.val = 7 := by omega
    refine (canon_top3 _ _ g e k 0 e k (by show g.val = 7 + 0; omega) (by omega) (by omega)).trans ?_
    unfold k0_pay40 kernelRun0_A.sl.v426
    pointwise
    rw [a0_load H, hg]
  refine (canon_skip3 _ _ g e k (by omega)).trans ?_
  by_cases h6 : 6 ≤ g.val
  · have hg : g.val = 6 := by omega
    refine (canon_top3 _ _ g e k 0 e k (by show g.val = 6 + 0; omega) (by omega) (by omega)).trans ?_
    unfold k0_pay39 kernelRun0_A.sl.v422
    pointwise
    rw [a0_load H, hg]
  refine (canon_skip3 _ _ g e k (by omega)).trans ?_
  by_cases h5 : 5 ≤ g.val
  · have hg : g.val = 5 := by omega
    refine (canon_top3 _ _ g e k 0 e k (by show g.val = 5 + 0; omega) (by omega) (by omega)).trans ?_
    unfold k0_pay38 kernelRun0_A.sl.v418
    pointwise
    rw [a0_load H, hg]
  refine (canon_skip3 _ _ g e k (by omega)).trans ?_
  by_cases h4 : 4 ≤ g.val
  · have hg : g.val = 4 := by omega
    refine (canon_top3 _ _ g e k 0 e k (by show g.val = 4 + 0; omega) (by omega) (by omega)).trans ?_
    unfold k0_pay37 kernelRun0_A.sl.v414
    pointwise
    rw [a0_load H, hg]
  refine (canon_skip3 _ _ g e k (by omega)).trans ?_
  by_cases h3 : 3 ≤ g.val
  · have hg : g.val = 3 := by omega
    refine (canon_top3 _ _ g e k 0 e k (by show g.val = 3 + 0; omega) (by omega) (by omega)).trans ?_
    unfold k0_pay36 kernelRun0_A.sl.v410
    pointwise
    rw [a0_load H, hg]
  refine (canon_skip3 _ _ g e k (by omega)).trans ?_
  by_cases h2 : 2 ≤ g.val
  · have hg : g.val = 2 := by omega
    refine (canon_top3 _ _ g e k 0 e k (by show g.val = 2 + 0; omega) (by omega) (by omega)).trans ?_
    unfold k0_pay35 kernelRun0_A.sl.v406
    pointwise
    rw [a0_load H, hg]
  refine (canon_skip3 _ _ g e k (by omega)).trans ?_
  by_cases h1 : 1 ≤ g.val
  · have hg : g.val = 1 := by omega
    refine (canon_top3 _ _ g e k 0 e k (by show g.val = 1 + 0; omega) (by omega) (by omega)).trans ?_
    unfold k0_pay34 kernelRun0_A.sl.v402
    pointwise
    rw [a0_load H, hg]
  refine (canon_skip3 _ _ g e k (by omega)).trans ?_
  have hg : g.val = 0 := by omega
  refine (canon_top3 _ _ g e k 0 e k (by show g.val = 0 + 0; omega) (by omega) (by omega)).trans ?_
  unfold k0_pay33 kernelRun0_A.sl.v398
  pointwise
  rw [a0_load H, hg]

theorem copies_load (g s : ℕ) {inb : ∀ a, (![g, s, 0] : Fin 3 → ℕ) a + S1x64x384.size a ≤ S8x312x384.size a}
    (v : View sig .tc .vmem S8x312x384 .f32) (r : Fin 64) (k : Fin 384) :
    v.readCov (Val := Elt Ideal) (kernelRun0_A.sl.HS5_8 (F := Ideal) c i arg1 harg1 arg2 harg2 arg3 harg3 arg5 harg5 arg22 arg23 arg25 x0 x1 x2 x4) (Rect.unit (s := S8x312x384) ![g, s, 0] S1x64x384.size inb).toLoadRect (ix3 0 r k)
      = ext (fun t => a0 (proj Y WI) t k) (256 * T.val + (g + (s + r.val))) := by
  have h0 : g + 1 ≤ 8 := inb 0
  have h1 : s + 64 ≤ 312 := inb 1
  refine (load3 _ _ 0 r k ⟨g, by omega⟩ ⟨s + r.val, by omega⟩ k rfl rfl (by omega)).trans ?_
  exact copies_at H _ _ _

theorem short_tap_load (o : ℕ) {inb : ∀ a, (![o, 0] : Fin 2 → ℕ) a + S1x384.size a ≤ S8x384.size a} (k : Fin 384) :
    View.ld x10 (Rect.unit (s := S8x384) ![o, 0] S1x384.size inb) (ix2 0 k) = SW o k := by
  have h0 : o + 1 ≤ 8 := inb 0
  refine (ld2 _ 0 k ⟨o, by omega⟩ k rfl (by omega)).trans ?_
  exact H.sw _ _

/-- Rows 0 to 63 of the convolution. -/
theorem conv_at_0 (r : Fin 64) (k : Fin 384) :
    View.canon (kernelRun0_A.sl.HS6_4 (F := Ideal) c i arg1 harg1 arg2 harg2 arg3 harg3 arg5 harg5 arg12 harg12 arg13 harg13 arg22 arg23 arg25 arg27 x0 x1 x2 x4 x11 x12) (ix2 (⟨r.val + 0, by omega⟩ : Fin 256) k)
      = (∑ j ∈ Finset.range 31, CW j k * ext (fun t => a0 (proj Y WI) t k) (256 * T.val + (r.val + 0) + 17 + j)) + CB k := by
  rw [Finset.sum_congr rfl fun j _ => congrArg (fun p => CW j k * ext (fun t => a0 (proj Y WI) t k) p)
    (show 256 * T.val + (r.val + 0) + 17 + j = 256 * T.val + ((0 + 17 + j) + r.val) by omega), add_comm _ (CB k)]
  unfold kernelRun0_A.sl.HS6_4
  refine (canon_skip2 _ _ _ k (by show r.val + 0 < 192 ∨ _; omega)).trans ?_
  refine (canon_skip2 _ _ _ k (by show r.val + 0 < 128 ∨ _; omega)).trans ?_
  refine (canon_skip2 _ _ _ k (by show r.val + 0 < 64 ∨ _; omega)).trans ?_
  refine (canon_top2 _ _ _ k r k (by show r.val + 0 = 0 + r.val; omega) (by omega)).trans ?_
  unfold kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7
  simp only [View.readAt_eq_ld, harg12.read_unread, harg13.read_unread, View.ld_unit_zero (S := S1x384) hz2, View.ld_unit_zero (S := S32x384) hz2]
  unfold k0_pay41 k0_pay42 k0_pay43 k0_pay44 k0_pay45 k0_pay46 k0_pay47 k0_pay48 k0_pay49 k0_pay50 k0_pay51 k0_pay52 k0_pay53
  unfold kernelRun0_A.sl.v437 kernelRun0_A.sl.v444 kernelRun0_A.sl.v451 kernelRun0_A.sl.v458 kernelRun0_A.sl.v465 kernelRun0_A.sl.v472 kernelRun0_A.sl.v479 kernelRun0_A.sl.v486 kernelRun0_A.sl.v493 kernelRun0_A.sl.v500 kernelRun0_A.sl.v507 kernelRun0_A.sl.v514 kernelRun0_A.sl.v521 kernelRun0_A.sl.v528 kernelRun0_A.sl.v535 kernelRun0_A.sl.v542 kernelRun0_A.sl.v549 kernelRun0_A.sl.v556 kernelRun0_A.sl.v563 kernelRun0_A.sl.v570 kernelRun0_A.sl.v577 kernelRun0_A.sl.v584 kernelRun0_A.sl.v591 kernelRun0_A.sl.v598 kernelRun0_A.sl.v605 kernelRun0_A.sl.v612 kernelRun0_A.sl.v619 kernelRun0_A.sl.v626 kernelRun0_A.sl.v633 kernelRun0_A.sl.v640 kernelRun0_A.sl.v647
  pointwise
  simp only [copies_load H, H.cw, H.cb]
  generalize (fun t => a0 (proj Y WI) t k) = f
  have e (a b : ℕ) : ext f (256 * T.val + (a + (b + r.val))) = ext f (256 * T.val + ((a + b) + r.val)) := by rw [Nat.add_assoc a b]
  simp only [e, Finset.sum_range_succ, Finset.sum_range_zero, Nat.reduceAdd, zero_add, ← add_assoc]
  try rfl

/-- Rows 64 to 127 of the convolution. -/
theorem conv_at_1 (r : Fin 64) (k : Fin 384) :
    View.canon (kernelRun0_A.sl.HS6_4 (F := Ideal) c i arg1 harg1 arg2 harg2 arg3 harg3 arg5 harg5 arg12 harg12 arg13 harg13 arg22 arg23 arg25 arg27 x0 x1 x2 x4 x11 x12) (ix2 (⟨r.val + 64, by omega⟩ : Fin 256) k)
      = (∑ j ∈ Finset.range 31, CW j k * ext (fun t => a0 (proj Y WI) t k) (256 * T.val + (r.val + 64) + 17 + j)) + CB k := by
  rw [Finset.sum_congr rfl fun j _ => congrArg (fun p => CW j k * ext (fun t => a0 (proj Y WI) t k) p)
    (show 256 * T.val + (r.val + 64) + 17 + j = 256 * T.val + ((64 + 17 + j) + r.val) by omega), add_comm _ (CB k)]
  unfold kernelRun0_A.sl.HS6_4
  refine (canon_skip2 _ _ _ k (by show r.val + 64 < 192 ∨ _; omega)).trans ?_
  refine (canon_skip2 _ _ _ k (by show r.val + 64 < 128 ∨ _; omega)).trans ?_
  refine (canon_top2 _ _ _ k r k (by show r.val + 64 = 64 + r.val; omega) (by omega)).trans ?_
  unfold kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19
  simp only [View.readAt_eq_ld, harg12.read_unread, harg13.read_unread, View.ld_unit_zero (S := S1x384) hz2, View.ld_unit_zero (S := S32x384) hz2]
  unfold k0_pay54 k0_pay55 k0_pay56 k0_pay57 k0_pay58 k0_pay59 k0_pay60 k0_pay61 k0_pay62 k0_pay63 k0_pay64 k0_pay65 k0_pay66
  unfold kernelRun0_A.sl.v662 kernelRun0_A.sl.v669 kernelRun0_A.sl.v676 kernelRun0_A.sl.v683 kernelRun0_A.sl.v690 kernelRun0_A.sl.v697 kernelRun0_A.sl.v704 kernelRun0_A.sl.v711 kernelRun0_A.sl.v718 kernelRun0_A.sl.v725 kernelRun0_A.sl.v732 kernelRun0_A.sl.v739 kernelRun0_A.sl.v746 kernelRun0_A.sl.v753 kernelRun0_A.sl.v760 kernelRun0_A.sl.v767 kernelRun0_A.sl.v774 kernelRun0_A.sl.v781 kernelRun0_A.sl.v788 kernelRun0_A.sl.v795 kernelRun0_A.sl.v802 kernelRun0_A.sl.v809 kernelRun0_A.sl.v816 kernelRun0_A.sl.v823 kernelRun0_A.sl.v830 kernelRun0_A.sl.v837 kernelRun0_A.sl.v844 kernelRun0_A.sl.v851 kernelRun0_A.sl.v858 kernelRun0_A.sl.v865 kernelRun0_A.sl.v872 kernelRun0_A.sl.cst_336
  pointwise
  simp only [copies_load H, H.cw, H.cb]
  generalize (fun t => a0 (proj Y WI) t k) = f
  have e (a b : ℕ) : ext f (256 * T.val + (a + (b + r.val))) = ext f (256 * T.val + ((a + b) + r.val)) := by rw [Nat.add_assoc a b]
  simp only [e, Finset.sum_range_succ, Finset.sum_range_zero, Nat.reduceAdd, zero_add, ← add_assoc]
  try rfl

/-- Rows 128 to 191 of the convolution. -/
theorem conv_at_2 (r : Fin 64) (k : Fin 384) :
    View.canon (kernelRun0_A.sl.HS6_4 (F := Ideal) c i arg1 harg1 arg2 harg2 arg3 harg3 arg5 harg5 arg12 harg12 arg13 harg13 arg22 arg23 arg25 arg27 x0 x1 x2 x4 x11 x12) (ix2 (⟨r.val + 128, by omega⟩ : Fin 256) k)
      = (∑ j ∈ Finset.range 31, CW j k * ext (fun t => a0 (proj Y WI) t k) (256 * T.val + (r.val + 128) + 17 + j)) + CB k := by
  rw [Finset.sum_congr rfl fun j _ => congrArg (fun p => CW j k * ext (fun t => a0 (proj Y WI) t k) p)
    (show 256 * T.val + (r.val + 128) + 17 + j = 256 * T.val + ((128 + 17 + j) + r.val) by omega), add_comm _ (CB k)]
  unfold kernelRun0_A.sl.HS6_4
  refine (canon_skip2 _ _ _ k (by show r.val + 128 < 192 ∨ _; omega)).trans ?_
  refine (canon_top2 _ _ _ k r k (by show r.val + 128 = 128 + r.val; omega) (by omega)).trans ?_
  unfold kernelRun0_A.sl.r_42 kernelRun0_A.sl.r_41 kernelRun0_A.sl.r_40 kernelRun0_A.sl.r_39 kernelRun0_A.sl.r_38 kernelRun0_A.sl.r_37 kernelRun0_A.sl.r_36 kernelRun0_A.sl.r_35 kernelRun0_A.sl.r_34 kernelRun0_A.sl.r_33 kernelRun0_A.sl.r_32 kernelRun0_A.sl.r_31
  simp only [View.readAt_eq_ld, harg12.read_unread, harg13.read_unread, View.ld_unit_zero (S := S1x384) hz2, View.ld_unit_zero (S := S32x384) hz2]
  unfold k0_pay67 k0_pay68 k0_pay69 k0_pay70 k0_pay71 k0_pay72 k0_pay73
  unfold kernelRun0_A.sl.v887 kernelRun0_A.sl.v894 kernelRun0_A.sl.v901 kernelRun0_A.sl.v908 kernelRun0_A.sl.v915 kernelRun0_A.sl.v922 kernelRun0_A.sl.v929 kernelRun0_A.sl.v936 kernelRun0_A.sl.v943 kernelRun0_A.sl.v950 kernelRun0_A.sl.v957 kernelRun0_A.sl.v964 kernelRun0_A.sl.v971 kernelRun0_A.sl.v978 kernelRun0_A.sl.v985 kernelRun0_A.sl.v992 kernelRun0_A.sl.v999 kernelRun0_A.sl.v1006 kernelRun0_A.sl.v1013 kernelRun0_A.sl.v1020 kernelRun0_A.sl.v1027 kernelRun0_A.sl.v1034 kernelRun0_A.sl.v1041 kernelRun0_A.sl.v1048 kernelRun0_A.sl.v1055 kernelRun0_A.sl.v1062 kernelRun0_A.sl.v1069 kernelRun0_A.sl.v1076 kernelRun0_A.sl.v1083 kernelRun0_A.sl.v1090 kernelRun0_A.sl.v1097
  pointwise
  simp only [copies_load H, H.cw, H.cb]
  generalize (fun t => a0 (proj Y WI) t k) = f
  have e (a b : ℕ) : ext f (256 * T.val + (a + (b + r.val))) = ext f (256 * T.val + ((a + b) + r.val)) := by rw [Nat.add_assoc a b]
  simp only [e, Finset.sum_range_succ, Finset.sum_range_zero, Nat.reduceAdd, zero_add, ← add_assoc]
  try rfl

/-- Rows 192 to 255 of the convolution. -/
theorem conv_at_3 (r : Fin 64) (k : Fin 384) :
    View.canon (kernelRun0_A.sl.HS6_4 (F := Ideal) c i arg1 harg1 arg2 harg2 arg3 harg3 arg5 harg5 arg12 harg12 arg13 harg13 arg22 arg23 arg25 arg27 x0 x1 x2 x4 x11 x12) (ix2 (⟨r.val + 192, by omega⟩ : Fin 256) k)
      = (∑ j ∈ Finset.range 31, CW j k * ext (fun t => a0 (proj Y WI) t k) (256 * T.val + (r.val + 192) + 17 + j)) + CB k := by
  rw [Finset.sum_congr rfl fun j _ => congrArg (fun p => CW j k * ext (fun t => a0 (proj Y WI) t k) p)
    (show 256 * T.val + (r.val + 192) + 17 + j = 256 * T.val + ((192 + 17 + j) + r.val) by omega), add_comm _ (CB k)]
  unfold kernelRun0_A.sl.HS6_4
  refine (canon_top2 _ _ _ k r k (by show r.val + 192 = 192 + r.val; omega) (by omega)).trans ?_
  unfold kernelRun0_A.sl.r_49 kernelRun0_A.sl.r_48 kernelRun0_A.sl.r_47 kernelRun0_A.sl.r_46 kernelRun0_A.sl.r_45 kernelRun0_A.sl.r_44 kernelRun0_A.sl.r_43
  simp only [View.readAt_eq_ld, harg12.read_unread, harg13.read_unread, View.ld_unit_zero (S := S1x384) hz2, View.ld_unit_zero (S := S32x384) hz2]
  unfold k0_pay74 k0_pay75 k0_pay76 k0_pay77 k0_pay78 k0_pay79 k0_pay80 k0_pay81
  unfold kernelRun0_A.sl.v1112 kernelRun0_A.sl.v1119 kernelRun0_A.sl.v1126 kernelRun0_A.sl.v1133 kernelRun0_A.sl.v1140 kernelRun0_A.sl.v1147 kernelRun0_A.sl.v1154 kernelRun0_A.sl.v1161 kernelRun0_A.sl.v1168 kernelRun0_A.sl.v1175 kernelRun0_A.sl.v1182 kernelRun0_A.sl.v1189 kernelRun0_A.sl.v1196 kernelRun0_A.sl.v1203 kernelRun0_A.sl.v1210 kernelRun0_A.sl.v1217 kernelRun0_A.sl.v1224 kernelRun0_A.sl.v1231 kernelRun0_A.sl.v1238 kernelRun0_A.sl.v1245 kernelRun0_A.sl.v1252 kernelRun0_A.sl.v1259 kernelRun0_A.sl.v1266 kernelRun0_A.sl.v1273 kernelRun0_A.sl.v1280 kernelRun0_A.sl.v1287 kernelRun0_A.sl.v1294 kernelRun0_A.sl.v1301 kernelRun0_A.sl.v1308 kernelRun0_A.sl.v1315 kernelRun0_A.sl.v1322
  pointwise
  simp only [copies_load H, H.cw, H.cb]
  generalize (fun t => a0 (proj Y WI) t k) = f
  have e (a b : ℕ) : ext f (256 * T.val + (a + (b + r.val))) = ext f (256 * T.val + ((a + b) + r.val)) := by rw [Nat.add_assoc a b]
  simp only [e, Finset.sum_range_succ, Finset.sum_range_zero, Nat.reduceAdd, zero_add, ← add_assoc]
  try rfl

/-- The convolution. -/
theorem conv_at (r : Fin 256) (k : Fin 384) :
    View.canon (kernelRun0_A.sl.HS6_4 (F := Ideal) c i arg1 harg1 arg2 harg2 arg3 harg3 arg5 harg5 arg12 harg12 arg13 harg13 arg22 arg23 arg25 arg27 x0 x1 x2 x4 x11 x12) (ix2 r k) = a1 (proj Y WI) CW CB ⟨256 * T.val + r.val, by omega⟩ k := by
  have hd : r.val / 64 = 0 ∨ r.val / 64 = 1 ∨ r.val / 64 = 2 ∨ r.val / 64 = 3 := by omega
  unfold a1
  rcases hd with hd | hd | hd | hd
  · have hr : r = (⟨(r.val - 0) + 0, by omega⟩ : Fin 256) := Fin.ext (by show r.val = (r.val - 0) + 0; omega)
    rw [hr]
    exact conv_at_0 H ⟨r.val - 0, by omega⟩ k
  · have hr : r = (⟨(r.val - 64) + 64, by omega⟩ : Fin 256) := Fin.ext (by show r.val = (r.val - 64) + 64; omega)
    rw [hr]
    exact conv_at_1 H ⟨r.val - 64, by omega⟩ k
  · have hr : r = (⟨(r.val - 128) + 128, by omega⟩ : Fin 256) := Fin.ext (by show r.val = (r.val - 128) + 128; omega)
    rw [hr]
    exact conv_at_2 H ⟨r.val - 128, by omega⟩ k
  · have hr : r = (⟨(r.val - 192) + 192, by omega⟩ : Fin 256) := Fin.ext (by show r.val = (r.val - 192) + 192; omega)
    rw [hr]
    exact conv_at_3 H ⟨r.val - 192, by omega⟩ k

theorem conv_load (r : Fin 256) (k : Fin 384) :
    (kernelRun0_A.sl.v1330 (F := Ideal) c i arg1 harg1 arg2 harg2 arg3 harg3 arg5 harg5 arg12 harg12 arg13 harg13 arg22 arg23 arg25 arg27 arg28 x0 x1 x2 x4 x11 x12) (ix2 r k) = a1 (proj Y WI) CW CB ⟨256 * T.val + r.val, by omega⟩ k := by
  unfold kernelRun0_A.sl.v1330
  refine (load2 _ _ r k r k (by omega) (by omega)).trans ?_
  exact conv_at H _ _

/-- The three heads. -/
theorem heads_at (r : Fin 256) (j : Fin 1024) :
    View.canon (kernelRun0_A.sl.H16_3 (F := Ideal) c i arg1 harg1 arg2 harg2 arg3 harg3 arg5 harg5 arg9 harg9 arg10 harg10 arg11 harg11 arg12 harg12 arg13 harg13 arg14 harg14 arg15 harg15 arg22 arg23 arg24 arg25 arg26 arg27 arg28 x0 x1 x2 x4 x8 x9 x10 x11 x12 x13 x14) (ix2 r j) = ycat (proj Y WI) PW PS SW CW CB CG CN ⟨256 * T.val + r.val, by omega⟩ j := by
  unfold kernelRun0_A.sl.H16_3
  simp only [View.readAt_eq_ld, harg9.read_unread, harg10.read_unread, View.ld_unit_zero (S := S1x256) hz2, View.ld_unit_zero (S := S256x256) hz2]
  unfold ycat
  by_cases h2 : 640 ≤ j.val
  · rw [dif_neg (by omega), dif_neg (by omega)]
    refine (canon_top2 _ _ r j r ⟨j.val - 640, by omega⟩ (by omega) (by show j.val = 640 + (j.val - 640); omega)).trans ?_
    unfold kernelRun0_A.sl.r_50 kernelRun0_A.sl.r_51
    simp only [View.readAt_eq_ld, harg14.read_unread, harg15.read_unread, View.ld_unit_zero (S := S1x384) hz2]
    rw [silu_apply]
    simp only [conv_load H, H.cg, H.cn]
    rfl
  · refine (canon_skip2 _ _ r j (by omega)).trans ?_
    by_cases h1 : 256 ≤ j.val
    · rw [dif_neg (by omega), dif_pos (by omega)]
      refine (canon_top2 _ _ r j r ⟨j.val - 256, by omega⟩ (by omega) (by show j.val = 256 + (j.val - 256); omega)).trans ?_
      simp only [View.readAt_eq_ld, harg11.read_unread, View.ld_unit_zero (S := S8x384) hz2]
      rw [sconv_apply]
      unfold kernelRun0_A.sl.v365 kernelRun0_A.sl.v371 kernelRun0_A.sl.v377 kernelRun0_A.sl.v381
      rw [q_load H, q_load H, q_load H, proj_load_256x384 H, short_tap_load H, short_tap_load H, short_tap_load H]
      unfold yb sconv
      rw [ext_main _ ⟨256 * T.val + r.val, by omega⟩ _ (by show _ = 256 * T.val + r.val + 32; omega)]
      simp only [Finset.sum_range_succ, Finset.sum_range_zero, zero_add]
      have e (n : ℕ) (hn : n ≤ 2) : 256 * T.val + r.val + 31 + n = 256 * T.val + ((31 + n) + r.val) := by omega
      rw [e 2 (by omega), e 1 (by omega), e 0 (by omega)]
      rfl
    · rw [dif_pos (by omega)]
      refine (canon_skip2 _ _ r j (by omega)).trans ?_
      refine (canon_top2 _ _ r j r ⟨j.val, by omega⟩ (by omega) (by show j.val = 0 + j.val; omega)).trans ?_
      unfold kernelRun0_A.sl.v298
      rw [head_apply T _ (by
        unfold kernelRun0_A.sl.v32
        rw [H.point, Nat.mul_comm, BitVec.ofNat_mul]
        rfl)]
      unfold kernelRun0_A.sl.v74
      simp only [total_at H, proj_load_256x256 H, H.pw, H.ps]
      unfold ya pooled
      refine congrArg (· * _) (Finset.sum_congr rfl fun x _ => ?_)
      rw [ext_main _ ⟨256 * T.val + r.val, by omega⟩ _ (by show _ = 256 * T.val + r.val + 32; omega)]
      simp only [Nat.zero_add]
      rfl

theorem heads_load (r : Fin 256) (j : Fin 1024) :
    (kernelRun0_A.sl.v1369 (F := Ideal) c i arg1 harg1 arg2 harg2 arg3 harg3 arg5 harg5 arg9 harg9 arg10 harg10 arg11 harg11 arg12 harg12 arg13 harg13 arg14 harg14 arg15 harg15 arg17 arg22 arg23 arg24 arg25 arg26 arg27 arg28 x0 x1 x2 x4 x8 x9 x10 x11 x12 x13 x14) (ix2 r j) = ycat (proj Y WI) PW PS SW CW CB CG CN ⟨256 * T.val + r.val, by omega⟩ j := by
  unfold kernelRun0_A.sl.v1369
  refine (load2 _ _ r j r j (by omega) (by omega)).trans ?_
  exact heads_at H _ _

theorem out_15 (r : Fin 256) (k : Fin 2176) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 (ix2 r k) = proj Y WI ⟨256 * T.val + r.val, by omega⟩ k := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14)]
  unfold kernelRun0_A
  dsimp only
  refine (canon_top2 _ _ r k r k (by omega) (by omega)).trans ?_
  unfold kernelRun0_A.sl.v30
  refine (proj_load_256x2176 H 32 0 _ r k).trans ?_
  rw [ext_main _ ⟨256 * T.val + r.val, by omega⟩ _ (by show _ = 256 * T.val + r.val + 32; omega)]
  simp only [Nat.zero_add]

theorem out_16 (r : Fin 256) (k : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 (ix2 r k) = ycat (proj Y WI) PW PS SW CW CB CG CN ⟨256 * T.val + r.val, by omega⟩ k := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14)]
  unfold kernelRun0_A
  dsimp only
  exact heads_at H r k

theorem out_17 (r : Fin 256) (k : Fin 384) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 (ix2 r k) = a1 (proj Y WI) CW CB ⟨256 * T.val + r.val, by omega⟩ k := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14)]
  unfold kernelRun0_A
  dsimp only
  refine (canon_top2 _ _ r k r k (by omega) (by omega)).trans ?_
  exact conv_load H r k

theorem out_18 (r : Fin 256) (k : Fin 1024) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 (ix2 r k) = y2 (proj Y WI) PW PS SW CW CB CG CN Y WO LG LB ⟨256 * T.val + r.val, by omega⟩ k := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14)]
  unfold kernelRun0_A
  dsimp only
  refine (canon_top2 _ _ r k r k (by omega) (by omega)).trans ?_
  unfold kernelRun0_A.sl.r_52 kernelRun0_A.sl.r_53 kernelRun0_A.sl.r_54 kernelRun0_A.sl.r_55
  simp only [View.readAt_eq_ld, harg4.read_unread, harg6.read_unread, harg7.read_unread, harg8.read_unread, View.ld_unit_zero (S := S1024x1024) hz2, View.ld_unit_zero (S := S1x1024) hz2, View.ld_unit_zero (S := S256x1024) hz2]
  rw [y2_apply]
  simp only [heads_load H, H.res, H.wo, H.lg, H.lb]
  rfl

theorem out_19 (r : Fin 256) (k : Fin 1024) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 (ix2 r k) = y2 (proj Y WI) PW PS SW CW CB CG CN Y WO LG LB ⟨256 * T.val + r.val, by omega⟩ k := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14)]
  unfold kernelRun0_A
  dsimp only
  refine (canon_top2 _ _ r k r k (by omega) (by omega)).trans ?_
  unfold kernelRun0_A.sl.r_52 kernelRun0_A.sl.r_53 kernelRun0_A.sl.r_54 kernelRun0_A.sl.r_55
  simp only [View.readAt_eq_ld, harg4.read_unread, harg6.read_unread, harg7.read_unread, harg8.read_unread, View.ld_unit_zero (S := S1024x1024) hz2, View.ld_unit_zero (S := S1x1024) hz2, View.ld_unit_zero (S := S256x1024) hz2]
  rw [y2b_apply]
  simp only [heads_load H, H.res, H.wo, H.lg, H.lb]
  rfl

theorem out_20 (r : Fin 256) (k : Fin 1024) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 (ix2 r k) = z (proj Y WI) PW PS SW CW CB CG CN Y WO ⟨256 * T.val + r.val, by omega⟩ k := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14)]
  unfold kernelRun0_A
  dsimp only
  refine (canon_top2 _ _ r k r k (by omega) (by omega)).trans ?_
  simp only [View.readAt_eq_ld, harg4.read_unread, harg6.read_unread, View.ld_unit_zero (S := S1024x1024) hz2, View.ld_unit_zero (S := S256x1024) hz2]
  rw [z_apply]
  simp only [heads_load H, H.res, H.wo]
  rfl

end Cert.MixFwdIdeal.Body
-- ==== Proof.MixFwdBlocks.lean ====
/-
  The arrays the mixer's forward region finds and the blocks its windows cut from them, read at an index.
-/
module

public import proofs.«01_k».proof.Proof.Gen.MixFwdIdeal.Frame.Runs
public import proofs.«01_k».proof.Proof.MixSpec
public import Idealize.ShloMosaic.Lib.Pipeline.Value
public import Idealize.ShloMosaic.Lib.StableHlo.ReadAt
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.MixFwdIdeal.Blocks

open Cert.MixFwdIdeal Cert.MixFwdIdeal.Gen

variable (m : (ℓ : Loc nD τ sig) → Buf (Elt Ideal) ℓ) (c : Dev nD)

open Cert.Mix.Spec

/-- The arguments at an index; the taps of the two convolutions are numbered by the natural numbers, zero from the last on. -/
abbrev Y (t : Fin 16384) (k : Fin 1024) : EReal := m ((c : Thread nD τ).loc main_arg0) (ix2 t k)
abbrev WI (k : Fin 1024) (j : Fin 2176) : EReal := m ((c : Thread nD τ).loc main_arg1) (ix2 k j)
abbrev PW (g : Fin 4) (a b : Fin 64) : EReal := m ((c : Thread nD τ).loc main_arg2) (ix3 g a b)
abbrev PS (l : Fin 256) : EReal := m ((c : Thread nD τ).loc main_arg3) (ix1 l)
def SW (k : ℕ) (j : Fin 384) : EReal := if h : k < 3 then m ((c : Thread nD τ).loc main_arg4) (ix2 ⟨k, h⟩ j) else 0
def CW (k : ℕ) (j : Fin 384) : EReal := if h : k < 31 then m ((c : Thread nD τ).loc main_arg5) (ix2 ⟨k, h⟩ j) else 0
abbrev CB (j : Fin 384) : EReal := m ((c : Thread nD τ).loc main_arg6) (ix1 j)
abbrev CG (j : Fin 384) : EReal := m ((c : Thread nD τ).loc main_arg7) (ix1 j)
abbrev CN (j : Fin 384) : EReal := m ((c : Thread nD τ).loc main_arg8) (ix1 j)
abbrev WO (j : Fin 1024) (k : Fin 1024) : EReal := m ((c : Thread nD τ).loc main_arg9) (ix2 j k)
abbrev LG (k : Fin 1024) : EReal := m ((c : Thread nD τ).loc main_arg10) (ix1 k)
abbrev LB (k : Fin 1024) : EReal := m ((c : Thread nD τ).loc main_arg11) (ix1 k)

theorem V_y (t : Fin 16384) (k : Fin 1024) : V m c main_arg0 (ix2 t k) = Y m c t k := by
  unfold V hostOps0; after_reads_at
theorem V_yb (t : Fin 16384) (k : Fin 1024) : V m c main_v0 (ix2 t k) = Y m c t k := by
  unfold V hostOps0; after_reads_at
theorem V_wi (k : Fin 1024) (j : Fin 2176) : V m c main_v1 (ix2 k j) = WI m c k j := by
  unfold V hostOps0; after_reads_at
theorem V_wo (j k : Fin 1024) : V m c main_v2 (ix2 j k) = WO m c j k := by
  unfold V hostOps0; after_reads_at
theorem V_g (k : Fin 1024) : V m c main_v3 (ix2 0 k) = LG m c k := by
  unfold V hostOps0; after_reads_at
theorem V_b (k : Fin 1024) : V m c main_v4 (ix2 0 k) = LB m c k := by
  unfold V hostOps0; after_reads_at
/-- An update of a square of 64 × 64 on the diagonal, read at an index. -/
theorem diag_update (x : Vec Ideal S256x256 .f32) (u : Vec Ideal S64x64 .f32) (start : Fin S256x256.rank → Int)
    (h : S256x256.Slices (fun _ => 0) S64x64) (o : ℕ) (ho : o + 64 ≤ 256) (h0 : start 0 = o) (h1 : start 1 = o) (a b : Fin 256) :
    Host.dynamicUpdateSlice x u start h (ix2 a b) =
      if hin : (o ≤ a.val ∧ a.val < o + 64) ∧ (o ≤ b.val ∧ b.val < o + 64) then
        u (ix2 ⟨a.val - o, by omega⟩ ⟨b.val - o, by omega⟩) else x (ix2 a b) := by
  have hs : start = fun _ => (o : Int) := funext fun k => by fin_cases k; exacts [h0, h1]
  subst hs
  rw [Host.dynamicUpdateSlice_eq_updateSlice x u _ h (fun _ => o) (by intro k; fin_cases k <;> simp <;> omega)
    ⟨h.1, by intro k; fin_cases k <;> simpa using ho⟩]
  pointwise

theorem diag_step (x : Vec Ideal S256x256 .f32) (u : Vec Ideal S64x64 .f32) (start : Fin S256x256.rank → Int)
    (h : S256x256.Slices (fun _ => 0) S64x64) (o : ℕ) (ho : o + 64 ≤ 256) (h0 : start 0 = o) (h1 : start 1 = o) (a b : Fin 256)
    {r : EReal} (hx : x (ix2 a b) = r) :
    Host.dynamicUpdateSlice x u start h (ix2 a b) =
      if hin : (o ≤ a.val ∧ a.val < o + 64) ∧ (o ≤ b.val ∧ b.val < o + 64) then
        u (ix2 ⟨a.val - o, by omega⟩ ⟨b.val - o, by omega⟩) else r := by
  rw [diag_update x u start h o ho h0 h1, hx]

set_option maxHeartbeats 2000000 in
theorem V_diag (a b : Fin 256) : V m c main_v17 (ix2 a b) = bd (PW m c) a b := by
  unfold V hostOps0
  after_reads_simp
  clean_types
  refine (diag_step _ _ _ _ 192 (by omega) ?_ ?_ a b (diag_step _ _ _ _ 128 (by omega) ?_ ?_ a b
    (diag_step _ _ _ _ 64 (by omega) ?_ ?_ a b (diag_step _ _ _ _ 0 (by omega) ?_ ?_ a b rfl)))).trans ?_
  iterate 8
    · after_reads_simp
      rfl
  pointwise
  have ha := a.isLt
  have hb := b.isLt
  have key : ∀ (g : ℕ) (hg : g < 4) (x y : Fin 64) (hx : a.val = 64 * g + x.val) (hy : b.val = 64 * g + y.val),
      PW m c ⟨g, hg⟩ x y = bd (PW m c) a b := by
    intro g hg x y hx hy
    have := x.isLt
    have := y.isLt
    unfold bd
    rw [if_pos (by omega)]
    congr 1 <;> apply Fin.ext <;> dsimp only <;> omega
  split_ifs with h3 h2 h1 h0
  · exact key 3 (by omega) _ _ (by dsimp only; omega) (by dsimp only; omega)
  · exact key 2 (by omega) _ _ (by dsimp only; omega) (by dsimp only; omega)
  · exact key 1 (by omega) _ _ (by dsimp only; omega) (by dsimp only; omega)
  · exact key 0 (by omega) _ _ (by dsimp only; omega) (by dsimp only; omega)
  · unfold bd
    rw [if_neg (by omega)]
set_option maxHeartbeats 2000000 in
theorem V_pw (a b : Fin 256) : V m c main_v18 (ix2 a b) = bd (PW m c) a b := by
  refine Eq.trans ?_ (V_diag m c a b)
  unfold V hostOps0
  after_reads_simp
  rfl

theorem V_ps (l : Fin 256) : V m c main_v19 (ix2 0 l) = PS m c l := by
  unfold V hostOps0; after_reads_at
theorem V_sw (k : Fin 8) (j : Fin 384) : V m c main_v20 (ix2 k j) = SW m c k.val j := by
  unfold V hostOps0; after_reads_at
  unfold SW
  congr 1
  simp [FloatOps.sitofp]
theorem V_cw (k : Fin 32) (j : Fin 384) : V m c main_v21 (ix2 k j) = CW m c k.val j := by
  unfold V hostOps0; after_reads_at
  unfold CW
  congr 1
  simp [FloatOps.sitofp]
theorem V_cb (j : Fin 384) : V m c main_v22 (ix2 0 j) = CB m c j := by
  unfold V hostOps0; after_reads_at
theorem V_cg (j : Fin 384) : V m c main_v23 (ix2 0 j) = CG m c j := by
  unfold V hostOps0; after_reads_at
theorem V_cn (j : Fin 384) : V m c main_v24 (ix2 0 j) = CN m c j := by
  unfold V hostOps0; after_reads_at

/-- The token row that row `r` of the block at point `t` is. -/
def tok (t : Fin cfg0.N) (r : Fin 256) : Fin 16384 :=
  ⟨256 * t.val + r.val, by have := t.isLt; have : cfg0.N = 64 := N_0; omega⟩
/-- The rows of the blocks of 32 before and after it; at the ends they are the sequence's own. -/
def tokPrev (t : Fin cfg0.N) (r : Fin 32) : Fin 16384 :=
  ⟨32 * (8 * t.val - 1) + r.val, by have := t.isLt; have : cfg0.N = 64 := N_0; omega⟩
def tokNext (t : Fin cfg0.N) (r : Fin 32) : Fin 16384 :=
  ⟨32 * min (8 * (t.val + 1)) 511 + r.val, by omega⟩

theorem index0 : ∀ t : Fin grid0.N, win0_0.index t 0 = 8 * t.val - 1 ∧ win0_0.index t 1 = 0 := by
  decide +kernel
theorem index1 : ∀ t : Fin grid0.N, win0_1.index t 0 = t.val ∧ win0_1.index t 1 = 0 := by
  decide +kernel
theorem index2 : ∀ t : Fin grid0.N, win0_2.index t 0 = min (8 * (t.val + 1)) 511 ∧ win0_2.index t 1 = 0 := by
  decide +kernel
theorem index3 : ∀ t : Fin grid0.N, win0_3.index t 0 = t.val ∧ win0_3.index t 1 = 0 := by
  decide +kernel
theorem index4 : ∀ t : Fin grid0.N, win0_4.index t 0 = 0 ∧ win0_4.index t 1 = 0 := by
  decide +kernel
theorem index5 : ∀ t : Fin grid0.N, win0_5.index t 0 = 0 ∧ win0_5.index t 1 = 0 := by
  decide +kernel
theorem index6 : ∀ t : Fin grid0.N, win0_6.index t 0 = 0 ∧ win0_6.index t 1 = 0 := by
  decide +kernel
theorem index7 : ∀ t : Fin grid0.N, win0_7.index t 0 = 0 ∧ win0_7.index t 1 = 0 := by
  decide +kernel
theorem index8 : ∀ t : Fin grid0.N, win0_8.index t 0 = 0 ∧ win0_8.index t 1 = 0 := by
  decide +kernel
theorem index9 : ∀ t : Fin grid0.N, win0_9.index t 0 = 0 ∧ win0_9.index t 1 = 0 := by
  decide +kernel
theorem index10 : ∀ t : Fin grid0.N, win0_10.index t 0 = 0 ∧ win0_10.index t 1 = 0 := by
  decide +kernel
theorem index11 : ∀ t : Fin grid0.N, win0_11.index t 0 = 0 ∧ win0_11.index t 1 = 0 := by
  decide +kernel
theorem index12 : ∀ t : Fin grid0.N, win0_12.index t 0 = 0 ∧ win0_12.index t 1 = 0 := by
  decide +kernel
theorem index13 : ∀ t : Fin grid0.N, win0_13.index t 0 = 0 ∧ win0_13.index t 1 = 0 := by
  decide +kernel
theorem index14 : ∀ t : Fin grid0.N, win0_14.index t 0 = 0 ∧ win0_14.index t 1 = 0 := by
  decide +kernel

theorem iblk0 (t : Fin cfg0.N) (r : Fin 32) (k : Fin 1024) :
    (iblk m c 0 t : Vec Ideal S32x1024 .bf16) (ix2 r k) = Y m c (tokPrev t r) k := by
  unfold iblk
  rw [View.read_apply]
  refine Eq.trans ?_ (V_yb m c (tokPrev t r) k)
  show V m c main_v0 _ = V m c main_v0 _
  congr 1
  funext a
  apply Fin.ext
  match a with
  | ⟨0, _⟩ => show win0_0.index t 0 * 32 + 1 * r.val = 32 * (8 * t.val - 1) + r.val; rw [(index0 t).1]; omega
  | ⟨1, _⟩ => show win0_0.index t 1 * 1024 + 1 * k.val = k.val; rw [(index0 t).2]; omega

theorem iblk1 (t : Fin cfg0.N) (r : Fin 256) (k : Fin 1024) :
    (iblk m c 1 t : Vec Ideal S256x1024 .bf16) (ix2 r k) = Y m c (tok t r) k := by
  unfold iblk
  rw [View.read_apply]
  refine Eq.trans ?_ (V_yb m c (tok t r) k)
  show V m c main_v0 _ = V m c main_v0 _
  congr 1
  funext a
  apply Fin.ext
  match a with
  | ⟨0, _⟩ => show win0_1.index t 0 * 256 + 1 * r.val = 256 * t.val + r.val; rw [(index1 t).1]; omega
  | ⟨1, _⟩ => show win0_1.index t 1 * 1024 + 1 * k.val = k.val; rw [(index1 t).2]; omega

theorem iblk2 (t : Fin cfg0.N) (r : Fin 32) (k : Fin 1024) :
    (iblk m c 2 t : Vec Ideal S32x1024 .bf16) (ix2 r k) = Y m c (tokNext t r) k := by
  unfold iblk
  rw [View.read_apply]
  refine Eq.trans ?_ (V_yb m c (tokNext t r) k)
  show V m c main_v0 _ = V m c main_v0 _
  congr 1
  funext a
  apply Fin.ext
  match a with
  | ⟨0, _⟩ => show win0_2.index t 0 * 32 + 1 * r.val = 32 * min (8 * (t.val + 1)) 511 + r.val; rw [(index2 t).1]; omega
  | ⟨1, _⟩ => show win0_2.index t 1 * 1024 + 1 * k.val = k.val; rw [(index2 t).2]; omega

theorem iblk3 (t : Fin cfg0.N) (r : Fin 256) (k : Fin 1024) :
    (iblk m c 3 t : Vec Ideal S256x1024 .f32) (ix2 r k) = Y m c (tok t r) k := by
  unfold iblk
  rw [View.read_apply]
  refine Eq.trans ?_ (V_y m c (tok t r) k)
  show V m c main_arg0 _ = V m c main_arg0 _
  congr 1
  funext a
  apply Fin.ext
  match a with
  | ⟨0, _⟩ => show win0_3.index t 0 * 256 + 1 * r.val = 256 * t.val + r.val; rw [(index3 t).1]; omega
  | ⟨1, _⟩ => show win0_3.index t 1 * 1024 + 1 * k.val = k.val; rw [(index3 t).2]; omega

theorem iblk4 (t : Fin cfg0.N) (k : Fin 1024) (j : Fin 2176) :
    (iblk m c 4 t : Vec Ideal S1024x2176 .bf16) (ix2 k j) = WI m c k j := by
  unfold iblk
  rw [View.read_apply]
  refine Eq.trans ?_ (V_wi m c k j)
  show V m c main_v1 _ = V m c main_v1 _
  congr 1
  funext a
  apply Fin.ext
  match a with
  | ⟨0, _⟩ => show win0_4.index t 0 * 1024 + 1 * k.val = k.val; rw [(index4 t).1]; omega
  | ⟨1, _⟩ => show win0_4.index t 1 * 2176 + 1 * j.val = j.val; rw [(index4 t).2]; omega

theorem iblk5 (t : Fin cfg0.N) (j : Fin 1024) (k : Fin 1024) :
    (iblk m c 5 t : Vec Ideal S1024x1024 .bf16) (ix2 j k) = WO m c j k := by
  unfold iblk
  rw [View.read_apply]
  refine Eq.trans ?_ (V_wo m c j k)
  show V m c main_v2 _ = V m c main_v2 _
  congr 1
  funext a
  apply Fin.ext
  match a with
  | ⟨0, _⟩ => show win0_5.index t 0 * 1024 + 1 * j.val = j.val; rw [(index5 t).1]; omega
  | ⟨1, _⟩ => show win0_5.index t 1 * 1024 + 1 * k.val = k.val; rw [(index5 t).2]; omega

theorem iblk6 (t : Fin cfg0.N) (k : Fin 1024) :
    (iblk m c 6 t : Vec Ideal S1x1024 .f32) (ix2 0 k) = LG m c k := by
  unfold iblk
  rw [View.read_apply]
  refine Eq.trans ?_ (V_g m c k)
  show V m c main_v3 _ = V m c main_v3 _
  congr 1
  funext a
  apply Fin.ext
  match a with
  | ⟨0, _⟩ => show win0_6.index t 0 * 1 + 1 * 0 = 0; rw [(index6 t).1]
  | ⟨1, _⟩ => show win0_6.index t 1 * 1024 + 1 * k.val = k.val; rw [(index6 t).2]; omega

theorem iblk7 (t : Fin cfg0.N) (k : Fin 1024) :
    (iblk m c 7 t : Vec Ideal S1x1024 .f32) (ix2 0 k) = LB m c k := by
  unfold iblk
  rw [View.read_apply]
  refine Eq.trans ?_ (V_b m c k)
  show V m c main_v4 _ = V m c main_v4 _
  congr 1
  funext a
  apply Fin.ext
  match a with
  | ⟨0, _⟩ => show win0_7.index t 0 * 1 + 1 * 0 = 0; rw [(index7 t).1]
  | ⟨1, _⟩ => show win0_7.index t 1 * 1024 + 1 * k.val = k.val; rw [(index7 t).2]; omega

theorem iblk8 (t : Fin cfg0.N) (p : Fin 256) (b : Fin 256) :
    (iblk m c 8 t : Vec Ideal S256x256 .bf16) (ix2 p b) = bd (PW m c) p b := by
  unfold iblk
  rw [View.read_apply]
  refine Eq.trans ?_ (V_pw m c p b)
  show V m c main_v18 _ = V m c main_v18 _
  congr 1
  funext a
  apply Fin.ext
  match a with
  | ⟨0, _⟩ => show win0_8.index t 0 * 256 + 1 * p.val = p.val; rw [(index8 t).1]; omega
  | ⟨1, _⟩ => show win0_8.index t 1 * 256 + 1 * b.val = b.val; rw [(index8 t).2]; omega

theorem iblk9 (t : Fin cfg0.N) (l : Fin 256) :
    (iblk m c 9 t : Vec Ideal S1x256 .f32) (ix2 0 l) = PS m c l := by
  unfold iblk
  rw [View.read_apply]
  refine Eq.trans ?_ (V_ps m c l)
  show V m c main_v19 _ = V m c main_v19 _
  congr 1
  funext a
  apply Fin.ext
  match a with
  | ⟨0, _⟩ => show win0_9.index t 0 * 1 + 1 * 0 = 0; rw [(index9 t).1]
  | ⟨1, _⟩ => show win0_9.index t 1 * 256 + 1 * l.val = l.val; rw [(index9 t).2]; omega

theorem iblk10 (t : Fin cfg0.N) (k : Fin 8) (j : Fin 384) :
    (iblk m c 10 t : Vec Ideal S8x384 .f32) (ix2 k j) = SW m c k.val j := by
  unfold iblk
  rw [View.read_apply]
  refine Eq.trans ?_ (V_sw m c k j)
  show V m c main_v20 _ = V m c main_v20 _
  congr 1
  funext a
  apply Fin.ext
  match a with
  | ⟨0, _⟩ => show win0_10.index t 0 * 8 + 1 * k.val = k.val; rw [(index10 t).1]; omega
  | ⟨1, _⟩ => show win0_10.index t 1 * 384 + 1 * j.val = j.val; rw [(index10 t).2]; omega

theorem iblk11 (t : Fin cfg0.N) (k : Fin 32) (j : Fin 384) :
    (iblk m c 11 t : Vec Ideal S32x384 .f32) (ix2 k j) = CW m c k.val j := by
  unfold iblk
  rw [View.read_apply]
  refine Eq.trans ?_ (V_cw m c k j)
  show V m c main_v21 _ = V m c main_v21 _
  congr 1
  funext a
  apply Fin.ext
  match a with
  | ⟨0, _⟩ => show win0_11.index t 0 * 32 + 1 * k.val = k.val; rw [(index11 t).1]; omega
  | ⟨1, _⟩ => show win0_11.index t 1 * 384 + 1 * j.val = j.val; rw [(index11 t).2]; omega

theorem iblk12 (t : Fin cfg0.N) (j : Fin 384) :
    (iblk m c 12 t : Vec Ideal S1x384 .f32) (ix2 0 j) = CB m c j := by
  unfold iblk
  rw [View.read_apply]
  refine Eq.trans ?_ (V_cb m c j)
  show V m c main_v22 _ = V m c main_v22 _
  congr 1
  funext a
  apply Fin.ext
  match a with
  | ⟨0, _⟩ => show win0_12.index t 0 * 1 + 1 * 0 = 0; rw [(index12 t).1]
  | ⟨1, _⟩ => show win0_12.index t 1 * 384 + 1 * j.val = j.val; rw [(index12 t).2]; omega

theorem iblk13 (t : Fin cfg0.N) (j : Fin 384) :
    (iblk m c 13 t : Vec Ideal S1x384 .f32) (ix2 0 j) = CG m c j := by
  unfold iblk
  rw [View.read_apply]
  refine Eq.trans ?_ (V_cg m c j)
  show V m c main_v23 _ = V m c main_v23 _
  congr 1
  funext a
  apply Fin.ext
  match a with
  | ⟨0, _⟩ => show win0_13.index t 0 * 1 + 1 * 0 = 0; rw [(index13 t).1]
  | ⟨1, _⟩ => show win0_13.index t 1 * 384 + 1 * j.val = j.val; rw [(index13 t).2]; omega

theorem iblk14 (t : Fin cfg0.N) (j : Fin 384) :
    (iblk m c 14 t : Vec Ideal S1x384 .f32) (ix2 0 j) = CN m c j := by
  unfold iblk
  rw [View.read_apply]
  refine Eq.trans ?_ (V_cn m c j)
  show V m c main_v24 _ = V m c main_v24 _
  congr 1
  funext a
  apply Fin.ext
  match a with
  | ⟨0, _⟩ => show win0_14.index t 0 * 1 + 1 * 0 = 0; rw [(index14 t).1]
  | ⟨1, _⟩ => show win0_14.index t 1 * 384 + 1 * j.val = j.val; rw [(index14 t).2]; omega

end Cert.MixFwdIdeal.Blocks
-- ==== Proof.MixFwdFold.lean ====
/-
  The mixer's forward grid folded up: every result array, entry by entry.
-/
module

public import proofs.«01_k».proof.Proof.MixFwdBody
public import proofs.«01_k».proof.Proof.MixFwdBlocks
public import proofs.«01_k».proof.Proof.Gen.MixFwdIdeal.Value

@[expose] public section

set_option maxRecDepth 16384

noncomputable section

open Idealize.ShloMosaic Idealize.ShloMosaic.TcCoe Idealize.SL.Sem

namespace Cert.MixFwdIdeal.Fold

open Cert.MixFwdIdeal Cert.MixFwdIdeal.Gen Cert.MixFwdIdeal.Blocks Cert.Mix.Spec

variable (m : (ℓ : Loc nD τ sig) → Buf (Elt Ideal) ℓ) (c : Dev nD)

theorem point_of : ∀ t : Fin grid0.N, ((grid0.coords t) 0).val = t.val := by
  decide +kernel

/-- The windows of a block hold what the body's equations ask for. -/
theorem holds (t : Fin cfg0.N) (ht : t.val < 64) :
    Body.Holds (Y m c) (WI m c) (PW m c) (PS m c) (SW m c) (CW m c) (CB m c) (CG m c) (CN m c) (WO m c) (LG m c) (LB m c)
      ⟨t.val, ht⟩ (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t)
      (iblk m c 14 t) where
  point := point_of t
  prev h r k := by
    rw [iblk0]
    have h : 0 < t.val := h
    exact (ext_main (fun t => Y m c t k) _ _ (by show 256 * t.val + r.val = 32 * (8 * t.val - 1) + r.val + 32; omega)).symm
  main r k := iblk1 m c t r k
  next h r k := by
    rw [iblk2]
    have h : t.val < 63 := h
    exact (ext_main (fun t => Y m c t k) _ _ (by
      show 256 * t.val + (288 + r.val) = 32 * min (8 * (t.val + 1)) 511 + r.val + 32; omega)).symm
  res r k := iblk3 m c t r k
  wi k j := iblk4 m c t k j
  wo k j := iblk5 m c t k j
  lg k := iblk6 m c t k
  lb k := iblk7 m c t k
  pw p q := iblk8 m c t p q
  ps l := iblk9 m c t l
  sw r k := iblk10 m c t r k
  cw r k := iblk11 m c t r k
  cb k := iblk12 m c t k
  cg k := iblk13 m c t k
  cn k := iblk14 m c t k

section

variable (t : Fin 16384)

/-- The block a token lies in, and its row there. -/
def pt : Fin cfg0.N := ⟨t.val / 256, by have : cfg0.N = 64 := N_0; omega⟩
def rowOf : Fin 256 := ⟨t.val % 256, by omega⟩

theorem row_eq (h : 256 * (t.val / 256) + (t.val % 256) < 16384) : (⟨256 * (t.val / 256) + (t.val % 256), h⟩ : Fin 16384) = t :=
  Fin.ext (by show 256 * (t.val / 256) + t.val % 256 = t.val; omega)

theorem index15 : ∀ t : Fin grid0.N, win0_15.index t 0 = t.val ∧ win0_15.index t 1 = 0 := by
  decide +kernel

theorem emb15 (k : Fin 2176) : ((cfg0.win 15).blk (pt t)).view.emb (ix2 (rowOf t) k) = ix2 t k := by
  funext a
  apply Fin.ext
  match a with
  | ⟨0, _⟩ =>
    show win0_15.index (pt t) 0 * 256 + 1 * (t.val % 256) = t.val
    rw [(index15 (pt t)).1]; show t.val / 256 * 256 + 1 * (t.val % 256) = t.val; omega
  | ⟨1, _⟩ => show win0_15.index (pt t) 1 * 2176 + 1 * k.val = k.val; rw [(index15 (pt t)).2]; omega

theorem cut15 (p : Fin cfg0.N) (X : Vec Ideal S256x2176 .f32) (r : Fin 256) (k : Fin 2176) :
    (cfg0.win 15).cut (grid0.coords p) X (ix2 r k) = X (ix2 r k) := rfl

theorem arr15_apply (k : Fin 2176) : (dats m 0 c).arrAt 15 cfg0.N (ix2 t k) = proj (Y m c) (WI m c) t k := by
  have h := (dats m 0 c).arrAt_emb_eq_flushed 15 Value.disjoint15 (pt t) (flush0_15 (pt t)) (ix2 (rowOf t) k)
  rw [emb15] at h
  refine h.trans ((cast_eq _ _).trans ?_)
  rw [Value.flushed15_A]
  refine (cut15 (pt t) _ (rowOf t) k).trans ?_
  rw [Body.out_15 (holds m c (pt t) (by show t.val / 256 < 64; omega))]
  exact congrArg (fun s => proj (Y m c) (WI m c) s k) (row_eq t _)

theorem index16 : ∀ t : Fin grid0.N, win0_16.index t 0 = t.val ∧ win0_16.index t 1 = 0 := by
  decide +kernel

theorem emb16 (k : Fin 1024) : ((cfg0.win 16).blk (pt t)).view.emb (ix2 (rowOf t) k) = ix2 t k := by
  funext a
  apply Fin.ext
  match a with
  | ⟨0, _⟩ =>
    show win0_16.index (pt t) 0 * 256 + 1 * (t.val % 256) = t.val
    rw [(index16 (pt t)).1]; show t.val / 256 * 256 + 1 * (t.val % 256) = t.val; omega
  | ⟨1, _⟩ => show win0_16.index (pt t) 1 * 1024 + 1 * k.val = k.val; rw [(index16 (pt t)).2]; omega

theorem cut16 (p : Fin cfg0.N) (X : Vec Ideal S256x1024 .bf16) (r : Fin 256) (k : Fin 1024) :
    (cfg0.win 16).cut (grid0.coords p) X (ix2 r k) = X (ix2 r k) := rfl

theorem arr16_apply (k : Fin 1024) : (dats m 0 c).arrAt 16 cfg0.N (ix2 t k) = ycat (proj (Y m c) (WI m c)) (PW m c) (PS m c) (SW m c) (CW m c) (CB m c) (CG m c) (CN m c) t k := by
  have h := (dats m 0 c).arrAt_emb_eq_flushed 16 Value.disjoint16 (pt t) (flush0_16 (pt t)) (ix2 (rowOf t) k)
  rw [emb16] at h
  refine h.trans ((cast_eq _ _).trans ?_)
  rw [Value.flushed16_A]
  refine (cut16 (pt t) _ (rowOf t) k).trans ?_
  rw [Body.out_16 (holds m c (pt t) (by show t.val / 256 < 64; omega))]
  exact congrArg (fun s => ycat (proj (Y m c) (WI m c)) (PW m c) (PS m c) (SW m c) (CW m c) (CB m c) (CG m c) (CN m c) s k) (row_eq t _)

theorem index17 : ∀ t : Fin grid0.N, win0_17.index t 0 = t.val ∧ win0_17.index t 1 = 0 := by
  decide +kernel

theorem emb17 (k : Fin 384) : ((cfg0.win 17).blk (pt t)).view.emb (ix2 (rowOf t) k) = ix2 t k := by
  funext a
  apply Fin.ext
  match a with
  | ⟨0, _⟩ =>
    show win0_17.index (pt t) 0 * 256 + 1 * (t.val % 256) = t.val
    rw [(index17 (pt t)).1]; show t.val / 256 * 256 + 1 * (t.val % 256) = t.val; omega
  | ⟨1, _⟩ => show win0_17.index (pt t) 1 * 384 + 1 * k.val = k.val; rw [(index17 (pt t)).2]; omega

theorem cut17 (p : Fin cfg0.N) (X : Vec Ideal S256x384 .f32) (r : Fin 256) (k : Fin 384) :
    (cfg0.win 17).cut (grid0.coords p) X (ix2 r k) = X (ix2 r k) := rfl

theorem arr17_apply (k : Fin 384) : (dats m 0 c).arrAt 17 cfg0.N (ix2 t k) = a1 (proj (Y m c) (WI m c)) (CW m c) (CB m c) t k := by
  have h := (dats m 0 c).arrAt_emb_eq_flushed 17 Value.disjoint17 (pt t) (flush0_17 (pt t)) (ix2 (rowOf t) k)
  rw [emb17] at h
  refine h.trans ((cast_eq _ _).trans ?_)
  rw [Value.flushed17_A]
  refine (cut17 (pt t) _ (rowOf t) k).trans ?_
  rw [Body.out_17 (holds m c (pt t) (by show t.val / 256 < 64; omega))]
  exact congrArg (fun s => a1 (proj (Y m c) (WI m c)) (CW m c) (CB m c) s k) (row_eq t _)

theorem index18 : ∀ t : Fin grid0.N, win0_18.index t 0 = t.val ∧ win0_18.index t 1 = 0 := by
  decide +kernel

theorem emb18 (k : Fin 1024) : ((cfg0.win 18).blk (pt t)).view.emb (ix2 (rowOf t) k) = ix2 t k := by
  funext a
  apply Fin.ext
  match a with
  | ⟨0, _⟩ =>
    show win0_18.index (pt t) 0 * 256 + 1 * (t.val % 256) = t.val
    rw [(index18 (pt t)).1]; show t.val / 256 * 256 + 1 * (t.val % 256) = t.val; omega
  | ⟨1, _⟩ => show win0_18.index (pt t) 1 * 1024 + 1 * k.val = k.val; rw [(index18 (pt t)).2]; omega

theorem cut18 (p : Fin cfg0.N) (X : Vec Ideal S256x1024 .f32) (r : Fin 256) (k : Fin 1024) :
    (cfg0.win 18).cut (grid0.coords p) X (ix2 r k) = X (ix2 r k) := rfl

theorem arr18_apply (k : Fin 1024) : (dats m 0 c).arrAt 18 cfg0.N (ix2 t k) = y2 (proj (Y m c) (WI m c)) (PW m c) (PS m c) (SW m c) (CW m c) (CB m c) (CG m c) (CN m c) (Y m c) (WO m c) (LG m c) (LB m c) t k := by
  have h := (dats m 0 c).arrAt_emb_eq_flushed 18 Value.disjoint18 (pt t) (flush0_18 (pt t)) (ix2 (rowOf t) k)
  rw [emb18] at h
  refine h.trans ((cast_eq _ _).trans ?_)
  rw [Value.flushed18_A]
  refine (cut18 (pt t) _ (rowOf t) k).trans ?_
  rw [Body.out_18 (holds m c (pt t) (by show t.val / 256 < 64; omega))]
  exact congrArg (fun s => y2 (proj (Y m c) (WI m c)) (PW m c) (PS m c) (SW m c) (CW m c) (CB m c) (CG m c) (CN m c) (Y m c) (WO m c) (LG m c) (LB m c) s k) (row_eq t _)

theorem index19 : ∀ t : Fin grid0.N, win0_19.index t 0 = t.val ∧ win0_19.index t 1 = 0 := by
  decide +kernel

theorem emb19 (k : Fin 1024) : ((cfg0.win 19).blk (pt t)).view.emb (ix2 (rowOf t) k) = ix2 t k := by
  funext a
  apply Fin.ext
  match a with
  | ⟨0, _⟩ =>
    show win0_19.index (pt t) 0 * 256 + 1 * (t.val % 256) = t.val
    rw [(index19 (pt t)).1]; show t.val / 256 * 256 + 1 * (t.val % 256) = t.val; omega
  | ⟨1, _⟩ => show win0_19.index (pt t) 1 * 1024 + 1 * k.val = k.val; rw [(index19 (pt t)).2]; omega

theorem cut19 (p : Fin cfg0.N) (X : Vec Ideal S256x1024 .bf16) (r : Fin 256) (k : Fin 1024) :
    (cfg0.win 19).cut (grid0.coords p) X (ix2 r k) = X (ix2 r k) := rfl

theorem arr19_apply (k : Fin 1024) : (dats m 0 c).arrAt 19 cfg0.N (ix2 t k) = y2 (proj (Y m c) (WI m c)) (PW m c) (PS m c) (SW m c) (CW m c) (CB m c) (CG m c) (CN m c) (Y m c) (WO m c) (LG m c) (LB m c) t k := by
  have h := (dats m 0 c).arrAt_emb_eq_flushed 19 Value.disjoint19 (pt t) (flush0_19 (pt t)) (ix2 (rowOf t) k)
  rw [emb19] at h
  refine h.trans ((cast_eq _ _).trans ?_)
  rw [Value.flushed19_A]
  refine (cut19 (pt t) _ (rowOf t) k).trans ?_
  rw [Body.out_19 (holds m c (pt t) (by show t.val / 256 < 64; omega))]
  exact congrArg (fun s => y2 (proj (Y m c) (WI m c)) (PW m c) (PS m c) (SW m c) (CW m c) (CB m c) (CG m c) (CN m c) (Y m c) (WO m c) (LG m c) (LB m c) s k) (row_eq t _)

theorem index20 : ∀ t : Fin grid0.N, win0_20.index t 0 = t.val ∧ win0_20.index t 1 = 0 := by
  decide +kernel

theorem emb20 (k : Fin 1024) : ((cfg0.win 20).blk (pt t)).view.emb (ix2 (rowOf t) k) = ix2 t k := by
  funext a
  apply Fin.ext
  match a with
  | ⟨0, _⟩ =>
    show win0_20.index (pt t) 0 * 256 + 1 * (t.val % 256) = t.val
    rw [(index20 (pt t)).1]; show t.val / 256 * 256 + 1 * (t.val % 256) = t.val; omega
  | ⟨1, _⟩ => show win0_20.index (pt t) 1 * 1024 + 1 * k.val = k.val; rw [(index20 (pt t)).2]; omega

theorem cut20 (p : Fin cfg0.N) (X : Vec Ideal S256x1024 .f32) (r : Fin 256) (k : Fin 1024) :
    (cfg0.win 20).cut (grid0.coords p) X (ix2 r k) = X (ix2 r k) := rfl

theorem arr20_apply (k : Fin 1024) : (dats m 0 c).arrAt 20 cfg0.N (ix2 t k) = z (proj (Y m c) (WI m c)) (PW m c) (PS m c) (SW m c) (CW m c) (CB m c) (CG m c) (CN m c) (Y m c) (WO m c) t k := by
  have h := (dats m 0 c).arrAt_emb_eq_flushed 20 Value.disjoint20 (pt t) (flush0_20 (pt t)) (ix2 (rowOf t) k)
  rw [emb20] at h
  refine h.trans ((cast_eq _ _).trans ?_)
  rw [Value.flushed20_A]
  refine (cut20 (pt t) _ (rowOf t) k).trans ?_
  rw [Body.out_20 (holds m c (pt t) (by show t.val / 256 < 64; omega))]
  exact congrArg (fun s => z (proj (Y m c) (WI m c)) (PW m c) (PS m c) (SW m c) (CW m c) (CB m c) (CG m c) (CN m c) (Y m c) (WO m c) s k) (row_eq t _)

end

end Cert.MixFwdIdeal.Fold
-- ==== Proof.MixFwdRef.lean ====
/-
  The mixer's forward reference, entry by entry, in the terms of the mathematics.
-/
module

public import proofs.«01_k».proof.Proof.Gen.MixFwdRefIdeal.Read
public import proofs.«01_k».proof.Proof.MixSpec
public import proofs.«01_k».proof.Proof.MixWord
public import Idealize.ShloMosaic.Lib.Pointwise
public import Idealize.ShloMosaic.Lib.Tactic

@[expose] public section

set_option maxRecDepth 16384

noncomputable section

open Idealize.ShloMosaic Idealize.ShloMosaic.TcCoe

namespace Cert.MixFwdRefIdeal.Heads

open Cert.MixFwdRefIdeal Cert.MixFwdRefIdeal.Read Cert.Mix.Spec
open Cert.FfnBwd.Spec (sg)

variable (x0 : (⟨S16384x1024, .f32⟩ : BufTy).Contents (Elt Ideal)) (x1 : (⟨S1024x2176, .f32⟩ : BufTy).Contents (Elt Ideal)) (x2 : (⟨S4x64x64, .f32⟩ : BufTy).Contents (Elt Ideal)) (x3 : (⟨S256, .f32⟩ : BufTy).Contents (Elt Ideal)) (x4 : (⟨S3x384, .f32⟩ : BufTy).Contents (Elt Ideal)) (x5 : (⟨S31x384, .f32⟩ : BufTy).Contents (Elt Ideal)) (x6 : (⟨S384, .f32⟩ : BufTy).Contents (Elt Ideal)) (x7 : (⟨S384, .f32⟩ : BufTy).Contents (Elt Ideal)) (x8 : (⟨S384, .f32⟩ : BufTy).Contents (Elt Ideal)) (x9 : (⟨S1024x1024, .f32⟩ : BufTy).Contents (Elt Ideal)) (x10 : (⟨S1024, .f32⟩ : BufTy).Contents (Elt Ideal)) (x11 : (⟨S1024, .f32⟩ : BufTy).Contents (Elt Ideal))

/-- The arguments at an index; the taps are numbered by the natural numbers, zero from the last on. -/
abbrev Y (t : Fin 16384) (k : Fin 1024) : EReal := x0 (ix2 t k)
abbrev WI (k : Fin 1024) (j : Fin 2176) : EReal := x1 (ix2 k j)
abbrev PW (g : Fin 4) (a b : Fin 64) : EReal := x2 (ix3 g a b)
abbrev PS (l : Fin 256) : EReal := x3 (ix1 l)
def SW (k : ℕ) (j : Fin 384) : EReal := if h : k < 3 then x4 (ix2 ⟨k, h⟩ j) else 0
def CW (k : ℕ) (j : Fin 384) : EReal := if h : k < 31 then x5 (ix2 ⟨k, h⟩ j) else 0
abbrev A384 (x : (⟨S384, .f32⟩ : BufTy).Contents (Elt Ideal)) (j : Fin 384) : EReal := x (ix1 j)
abbrev WO (j k : Fin 1024) : EReal := x9 (ix2 j k)
abbrev A1024 (x : (⟨S1024, .f32⟩ : BufTy).Contents (Elt Ideal)) (k : Fin 1024) : EReal := x (ix1 k)
abbrev P (t : Fin 16384) (j : Fin 2176) : EReal := proj (Y x0) (WI x1) t j

theorem sw_eq (k : Fin 3) (j : Fin 384) : x4 (ix2 k j) = SW x4 k.val j := by
  unfold SW; rw [dif_pos k.isLt]
theorem cw_eq (k : Fin 31) (j : Fin 384) : x5 (ix2 k j) = CW x5 k.val j := by
  unfold CW; rw [dif_pos k.isLt]

variable (t : Fin 16384)

theorem proj_eq (j : Fin 2176) : (val_main_v0 (F := Ideal) x0 x1) (ix2 t j) = P x0 x1 t j := by
  unfold val_main_v0 P proj
  pointwise

/-- A sum over the whole block-diagonal column is the sum over its group. -/
theorem sum_bd (f : Fin 256 → EReal) (g : Fin 4) (b : Fin 64) :
    ∑ a, f a * bd (PW x2) a ⟨64 * g.val + b.val, by omega⟩ = ∑ a : Fin 64, f ⟨64 * g.val + a.val, by omega⟩ * x2 (ix3 g a b) := by
  have hb : (64 * g.val + b.val) / 64 = g.val := by omega
  symm
  refine Finset.sum_of_injOn (fun a : Fin 64 => (⟨64 * g.val + a.val, by omega⟩ : Fin 256)) ?_ ?_ ?_ ?_
  · intro a _ a' _ h
    have h := congrArg Fin.val h
    dsimp only at h
    exact Fin.ext (by omega)
  · intro a _; simp
  · intro a _ ha
    have : ¬ a.val / 64 = (64 * g.val + b.val) / 64 := by
      rw [hb]
      intro h
      apply ha
      exact ⟨⟨a.val - 64 * g.val, by omega⟩, by simp, Fin.ext (by show 64 * g.val + (a.val - 64 * g.val) = a.val; omega)⟩
    unfold bd
    rw [if_neg this, mul_zero]
  · intro a _
    have ha : (64 * g.val + a.val) / 64 = g.val := by omega
    unfold bd
    rw [if_pos (by dsimp only; omega)]
    refine congrArg (f _ * ·) ?_
    show x2 _ = x2 _
    congr 1
    funext d
    apply Fin.ext
    match d with
    | ⟨0, _⟩ => show g.val = (64 * g.val + b.val) / 64; omega
    | ⟨1, _⟩ => show a.val = (64 * g.val + a.val) % 64; omega
    | ⟨2, _⟩ => show b.val = (64 * g.val + b.val) % 64; omega

theorem group0_eq (l : Fin 64) : (val_main_v7 (F := Ideal) x0 x1) (ix2 t l) = P x0 x1 t (colP ⟨l.val, by omega⟩) := by
  unfold val_main_v7 val_main_v1
  pointwise
  rw [proj_eq]
  rfl

theorem placed0_eq (s : Fin 16385) (l : Fin 64) : (val_main_v23 (F := Ideal) x0 x1) (ix2 s l) = ext (fun t => P x0 x1 t (colP ⟨l.val, by omega⟩)) (s.val + 31) := by
  unfold val_main_v23 val_main_v22 val_main_cst_4 val_main_v21 val_main_cst
  pointwise
  by_cases h1 : s.val < 1
  · rw [dif_pos h1, ext_out _ _ (by omega)]
  · by_cases h2 : s.val - 1 < 16384
    · rw [dif_neg h1, dif_pos h2, group0_eq]
      exact (ext_main (fun t => P x0 x1 t (colP ⟨l.val, by omega⟩)) ⟨s.val - 1, h2⟩ _ (by show s.val + 31 = s.val - 1 + 32; omega)).symm
    · rw [dif_neg h1, dif_neg h2, ext_out _ _ (by omega)]

theorem pooled0_eq (l : Fin 64) : (val_main_v32 (F := Ideal) x0 x1) (ix2 t l) = pooled (P x0 x1) t ⟨l.val, by omega⟩ := by
  have hh : half ⟨l.val, by omega⟩ = 1 := by
    unfold half
    rw [show (l.val) / 64 = 0 by omega]
    rfl
  unfold val_main_v32 val_main_v31 val_main_v30 val_main_v29 val_main_v28 val_main_v27 val_main_v26 val_main_cst_5
    val_main_v25 val_main_v24 val_main_v20 val_main_v19 val_main_v18 val_main_v17 val_main_c_3 val_main_v16 val_main_v15
    val_main_c_2 val_main_v14 val_main_v13 val_main_c_1 val_main_v12 val_main_v11 val_main_c_0 val_main_v10 val_main_v9
    val_main_c val_main_v8
  pointwise
  unfold pooled
  rw [hh, group0_eq, Mix.Word.host_count_word t.val 1 (by omega) (by omega) (by omega), Mix.Word.ofNat_eq, Mix.Word.sitofp_eq _ (by omega)]
  simp only [placed0_eq]
  rw [Finset.sum_congr rfl fun k _ => congrArg (ext fun t => P x0 x1 t (colP ⟨l.val, by omega⟩))
    (show t.val + 32 - 1 + k = k + t.val + 31 by omega)]
  simp only [Finset.sum_range_succ, Finset.sum_range_zero, zero_add, Nat.reduceMul, Int.cast_natCast]
  rfl

theorem group1_eq (l : Fin 64) : (val_main_v33 (F := Ideal) x0 x1) (ix2 t l) = P x0 x1 t (colP ⟨64 + l.val, by omega⟩) := by
  unfold val_main_v33 val_main_v1
  pointwise
  rw [proj_eq]
  rfl

theorem placed1_eq (s : Fin 16387) (l : Fin 64) : (val_main_v49 (F := Ideal) x0 x1) (ix2 s l) = ext (fun t => P x0 x1 t (colP ⟨64 + l.val, by omega⟩)) (s.val + 30) := by
  unfold val_main_v49 val_main_v48 val_main_cst_12 val_main_v47 val_main_cst_11
  pointwise
  by_cases h1 : s.val < 2
  · rw [dif_pos h1, ext_out _ _ (by omega)]
  · by_cases h2 : s.val - 2 < 16384
    · rw [dif_neg h1, dif_pos h2, group1_eq]
      exact (ext_main (fun t => P x0 x1 t (colP ⟨64 + l.val, by omega⟩)) ⟨s.val - 2, h2⟩ _ (by show s.val + 30 = s.val - 2 + 32; omega)).symm
    · rw [dif_neg h1, dif_neg h2, ext_out _ _ (by omega)]

theorem pooled1_eq (l : Fin 64) : (val_main_v62 (F := Ideal) x0 x1) (ix2 t l) = pooled (P x0 x1) t ⟨64 + l.val, by omega⟩ := by
  have hh : half ⟨64 + l.val, by omega⟩ = 2 := by
    unfold half
    rw [show (64 + l.val) / 64 = 1 by omega]
    rfl
  unfold val_main_v62 val_main_v61 val_main_v60 val_main_v59 val_main_v58 val_main_v57 val_main_v56 val_main_v55 val_main_v54
    val_main_cst_13 val_main_v53 val_main_v52 val_main_v51 val_main_v50 val_main_v46 val_main_v45 val_main_v44 val_main_v43
    val_main_c_10 val_main_v42 val_main_v41 val_main_c_9 val_main_v40 val_main_v39 val_main_c_8 val_main_v38 val_main_v37
    val_main_c_7 val_main_v36 val_main_v35 val_main_c_6 val_main_v34
  pointwise
  unfold pooled
  rw [hh, group1_eq, Mix.Word.host_count_word t.val 2 (by omega) (by omega) (by omega), Mix.Word.ofNat_eq, Mix.Word.sitofp_eq _ (by omega)]
  simp only [placed1_eq]
  rw [Finset.sum_congr rfl fun k _ => congrArg (ext fun t => P x0 x1 t (colP ⟨64 + l.val, by omega⟩))
    (show t.val + 32 - 2 + k = k + t.val + 30 by omega)]
  simp only [Finset.sum_range_succ, Finset.sum_range_zero, zero_add, Nat.reduceMul, Int.cast_natCast]
  rfl

theorem group2_eq (l : Fin 64) : (val_main_v63 (F := Ideal) x0 x1) (ix2 t l) = P x0 x1 t (colP ⟨128 + l.val, by omega⟩) := by
  unfold val_main_v63 val_main_v1
  pointwise
  rw [proj_eq]
  rfl

theorem placed2_eq (s : Fin 16391) (l : Fin 64) : (val_main_v79 (F := Ideal) x0 x1) (ix2 s l) = ext (fun t => P x0 x1 t (colP ⟨128 + l.val, by omega⟩)) (s.val + 28) := by
  unfold val_main_v79 val_main_v78 val_main_cst_20 val_main_v77 val_main_cst_19
  pointwise
  by_cases h1 : s.val < 4
  · rw [dif_pos h1, ext_out _ _ (by omega)]
  · by_cases h2 : s.val - 4 < 16384
    · rw [dif_neg h1, dif_pos h2, group2_eq]
      exact (ext_main (fun t => P x0 x1 t (colP ⟨128 + l.val, by omega⟩)) ⟨s.val - 4, h2⟩ _ (by show s.val + 28 = s.val - 4 + 32; omega)).symm
    · rw [dif_neg h1, dif_neg h2, ext_out _ _ (by omega)]

theorem pooled2_eq (l : Fin 64) : (val_main_v100 (F := Ideal) x0 x1) (ix2 t l) = pooled (P x0 x1) t ⟨128 + l.val, by omega⟩ := by
  have hh : half ⟨128 + l.val, by omega⟩ = 4 := by
    unfold half
    rw [show (128 + l.val) / 64 = 2 by omega]
    rfl
  unfold val_main_v100 val_main_v99 val_main_v98 val_main_v97 val_main_v96 val_main_v95 val_main_v94 val_main_v93
    val_main_v92 val_main_v91 val_main_v90 val_main_v89 val_main_v88 val_main_cst_21 val_main_v87 val_main_v86 val_main_v85
    val_main_v84 val_main_v83 val_main_v82 val_main_v81 val_main_v80 val_main_v76 val_main_v75 val_main_v74 val_main_v73
    val_main_c_18 val_main_v72 val_main_v71 val_main_c_17 val_main_v70 val_main_v69 val_main_c_16 val_main_v68 val_main_v67
    val_main_c_15 val_main_v66 val_main_v65 val_main_c_14 val_main_v64
  pointwise
  unfold pooled
  rw [hh, group2_eq, Mix.Word.host_count_word t.val 4 (by omega) (by omega) (by omega), Mix.Word.ofNat_eq, Mix.Word.sitofp_eq _ (by omega)]
  simp only [placed2_eq]
  rw [Finset.sum_congr rfl fun k _ => congrArg (ext fun t => P x0 x1 t (colP ⟨128 + l.val, by omega⟩))
    (show t.val + 32 - 4 + k = k + t.val + 28 by omega)]
  simp only [Finset.sum_range_succ, Finset.sum_range_zero, zero_add, Nat.reduceMul, Int.cast_natCast]
  rfl

theorem group3_eq (l : Fin 64) : (val_main_v101 (F := Ideal) x0 x1) (ix2 t l) = P x0 x1 t (colP ⟨192 + l.val, by omega⟩) := by
  unfold val_main_v101 val_main_v1
  pointwise
  rw [proj_eq]
  rfl

theorem placed3_eq (s : Fin 16399) (l : Fin 64) : (val_main_v117 (F := Ideal) x0 x1) (ix2 s l) = ext (fun t => P x0 x1 t (colP ⟨192 + l.val, by omega⟩)) (s.val + 24) := by
  unfold val_main_v117 val_main_v116 val_main_cst_28 val_main_v115 val_main_cst_27
  pointwise
  by_cases h1 : s.val < 8
  · rw [dif_pos h1, ext_out _ _ (by omega)]
  · by_cases h2 : s.val - 8 < 16384
    · rw [dif_neg h1, dif_pos h2, group3_eq]
      exact (ext_main (fun t => P x0 x1 t (colP ⟨192 + l.val, by omega⟩)) ⟨s.val - 8, h2⟩ _ (by show s.val + 24 = s.val - 8 + 32; omega)).symm
    · rw [dif_neg h1, dif_neg h2, ext_out _ _ (by omega)]

theorem pooled3_eq (l : Fin 64) : (val_main_v154 (F := Ideal) x0 x1) (ix2 t l) = pooled (P x0 x1) t ⟨192 + l.val, by omega⟩ := by
  have hh : half ⟨192 + l.val, by omega⟩ = 8 := by
    unfold half
    rw [show (192 + l.val) / 64 = 3 by omega]
    rfl
  unfold val_main_v154 val_main_v153 val_main_v152 val_main_v151 val_main_v150 val_main_v149 val_main_v148 val_main_v147
    val_main_v146 val_main_v145 val_main_v144 val_main_v143 val_main_v142 val_main_v141 val_main_v140 val_main_v139
    val_main_v138 val_main_v137 val_main_v136 val_main_v135 val_main_v134 val_main_cst_29 val_main_v133 val_main_v132
    val_main_v131 val_main_v130 val_main_v129 val_main_v128 val_main_v127 val_main_v126 val_main_v125 val_main_v124
    val_main_v123 val_main_v122 val_main_v121 val_main_v120 val_main_v119 val_main_v118 val_main_v114 val_main_v113
    val_main_v112 val_main_v111 val_main_c_26 val_main_v110 val_main_v109 val_main_c_25 val_main_v108 val_main_v107
    val_main_c_24 val_main_v106 val_main_v105 val_main_c_23 val_main_v104 val_main_v103 val_main_c_22 val_main_v102
  pointwise
  unfold pooled
  rw [hh, group3_eq, Mix.Word.host_count_word t.val 8 (by omega) (by omega) (by omega), Mix.Word.ofNat_eq, Mix.Word.sitofp_eq _ (by omega)]
  simp only [placed3_eq]
  rw [Finset.sum_congr rfl fun k _ => congrArg (ext fun t => P x0 x1 t (colP ⟨192 + l.val, by omega⟩))
    (show t.val + 32 - 8 + k = k + t.val + 24 by omega)]
  simp only [Finset.sum_range_succ, Finset.sum_range_zero, zero_add, Nat.reduceMul, Int.cast_natCast]
  rfl

theorem pooled_eq (l : Fin 256) : (val_main_v155 (F := Ideal) x0 x1) (ix2 t l) = pooled (P x0 x1) t l := by
  unfold val_main_v155
  pointwise
  by_cases h0 : l.val < 64
  · rw [dif_pos h0, pooled0_eq]
  rw [dif_neg h0]
  by_cases h1 : l.val - 64 < 64
  · rw [dif_pos h1, pooled1_eq]
    exact congrArg (pooled (P x0 x1) t) (Fin.ext (by show 64 + (l.val - 64) = l.val; omega))
  rw [dif_neg h1]
  by_cases h2 : l.val - 64 - 64 < 64
  · rw [dif_pos h2, pooled2_eq]
    exact congrArg (pooled (P x0 x1) t) (Fin.ext (by show 128 + (l.val - 64 - 64) = l.val; omega))
  rw [dif_neg h2, pooled3_eq]
  exact congrArg (pooled (P x0 x1) t) (Fin.ext (by show 192 + (l.val - 64 - 64 - 64) = l.val; omega))

theorem mixed0_eq (b : Fin 64) : (val_main_v159 (F := Ideal) x0 x1 x2) (ix2 t b)
    = ∑ a, pooled (P x0 x1) t a * bd (PW x2) a ⟨0 + b.val, by omega⟩ := by
  refine Eq.trans ?_ (sum_bd x2 (pooled (P x0 x1) t) 0 b).symm
  unfold val_main_v159 val_main_v158 val_main_v157 val_main_v156
  pointwise
  simp only [pooled_eq]
  try rfl

theorem mixed1_eq (b : Fin 64) : (val_main_v163 (F := Ideal) x0 x1 x2) (ix2 t b)
    = ∑ a, pooled (P x0 x1) t a * bd (PW x2) a ⟨64 + b.val, by omega⟩ := by
  refine Eq.trans ?_ (sum_bd x2 (pooled (P x0 x1) t) 1 b).symm
  unfold val_main_v163 val_main_v162 val_main_v161 val_main_v160
  pointwise
  simp only [pooled_eq]
  try rfl

theorem mixed2_eq (b : Fin 64) : (val_main_v167 (F := Ideal) x0 x1 x2) (ix2 t b)
    = ∑ a, pooled (P x0 x1) t a * bd (PW x2) a ⟨128 + b.val, by omega⟩ := by
  refine Eq.trans ?_ (sum_bd x2 (pooled (P x0 x1) t) 2 b).symm
  unfold val_main_v167 val_main_v166 val_main_v165 val_main_v164
  pointwise
  simp only [pooled_eq]
  try rfl

theorem mixed3_eq (b : Fin 64) : (val_main_v171 (F := Ideal) x0 x1 x2) (ix2 t b)
    = ∑ a, pooled (P x0 x1) t a * bd (PW x2) a ⟨192 + b.val, by omega⟩ := by
  refine Eq.trans ?_ (sum_bd x2 (pooled (P x0 x1) t) 3 b).symm
  unfold val_main_v171 val_main_v170 val_main_v169 val_main_v168
  pointwise
  simp only [pooled_eq]
  try rfl

theorem ya_eq (l : Fin 256) : (val_main_v175 (F := Ideal) x0 x1 x2 x3) (ix2 t l) = ya (P x0 x1) (PW x2) (PS x3) t l := by
  unfold val_main_v175 val_main_v174 val_main_v173 val_main_v172 ya
  pointwise
  refine congrArg (· * _) ?_
  by_cases h0 : l.val < 64
  · rw [dif_pos h0, mixed0_eq]
    simp only [show (⟨0 + l.val, by omega⟩ : Fin 256) = l from Fin.ext (by show 0 + l.val = l.val; omega)]
  rw [dif_neg h0]
  by_cases h1 : l.val - 64 < 64
  · rw [dif_pos h1, mixed1_eq]
    simp only [show (⟨64 + (l.val - 64), by omega⟩ : Fin 256) = l from Fin.ext (by show 64 + (l.val - 64) = l.val; omega)]
  rw [dif_neg h1]
  by_cases h2 : l.val - 64 - 64 < 64
  · rw [dif_pos h2, mixed2_eq]
    simp only [show (⟨128 + (l.val - 64 - 64), by omega⟩ : Fin 256) = l from Fin.ext (by show 128 + (l.val - 64 - 64) = l.val; omega)]
  rw [dif_neg h2, mixed3_eq]
  simp only [show (⟨192 + (l.val - 64 - 64 - 64), by omega⟩ : Fin 256) = l from Fin.ext (by show 192 + (l.val - 64 - 64 - 64) = l.val; omega)]

theorem q_eq (k : Fin 384) : (val_main_v176 (F := Ideal) x0 x1) (ix2 t k) = q (P x0 x1) t k := by
  unfold val_main_v176 val_main_v4 val_main_v3 q
  pointwise
  rw [proj_eq, proj_eq]
  rfl

theorem placedQ_eq (s : Fin 16386) (l : Fin 384) : (val_main_v179 (F := Ideal) x0 x1) (ix2 s l) = ext (fun t => q (P x0 x1) t l) (s.val + 31) := by
  unfold val_main_v179 val_main_v178 val_main_cst_31 val_main_v177 val_main_cst_30
  pointwise
  by_cases h1 : s.val < 1
  · rw [dif_pos h1, ext_out _ _ (by omega)]
  · by_cases h2 : s.val - 1 < 16384
    · rw [dif_neg h1, dif_pos h2, q_eq]
      exact (ext_main (fun t => q (P x0 x1) t l) ⟨s.val - 1, h2⟩ _ (by show s.val + 31 = s.val - 1 + 32; omega)).symm
    · rw [dif_neg h1, dif_neg h2, ext_out _ _ (by omega)]

theorem yb_eq (k : Fin 384) : (val_main_v202 (F := Ideal) x0 x1 x4) (ix2 t k) = yb (P x0 x1) (SW x4) t k := by
  unfold val_main_v202 val_main_v201 val_main_v200 val_main_v199 val_main_v198 val_main_v197 val_main_v196 val_main_v195
    val_main_v194 val_main_v193 val_main_v192 val_main_v191 val_main_v190 val_main_v189 val_main_v188 val_main_cst_32
    val_main_v187 val_main_v186 val_main_v185 val_main_v184 val_main_v183 val_main_v182 val_main_v181 val_main_v180
    val_main_v2 yb sconv
  pointwise
  simp only [placedQ_eq, proj_eq, sw_eq]
  rw [Finset.sum_congr rfl fun j _ => congrArg (fun p => SW x4 j k * ext (fun t => q (P x0 x1) t k) p)
    (show t.val + 31 + j = j + t.val + 31 by omega)]
  simp only [Finset.sum_range_succ, Finset.sum_range_zero, zero_add]
  rfl

theorem a0_eq (k : Fin 384) : (val_main_v209 (F := Ideal) x0 x1) (ix2 t k) = a0 (P x0 x1) t k := by
  unfold val_main_v209 val_main_v208 val_main_v207 val_main_cst_34 val_main_v206 val_main_v205 val_main_cst_33 val_main_v204
    val_main_v203 val_main_v6 val_main_v5 a0 sg
  pointwise
  rw [proj_eq, proj_eq]
  rfl

theorem placedA_eq (s : Fin 16414) (l : Fin 384) : (val_main_v212 (F := Ideal) x0 x1) (ix2 s l) = ext (fun t => a0 (P x0 x1) t l) (s.val + 17) := by
  unfold val_main_v212 val_main_v211 val_main_cst_36 val_main_v210 val_main_cst_35
  pointwise
  by_cases h1 : s.val < 15
  · rw [dif_pos h1, ext_out _ _ (by omega)]
  · by_cases h2 : s.val - 15 < 16384
    · rw [dif_neg h1, dif_pos h2, a0_eq]
      exact (ext_main (fun t => a0 (P x0 x1) t l) ⟨s.val - 15, h2⟩ _ (by show s.val + 17 = s.val - 15 + 32; omega)).symm
    · rw [dif_neg h1, dif_neg h2, ext_out _ _ (by omega)]

theorem a1_eq (k : Fin 384) : (val_main_v433 (F := Ideal) x0 x1 x5 x6) (ix2 t k) = a1 (P x0 x1) (CW x5) (A384 x6) t k := by
  unfold val_main_v433 val_main_v432 val_main_v431 val_main_v430 val_main_v429 val_main_v428 val_main_v427 val_main_v426
    val_main_v425 val_main_v424 val_main_v423 val_main_v422 val_main_v421 val_main_v420 val_main_v419 val_main_v418
    val_main_v417 val_main_v416 val_main_v415 val_main_v414 val_main_v413 val_main_v412 val_main_v411 val_main_v410
    val_main_v409 val_main_v408 val_main_v407 val_main_v406 val_main_v405 val_main_v404 val_main_v403 val_main_v402
    val_main_v401 val_main_v400 val_main_v399 val_main_v398 val_main_v397 val_main_v396 val_main_v395 val_main_v394
    val_main_v393 val_main_v392 val_main_v391 val_main_v390 val_main_v389 val_main_v388 val_main_v387 val_main_v386
    val_main_v385 val_main_v384 val_main_v383 val_main_v382 val_main_v381 val_main_v380 val_main_v379 val_main_v378
    val_main_v377 val_main_v376 val_main_v375 val_main_v374 val_main_v373 val_main_v372 val_main_v371 val_main_v370
    val_main_v369 val_main_v368 val_main_v367 val_main_v366 val_main_v365 val_main_v364 val_main_v363 val_main_v362
    val_main_v361 val_main_v360 val_main_v359 val_main_v358 val_main_v357 val_main_v356 val_main_v355 val_main_v354
    val_main_v353 val_main_v352 val_main_v351 val_main_v350 val_main_v349 val_main_v348 val_main_v347 val_main_v346
    val_main_v345 val_main_v344 val_main_v343 val_main_v342 val_main_v341 val_main_v340 val_main_v339 val_main_v338
    val_main_v337 val_main_v336 val_main_v335 val_main_v334 val_main_v333 val_main_v332 val_main_v331 val_main_v330
    val_main_v329 val_main_v328 val_main_v327 val_main_v326 val_main_v325 val_main_v324 val_main_v323 val_main_v322
    val_main_v321 val_main_v320 val_main_v319 val_main_v318 val_main_v317 val_main_v316 val_main_v315 val_main_v314
    val_main_v313 val_main_v312 val_main_v311 val_main_v310 val_main_v309 val_main_v308 val_main_v307 val_main_v306
    val_main_v305 val_main_v304 val_main_v303 val_main_v302 val_main_v301 val_main_v300 val_main_v299 val_main_v298
    val_main_v297 val_main_v296 val_main_v295 val_main_v294 val_main_v293 val_main_v292 val_main_v291 val_main_v290
    val_main_v289 val_main_v288 val_main_v287 val_main_v286 val_main_v285 val_main_v284 val_main_v283 val_main_v282
    val_main_v281 val_main_v280 val_main_v279 val_main_v278 val_main_v277 val_main_v276 val_main_v275 val_main_v274
    val_main_v273 val_main_v272 val_main_v271 val_main_v270 val_main_v269 val_main_v268 val_main_v267 val_main_v266
    val_main_v265 val_main_v264 val_main_v263 val_main_v262 val_main_v261 val_main_v260 val_main_v259 val_main_v258
    val_main_v257 val_main_v256 val_main_v255 val_main_v254 val_main_v253 val_main_v252 val_main_v251 val_main_v250
    val_main_v249 val_main_cst_37 val_main_v248 val_main_v247 val_main_v246 val_main_v245 val_main_v244 val_main_v243
    val_main_v242 val_main_v241 val_main_v240 val_main_v239 val_main_v238 val_main_v237 val_main_v236 val_main_v235
    val_main_v234 val_main_v233 val_main_v232 val_main_v231 val_main_v230 val_main_v229 val_main_v228 val_main_v227
    val_main_v226 val_main_v225 val_main_v224 val_main_v223 val_main_v222 val_main_v221 val_main_v220 val_main_v219
    val_main_v218 val_main_v217 val_main_v216 val_main_v215 val_main_v214 val_main_v213 a1
  pointwise
  simp only [placedA_eq, cw_eq]
  rw [Finset.sum_congr rfl fun j _ => congrArg (fun p => CW x5 j k * ext (fun t => a0 (P x0 x1) t k) p)
    (show t.val + 17 + j = j + t.val + 17 by omega)]
  simp only [Finset.sum_range_succ, Finset.sum_range_zero, zero_add]
  rfl

theorem ln_eq (k : Fin 384) : (val_main_v457 (F := Ideal) x0 x1 x5 x6 x7 x8) (ix2 t k) = MixNorm.ln (a1 (P x0 x1) (CW x5) (A384 x6) t) (A384 x7) (A384 x8) k := by
  unfold val_main_v457 val_main_v456 val_main_v455 val_main_v454 val_main_v453 val_main_v452 val_main_v451 val_main_v450
    val_main_v449 val_main_v448 val_main_v447 val_main_cst_42 val_main_v446 val_main_v445 val_main_v444 val_main_v443
    val_main_cst_41 val_main_v442 val_main_v441 val_main_cst_40 val_main_v440 val_main_v439 val_main_v438 val_main_v437
    val_main_v436 val_main_cst_39 val_main_v435 val_main_v434 val_main_cst_38 MixNorm.ln MixNorm.norm MixNorm.rstd
    MixNorm.cen MixNorm.mean
  pointwise
  simp only [a1_eq]
  rfl

theorem yc_eq (k : Fin 384) : (val_main_v458 (F := Ideal) x0 x1 x5 x6 x7 x8) (ix2 t k) = yc (P x0 x1) (CW x5) (A384 x6) (A384 x7) (A384 x8) t k := by
  unfold val_main_v458 val_main_call0_v5 val_main_call0_v4 val_main_call0_cst_0 val_main_call0_v3 val_main_call0_v2
    val_main_call0_cst val_main_call0_v1 val_main_call0_v0 yc sg
  pointwise
  simp only [ln_eq]

theorem ycat_eq (j : Fin 1024) : (val_main_v459 (F := Ideal) x0 x1 x2 x3 x4 x5 x6 x7 x8) (ix2 t j)
    = ycat (P x0 x1) (PW x2) (PS x3) (SW x4) (CW x5) (A384 x6) (A384 x7) (A384 x8) t j := by
  unfold val_main_v459 ycat
  pointwise
  by_cases h0 : j.val < 256
  · rw [dif_pos h0, dif_pos h0, ya_eq]
  rw [dif_neg h0, dif_neg h0]
  by_cases h1 : j.val - 256 < 384
  · rw [dif_pos h1, dif_pos (by omega), yb_eq]
  rw [dif_neg h1, dif_neg (by omega), yc_eq]
  exact congrArg _ (Fin.ext (by show j.val - 256 - 384 = j.val - 640; omega))

theorem z_eq (k : Fin 1024) : (val_main_v463 (F := Ideal) x0 x1 x2 x3 x4 x5 x6 x7 x8 x9) (ix2 t k)
    = z (P x0 x1) (PW x2) (PS x3) (SW x4) (CW x5) (A384 x6) (A384 x7) (A384 x8) (Y x0) (WO x9) t k := by
  unfold val_main_v463 val_main_v462 val_main_v461 val_main_v460 val_main_cst_43 z LayerNorm.alpha
  pointwise
  simp only [ycat_eq]

theorem y2_eq (k : Fin 1024) : (val_main_v487 (F := Ideal) x0 x1 x2 x3 x4 x5 x6 x7 x8 x9 x10 x11) (ix2 t k)
    = y2 (P x0 x1) (PW x2) (PS x3) (SW x4) (CW x5) (A384 x6) (A384 x7) (A384 x8) (Y x0) (WO x9) (A1024 x10) (A1024 x11) t k := by
  unfold val_main_v487 val_main_v486 val_main_v485 val_main_v484 val_main_v483 val_main_v482 val_main_v481 val_main_v480
    val_main_v479 val_main_v478 val_main_v477 val_main_cst_48 val_main_v476 val_main_v475 val_main_v474 val_main_v473
    val_main_cst_47 val_main_v472 val_main_v471 val_main_cst_46 val_main_v470 val_main_v469 val_main_v468 val_main_v467
    val_main_v466 val_main_cst_45 val_main_v465 val_main_v464 val_main_cst_44 y2 LayerNorm.ln LayerNorm.norm
    LayerNorm.rstd LayerNorm.cen LayerNorm.mean
  pointwise
  simp only [z_eq]
  rfl

theorem ycatb_eq (j : Fin 1024) : (val_main_v488 (F := Ideal) x0 x1 x2 x3 x4 x5 x6 x7 x8) (ix2 t j)
    = ycat (P x0 x1) (PW x2) (PS x3) (SW x4) (CW x5) (A384 x6) (A384 x7) (A384 x8) t j := by
  unfold val_main_v488
  pointwise
  rw [ycat_eq]

theorem y2b_eq (k : Fin 1024) : (val_main_v489 (F := Ideal) x0 x1 x2 x3 x4 x5 x6 x7 x8 x9 x10 x11) (ix2 t k)
    = y2 (P x0 x1) (PW x2) (PS x3) (SW x4) (CW x5) (A384 x6) (A384 x7) (A384 x8) (Y x0) (WO x9) (A1024 x10) (A1024 x11) t k := by
  unfold val_main_v489
  pointwise
  rw [y2_eq]

end Cert.MixFwdRefIdeal.Heads
-- ==== Proof.MixFwdValue.lean ====
/-
  The value claim of the mixer's forward pass: the kernel's six results are the reference's.
-/
module

public import proofs.«01_k».proof.Defs
public import proofs.«01_k».proof.Proof.MixFwdFold
public import proofs.«01_k».proof.Proof.MixFwdRef
public import proofs.«01_k».proof.Proof.Gen.MixFwdRefIdeal.Run

@[expose] public section

set_option maxRecDepth 16384

noncomputable section

open Idealize.ShloMosaic Idealize.ShloMosaic.TcCoe Idealize.SL.Sem

namespace Cert.MixFwdValue

open Cert.MixFwdIdeal (cfg0)
open Cert.MixFwdIdeal.Gen (dats)

variable (m : (ℓ : Loc Cert.MixFwdIdeal.nD Cert.MixFwdIdeal.τ Cert.MixFwdIdeal.sig) → Buf (Elt Ideal) ℓ)
  (c : Dev Cert.MixFwdIdeal.nD)

/-- The arguments of core `c`. -/
abbrev b0 : (⟨Cert.MixFwdRefIdeal.S16384x1024, .f32⟩ : BufTy).Contents (Elt Ideal) := m (c.tc.loc Cert.MixFwdIdeal.main_arg0)
abbrev b1 : (⟨Cert.MixFwdRefIdeal.S1024x2176, .f32⟩ : BufTy).Contents (Elt Ideal) := m (c.tc.loc Cert.MixFwdIdeal.main_arg1)
abbrev b2 : (⟨Cert.MixFwdRefIdeal.S4x64x64, .f32⟩ : BufTy).Contents (Elt Ideal) := m (c.tc.loc Cert.MixFwdIdeal.main_arg2)
abbrev b3 : (⟨Cert.MixFwdRefIdeal.S256, .f32⟩ : BufTy).Contents (Elt Ideal) := m (c.tc.loc Cert.MixFwdIdeal.main_arg3)
abbrev b4 : (⟨Cert.MixFwdRefIdeal.S3x384, .f32⟩ : BufTy).Contents (Elt Ideal) := m (c.tc.loc Cert.MixFwdIdeal.main_arg4)
abbrev b5 : (⟨Cert.MixFwdRefIdeal.S31x384, .f32⟩ : BufTy).Contents (Elt Ideal) := m (c.tc.loc Cert.MixFwdIdeal.main_arg5)
abbrev b6 : (⟨Cert.MixFwdRefIdeal.S384, .f32⟩ : BufTy).Contents (Elt Ideal) := m (c.tc.loc Cert.MixFwdIdeal.main_arg6)
abbrev b7 : (⟨Cert.MixFwdRefIdeal.S384, .f32⟩ : BufTy).Contents (Elt Ideal) := m (c.tc.loc Cert.MixFwdIdeal.main_arg7)
abbrev b8 : (⟨Cert.MixFwdRefIdeal.S384, .f32⟩ : BufTy).Contents (Elt Ideal) := m (c.tc.loc Cert.MixFwdIdeal.main_arg8)
abbrev b9 : (⟨Cert.MixFwdRefIdeal.S1024x1024, .f32⟩ : BufTy).Contents (Elt Ideal) := m (c.tc.loc Cert.MixFwdIdeal.main_arg9)
abbrev b10 : (⟨Cert.MixFwdRefIdeal.S1024, .f32⟩ : BufTy).Contents (Elt Ideal) := m (c.tc.loc Cert.MixFwdIdeal.main_arg10)
abbrev b11 : (⟨Cert.MixFwdRefIdeal.S1024, .f32⟩ : BufTy).Contents (Elt Ideal) := m (c.tc.loc Cert.MixFwdIdeal.main_arg11)

theorem proj_eq : Cert.MixFwdRefIdeal.Read.val_main_v0 (F := Ideal) (b0 m c) (b1 m c)
    = (dats m 0 c).arrAt 15 cfg0.N := by
  funext i
  obtain ⟨t, k, rfl⟩ : ∃ (t : Fin 16384) (k : Fin 2176), i = ix2 t k := ⟨i 0, i 1, eq_ix2 i⟩
  refine (Cert.MixFwdRefIdeal.Heads.proj_eq (b0 m c) (b1 m c) t k).trans (Cert.MixFwdIdeal.Fold.arr15_apply m c t k).symm

theorem ycat_eq : Cert.MixFwdRefIdeal.Read.val_main_v488 (F := Ideal) (b0 m c) (b1 m c) (b2 m c) (b3 m c) (b4 m c) (b5 m c) (b6 m c) (b7 m c) (b8 m c)
    = (dats m 0 c).arrAt 16 cfg0.N := by
  funext i
  obtain ⟨t, k, rfl⟩ : ∃ (t : Fin 16384) (k : Fin 1024), i = ix2 t k := ⟨i 0, i 1, eq_ix2 i⟩
  refine (Cert.MixFwdRefIdeal.Heads.ycatb_eq (b0 m c) (b1 m c) (b2 m c) (b3 m c) (b4 m c) (b5 m c) (b6 m c) (b7 m c) (b8 m c) t k).trans (Cert.MixFwdIdeal.Fold.arr16_apply m c t k).symm

theorem conv_eq : Cert.MixFwdRefIdeal.Read.val_main_v433 (F := Ideal) (b0 m c) (b1 m c) (b5 m c) (b6 m c)
    = (dats m 0 c).arrAt 17 cfg0.N := by
  funext i
  obtain ⟨t, k, rfl⟩ : ∃ (t : Fin 16384) (k : Fin 384), i = ix2 t k := ⟨i 0, i 1, eq_ix2 i⟩
  refine (Cert.MixFwdRefIdeal.Heads.a1_eq (b0 m c) (b1 m c) (b5 m c) (b6 m c) t k).trans (Cert.MixFwdIdeal.Fold.arr17_apply m c t k).symm

theorem y2_eq : Cert.MixFwdRefIdeal.Read.val_main_v487 (F := Ideal) (b0 m c) (b1 m c) (b2 m c) (b3 m c) (b4 m c) (b5 m c) (b6 m c) (b7 m c) (b8 m c) (b9 m c) (b10 m c) (b11 m c)
    = (dats m 0 c).arrAt 18 cfg0.N := by
  funext i
  obtain ⟨t, k, rfl⟩ : ∃ (t : Fin 16384) (k : Fin 1024), i = ix2 t k := ⟨i 0, i 1, eq_ix2 i⟩
  refine (Cert.MixFwdRefIdeal.Heads.y2_eq (b0 m c) (b1 m c) (b2 m c) (b3 m c) (b4 m c) (b5 m c) (b6 m c) (b7 m c) (b8 m c) (b9 m c) (b10 m c) (b11 m c) t k).trans (Cert.MixFwdIdeal.Fold.arr18_apply m c t k).symm

theorem y2b_eq : Cert.MixFwdRefIdeal.Read.val_main_v489 (F := Ideal) (b0 m c) (b1 m c) (b2 m c) (b3 m c) (b4 m c) (b5 m c) (b6 m c) (b7 m c) (b8 m c) (b9 m c) (b10 m c) (b11 m c)
    = (dats m 0 c).arrAt 19 cfg0.N := by
  funext i
  obtain ⟨t, k, rfl⟩ : ∃ (t : Fin 16384) (k : Fin 1024), i = ix2 t k := ⟨i 0, i 1, eq_ix2 i⟩
  refine (Cert.MixFwdRefIdeal.Heads.y2b_eq (b0 m c) (b1 m c) (b2 m c) (b3 m c) (b4 m c) (b5 m c) (b6 m c) (b7 m c) (b8 m c) (b9 m c) (b10 m c) (b11 m c) t k).trans (Cert.MixFwdIdeal.Fold.arr19_apply m c t k).symm

theorem z_eq : Cert.MixFwdRefIdeal.Read.val_main_v463 (F := Ideal) (b0 m c) (b1 m c) (b2 m c) (b3 m c) (b4 m c) (b5 m c) (b6 m c) (b7 m c) (b8 m c) (b9 m c)
    = (dats m 0 c).arrAt 20 cfg0.N := by
  funext i
  obtain ⟨t, k, rfl⟩ : ∃ (t : Fin 16384) (k : Fin 1024), i = ix2 t k := ⟨i 0, i 1, eq_ix2 i⟩
  refine (Cert.MixFwdRefIdeal.Heads.z_eq (b0 m c) (b1 m c) (b2 m c) (b3 m c) (b4 m c) (b5 m c) (b6 m c) (b7 m c) (b8 m c) (b9 m c) t k).trans (Cert.MixFwdIdeal.Fold.arr20_apply m c t k).symm

theorem algebraic : algebraic_MixFwdIdeal_MixFwdRefIdeal := by
  intro m ρ m' ρ' _ hagree
  refine ⟨fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N,
    Cert.MixFwdIdeal.Value.run_blocks m ρ, ?_⟩
  refine (θ_run _ _ _).mono (fun _ h c => ?_) (Cert.MixFwdRefIdeal.Value.run m' ρ')
  obtain ⟨e0, e1, e2, e3, e4, e5, e6, e7, e8, e9, e10, e11⟩ := hagree c
  obtain ⟨r0, r1, r2, r3, r4, r5, k⟩ := h c
  refine ⟨r0.trans ?_, r1.trans ?_, r2.trans ?_, r3.trans ?_, r4.trans ?_, r5.trans ?_, k⟩
  · refine (Cert.MixFwdRefIdeal.Read.val_main_v0_eq _).trans (Eq.trans ?_ (proj_eq m c))
    simp only [b0, b1, ← e0, ← e1]
  · refine (Cert.MixFwdRefIdeal.Read.val_main_v488_eq _).trans (Eq.trans ?_ (ycat_eq m c))
    simp only [b0, b1, b2, b3, b4, b5, b6, b7, b8, ← e0, ← e1, ← e2, ← e3, ← e4, ← e5, ← e6, ← e7, ← e8]
  · refine (Cert.MixFwdRefIdeal.Read.val_main_v433_eq _).trans (Eq.trans ?_ (conv_eq m c))
    simp only [b0, b1, b5, b6, ← e0, ← e1, ← e5, ← e6]
  · refine (Cert.MixFwdRefIdeal.Read.val_main_v487_eq _).trans (Eq.trans ?_ (y2_eq m c))
    simp only [b0, b1, b2, b3, b4, b5, b6, b7, b8, b9, b10, b11, ← e0, ← e1, ← e2, ← e3, ← e4, ← e5, ← e6, ← e7, ← e8, ← e9, ← e10, ← e11]
  · refine (Cert.MixFwdRefIdeal.Read.val_main_v489_eq _).trans (Eq.trans ?_ (y2b_eq m c))
    simp only [b0, b1, b2, b3, b4, b5, b6, b7, b8, b9, b10, b11, ← e0, ← e1, ← e2, ← e3, ← e4, ← e5, ← e6, ← e7, ← e8, ← e9, ← e10, ← e11]
  · refine (Cert.MixFwdRefIdeal.Read.val_main_v463_eq _).trans (Eq.trans ?_ (z_eq m c))
    simp only [b0, b1, b2, b3, b4, b5, b6, b7, b8, b9, ← e0, ← e1, ← e2, ← e3, ← e4, ← e5, ← e6, ← e7, ← e8, ← e9]

end Cert.MixFwdValue
-- ==== Proof.LnPartsBody.lean ====
/-
  What one grid point of the layer norm's backward kernel, the cotangent a sum of parts, leaves in its windows, as the
  body's own named payloads: the two cases are the first token block and the later ones.
-/
module

public import proofs.«01_k».proof.Proof.Gen.LnPartsIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.LnPartsIdeal.Body

open Cert.LnPartsIdeal Cert.LnPartsIdeal.Gen

theorem hz2 : (![0, 0] : Fin 2 → Nat) = fun _ => 0 := funext fun a => by fin_cases a <;> rfl

variable {F : FTy → Type} [FloatOps F]

/-- The cotangent's block: the first block plus the four slabs of the parts' block. -/
def cotB (x0 : Vec F S512x1024 .f32) (x1 : Vec F S4x512x1024 .bf16) : FVec F S512x1024 .f32 :=
  k0_pay2 x0 (View.ld x1 (Rect.unit (s := S4x512x1024) ![0, 0, 0] S1x512x1024.size inb_S4x512x1024_S1x512x1024_0_0_0)) (View.ld x1 (Rect.unit (s := S4x512x1024) ![1, 0, 0] S1x512x1024.size inb_S4x512x1024_S1x512x1024_1_0_0)) (View.ld x1 (Rect.unit (s := S4x512x1024) ![2, 0, 0] S1x512x1024.size inb_S4x512x1024_S1x512x1024_2_0_0)) (View.ld x1 (Rect.unit (s := S4x512x1024) ![3, 0, 0] S1x512x1024.size inb_S4x512x1024_S1x512x1024_3_0_0))

variable (c : Dev nD) (i : grid0.Coords)
  (a1 : Memref sig .tc .vmem S512x1024 .f32) (h1 : a1.IsWhole)
  (a2 : Memref sig .tc .vmem S4x512x1024 .bf16) (h2 : a2.IsWhole)
  (a3 : Memref sig .tc .vmem S512x1024 .f32) (h3 : a3.IsWhole)
  (a4 : Memref sig .tc .vmem S1x1024 .f32) (h4 : a4.IsWhole)
  (a5 : Memref sig .tc .vmem S512x1024 .bf16) (h5 : a5.IsWhole)
  (a6 : Memref sig .tc .vmem S512x1024 .f32) (h6 : a6.IsWhole)
  (a7 : Memref sig .tc .vmem S1x1024 .f32) (h7 : a7.IsWhole)
  (a8 : Memref sig .tc .vmem S1x1024 .f32) (h8 : a8.IsWhole)
  (x0 : Vec F S512x1024 .f32) (x1 : Vec F S4x512x1024 .bf16) (x2 : Vec F S512x1024 .f32) (x3 : Vec F S1x1024 .f32)
  (w6 w7 : Vec F S1x1024 .f32)

theorem out0_A_4_eq (e : cond0_0 i) :
    out0_A_4 c i a1 h1 a2 h2 a3 h3 a4 h4 a5 h5 a6 h6 a7 h7 a8 h8 e x0 x1 x2 x3 =
      k0_pay9 (cotB x0 x1) (k0_pay3 x3) (k0_pay4 x2) (k0_pay5 x2) (k0_pay6 x2) := by
  unfold out0_A_4
  rw [View.read_writes_eq_canon _ _ _ (cover0_A_4 c i a1 h1 a2 h2 a3 h3 a4 h4 a5 h5 a6 h6 a7 h7 a8 h8 e x0 x1 x2 x3)]
  unfold kernelRun0_A cotB
  dsimp only
  sl_unfold_words
  rw [View.canon_unit_zero (S := S512x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

theorem out0_A_5_eq (e : cond0_0 i) :
    out0_A_5 c i a1 h1 a2 h2 a3 h3 a4 h4 a5 h5 a6 h6 a7 h7 a8 h8 e x0 x1 x2 x3 =
      k0_pay10 (cotB x0 x1) (k0_pay3 x3) (k0_pay4 x2) (k0_pay5 x2) (k0_pay6 x2) := by
  unfold out0_A_5
  rw [View.read_writes_eq_canon _ _ _ (cover0_A_5 c i a1 h1 a2 h2 a3 h3 a4 h4 a5 h5 a6 h6 a7 h7 a8 h8 e x0 x1 x2 x3)]
  unfold kernelRun0_A cotB
  dsimp only
  sl_unfold_words
  rw [View.canon_unit_zero (S := S512x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

theorem out0_A_6_eq (e : cond0_0 i) :
    out0_A_6 c i a1 h1 a2 h2 a3 h3 a4 h4 a5 h5 a6 h6 a7 h7 a8 h8 e x0 x1 x2 x3 =
      k0_pay13 (cotB x0 x1) (k0_pay4 x2) (k0_pay6 x2) k0_pay11 := by
  unfold out0_A_6
  rw [View.read_writes_eq_canon _ _ _ (cover0_A_6 c i a1 h1 a2 h2 a3 h3 a4 h4 a5 h5 a6 h6 a7 h7 a8 h8 e x0 x1 x2 x3)]
  unfold kernelRun0_A cotB
  dsimp only
  sl_unfold_words
  rw [View.canon_cons_unit_zero (S := S1x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

theorem out0_A_7_eq (e : cond0_0 i) :
    out0_A_7 c i a1 h1 a2 h2 a3 h3 a4 h4 a5 h5 a6 h6 a7 h7 a8 h8 e x0 x1 x2 x3 =
      k0_pay1 (k0_pay14 k0_pay12) (k0_pay15 (cotB x0 x1)) := by
  unfold out0_A_7
  rw [View.read_writes_eq_canon _ _ _ (cover0_A_7 c i a1 h1 a2 h2 a3 h3 a4 h4 a5 h5 a6 h6 a7 h7 a8 h8 e x0 x1 x2 x3)]
  unfold kernelRun0_A cotB
  dsimp only
  sl_unfold_words
  rw [View.canon_cons_unit_zero (S := S1x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

theorem out0_B_4_eq (e : ¬cond0_0 i) :
    out0_B_4 c i a1 h1 a2 h2 a3 h3 a4 h4 a5 h5 a6 h6 a7 h7 a8 h8 e x0 x1 x2 x3 w6 w7 =
      k0_pay9 (cotB x0 x1) (k0_pay3 x3) (k0_pay4 x2) (k0_pay5 x2) (k0_pay6 x2) := by
  unfold out0_B_4
  rw [View.read_writes_eq_canon _ _ _ (cover0_B_4 c i a1 h1 a2 h2 a3 h3 a4 h4 a5 h5 a6 h6 a7 h7 a8 h8 e x0 x1 x2 x3 w6 w7)]
  unfold kernelRun0_B cotB
  dsimp only
  sl_unfold_words
  rw [View.canon_unit_zero (S := S512x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

theorem out0_B_5_eq (e : ¬cond0_0 i) :
    out0_B_5 c i a1 h1 a2 h2 a3 h3 a4 h4 a5 h5 a6 h6 a7 h7 a8 h8 e x0 x1 x2 x3 w6 w7 =
      k0_pay10 (cotB x0 x1) (k0_pay3 x3) (k0_pay4 x2) (k0_pay5 x2) (k0_pay6 x2) := by
  unfold out0_B_5
  rw [View.read_writes_eq_canon _ _ _ (cover0_B_5 c i a1 h1 a2 h2 a3 h3 a4 h4 a5 h5 a6 h6 a7 h7 a8 h8 e x0 x1 x2 x3 w6 w7)]
  unfold kernelRun0_B cotB
  dsimp only
  sl_unfold_words
  rw [View.canon_unit_zero (S := S512x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

theorem out0_B_6_eq (e : ¬cond0_0 i) :
    out0_B_6 c i a1 h1 a2 h2 a3 h3 a4 h4 a5 h5 a6 h6 a7 h7 a8 h8 e x0 x1 x2 x3 w6 w7 =
      k0_pay13 (cotB x0 x1) (k0_pay4 x2) (k0_pay6 x2) w6 := by
  unfold out0_B_6
  rw [View.read_writes_eq_canon _ _ _ (cover0_B_6 c i a1 h1 a2 h2 a3 h3 a4 h4 a5 h5 a6 h6 a7 h7 a8 h8 e x0 x1 x2 x3 w6 w7)]
  unfold kernelRun0_B cotB
  dsimp only
  sl_unfold_words
  rw [View.canon_unit_zero (S := S1x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

theorem out0_B_7_eq (e : ¬cond0_0 i) :
    out0_B_7 c i a1 h1 a2 h2 a3 h3 a4 h4 a5 h5 a6 h6 a7 h7 a8 h8 e x0 x1 x2 x3 w6 w7 =
      k0_pay1 (k0_pay14 w7) (k0_pay15 (cotB x0 x1)) := by
  unfold out0_B_7
  rw [View.read_writes_eq_canon _ _ _ (cover0_B_7 c i a1 h1 a2 h2 a3 h3 a4 h4 a5 h5 a6 h6 a7 h7 a8 h8 e x0 x1 x2 x3 w6 w7)]
  unfold kernelRun0_B cotB
  dsimp only
  sl_unfold_words
  rw [View.canon_unit_zero (S := S1x1024) hz2]
  simp only [View.readCov_unit_zero (S := S1x1024) _ hz2, View.readCov_unit_zero (S := S512x1024) _ hz2, View.readAt_eq_ld, h1.read_unread, h2.read_unread, h3.read_unread, h4.read_unread, h5.read_unread, h6.read_unread, h7.read_unread, h8.read_unread,
    View.ld_unit_zero (S := S1x1024) hz2, View.ld_unit_zero (S := S512x1024) hz2]

end Cert.LnPartsIdeal.Body
-- ==== Proof.LnPartsSpec.lean ====
/-
  What the layer norm's backward pass computes where the cotangent of the norm's value is a sum of five arrays: one and
  the four shards' parts.
-/
module

public import proofs.«01_k».proof.Proof.LnBwdSpec

@[expose] public section

noncomputable section

open Idealize.ShloMosaic

namespace Cert.LnParts.Spec

open Cert.LayerNorm Cert.LnBwd.Spec

variable (DY : Fin 16384 → Fin 1024 → EReal) (DP : Fin 4 → Fin 16384 → Fin 1024 → EReal)
  (X F : Fin 16384 → Fin 1024 → EReal)

/-- The cotangent of the norm's value. -/
def d (t : Fin 16384) (k : Fin 1024) : EReal := DY t k + ∑ p, DP p t k

/-- The gradients of the gain and of the bias. -/
def dg (k : Fin 1024) : EReal := ∑ t, d DY DP t k * LayerNorm.norm (z X F t) k
def db (k : Fin 1024) : EReal := ∑ t, d DY DP t k

end Cert.LnParts.Spec
-- ==== Proof.LnPartsBlocks.lean ====
/-
  The arrays the region of the layer norm backward with parts finds and the blocks its windows cut from them, read at an index.
-/
module

public import proofs.«01_k».proof.Proof.Gen.LnPartsIdeal.Frame.Runs
public import proofs.«01_k».proof.Proof.LnPartsSpec
public import Idealize.ShloMosaic.Lib.Pipeline.Value
public import Idealize.ShloMosaic.Lib.StableHlo.ReadAt
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.LnPartsIdeal.Blocks

open Cert.LnPartsIdeal Cert.LnPartsIdeal.Gen

variable (m : (ℓ : Loc nD τ sig) → Buf (Elt Ideal) ℓ) (c : Dev nD)

open Cert.LnBwd.Spec (z)

/-- The arguments at an index. -/
abbrev DY (t : Fin 16384) (k : Fin 1024) : EReal := m ((c : Thread nD τ).loc main_arg0) (ix2 t k)
abbrev DP (p : Fin 4) (t : Fin 16384) (k : Fin 1024) : EReal := m ((c : Thread nD τ).loc main_arg1) (ix3 p t k)
abbrev X (t : Fin 16384) (k : Fin 1024) : EReal := m ((c : Thread nD τ).loc main_arg2) (ix2 t k)
abbrev FV (t : Fin 16384) (k : Fin 1024) : EReal := m ((c : Thread nD τ).loc main_arg3) (ix2 t k)
abbrev LG (k : Fin 1024) : EReal := m ((c : Thread nD τ).loc main_arg4) (ix1 k)

theorem V_dy (t : Fin 16384) (k : Fin 1024) : V m c main_arg0 (ix2 t k) = DY m c t k := by
  unfold V hostOps0; after_reads_at
theorem V_dp (p : Fin 4) (t : Fin 16384) (k : Fin 1024) : V m c main_v0 (ix3 p t k) = DP m c p t k := by
  unfold V hostOps0; after_reads_at
theorem V_z (t : Fin 16384) (k : Fin 1024) : V m c main_v3 (ix2 t k) = z (X m c) (FV m c) t k := by
  unfold V hostOps0 z LayerNorm.alpha; after_reads_at
theorem V_g (k : Fin 1024) : V m c main_v4 (ix2 0 k) = LG m c k := by
  unfold V hostOps0; after_reads_at

/-- The token row that row `r` of the block at point `t` is. -/
def tok (t : Fin cfg0.N) (r : Fin 512) : Fin 16384 := ⟨512 * (t.val % 32) + r.val, by omega⟩

theorem index0 : ∀ t : Fin grid0.N, win0_0.index t 0 = t.val % 32 ∧ win0_0.index t 1 = 0 := by
  decide +kernel
theorem index1 : ∀ t : Fin grid0.N, win0_1.index t 0 = 0 ∧ win0_1.index t 1 = t.val % 32 ∧ win0_1.index t 2 = 0 := by
  decide +kernel
theorem index2 : ∀ t : Fin grid0.N, win0_2.index t 0 = t.val % 32 ∧ win0_2.index t 1 = 0 := by
  decide +kernel
theorem index3 : ∀ t : Fin grid0.N, win0_3.index t 0 = 0 ∧ win0_3.index t 1 = 0 := by
  decide +kernel
theorem index4 : ∀ t : Fin grid0.N, win0_4.index t 0 = t.val % 32 ∧ win0_4.index t 1 = 0 := by
  decide +kernel
theorem index5 : ∀ t : Fin grid0.N, win0_5.index t 0 = t.val % 32 ∧ win0_5.index t 1 = 0 := by
  decide +kernel
theorem index6 : ∀ t : Fin grid0.N, win0_6.index t 0 = 0 ∧ win0_6.index t 1 = 0 := by
  decide +kernel
theorem index7 : ∀ t : Fin grid0.N, win0_7.index t 0 = 0 ∧ win0_7.index t 1 = 0 := by
  decide +kernel

theorem iblk0 (t : Fin cfg0.N) (r : Fin 512) (k : Fin 1024) :
    (iblk m c 0 t : Vec Ideal S512x1024 .f32) (ix2 r k) = DY m c (tok t r) k := by
  unfold iblk
  rw [View.read_apply]
  refine Eq.trans ?_ (V_dy m c (tok t r) k)
  show V m c main_arg0 _ = V m c main_arg0 _
  congr 1
  funext a
  apply Fin.ext
  match a with
  | ⟨0, _⟩ => show win0_0.index t 0 * 512 + 1 * r.val = 512 * (t.val % 32) + r.val; rw [(index0 t).1]; omega
  | ⟨1, _⟩ => show win0_0.index t 1 * 1024 + 1 * k.val = k.val; rw [(index0 t).2]; omega

theorem iblk1 (t : Fin cfg0.N) (p : Fin 4) (r : Fin 512) (k : Fin 1024) :
    (iblk m c 1 t : Vec Ideal S4x512x1024 .bf16) (ix3 p r k) = DP m c p (tok t r) k := by
  unfold iblk
  rw [View.read_apply]
  refine Eq.trans ?_ (V_dp m c p (tok t r) k)
  show V m c main_v0 _ = V m c main_v0 _
  congr 1
  funext a
  apply Fin.ext
  match a with
  | ⟨0, _⟩ => show win0_1.index t 0 * 4 + 1 * p.val = p.val; rw [(index1 t).1]; omega
  | ⟨1, _⟩ => show win0_1.index t 1 * 512 + 1 * r.val = 512 * (t.val % 32) + r.val; rw [(index1 t).2.1]; omega
  | ⟨2, _⟩ => show win0_1.index t 2 * 1024 + 1 * k.val = k.val; rw [(index1 t).2.2]; omega

theorem iblk2 (t : Fin cfg0.N) (r : Fin 512) (k : Fin 1024) :
    (iblk m c 2 t : Vec Ideal S512x1024 .f32) (ix2 r k) = z (X m c) (FV m c) (tok t r) k := by
  unfold iblk
  rw [View.read_apply]
  refine Eq.trans ?_ (V_z m c (tok t r) k)
  show V m c main_v3 _ = V m c main_v3 _
  congr 1
  funext a
  apply Fin.ext
  match a with
  | ⟨0, _⟩ => show win0_2.index t 0 * 512 + 1 * r.val = 512 * (t.val % 32) + r.val; rw [(index2 t).1]; omega
  | ⟨1, _⟩ => show win0_2.index t 1 * 1024 + 1 * k.val = k.val; rw [(index2 t).2]; omega

theorem iblk3 (t : Fin cfg0.N) (k : Fin 1024) :
    (iblk m c 3 t : Vec Ideal S1x1024 .f32) (ix2 0 k) = LG m c k := by
  unfold iblk
  rw [View.read_apply]
  refine Eq.trans ?_ (V_g m c k)
  show V m c main_v4 _ = V m c main_v4 _
  congr 1
  funext a
  apply Fin.ext
  match a with
  | ⟨0, _⟩ => show win0_3.index t 0 * 1 + 1 * 0 = 0; rw [(index3 t).1]
  | ⟨1, _⟩ => show win0_3.index t 1 * 1024 + 1 * k.val = k.val; rw [(index3 t).2]; omega

end Cert.LnPartsIdeal.Blocks
-- ==== Proof.LnPartsPay.lean ====
/-
  The named payloads of the layer norm backward body with parts read at an index, over the extended reals.
-/
module

public import proofs.«01_k».proof.Proof.LnPartsBody
public import proofs.«01_k».proof.Proof.LnPartsSpec
public import Idealize.ShloMosaic.Lib.Pointwise

@[expose] public section

set_option maxRecDepth 16384

noncomputable section

open Idealize.ShloMosaic Idealize.ShloMosaic.TcCoe Idealize.SL.Sem

namespace Cert.LnPartsIdeal.Pay

open Cert.LnPartsIdeal Cert.LnPartsIdeal.Gen Cert.LnPartsIdeal.Body Cert.LayerNorm
open Cert.LnBwd.Spec (dz)

variable (x0 : Vec Ideal S512x1024 .f32) (x1 : Vec Ideal S4x512x1024 .bf16)
  (x : Vec Ideal S512x1024 .f32) (g v : Vec Ideal S1x1024 .f32) (r : Fin 512) (k : Fin 1024)

/-- A block's row, and the cotangent's. -/
abbrev row (k : Fin 1024) : EReal := x (ix2 r k)
abbrev cot (k : Fin 1024) : EReal := x0 (ix2 r k) + ∑ p, x1 (ix3 p r k)

theorem cot_apply : cotB x0 x1 (ix2 r k) = cot x0 x1 r k := by
  unfold cotB k0_pay2
  pointwise
  show _ = x0 (ix2 r k) + ∑ p, x1 (ix3 p r k)
  rw [Fin.sum_univ_four]
  simp only [← add_assoc]

theorem cen_apply : k0_pay4 x (ix2 r k) = cen (row x r) k := by
  unfold k0_pay4 cen mean
  pointwise
  rfl

theorem rstd_apply : k0_pay5 x (ix2 r 0) = rstd (row x r) := by
  unfold k0_pay5 rstd mean
  pointwise
  simp only [cen_apply]
  rfl

theorem norm_apply : k0_pay7 (k0_pay4 x) (k0_pay6 x) (ix2 r k) = LayerNorm.norm (row x r) k := by
  unfold k0_pay7 k0_pay6 LayerNorm.norm
  pointwise
  rw [cen_apply, rstd_apply]

theorem dz_apply : k0_pay8 (cotB x0 x1) (k0_pay3 g) (k0_pay4 x) (k0_pay5 x) (k0_pay6 x) (ix2 r k) = dz (row x r) (cot x0 x1 r) (fun k => g (ix2 0 k)) k := by
  unfold k0_pay8 k0_pay3 dz mean
  pointwise
  simp only [rstd_apply, norm_apply, cot_apply]
  rfl

theorem dzb_apply : k0_pay9 (cotB x0 x1) (k0_pay3 g) (k0_pay4 x) (k0_pay5 x) (k0_pay6 x) (ix2 r k) = dz (row x r) (cot x0 x1 r) (fun k => g (ix2 0 k)) k := by
  unfold k0_pay9
  pointwise
  rw [dz_apply]

theorem dx_apply : k0_pay10 (cotB x0 x1) (k0_pay3 g) (k0_pay4 x) (k0_pay5 x) (k0_pay6 x) (ix2 r k) = alpha * dz (row x r) (cot x0 x1 r) (fun k => g (ix2 0 k)) k := by
  unfold k0_pay10
  pointwise
  rw [dz_apply]
  rfl

theorem dg_apply : k0_pay13 (cotB x0 x1) (k0_pay4 x) (k0_pay6 x) v (ix2 0 k)
    = v (ix2 0 k) + ∑ r, cot x0 x1 r k * LayerNorm.norm (row x r) k := by
  unfold k0_pay13
  pointwise
  simp only [cot_apply, norm_apply]

theorem db_apply : k0_pay1 (k0_pay14 v) (k0_pay15 (cotB x0 x1)) (ix2 0 k) = v (ix2 0 k) + ∑ r, cot x0 x1 r k := by
  unfold k0_pay1 k0_pay14 k0_pay15
  pointwise
  simp only [cot_apply]

theorem zero11_apply : k0_pay11 (F := Ideal) (ix2 0 k) = 0 := by
  unfold k0_pay11
  pointwise

theorem zero12_apply : k0_pay12 (F := Ideal) (ix2 0 k) = 0 := by
  unfold k0_pay12
  pointwise

end Cert.LnPartsIdeal.Pay
-- ==== Proof.LnPartsFold.lean ====
/-
  The grid of the layer norm backward with parts folded up: the two windows of the token gradient block by block, and the gain's and the
  bias's gradients as partial sums over the tokens seen so far; so the four result arrays, entry by entry.
-/
module

public import proofs.«01_k».proof.Proof.LnPartsBody
public import proofs.«01_k».proof.Proof.LnPartsBlocks
public import proofs.«01_k».proof.Proof.LnPartsPay
public import proofs.«01_k».proof.Proof.TokenSum
public import proofs.«01_k».proof.Proof.Gen.LnPartsIdeal.Value

@[expose] public section

set_option maxRecDepth 16384

noncomputable section

open Idealize.ShloMosaic Idealize.ShloMosaic.TcCoe Idealize.SL.Sem

namespace Cert.LnPartsIdeal.Fold

open Cert.LnPartsIdeal Cert.LnPartsIdeal.Gen Cert.LnPartsIdeal.Body Cert.LnPartsIdeal.Blocks Cert.LnPartsIdeal.Pay
open Cert.LnBwd.Spec (z dz)
open Cert.LnParts.Spec Cert.LayerNorm

variable (m : (ℓ : Loc nD τ sig) → Buf (Elt Ideal) ℓ) (c : Dev nD)

/-- The rows at the launch's arguments. -/
abbrev zM := z (X m c) (FV m c)
abbrev dM := d (DY m c) (DP m c)

section
variable (t : Fin cfg0.N) (r : Fin 512) (k : Fin 1024)

theorem row_blk : row (iblk m c 2 t) r = zM m c (tok t r) := funext (iblk2 m c t r)

theorem cot_blk : cot (iblk m c 0 t) (iblk m c 1 t) r = dM m c (tok t r) := by
  funext k
  unfold cot
  simp only [iblk0, iblk1]
  rfl

theorem dzb_blk : k0_pay9 (cotB (iblk m c 0 t) (iblk m c 1 t)) (k0_pay3 (iblk m c 3 t))
      (k0_pay4 (iblk m c 2 t)) (k0_pay5 (iblk m c 2 t)) (k0_pay6 (iblk m c 2 t)) (ix2 r k)
    = dz (zM m c (tok t r)) (dM m c (tok t r)) (LG m c) k := by
  rw [dzb_apply, row_blk, cot_blk, funext (iblk3 m c t)]

theorem dx_blk : k0_pay10 (cotB (iblk m c 0 t) (iblk m c 1 t)) (k0_pay3 (iblk m c 3 t))
      (k0_pay4 (iblk m c 2 t)) (k0_pay5 (iblk m c 2 t)) (k0_pay6 (iblk m c 2 t)) (ix2 r k)
    = alpha * dz (zM m c (tok t r)) (dM m c (tok t r)) (LG m c) k := by
  rw [dx_apply, row_blk, cot_blk, funext (iblk3 m c t)]

variable (v : Vec Ideal S1x1024 .f32)

theorem dg_blk : k0_pay13 (cotB (iblk m c 0 t) (iblk m c 1 t)) (k0_pay4 (iblk m c 2 t)) (k0_pay6 (iblk m c 2 t)) v (ix2 0 k)
    = v (ix2 0 k) + ∑ r, dM m c (tok t r) k * LayerNorm.norm (zM m c (tok t r)) k := by
  rw [dg_apply]
  refine congrArg (v (ix2 0 k) + ·) (Finset.sum_congr rfl fun r _ => ?_)
  rw [row_blk, congrFun (cot_blk m c t r) k]

theorem db_blk : k0_pay1 (k0_pay14 v) (k0_pay15 (cotB (iblk m c 0 t) (iblk m c 1 t))) (ix2 0 k)
    = v (ix2 0 k) + ∑ r, dM m c (tok t r) k := by
  rw [db_apply]
  exact congrArg (v (ix2 0 k) + ·) (Finset.sum_congr rfl fun r _ => congrFun (cot_blk m c t r) k)

end

theorem out4_eq (t : Fin cfg0.N) : (outsAt0 m c t.val t.isLt).1 = k0_pay9 (cotB (iblk m c 0 t) (iblk m c 1 t)) (k0_pay3 (iblk m c 3 t))
      (k0_pay4 (iblk m c 2 t)) (k0_pay5 (iblk m c 2 t)) (k0_pay6 (iblk m c 2 t)) := by
  by_cases h0 : t.val % 32 = 0
  · rw [outsAt0_A m c t h0]; dsimp only; rw [out0_A_4_eq]
  · rw [outsAt0_B m c t h0]; dsimp only; rw [out0_B_4_eq]

theorem out5_eq (t : Fin cfg0.N) : (outsAt0 m c t.val t.isLt).2.1 = k0_pay10 (cotB (iblk m c 0 t) (iblk m c 1 t)) (k0_pay3 (iblk m c 3 t))
      (k0_pay4 (iblk m c 2 t)) (k0_pay5 (iblk m c 2 t)) (k0_pay6 (iblk m c 2 t)) := by
  by_cases h0 : t.val % 32 = 0
  · rw [outsAt0_A m c t h0]; dsimp only; rw [out0_A_5_eq]
  · rw [outsAt0_B m c t h0]; dsimp only; rw [out0_B_5_eq]

theorem dg_first (t : Fin cfg0.N) (h0 : t.val % 32 = 0) : (outsAt0 m c t.val t.isLt).2.2.1
    = k0_pay13 (cotB (iblk m c 0 t) (iblk m c 1 t)) (k0_pay4 (iblk m c 2 t)) (k0_pay6 (iblk m c 2 t)) (k0_pay11 (F := Ideal)) := by
  rw [outsAt0_A m c t h0]; dsimp only; rw [out0_A_6_eq]

theorem dg_next (t : Fin cfg0.N) (h0 : ¬t.val % 32 = 0) : (outsAt0 m c t.val t.isLt).2.2.1
    = k0_pay13 (cotB (iblk m c 0 t) (iblk m c 1 t)) (k0_pay4 (iblk m c 2 t)) (k0_pay6 (iblk m c 2 t))
      (outsAt0 m c (t.val - 1) (Nat.lt_of_le_of_lt (Nat.sub_le _ _) t.isLt)).2.2.1 := by
  rw [outsAt0_B m c t h0]; dsimp only; rw [out0_B_6_eq]

/-- The window after point `n`: the terms of the tokens seen so far. -/
theorem dg_sum (k : Fin 1024) : ∀ (n : ℕ) (h : n < cfg0.N), (outsAt0 m c n h).2.2.1 (ix2 0 k)
    = TokenSum.upto (fun t => dM m c t k * LayerNorm.norm (zM m c t) k) (512 * (n % 32 + 1)) := by
  intro n
  induction n with
  | zero =>
    intro h
    rw [dg_first m c ⟨0, h⟩ rfl, dg_blk, zero11_apply]
    refine Eq.trans ?_ (TokenSum.upto_block _ 0 (by decide)).symm
    simp only [tok, Nat.zero_mod, TokenSum.upto_zero, Nat.mul_zero]
  | succ n ih =>
    intro h
    have hN : cfg0.N = 32 := N_0
    rw [dg_next m c ⟨n + 1, h⟩ (by show ¬(n + 1) % 32 = 0; omega), dg_blk]
    have e' : (n + 1) % 32 = n % 32 + 1 := by omega
    rw [TokenSum.upto_block _ _ (by omega)]
    show (outsAt0 m c n _).2.2.1 (ix2 0 k) + _ = _
    rw [ih (by omega)]
    simp only [tok, e']

theorem db_first (t : Fin cfg0.N) (h0 : t.val % 32 = 0) : (outsAt0 m c t.val t.isLt).2.2.2
    = k0_pay1 (k0_pay14 (k0_pay12 (F := Ideal))) (k0_pay15 (cotB (iblk m c 0 t) (iblk m c 1 t))) := by
  rw [outsAt0_A m c t h0]; dsimp only; rw [out0_A_7_eq]

theorem db_next (t : Fin cfg0.N) (h0 : ¬t.val % 32 = 0) : (outsAt0 m c t.val t.isLt).2.2.2
    = k0_pay1 (k0_pay14 (outsAt0 m c (t.val - 1) (Nat.lt_of_le_of_lt (Nat.sub_le _ _) t.isLt)).2.2.2)
      (k0_pay15 (cotB (iblk m c 0 t) (iblk m c 1 t))) := by
  rw [outsAt0_B m c t h0]; dsimp only; rw [out0_B_7_eq]

/-- The window after point `n`: the terms of the tokens seen so far. -/
theorem db_sum (k : Fin 1024) : ∀ (n : ℕ) (h : n < cfg0.N), (outsAt0 m c n h).2.2.2 (ix2 0 k)
    = TokenSum.upto (fun t => dM m c t k) (512 * (n % 32 + 1)) := by
  intro n
  induction n with
  | zero =>
    intro h
    rw [db_first m c ⟨0, h⟩ rfl, db_blk, zero12_apply]
    refine Eq.trans ?_ (TokenSum.upto_block _ 0 (by decide)).symm
    simp only [tok, Nat.zero_mod, TokenSum.upto_zero, Nat.mul_zero]
  | succ n ih =>
    intro h
    have hN : cfg0.N = 32 := N_0
    rw [db_next m c ⟨n + 1, h⟩ (by show ¬(n + 1) % 32 = 0; omega), db_blk]
    have e' : (n + 1) % 32 = n % 32 + 1 := by omega
    rw [TokenSum.upto_block _ _ (by omega)]
    show (outsAt0 m c n _).2.2.2 (ix2 0 k) + _ = _
    rw [ih (by omega)]
    simp only [tok, e']

/-! ## The result arrays -/

section
variable (t : Fin 16384) (k : Fin 1024)

/-- The point that writes a token's block, and the token's row in it. -/
def pt : Fin cfg0.N := ⟨t.val / 512, by have : cfg0.N = 32 := N_0; omega⟩
def rowOf : Fin 512 := ⟨t.val % 512, Nat.mod_lt _ (by decide)⟩

theorem tok_pt : tok (pt t) (rowOf t) = t := by
  apply Fin.ext
  show 512 * (t.val / 512 % 32) + t.val % 512 = t.val
  omega

theorem emb4 : ((cfg0.win 4).blk (pt t)).view.emb (ix2 (rowOf t) k) = ix2 t k := by
  funext a
  apply Fin.ext
  match a with
  | ⟨0, _⟩ =>
    show win0_4.index (pt t) 0 * 512 + 1 * (t.val % 512) = t.val
    rw [(index4 (pt t)).1]; show t.val / 512 % 32 * 512 + 1 * (t.val % 512) = t.val; omega
  | ⟨1, _⟩ => show win0_4.index (pt t) 1 * 1024 + 1 * k.val = k.val; rw [(index4 (pt t)).2]; omega

theorem arr4_apply : (dats m 0 c).arrAt 4 cfg0.N (ix2 t k) = dz (zM m c t) (dM m c t) (LG m c) k := by
  have h := (dats m 0 c).arrAt_emb_eq_flushed 4 Value.disjoint4 (pt t) ((flush0_4 (pt t))) (ix2 (rowOf t) k)
  rw [emb4] at h
  refine h.trans ?_
  rw [Value.flushed4, out4_eq]
  refine Eq.trans (dzb_blk m c (pt t) (rowOf t) k) ?_
  rw [tok_pt]

theorem emb5 : ((cfg0.win 5).blk (pt t)).view.emb (ix2 (rowOf t) k) = ix2 t k := by
  funext a
  apply Fin.ext
  match a with
  | ⟨0, _⟩ =>
    show win0_5.index (pt t) 0 * 512 + 1 * (t.val % 512) = t.val
    rw [(index5 (pt t)).1]; show t.val / 512 % 32 * 512 + 1 * (t.val % 512) = t.val; omega
  | ⟨1, _⟩ => show win0_5.index (pt t) 1 * 1024 + 1 * k.val = k.val; rw [(index5 (pt t)).2]; omega

theorem arr5_apply : (dats m 0 c).arrAt 5 cfg0.N (ix2 t k) = alpha * dz (zM m c t) (dM m c t) (LG m c) k := by
  have h := (dats m 0 c).arrAt_emb_eq_flushed 5 Value.disjoint5 (pt t) ((flush0_5 (pt t))) (ix2 (rowOf t) k)
  rw [emb5] at h
  refine h.trans ?_
  rw [Value.flushed5, out5_eq]
  refine Eq.trans (dx_blk m c (pt t) (rowOf t) k) ?_
  rw [tok_pt]

end

/-- The last point, which writes the gain's and the bias's gradients back. -/
def last : Fin cfg0.N := ⟨31, by have : cfg0.N = 32 := N_0; omega⟩

theorem disjoint6 : ∀ t t' : Fin cfg0.N, (cfg0.win 6).flush t = true → (cfg0.win 6).flush t' = true → t ≠ t' →
    Disjoint ((cfg0.win 6).blk t).view.set ((cfg0.win 6).blk t').view.set := by
  intro t t' h h' hne
  have hN : cfg0.N = 32 := N_0
  have e := (flush0_6 t).mp h
  have e' := (flush0_6 t').mp h'
  exact absurd (Fin.ext (by omega)) hne

theorem emb6 (k : Fin 1024) : ((cfg0.win 6).blk last).view.emb (ix2 (0 : Fin 1) k) = ix2 0 k := by
  funext a
  apply Fin.ext
  match a with
  | ⟨0, _⟩ => show win0_6.index last 0 * 1 + 1 * 0 = 0; rw [(index6 last).1]
  | ⟨1, _⟩ => show win0_6.index last 1 * 1024 + 1 * k.val = k.val; rw [(index6 last).2]; omega

theorem arr6_apply (k : Fin 1024) : (dats m 0 c).arrAt 6 cfg0.N (ix2 0 k) = dg (DY m c) (DP m c) (X m c) (FV m c) k := by
  have h := (dats m 0 c).arrAt_emb_eq_flushed 6 disjoint6 last ((flush0_6 last).mpr rfl) (ix2 (0 : Fin 1) k)
  rw [emb6] at h
  refine h.trans ?_
  rw [Value.flushed6]
  refine Eq.trans (dg_sum m c k 31 last.isLt) ?_
  exact TokenSum.upto_all _

theorem disjoint7 : ∀ t t' : Fin cfg0.N, (cfg0.win 7).flush t = true → (cfg0.win 7).flush t' = true → t ≠ t' →
    Disjoint ((cfg0.win 7).blk t).view.set ((cfg0.win 7).blk t').view.set := by
  intro t t' h h' hne
  have hN : cfg0.N = 32 := N_0
  have e := (flush0_7 t).mp h
  have e' := (flush0_7 t').mp h'
  exact absurd (Fin.ext (by omega)) hne

theorem emb7 (k : Fin 1024) : ((cfg0.win 7).blk last).view.emb (ix2 (0 : Fin 1) k) = ix2 0 k := by
  funext a
  apply Fin.ext
  match a with
  | ⟨0, _⟩ => show win0_7.index last 0 * 1 + 1 * 0 = 0; rw [(index7 last).1]
  | ⟨1, _⟩ => show win0_7.index last 1 * 1024 + 1 * k.val = k.val; rw [(index7 last).2]; omega

theorem arr7_apply (k : Fin 1024) : (dats m 0 c).arrAt 7 cfg0.N (ix2 0 k) = db (DY m c) (DP m c) k := by
  have h := (dats m 0 c).arrAt_emb_eq_flushed 7 disjoint7 last ((flush0_7 last).mpr rfl) (ix2 (0 : Fin 1) k)
  rw [emb7] at h
  refine h.trans ?_
  rw [Value.flushed7]
  refine Eq.trans (db_sum m c k 31 last.isLt) ?_
  exact TokenSum.upto_all _

end Cert.LnPartsIdeal.Fold
-- ==== Proof.LnPartsRef.lean ====
/-
  The layer norm gradient's reference results read at an index.
-/
module

public import proofs.«01_k».proof.Proof.Gen.LnPartsRefIdeal.Read
public import proofs.«01_k».proof.Proof.LnPartsSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.LnPartsRefIdeal.Grad

open Cert.LnPartsRefIdeal Cert.LnPartsRefIdeal.Read Cert.LayerNorm
open Cert.LnBwd.Spec (z dvar dzChain two mhalf)
open Cert.LnParts.Spec

variable (x0 x2 x3 : (⟨S16384x1024, .f32⟩ : BufTy).Contents (Elt Ideal))
  (x1 : (⟨S4x16384x1024, .f32⟩ : BufTy).Contents (Elt Ideal)) (x4 : (⟨S1024, .f32⟩ : BufTy).Contents (Elt Ideal))

/-- The arguments at an index. -/
abbrev A1 (x : (⟨S1024, .f32⟩ : BufTy).Contents (Elt Ideal)) (k : Fin 1024) : EReal := x (ix1 k)
abbrev A2 (x : (⟨S16384x1024, .f32⟩ : BufTy).Contents (Elt Ideal)) (t : Fin 16384) (k : Fin 1024) : EReal := x (ix2 t k)
abbrev A3 (x : (⟨S4x16384x1024, .f32⟩ : BufTy).Contents (Elt Ideal)) (p : Fin 4) (t : Fin 16384) (k : Fin 1024) : EReal :=
  x (ix3 p t k)

variable (t : Fin 16384) (k : Fin 1024)

abbrev zR := z (A2 x2) (A2 x3)
abbrev dR := d (A2 x0) (A3 x1)

theorem z_eq : val_main_v2 x2 x3 (ix2 t k) = zR x2 x3 t k := by
  unfold val_main_v2 val_main_v1 val_main_v0 val_main_cst zR z alpha
  pointwise

theorem cen_eq : val_main_v8 x2 x3 (ix2 t k) = cen (zR x2 x3 t) k := by
  unfold val_main_v8 val_main_v7 val_main_v6 val_main_v5 val_main_v4 val_main_v3 val_main_cst_0 val_main_cst_1 cen mean len
  pointwise
  simp only [z_eq]

theorem cen_eq' : val_main_v17 x2 x3 (ix2 t k) = cen (zR x2 x3 t) k := by
  rw [← cen_eq]
  rfl

theorem var_eq : val_main_v19 x2 x3 (ix2 t 0) = mean (fun k => cen (zR x2 x3 t) k * cen (zR x2 x3 t) k) + eps := by
  unfold val_main_v19 val_main_v18 val_main_v15 val_main_v14 val_main_v13 val_main_v12 val_main_v9 val_main_cst_3 val_main_cst_4
    val_main_cst_5 mean len eps
  pointwise
  simp only [cen_eq]

theorem rstd_eq : val_main_v20 x2 x3 (ix2 t 0) = rstd (zR x2 x3 t) := by
  unfold val_main_v20 rstd
  pointwise
  rw [var_eq]

theorem d_eq : val_main_v34 x0 x1 (ix2 t k) = dR x0 x1 t k := by
  unfold val_main_v34 val_main_v33 val_main_cst_7 dR d
  pointwise

theorem q_eq : val_main_v43 x0 x1 x4 (ix2 t k) = dR x0 x1 t k * A1 x4 k := by
  unfold val_main_v43 val_main_v42 val_main_v35 val_main_v26
  pointwise
  rw [d_eq]

theorem dvar_eq : val_main_v57 x0 x1 x2 x3 x4 (ix2 t k) = dvar (zR x2 x3 t) (dR x0 x1 t) (A1 x4) := by
  unfold val_main_v57 val_main_v56 val_main_v55 val_main_v54 val_main_v50 val_main_v47 val_main_v46 val_main_v45 val_main_v23
    val_main_v22 val_main_v21 val_main_cst_6 val_main_cst_12 val_main_cst_14 val_main_cst_15 dvar len mhalf
  pointwise
  simp only [Fin.sum_univ_one, cen_eq', q_eq, rstd_eq, var_eq]

theorem t1_eq : val_main_v49 x0 x1 x2 x3 x4 (ix2 t k) = (dR x0 x1 t k * A1 x4 k) * rstd (zR x2 x3 t) := by
  unfold val_main_v49 val_main_v48
  pointwise
  rw [q_eq, rstd_eq]

theorem t2_eq : val_main_v58 x0 x1 x2 x3 x4 (ix2 t k)
    = dvar (zR x2 x3 t) (dR x0 x1 t) (A1 x4) * (two * cen (zR x2 x3 t) k) := by
  unfold val_main_v58 val_main_v11 val_main_v10 val_main_cst_2 two
  pointwise
  rw [cen_eq, dvar_eq]

theorem dz_eq : val_main_v68 x0 x1 x2 x3 x4 (ix2 t k) = dzChain (zR x2 x3 t) (dR x0 x1 t) (A1 x4) k := by
  unfold val_main_v68 val_main_v67 val_main_v66 val_main_v65 val_main_v64 val_main_v63 val_main_v62 val_main_v61 val_main_v60
    val_main_v59 val_main_v53 val_main_v52 val_main_v51 val_main_cst_13 val_main_cst_16 val_main_cst_17 val_main_cst_18 dzChain len
  pointwise
  simp only [Fin.sum_univ_one, t1_eq, t2_eq]

theorem dx_eq : val_main_v70 x0 x1 x2 x3 x4 (ix2 t k) = alpha * dzChain (zR x2 x3 t) (dR x0 x1 t) (A1 x4) k := by
  unfold val_main_v70 val_main_v69 val_main_cst_19 alpha
  pointwise
  rw [dz_eq]

theorem dzb_eq : val_main_v71 x0 x1 x2 x3 x4 (ix2 t k) = dzChain (zR x2 x3 t) (dR x0 x1 t) (A1 x4) k := by
  unfold val_main_v71
  pointwise
  rw [dz_eq]

theorem dg_eq : val_main_v72 x0 x1 x2 x3 (ix2 0 k) = dg (A2 x0) (A3 x1) (A2 x2) (A2 x3) k := by
  unfold val_main_v72 val_main_v44 val_main_v41 val_main_v40 val_main_v39 val_main_v35 val_main_v25 val_main_v24 val_main_cst_10
    val_main_cst_11 dg LayerNorm.norm
  pointwise
  simp only [Fin.sum_univ_one, cen_eq', rstd_eq, d_eq]
  exact Finset.sum_congr rfl fun _ _ => EReal.mul_comm _ _

theorem db_eq : val_main_v73 x0 x1 (ix2 0 k) = db (A2 x0) (A3 x1) k := by
  unfold val_main_v73 val_main_v38 val_main_v37 val_main_v36 val_main_cst_8 val_main_cst_9 db
  pointwise
  simp only [Fin.sum_univ_one, d_eq]

end Cert.LnPartsRefIdeal.Grad
-- ==== Proof.LnPartsPre.lean ====
/-
  The precondition opened: each argument but the bias is finite in every element.
-/
module

public import proofs.«01_k».proof.Defs
public import proofs.«01_k».proof.Proof.Finite

@[expose] public section

noncomputable section

open Idealize.ShloMosaic

namespace Cert.LnPartsPre

open Cert.Pre_finite_parts Cert.Finite

variable [Cert.Pre_finite_parts.Facts]

instance : Subsingleton S_.Idx := ⟨fun a b => funext fun d => d.elim0⟩

theorem fin_args (x0 : FVec Ideal S16384x1024 .f32) (x1 : FVec Ideal S4x16384x1024 .f32)
    (x2 x3 : FVec Ideal S16384x1024 .f32) (x4 x5 : FVec Ideal S1024 .f32)
    (h : fn (F := Ideal) x0 x1 x2 x3 x4 x5 ix0 = 1#1) :
    (∀ i, Fin' (x0 i)) ∧ (∀ i, Fin' (x1 i)) ∧ (∀ i, Fin' (x2 i)) ∧ (∀ i, Fin' (x3 i)) ∧ (∀ i, Fin' (x4 i)) := by
  unfold fn fn_part1 at h
  dsimp only at h
  obtain ⟨h, h4⟩ := and_eq_one h
  obtain ⟨h, h3⟩ := and_eq_one h
  obtain ⟨h, h2⟩ := and_eq_one h
  obtain ⟨h0, h1⟩ := and_eq_one h
  exact ⟨fin_of_all _ _ (fun _ => rfl) _ _ _ _ h0, fin_of_all _ _ (fun _ => rfl) _ _ _ _ h1,
    fin_of_all _ _ (fun _ => rfl) _ _ _ _ h2, fin_of_all _ _ (fun _ => rfl) _ _ _ _ h3,
    fin_of_all _ _ (fun _ => rfl) _ _ _ _ h4⟩

end Cert.LnPartsPre
-- ==== Proof.LnPartsValue.lean ====
/-
  The value claim of the layer norm's backward pass with the cotangent a sum of parts: the kernel's four results are the reference's.
-/
module

public import proofs.«01_k».proof.Proof.LnPartsFold
public import proofs.«01_k».proof.Proof.LnPartsRef
public import proofs.«01_k».proof.Proof.LnBwdAlg
public import proofs.«01_k».proof.Proof.LnPartsPre
public import proofs.«01_k».proof.Proof.Gen.Pre_finite_parts
public import proofs.«01_k».proof.Proof.Gen.LnPartsRefIdeal.Run

@[expose] public section

set_option maxRecDepth 16384

noncomputable section

open Idealize.ShloMosaic Idealize.ShloMosaic.TcCoe Idealize.SL.Sem

namespace Cert.LnPartsValue

open Cert.Finite Cert.LnParts.Spec Cert.LnBwd.Alg
open Cert.LnBwd.Spec (dz dzChain)
open Cert.LnPartsRefIdeal.Grad (zR dR A1)

variable (m : (ℓ : Loc Cert.LnPartsIdeal.nD Cert.LnPartsIdeal.τ Cert.LnPartsIdeal.sig) → Buf (Elt Ideal) ℓ)
  (c : Dev Cert.LnPartsIdeal.nD)

/-- The arguments of core `c`. -/
abbrev a0 : (⟨Cert.LnPartsRefIdeal.S16384x1024, .f32⟩ : BufTy).Contents (Elt Ideal) := m (c.tc.loc Cert.LnPartsIdeal.main_arg0)
abbrev a1 : (⟨Cert.LnPartsRefIdeal.S4x16384x1024, .f32⟩ : BufTy).Contents (Elt Ideal) := m (c.tc.loc Cert.LnPartsIdeal.main_arg1)
abbrev a2 : (⟨Cert.LnPartsRefIdeal.S16384x1024, .f32⟩ : BufTy).Contents (Elt Ideal) := m (c.tc.loc Cert.LnPartsIdeal.main_arg2)
abbrev a3 : (⟨Cert.LnPartsRefIdeal.S16384x1024, .f32⟩ : BufTy).Contents (Elt Ideal) := m (c.tc.loc Cert.LnPartsIdeal.main_arg3)
abbrev a4 : (⟨Cert.LnPartsRefIdeal.S1024, .f32⟩ : BufTy).Contents (Elt Ideal) := m (c.tc.loc Cert.LnPartsIdeal.main_arg4)

/-- Every argument but the bias is finite. -/
abbrev FinArgs : Prop :=
  (∀ i, Fin' (a0 m c i)) ∧ (∀ i, Fin' (a1 m c i)) ∧ (∀ i, Fin' (a2 m c i)) ∧ (∀ i, Fin' (a3 m c i)) ∧ (∀ i, Fin' (a4 m c i))

theorem chain_eq (h : FinArgs m c) (t : Fin 16384) (k : Fin 1024) :
    dzChain (zR (a2 m c) (a3 m c) t) (dR (a0 m c) (a1 m c) t) (A1 (a4 m c)) k
      = dz (zR (a2 m c) (a3 m c) t) (dR (a0 m c) (a1 m c) t) (A1 (a4 m c)) k := by
  obtain ⟨h0, h1, h2, h3, h4⟩ := h
  exact dzChain_eq (fun _ => (alpha_fin.mul (h2 _)).add (h3 _))
    (fun _ => (h0 _).add (Fin'.sum _ _ fun _ _ => h1 _)) (fun _ => h4 _) k

theorem dzb_eq (h : FinArgs m c) :
    Cert.LnPartsRefIdeal.Read.val_main_v71 (F := Ideal) (a0 m c) (a1 m c) (a2 m c) (a3 m c) (a4 m c)
      = (Cert.LnPartsIdeal.Gen.dats m 0 c).arrAt 4 Cert.LnPartsIdeal.cfg0.N := by
  funext i
  obtain ⟨t, k, rfl⟩ : ∃ (t : Fin 16384) (k : Fin 1024), i = ix2 t k := ⟨i 0, i 1, eq_ix2 i⟩
  refine Eq.trans ?_ (Cert.LnPartsIdeal.Fold.arr4_apply m c t k).symm
  rw [Cert.LnPartsRefIdeal.Grad.dzb_eq, chain_eq m c h]

theorem dx_eq (h : FinArgs m c) :
    Cert.LnPartsRefIdeal.Read.val_main_v70 (F := Ideal) (a0 m c) (a1 m c) (a2 m c) (a3 m c) (a4 m c)
      = (Cert.LnPartsIdeal.Gen.dats m 0 c).arrAt 5 Cert.LnPartsIdeal.cfg0.N := by
  funext i
  obtain ⟨t, k, rfl⟩ : ∃ (t : Fin 16384) (k : Fin 1024), i = ix2 t k := ⟨i 0, i 1, eq_ix2 i⟩
  refine Eq.trans ?_ (Cert.LnPartsIdeal.Fold.arr5_apply m c t k).symm
  rw [Cert.LnPartsRefIdeal.Grad.dx_eq, chain_eq m c h]

theorem dg_eq : Cert.LnPartsRefIdeal.Read.val_main_v72 (F := Ideal) (a0 m c) (a1 m c) (a2 m c) (a3 m c)
    = (Cert.LnPartsIdeal.Gen.dats m 0 c).arrAt 6 Cert.LnPartsIdeal.cfg0.N := by
  funext i
  obtain ⟨z, k, rfl⟩ : ∃ (z : Fin 1) (k : Fin 1024), i = ix2 z k := ⟨i 0, i 1, eq_ix2 i⟩
  obtain rfl : z = 0 := Subsingleton.elim _ _
  refine Eq.trans ?_ (Cert.LnPartsIdeal.Fold.arr6_apply m c k).symm
  rw [Cert.LnPartsRefIdeal.Grad.dg_eq]

theorem db_eq : Cert.LnPartsRefIdeal.Read.val_main_v73 (F := Ideal) (a0 m c) (a1 m c)
    = (Cert.LnPartsIdeal.Gen.dats m 0 c).arrAt 7 Cert.LnPartsIdeal.cfg0.N := by
  funext i
  obtain ⟨z, k, rfl⟩ : ∃ (z : Fin 1) (k : Fin 1024), i = ix2 z k := ⟨i 0, i 1, eq_ix2 i⟩
  obtain rfl : z = 0 := Subsingleton.elim _ _
  refine Eq.trans ?_ (Cert.LnPartsIdeal.Fold.arr7_apply m c k).symm
  rw [Cert.LnPartsRefIdeal.Grad.db_eq]

theorem algebraic : algebraic_LnPartsIdeal_LnPartsRefIdeal_pre_finite_parts := by
  intro m ρ m' ρ' hpre hagree
  have hfin : ∀ c, FinArgs m c := fun c => Cert.LnPartsPre.fin_args _ _ _ _ _ _ (congrFun (hpre c) ix0)
  refine ⟨fun c => (Cert.LnPartsIdeal.Gen.dats m 0 c).arrAt 4 Cert.LnPartsIdeal.cfg0.N,
    fun c => (Cert.LnPartsIdeal.Gen.dats m 0 c).arrAt 5 Cert.LnPartsIdeal.cfg0.N,
    fun c => (Cert.LnPartsIdeal.Gen.dats m 0 c).arrAt 6 Cert.LnPartsIdeal.cfg0.N,
    fun c => (Cert.LnPartsIdeal.Gen.dats m 0 c).arrAt 7 Cert.LnPartsIdeal.cfg0.N, Cert.LnPartsIdeal.Value.run_blocks m ρ, ?_⟩
  refine (θ_run _ _ _).mono (fun _ h c => ?_) (Cert.LnPartsRefIdeal.Value.run m' ρ')
  obtain ⟨e0, e1, e2, e3, e4, e5⟩ := hagree c
  obtain ⟨r0, r1, r2, r3, k⟩ := h c
  refine ⟨r0.trans ?_, r1.trans ?_, r2.trans ?_, r3.trans ?_, k⟩
  · refine (Cert.LnPartsRefIdeal.Read.val_main_v71_eq m' c).trans ?_
    rw [e0, e1, e2, e3, e4]; exact dzb_eq m c (hfin c)
  · refine (Cert.LnPartsRefIdeal.Read.val_main_v70_eq m' c).trans ?_
    rw [e0, e1, e2, e3, e4]; exact dx_eq m c (hfin c)
  · refine (Cert.LnPartsRefIdeal.Read.val_main_v72_eq _ _ _ _).trans ?_
    rw [e0, e1, e2, e3]; exact dg_eq m c
  · refine (Cert.LnPartsRefIdeal.Read.val_main_v73_eq _ _).trans ?_
    rw [e0, e1]; exact db_eq m c

end Cert.LnPartsValue
-- ==== Proof.LossBody.lean ====
/-
  What one grid point of the loss's kernel leaves in its windows, as the body's own named payloads: the two cases are the
  first token block and the later ones.
-/
module

public import proofs.«01_k».proof.Proof.Gen.LossIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.LossIdeal.Body

open Cert.LossIdeal Cert.LossIdeal.Gen

theorem hz2 : (![0, 0] : Fin 2 → Nat) = fun _ => 0 := funext fun a => by fin_cases a <;> rfl

variable {F : FTy → Type} [FloatOps F]

variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x1024 .f32) (h3 : a3.IsWhole)
  (a4 : Memref sig .tc .vmem S8x128 .f32) (h4 : a4.IsWhole)
  (x0 x1 : Vec F S512x1024 .f32) (w3 : Vec F S8x128 .f32)

theorem out0_A_2_eq (e : cond0_0 i) :
    out0_A_2 c i a1 h1 a2 h2 a3 h3 a4 h4 e x0 x1 = k0_pay2 x0 x1 := by
  unfold out0_A_2
  rw [View.read_writes_eq_canon _ _ _ (cover0_A_2 c i a1 h1 a2 h2 a3 h3 a4 h4 e x0 x1)]
  unfold kernelRun0_A
  dsimp only
  sl_unfold_words
  rw [View.canon_unit_zero (S := S512x1024) hz2]
  simp only [View.readCov_unit_zero (S := S8x128) _ hz2, View.readAt_eq_ld, h1.read_unread, h2.read_unread, h3.read_unread,
    h4.read_unread, View.ld_unit_zero (S := S512x1024) hz2, View.ld_unit_zero (S := S8x128) hz2]

theorem out0_A_3_eq (e : cond0_0 i) :
    out0_A_3 c i a1 h1 a2 h2 a3 h3 a4 h4 e x0 x1 = k0_pay4 x0 x1 k0_pay3 := by
  unfold out0_A_3
  rw [View.read_writes_eq_canon _ _ _ (cover0_A_3 c i a1 h1 a2 h2 a3 h3 a4 h4 e x0 x1)]
  unfold kernelRun0_A
  dsimp only
  sl_unfold_words
  rw [View.canon_cons_unit_zero (S := S8x128) hz2]
  simp only [View.readCov_unit_zero (S := S8x128) _ hz2, View.readAt_eq_ld, h1.read_unread, h2.read_unread, h3.read_unread,
    h4.read_unread, View.ld_unit_zero (S := S512x1024) hz2, View.ld_unit_zero (S := S8x128) hz2]

theorem out0_B_2_eq (e : ¬cond0_0 i) :
    out0_B_2 c i a1 h1 a2 h2 a3 h3 a4 h4 e x0 x1 w3 = k0_pay2 x0 x1 := by
  unfold out0_B_2
  rw [View.read_writes_eq_canon _ _ _ (cover0_B_2 c i a1 h1 a2 h2 a3 h3 a4 h4 e x0 x1 w3)]
  unfold kernelRun0_B
  dsimp only
  sl_unfold_words
  rw [View.canon_unit_zero (S := S512x1024) hz2]
  simp only [View.readCov_unit_zero (S := S8x128) _ hz2, View.readAt_eq_ld, h1.read_unread, h2.read_unread, h3.read_unread,
    h4.read_unread, View.ld_unit_zero (S := S512x1024) hz2, View.ld_unit_zero (S := S8x128) hz2]

theorem out0_B_3_eq (e : ¬cond0_0 i) :
    out0_B_3 c i a1 h1 a2 h2 a3 h3 a4 h4 e x0 x1 w3 = k0_pay4 x0 x1 w3 := by
  unfold out0_B_3
  rw [View.read_writes_eq_canon _ _ _ (cover0_B_3 c i a1 h1 a2 h2 a3 h3 a4 h4 e x0 x1 w3)]
  unfold kernelRun0_B
  dsimp only
  sl_unfold_words
  rw [View.canon_unit_zero (S := S8x128) hz2]
  simp only [View.readCov_unit_zero (S := S8x128) _ hz2, View.readAt_eq_ld, h1.read_unread, h2.read_unread, h3.read_unread,
    h4.read_unread, View.ld_unit_zero (S := S512x1024) hz2, View.ld_unit_zero (S := S8x128) hz2]

end Cert.LossIdeal.Body
-- ==== Proof.LossSpec.lean ====
/-
  The loss and its gradient, over the extended reals: the squared differences' sum scaled once, or row by row as means.
-/
module

public import proofs.«01_k».proof.Proof.LayerNorm
public import proofs.«01_k».proof.Proof.LnBwdAlg

@[expose] public section

set_option maxRecDepth 16384

noncomputable section

open Idealize.ShloMosaic

namespace Cert.Loss.Spec

open Cert.LayerNorm

/-- The gradient's scale and the loss's scale, and the half and the one of the mean's form, as the programs write them. -/
def gs : EReal := Ideal.ofBits FTy.f32 0x3A800000#32
def ls : EReal := Ideal.ofBits FTy.f32 0x3A000000#32
def half : EReal := Ideal.ofBits FTy.f32 0x3F000000#32
def one : EReal := Ideal.ofBits FTy.f32 0x3F800000#32
def two : EReal := Ideal.ofBits FTy.f32 0x40000000#32

theorem gs_eq : gs = ((1 / 1024 : ℝ) : EReal) := by
  unfold gs
  simp [Ideal.ofBits, Ideal.ieee, -EReal.coe_mul]
  norm_num

theorem ls_eq : ls = ((1 / 2048 : ℝ) : EReal) := by
  unfold ls
  simp [Ideal.ofBits, Ideal.ieee, -EReal.coe_mul]
  norm_num

theorem half_eq : half = ((1 / 2 : ℝ) : EReal) := by
  unfold half
  simp [Ideal.ofBits, Ideal.ieee, -EReal.coe_mul]
  norm_num

theorem one_eq : one = ((1 : ℝ) : EReal) := by
  unfold one
  simp [Ideal.ofBits, Ideal.ieee, -EReal.coe_mul]
  norm_num

theorem two_eq : two = ((2 : ℝ) : EReal) := by
  unfold two
  simp [Ideal.ofBits, Ideal.ieee, -EReal.coe_mul]
  norm_num

variable (y y' : Fin 16384 → Fin 1024 → EReal)

/-- The difference, a row's squared differences, the loss and its gradient. -/
def err (t : Fin 16384) (k : Fin 1024) : EReal := y t k - y' t k
def row (t : Fin 16384) : EReal := ∑ k, err y y' t k * err y y' t k
def loss : EReal := ∑ t, ls * row y y' t
def grad (t : Fin 16384) (k : Fin 1024) : EReal := err y y' t k * gs

/-- The loss and its gradient by row means. -/
def lossMean : EReal := half * ∑ t, Ideal.div (row y y' t) len
def gradMean (t : Fin 16384) (k : Fin 1024) : EReal := Ideal.div (half * one) len * (two * err y y' t k)

theorem sq_nonneg (e : EReal) : 0 ≤ e * e := by
  rcases le_total 0 e with h | h
  · exact mul_nonneg h h
  · rw [← neg_mul_neg]
    have h' : 0 ≤ -e := by rw [EReal.le_neg, neg_zero]; exact h
    exact mul_nonneg h' h'

/-- A factor goes into a sum of terms that are not negative. -/
theorem mul_sum {ι : Type*} (s : Finset ι) (f : ι → EReal) (h : ∀ i, 0 ≤ f i) (a : EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg (h i) (Finset.sum_nonneg fun j _ => h j), ih]

theorem row_nonneg (t : Fin 16384) : 0 ≤ row y y' t := Finset.sum_nonneg fun _ _ => sq_nonneg _

theorem div_len (a : EReal) : Ideal.div a len = ((1 / 1024 : ℝ) : EReal) * a := by
  rw [Cert.LnBwd.Alg.len_eq, Ideal.div_coe (by norm_num), mul_comm]

theorem lossMean_eq : lossMean y y' = loss y y' := by
  unfold lossMean loss
  simp only [div_len]
  rw [mul_sum _ _ (fun t => mul_nonneg (by exact_mod_cast (by norm_num : (0 : ℝ) ≤ 1 / 1024)) (row_nonneg y y' t))]
  refine Finset.sum_congr rfl fun t _ => ?_
  rw [← mul_assoc, half_eq, ls_eq, ← EReal.coe_mul]
  norm_num

theorem gradMean_eq (t : Fin 16384) (k : Fin 1024) : gradMean y y' t k = grad y y' t k := by
  unfold gradMean grad
  rw [div_len, half_eq, one_eq, two_eq, gs_eq, ← mul_assoc, ← EReal.coe_mul, ← EReal.coe_mul, ← EReal.coe_mul, mul_comm]
  norm_num

end Cert.Loss.Spec
-- ==== Proof.LossFold.lean ====
/-
  The loss's kernel read at an index: its payloads, the blocks its windows cut, and its result arrays.
-/
module

public import proofs.«01_k».proof.Proof.LossBody
public import proofs.«01_k».proof.Proof.LossSpec
public import proofs.«01_k».proof.Proof.TokenSum
public import proofs.«01_k».proof.Proof.Gen.LossIdeal.Value
public import Idealize.ShloMosaic.Lib.StableHlo.ReadAt
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.LossIdeal.Fold

open Cert.LossIdeal Cert.LossIdeal.Gen Cert.LossIdeal.Body Cert.Loss.Spec

section
variable (x0 x1 : Vec Ideal S512x1024 .f32) (v : Vec Ideal S8x128 .f32) (r : Fin 512) (k : Fin 1024) (p : Fin 8) (q : Fin 128)

theorem grad_apply : k0_pay2 x0 x1 (ix2 r k) = (x0 (ix2 r k) - x1 (ix2 r k)) * gs := by
  unfold k0_pay2 k0_pay1 gs
  pointwise

theorem zero_apply : k0_pay3 (F := Ideal) (ix2 p q) = 0 := by
  unfold k0_pay3
  pointwise

theorem loss_apply : k0_pay4 x0 x1 v (ix2 p q)
    = v (ix2 p q) + ls * ∑ r, ∑ k, (x0 (ix2 r k) - x1 (ix2 r k)) * (x0 (ix2 r k) - x1 (ix2 r k)) := by
  unfold k0_pay4 k0_pay1 ls
  pointwise

end

variable (m : (ℓ : Loc nD τ sig) → Buf (Elt Ideal) ℓ) (c : Dev nD)

/-- The arguments at an index. -/
abbrev Y (t : Fin 16384) (k : Fin 1024) : EReal := m ((c : Thread nD τ).loc main_arg0) (ix2 t k)
abbrev T (t : Fin 16384) (k : Fin 1024) : EReal := m ((c : Thread nD τ).loc main_arg1) (ix2 t k)

theorem V_y (t : Fin 16384) (k : Fin 1024) : V m c main_arg0 (ix2 t k) = Y m c t k := rfl
theorem V_t (t : Fin 16384) (k : Fin 1024) : V m c main_arg1 (ix2 t k) = T m c t k := rfl

/-- The token row that row `r` of the block at point `t` is. -/
def tok (t : Fin cfg0.N) (r : Fin 512) : Fin 16384 := ⟨512 * (t.val % 32) + r.val, by omega⟩

theorem index0 : ∀ t : Fin grid0.N, win0_0.index t 0 = t.val % 32 ∧ win0_0.index t 1 = 0 := by
  decide +kernel

theorem index1 : ∀ t : Fin grid0.N, win0_1.index t 0 = t.val % 32 ∧ win0_1.index t 1 = 0 := by
  decide +kernel

theorem index2 : ∀ t : Fin grid0.N, win0_2.index t 0 = t.val % 32 ∧ win0_2.index t 1 = 0 := by
  decide +kernel

theorem index3 : ∀ t : Fin grid0.N, win0_3.index t 0 = 0 ∧ win0_3.index t 1 = 0 := by
  decide +kernel

theorem iblk0 (t : Fin cfg0.N) (r : Fin 512) (k : Fin 1024) :
    (iblk m c 0 t : Vec Ideal S512x1024 .f32) (ix2 r k) = Y m c (tok t r) k := by
  unfold iblk
  rw [View.read_apply]
  refine Eq.trans ?_ (V_y m c (tok t r) k)
  show V m c main_arg0 _ = V m c main_arg0 _
  congr 1
  funext a
  apply Fin.ext
  match a with
  | ⟨0, _⟩ => show win0_0.index t 0 * 512 + 1 * r.val = 512 * (t.val % 32) + r.val; rw [(index0 t).1]; omega
  | ⟨1, _⟩ => show win0_0.index t 1 * 1024 + 1 * k.val = k.val; rw [(index0 t).2]; omega

theorem iblk1 (t : Fin cfg0.N) (r : Fin 512) (k : Fin 1024) :
    (iblk m c 1 t : Vec Ideal S512x1024 .f32) (ix2 r k) = T m c (tok t r) k := by
  unfold iblk
  rw [View.read_apply]
  refine Eq.trans ?_ (V_t m c (tok t r) k)
  show V m c main_arg1 _ = V m c main_arg1 _
  congr 1
  funext a
  apply Fin.ext
  match a with
  | ⟨0, _⟩ => show win0_1.index t 0 * 512 + 1 * r.val = 512 * (t.val % 32) + r.val; rw [(index1 t).1]; omega
  | ⟨1, _⟩ => show win0_1.index t 1 * 1024 + 1 * k.val = k.val; rw [(index1 t).2]; omega

theorem grad_blk (t : Fin cfg0.N) (r : Fin 512) (k : Fin 1024) :
    k0_pay2 (iblk m c 0 t) (iblk m c 1 t) (ix2 r k) = grad (Y m c) (T m c) (tok t r) k := by
  rw [grad_apply, iblk0, iblk1]
  rfl

theorem loss_blk (t : Fin cfg0.N) (v : Vec Ideal S8x128 .f32) (p : Fin 8) (q : Fin 128) :
    k0_pay4 (iblk m c 0 t) (iblk m c 1 t) v (ix2 p q) = v (ix2 p q) + ∑ r, ls * row (Y m c) (T m c) (tok t r) := by
  rw [loss_apply, ← mul_sum _ _ (fun r => row_nonneg (Y m c) (T m c) (tok t r))]
  simp only [iblk0, iblk1]
  rfl

theorem out2_eq (t : Fin cfg0.N) : (outsAt0 m c t.val t.isLt).1 = k0_pay2 (iblk m c 0 t) (iblk m c 1 t) := by
  by_cases h0 : t.val % 32 = 0
  · rw [outsAt0_A m c t h0]; dsimp only; rw [out0_A_2_eq]
  · rw [outsAt0_B m c t h0]; dsimp only; rw [out0_B_2_eq]

theorem loss_first (t : Fin cfg0.N) (h0 : t.val % 32 = 0) : (outsAt0 m c t.val t.isLt).2
    = k0_pay4 (iblk m c 0 t) (iblk m c 1 t) (k0_pay3 (F := Ideal)) := by
  rw [outsAt0_A m c t h0]; dsimp only; rw [out0_A_3_eq]

theorem loss_next (t : Fin cfg0.N) (h0 : ¬t.val % 32 = 0) : (outsAt0 m c t.val t.isLt).2
    = k0_pay4 (iblk m c 0 t) (iblk m c 1 t) (outsAt0 m c (t.val - 1) (Nat.lt_of_le_of_lt (Nat.sub_le _ _) t.isLt)).2 := by
  rw [outsAt0_B m c t h0]; dsimp only; rw [out0_B_3_eq]

/-- The window after point `n`: the terms of the tokens seen so far. -/
theorem loss_sum (p : Fin 8) (q : Fin 128) : ∀ (n : ℕ) (h : n < cfg0.N), (outsAt0 m c n h).2 (ix2 p q)
    = TokenSum.upto (fun t => ls * row (Y m c) (T m c) t) (512 * (n % 32 + 1)) := by
  intro n
  induction n with
  | zero =>
    intro h
    rw [loss_first m c ⟨0, h⟩ rfl, loss_blk, zero_apply]
    refine Eq.trans ?_ (TokenSum.upto_block _ 0 (by decide)).symm
    simp only [tok, Nat.zero_mod, TokenSum.upto_zero, Nat.mul_zero]
  | succ n ih =>
    intro h
    have hN : cfg0.N = 32 := N_0
    rw [loss_next m c ⟨n + 1, h⟩ (by show ¬(n + 1) % 32 = 0; omega), loss_blk]
    have e' : (n + 1) % 32 = n % 32 + 1 := by omega
    rw [TokenSum.upto_block _ _ (by omega)]
    show (outsAt0 m c n _).2 (ix2 p q) + _ = _
    rw [ih (by omega)]
    simp only [tok, e']

/-! ## The result arrays -/

section
variable (t : Fin 16384) (k : Fin 1024)

/-- The point that writes a token's block, and the token's row in it. -/
def pt : Fin cfg0.N := ⟨t.val / 512, by have : cfg0.N = 32 := N_0; omega⟩
def rowOf : Fin 512 := ⟨t.val % 512, Nat.mod_lt _ (by decide)⟩

theorem tok_pt : tok (pt t) (rowOf t) = t := by
  apply Fin.ext
  show 512 * (t.val / 512 % 32) + t.val % 512 = t.val
  omega

theorem emb2 : ((cfg0.win 2).blk (pt t)).view.emb (ix2 (rowOf t) k) = ix2 t k := by
  funext a
  apply Fin.ext
  match a with
  | ⟨0, _⟩ =>
    show win0_2.index (pt t) 0 * 512 + 1 * (t.val % 512) = t.val
    rw [(index2 (pt t)).1]; show t.val / 512 % 32 * 512 + 1 * (t.val % 512) = t.val; omega
  | ⟨1, _⟩ => show win0_2.index (pt t) 1 * 1024 + 1 * k.val = k.val; rw [(index2 (pt t)).2]; omega

theorem arr2_apply : (dats m 0 c).arrAt 2 cfg0.N (ix2 t k) = grad (Y m c) (T m c) t k := by
  have h := (dats m 0 c).arrAt_emb_eq_flushed 2 Value.disjoint2 (pt t) ((flush0_2 (pt t))) (ix2 (rowOf t) k)
  rw [emb2] at h
  refine h.trans ?_
  rw [Value.flushed2, out2_eq]
  refine Eq.trans (grad_blk m c (pt t) (rowOf t) k) ?_
  rw [tok_pt]

end

/-- The last point, which writes the loss back. -/
def last : Fin cfg0.N := ⟨31, by have : cfg0.N = 32 := N_0; omega⟩

theorem disjoint3 : ∀ t t' : Fin cfg0.N, (cfg0.win 3).flush t = true → (cfg0.win 3).flush t' = true → t ≠ t' →
    Disjoint ((cfg0.win 3).blk t).view.set ((cfg0.win 3).blk t').view.set := by
  intro t t' h h' hne
  have hN : cfg0.N = 32 := N_0
  have e := (flush0_3 t).mp h
  have e' := (flush0_3 t').mp h'
  exact absurd (Fin.ext (by omega)) hne

theorem emb3 (p : Fin 8) (q : Fin 128) : ((cfg0.win 3).blk last).view.emb (ix2 p q) = ix2 p q := by
  funext a
  apply Fin.ext
  match a with
  | ⟨0, _⟩ => show win0_3.index last 0 * 8 + 1 * p.val = p.val; rw [(index3 last).1]; omega
  | ⟨1, _⟩ => show win0_3.index last 1 * 128 + 1 * q.val = q.val; rw [(index3 last).2]; omega

theorem arr3_apply (p : Fin 8) (q : Fin 128) : (dats m 0 c).arrAt 3 cfg0.N (ix2 p q) = loss (Y m c) (T m c) := by
  have h := (dats m 0 c).arrAt_emb_eq_flushed 3 disjoint3 last ((flush0_3 last).mpr rfl) (ix2 p q)
  rw [emb3] at h
  refine h.trans ?_
  rw [Value.flushed3]
  refine Eq.trans (loss_sum m c p q 31 last.isLt) ?_
  exact TokenSum.upto_all _

end Cert.LossIdeal.Fold
-- ==== Proof.LossRef.lean ====
/-
  The loss's reference results read at an index.
-/
module

public import proofs.«01_k».proof.Proof.Gen.LossRefIdeal.Read
public import proofs.«01_k».proof.Proof.LossSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.LossRefIdeal.Mean

open Cert.LossRefIdeal Cert.LossRefIdeal.Read Cert.Loss.Spec Cert.LayerNorm

variable (x0 x1 : (⟨S16384x1024, .f32⟩ : BufTy).Contents (Elt Ideal)) (t : Fin 16384) (k : Fin 1024) (p : Fin 8) (q : Fin 128)

/-- The arguments at an index. -/
abbrev A2 (x : (⟨S16384x1024, .f32⟩ : BufTy).Contents (Elt Ideal)) (t : Fin 16384) (k : Fin 1024) : EReal := x (ix2 t k)

theorem err_eq : val_main_v0 (F := Ideal) x0 x1 (ix2 t k) = err (A2 x0) (A2 x1) t k := by
  unfold val_main_v0 err
  pointwise

theorem row_eq : val_main_v6 (F := Ideal) x0 x1 (ix1 t) = Ideal.div (row (A2 x0) (A2 x1) t) len := by
  unfold val_main_v6 val_main_v5 val_main_cst_1 val_main_v4 val_main_cst_0 val_main_v1 row len
  pointwise
  simp only [err_eq]

theorem loss_eq : val_main_v15 (F := Ideal) x0 x1 (ix2 p q) = loss (A2 x0) (A2 x1) := by
  rw [← lossMean_eq]
  unfold val_main_v15 val_main_v8 val_main_cst_3 val_main_v7 val_main_cst_2 lossMean half
  pointwise
  simp only [row_eq]

theorem grad_eq : val_main_v14 (F := Ideal) x0 x1 (ix2 t k) = grad (A2 x0) (A2 x1) t k := by
  rw [← gradMean_eq]
  unfold val_main_v14 val_main_v13 val_main_v12 val_main_v11 val_main_cst_6 val_main_v10 val_main_v9 val_main_cst_5 val_main_cst_4
    val_main_v3 val_main_v2 val_main_cst gradMean half one two len
  pointwise
  rw [err_eq]

end Cert.LossRefIdeal.Mean
-- ==== Proof.LossValue.lean ====
/-
  The value claim of the loss: the kernel's two results are the reference's.
-/
module

public import proofs.«01_k».proof.Defs
public import proofs.«01_k».proof.Proof.LossFold
public import proofs.«01_k».proof.Proof.LossRef
public import proofs.«01_k».proof.Proof.Gen.LossRefIdeal.Run

@[expose] public section

set_option maxRecDepth 16384

noncomputable section

open Idealize.ShloMosaic Idealize.ShloMosaic.TcCoe Idealize.SL.Sem

namespace Cert.LossValue

variable (m : (ℓ : Loc Cert.LossIdeal.nD Cert.LossIdeal.τ Cert.LossIdeal.sig) → Buf (Elt Ideal) ℓ)
  (c : Dev Cert.LossIdeal.nD)

/-- The arguments of core `c`. -/
abbrev a0 : (⟨Cert.LossRefIdeal.S16384x1024, .f32⟩ : BufTy).Contents (Elt Ideal) := m (c.tc.loc Cert.LossIdeal.main_arg0)
abbrev a1 : (⟨Cert.LossRefIdeal.S16384x1024, .f32⟩ : BufTy).Contents (Elt Ideal) := m (c.tc.loc Cert.LossIdeal.main_arg1)

theorem grad_eq : Cert.LossRefIdeal.Read.val_main_v14 (F := Ideal) (a0 m c) (a1 m c)
    = (Cert.LossIdeal.Gen.dats m 0 c).arrAt 2 Cert.LossIdeal.cfg0.N := by
  funext i
  obtain ⟨t, k, rfl⟩ : ∃ (t : Fin 16384) (k : Fin 1024), i = ix2 t k := ⟨i 0, i 1, eq_ix2 i⟩
  exact (Cert.LossRefIdeal.Mean.grad_eq (a0 m c) (a1 m c) t k).trans (Cert.LossIdeal.Fold.arr2_apply m c t k).symm

theorem loss_eq : Cert.LossRefIdeal.Read.val_main_v15 (F := Ideal) (a0 m c) (a1 m c)
    = (Cert.LossIdeal.Gen.dats m 0 c).arrAt 3 Cert.LossIdeal.cfg0.N := by
  funext i
  obtain ⟨p, q, rfl⟩ : ∃ (p : Fin 8) (q : Fin 128), i = ix2 p q := ⟨i 0, i 1, eq_ix2 i⟩
  exact (Cert.LossRefIdeal.Mean.loss_eq (a0 m c) (a1 m c) p q).trans (Cert.LossIdeal.Fold.arr3_apply m c p q).symm

theorem algebraic : algebraic_LossIdeal_LossRefIdeal := by
  intro m ρ m' ρ' _ hagree
  refine ⟨fun c => (Cert.LossIdeal.Gen.dats m 0 c).arrAt 2 Cert.LossIdeal.cfg0.N,
    fun c => (Cert.LossIdeal.Gen.dats m 0 c).arrAt 3 Cert.LossIdeal.cfg0.N, Cert.LossIdeal.Value.run_blocks m ρ, ?_⟩
  refine (θ_run _ _ _).mono (fun _ h c => ?_) (Cert.LossRefIdeal.Value.run m' ρ')
  obtain ⟨e0, e1⟩ := hagree c
  obtain ⟨r0, r1, k⟩ := h c
  refine ⟨r0.trans ?_, r1.trans ?_, k⟩
  · refine (Cert.LossRefIdeal.Read.val_main_v14_eq _ _).trans ?_
    rw [e0, e1]; exact grad_eq m c
  · refine (Cert.LossRefIdeal.Read.val_main_v15_eq _ _).trans ?_
    rw [e0, e1]; exact loss_eq m c

end Cert.LossValue
-- ==== Proof.AdamWSpec.lean ====
/-
  The optimiser's update of one weight's entry, over the extended reals.
-/
module

public import Idealize.ShloMosaic.Init
public import Idealize.ShloMosaic.PureOps.Ideal
public import Idealize.ShloMosaic.Lib.ValueIdx

@[expose] public section

set_option maxRecDepth 16384

noncomputable section

open Idealize.ShloMosaic

namespace Cert.AdamW.Spec

/-- The two moments' weights, their bias corrections, the constant beside the root, the decay and the step, as the programs
    write them. -/
def b1 : EReal := Ideal.ofBits FTy.f32 0x3F666666#32
def c1 : EReal := Ideal.ofBits FTy.f32 0x3DCCCCCD#32
def b2 : EReal := Ideal.ofBits FTy.f32 0x3F7FBE77#32
def c2 : EReal := Ideal.ofBits FTy.f32 0x3A83126F#32
def d1 : EReal := Ideal.ofBits FTy.f32 0x3F26BD02#32
def d2 : EReal := Ideal.ofBits FTy.f32 0x3C231ACC#32
def eps : EReal := Ideal.ofBits FTy.f32 0x322BCC77#32
def decay : EReal := Ideal.ofBits FTy.f32 0x3C23D70A#32
def step : EReal := Ideal.ofBits FTy.f32 0xBA83126F#32

/-- The gradient's entry: the sum of its eight parts. -/
def grad (p : Fin 8 → EReal) : EReal := ∑ j, p j

variable (p : Fin 8 → EReal) (w m v : EReal)

/-- The new moments, and the weight's change. -/
def mom : EReal := b1 * m + c1 * grad p
def vel : EReal := b2 * v + c2 * (grad p * grad p)
def delta : EReal := step * (Ideal.div (Ideal.div (mom p m) d1) (Ideal.sqrt (Ideal.div (vel p v) d2) + eps) + decay * w)

end Cert.AdamW.Spec
-- ==== Proof.AdamWBody.lean ====
/-
  What one grid point of the optimiser's kernel leaves in its windows, read at an index.
-/
module

public import proofs.«01_k».proof.Proof.Gen.AdamWIdeal.Frame
public import proofs.«01_k».proof.Proof.AdamWSpec
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamWIdeal.Body

open Cert.AdamWIdeal Cert.AdamWIdeal.Gen Cert.AdamW.Spec

theorem hz3 : (![0, 0, 0] : Fin 3 → Nat) = fun _ => 0 := funext fun a => by fin_cases a <;> rfl

variable (x0 : Vec Ideal S8x1x64x1024 .bf16) (x1 x2 x3 : Vec Ideal S1x64x1024 .f32) (r : Fin 64) (k : Fin 1024)

/-- The parts' entries at a place of the block. -/
abbrev parts (j : Fin 8) : EReal := x0 (ix4 j 0 r k)

theorem sum_apply : k0_pay5 (k0_pay10 x0 x1 x2 x3) (View.ld x0 r0_7) (ix2 r k) = grad (parts x0 r k) := by
  unfold k0_pay5 k0_pay10 k0_pay4 grad
  pointwise
  rw [Fin.sum_univ_eight]

theorem mom_apply : k0_pay6 (k0_pay10 x0 x1 x2 x3) (View.ld x0 r0_7) x2 (ix2 r k) = mom (parts x0 r k) (x2 (ix3 0 r k)) := by
  unfold k0_pay6 mom b1 c1
  pointwise
  rw [sum_apply]

theorem vel_apply : k0_pay7 (k0_pay10 x0 x1 x2 x3) (View.ld x0 r0_7) x3 (ix2 r k) = vel (parts x0 r k) (x3 (ix3 0 r k)) := by
  unfold k0_pay7 vel b2 c2
  pointwise
  rw [sum_apply]

theorem delta_apply : k0_pay9 (k0_pay10 x0 x1 x2 x3) (View.ld x0 r0_7) x2 x3 x1 (ix2 r k)
    = delta (parts x0 r k) (x1 (ix3 0 r k)) (x2 (ix3 0 r k)) (x3 (ix3 0 r k)) := by
  unfold k0_pay9 delta step d1 d2 eps decay
  pointwise
  rw [mom_apply, vel_apply]

theorem out4_apply : out0_4 x0 x1 x2 x3 (ix3 0 r k) = grad (parts x0 r k) := by
  unfold out0_4 r0_8
  rw [View.canon_unit_zero (S := S1x64x1024) hz3]
  unfold k0_pay8
  pointwise
  exact sum_apply x0 x1 x2 x3 r k

theorem out5_apply : out0_5 x0 x1 x2 x3 (ix3 0 r k)
    = delta (parts x0 r k) (x1 (ix3 0 r k)) (x2 (ix3 0 r k)) (x3 (ix3 0 r k)) := by
  unfold out0_5 r0_8
  rw [View.canon_unit_zero (S := S1x64x1024) hz3]
  simp only [View.ld_unit_zero (S := S1x64x1024) hz3]
  unfold k0_pay1
  pointwise
  exact delta_apply x0 x1 x2 x3 r k

theorem out6_apply : out0_6 x0 x1 x2 x3 (ix3 0 r k) = mom (parts x0 r k) (x2 (ix3 0 r k)) := by
  unfold out0_6 r0_8
  rw [View.canon_unit_zero (S := S1x64x1024) hz3]
  simp only [View.ld_unit_zero (S := S1x64x1024) hz3]
  unfold k0_pay2
  pointwise
  exact mom_apply x0 x1 x2 x3 r k

theorem out7_apply : out0_7 x0 x1 x2 x3 (ix3 0 r k) = vel (parts x0 r k) (x3 (ix3 0 r k)) := by
  unfold out0_7 r0_8
  rw [View.canon_unit_zero (S := S1x64x1024) hz3]
  simp only [View.ld_unit_zero (S := S1x64x1024) hz3]
  unfold k0_pay3
  pointwise
  exact vel_apply x0 x1 x2 x3 r k

end Cert.AdamWIdeal.Body
-- ==== Proof.AdamWBlocks.lean ====
/-
  The blocks the optimiser's windows cut from its arrays, and its result arrays read at an index.
-/
module

public import proofs.«01_k».proof.Proof.AdamWBody
public import proofs.«01_k».proof.Proof.Gen.AdamWIdeal.Value
public import Idealize.ShloMosaic.Lib.StableHlo.ReadAt
public import Idealize.ShloMosaic.Lib.ValueIdx

@[expose] public section

set_option maxRecDepth 16384

noncomputable section

open Idealize.ShloMosaic Idealize.ShloMosaic.TcCoe Idealize.SL.Sem

namespace Cert.AdamWIdeal.Blocks

open Cert.AdamWIdeal Cert.AdamWIdeal.Gen Cert.AdamWIdeal.Body Cert.AdamW.Spec

variable (m : (ℓ : Loc nD τ sig) → Buf (Elt Ideal) ℓ) (c : Dev nD)

/-- The arguments at an index. -/
abbrev GP (l : Fin 4) (i : Fin 704) (k : Fin 1024) (j : Fin 8) : EReal := m ((c : Thread nD τ).loc main_arg0) (ix4 j l i k)
abbrev W (l : Fin 4) (i : Fin 704) (k : Fin 1024) : EReal := m ((c : Thread nD τ).loc main_arg1) (ix3 l i k)
abbrev M (l : Fin 4) (i : Fin 704) (k : Fin 1024) : EReal := m ((c : Thread nD τ).loc main_arg2) (ix3 l i k)
abbrev U (l : Fin 4) (i : Fin 704) (k : Fin 1024) : EReal := m ((c : Thread nD τ).loc main_arg3) (ix3 l i k)

theorem V_gp (l : Fin 4) (i : Fin 704) (k : Fin 1024) (j : Fin 8) : V m c main_v0 (ix4 j l i k) = GP m c l i k j := by
  unfold V hostOps0; after_reads_at
theorem V_w (l : Fin 4) (i : Fin 704) (k : Fin 1024) : V m c main_arg1 (ix3 l i k) = W m c l i k := by
  unfold V hostOps0; after_reads_at
theorem V_m (l : Fin 4) (i : Fin 704) (k : Fin 1024) : V m c main_arg2 (ix3 l i k) = M m c l i k := by
  unfold V hostOps0; after_reads_at
theorem V_u (l : Fin 4) (i : Fin 704) (k : Fin 1024) : V m c main_arg3 (ix3 l i k) = U m c l i k := by
  unfold V hostOps0; after_reads_at

/-- The slab and the row that row `r` of the block at point `t` is. -/
def slab (t : Fin cfg0.N) : Fin 4 := ⟨t.val / 11, by have : cfg0.N = 44 := N_0; omega⟩
def rowAt (t : Fin cfg0.N) (r : Fin 64) : Fin 704 := ⟨64 * (t.val % 11) + r.val, by omega⟩

theorem index0 : ∀ t : Fin grid0.N, win0_0.index t 0 = 0 ∧ win0_0.index t 1 = t.val / 11 ∧ win0_0.index t 2 = t.val % 11
    ∧ win0_0.index t 3 = 0 := by decide +kernel
theorem index1 : ∀ t : Fin grid0.N, win0_1.index t 0 = t.val / 11 ∧ win0_1.index t 1 = t.val % 11
    ∧ win0_1.index t 2 = 0 := by decide +kernel
theorem index2 : ∀ t : Fin grid0.N, win0_2.index t 0 = t.val / 11 ∧ win0_2.index t 1 = t.val % 11
    ∧ win0_2.index t 2 = 0 := by decide +kernel
theorem index3 : ∀ t : Fin grid0.N, win0_3.index t 0 = t.val / 11 ∧ win0_3.index t 1 = t.val % 11
    ∧ win0_3.index t 2 = 0 := by decide +kernel
theorem index4 : ∀ t : Fin grid0.N, win0_4.index t 0 = t.val / 11 ∧ win0_4.index t 1 = t.val % 11
    ∧ win0_4.index t 2 = 0 := by decide +kernel
theorem index5 : ∀ t : Fin grid0.N, win0_5.index t 0 = t.val / 11 ∧ win0_5.index t 1 = t.val % 11
    ∧ win0_5.index t 2 = 0 := by decide +kernel
theorem index6 : ∀ t : Fin grid0.N, win0_6.index t 0 = t.val / 11 ∧ win0_6.index t 1 = t.val % 11
    ∧ win0_6.index t 2 = 0 := by decide +kernel
theorem index7 : ∀ t : Fin grid0.N, win0_7.index t 0 = t.val / 11 ∧ win0_7.index t 1 = t.val % 11
    ∧ win0_7.index t 2 = 0 := by decide +kernel

theorem iblk0 (t : Fin cfg0.N) (r : Fin 64) (k : Fin 1024) (j : Fin 8) :
    (iblk m c 0 t : Vec Ideal S8x1x64x1024 .bf16) (ix4 j 0 r k) = GP m c (slab t) (rowAt t r) k j := by
  unfold iblk
  rw [View.read_apply]
  refine Eq.trans ?_ (V_gp m c (slab t) (rowAt t r) k j)
  show V m c main_v0 _ = V m c main_v0 _
  congr 1
  funext a
  apply Fin.ext
  match a with
  | ⟨0, _⟩ => show win0_0.index t 0 * 8 + 1 * j.val = j.val; rw [(index0 t).1]; omega
  | ⟨1, _⟩ => show win0_0.index t 1 * 1 + 1 * 0 = t.val / 11; rw [(index0 t).2.1]; omega
  | ⟨2, _⟩ => show win0_0.index t 2 * 64 + 1 * r.val = 64 * (t.val % 11) + r.val; rw [(index0 t).2.2.1]; omega
  | ⟨3, _⟩ => show win0_0.index t 3 * 1024 + 1 * k.val = k.val; rw [(index0 t).2.2.2]; omega

theorem iblk1 (t : Fin cfg0.N) (r : Fin 64) (k : Fin 1024) :
    (iblk m c 1 t : Vec Ideal S1x64x1024 .f32) (ix3 0 r k) = W m c (slab t) (rowAt t r) k := by
  unfold iblk
  rw [View.read_apply]
  refine Eq.trans ?_ (V_w m c (slab t) (rowAt t r) k)
  show V m c main_arg1 _ = V m c main_arg1 _
  congr 1
  funext a
  apply Fin.ext
  match a with
  | ⟨0, _⟩ => show win0_1.index t 0 * 1 + 1 * 0 = t.val / 11; rw [(index1 t).1]; omega
  | ⟨1, _⟩ => show win0_1.index t 1 * 64 + 1 * r.val = 64 * (t.val % 11) + r.val; rw [(index1 t).2.1]; omega
  | ⟨2, _⟩ => show win0_1.index t 2 * 1024 + 1 * k.val = k.val; rw [(index1 t).2.2]; omega

theorem iblk2 (t : Fin cfg0.N) (r : Fin 64) (k : Fin 1024) :
    (iblk m c 2 t : Vec Ideal S1x64x1024 .f32) (ix3 0 r k) = M m c (slab t) (rowAt t r) k := by
  unfold iblk
  rw [View.read_apply]
  refine Eq.trans ?_ (V_m m c (slab t) (rowAt t r) k)
  show V m c main_arg2 _ = V m c main_arg2 _
  congr 1
  funext a
  apply Fin.ext
  match a with
  | ⟨0, _⟩ => show win0_2.index t 0 * 1 + 1 * 0 = t.val / 11; rw [(index2 t).1]; omega
  | ⟨1, _⟩ => show win0_2.index t 1 * 64 + 1 * r.val = 64 * (t.val % 11) + r.val; rw [(index2 t).2.1]; omega
  | ⟨2, _⟩ => show win0_2.index t 2 * 1024 + 1 * k.val = k.val; rw [(index2 t).2.2]; omega

theorem iblk3 (t : Fin cfg0.N) (r : Fin 64) (k : Fin 1024) :
    (iblk m c 3 t : Vec Ideal S1x64x1024 .f32) (ix3 0 r k) = U m c (slab t) (rowAt t r) k := by
  unfold iblk
  rw [View.read_apply]
  refine Eq.trans ?_ (V_u m c (slab t) (rowAt t r) k)
  show V m c main_arg3 _ = V m c main_arg3 _
  congr 1
  funext a
  apply Fin.ext
  match a with
  | ⟨0, _⟩ => show win0_3.index t 0 * 1 + 1 * 0 = t.val / 11; rw [(index3 t).1]; omega
  | ⟨1, _⟩ => show win0_3.index t 1 * 64 + 1 * r.val = 64 * (t.val % 11) + r.val; rw [(index3 t).2.1]; omega
  | ⟨2, _⟩ => show win0_3.index t 2 * 1024 + 1 * k.val = k.val; rw [(index3 t).2.2]; omega

theorem parts_blk (t : Fin cfg0.N) (r : Fin 64) (k : Fin 1024) :
    parts (iblk m c 0 t) r k = GP m c (slab t) (rowAt t r) k := funext (iblk0 m c t r k)

/-! ## The result arrays -/

variable (l : Fin 4) (i : Fin 704) (k : Fin 1024)

/-- The point that writes an entry's block, and the entry's row in it. -/
def pt : Fin cfg0.N := ⟨11 * l.val + i.val / 64, by have : cfg0.N = 44 := N_0; omega⟩
def rowOf : Fin 64 := ⟨i.val % 64, Nat.mod_lt _ (by decide)⟩

theorem slab_pt : slab (pt l i) = l := by
  apply Fin.ext
  show (11 * l.val + i.val / 64) / 11 = l.val
  omega

theorem row_pt : rowAt (pt l i) (rowOf i) = i := by
  apply Fin.ext
  show 64 * ((11 * l.val + i.val / 64) % 11) + i.val % 64 = i.val
  omega

theorem emb4 : ((cfg0.win 4).blk (pt l i)).view.emb (ix3 (0 : Fin 1) (rowOf i) k) = ix3 l i k := by
  funext a
  apply Fin.ext
  match a with
  | ⟨0, _⟩ =>
    show win0_4.index (pt l i) 0 * 1 + 1 * 0 = l.val
    rw [(index4 (pt l i)).1]; show (11 * l.val + i.val / 64) / 11 * 1 + 1 * 0 = l.val; omega
  | ⟨1, _⟩ =>
    show win0_4.index (pt l i) 1 * 64 + 1 * (i.val % 64) = i.val
    rw [(index4 (pt l i)).2.1]; show (11 * l.val + i.val / 64) % 11 * 64 + 1 * (i.val % 64) = i.val; omega
  | ⟨2, _⟩ => show win0_4.index (pt l i) 2 * 1024 + 1 * k.val = k.val; rw [(index4 (pt l i)).2.2]; omega

theorem arr4_apply : (dats m 0 c).arrAt 4 cfg0.N (ix3 l i k) = grad (GP m c l i k) := by
  have h := (dats m 0 c).arrAt_emb_eq_flushed 4 Value.disjoint4 (pt l i) (flush0_4 (pt l i)) (ix3 (0 : Fin 1) (rowOf i) k)
  rw [emb4] at h
  refine h.trans ?_
  rw [Value.flushed4]
  have e := out4_apply (iblk m c 0 (pt l i)) (iblk m c 1 (pt l i)) (iblk m c 2 (pt l i)) (iblk m c 3 (pt l i)) (rowOf i) k
  rw [parts_blk, slab_pt, row_pt] at e
  generalize out0_4 (iblk m c 0 (pt l i)) (iblk m c 1 (pt l i)) (iblk m c 2 (pt l i)) (iblk m c 3 (pt l i)) = o at e ⊢
  exact e

theorem emb5 : ((cfg0.win 5).blk (pt l i)).view.emb (ix3 (0 : Fin 1) (rowOf i) k) = ix3 l i k := by
  funext a
  apply Fin.ext
  match a with
  | ⟨0, _⟩ =>
    show win0_5.index (pt l i) 0 * 1 + 1 * 0 = l.val
    rw [(index5 (pt l i)).1]; show (11 * l.val + i.val / 64) / 11 * 1 + 1 * 0 = l.val; omega
  | ⟨1, _⟩ =>
    show win0_5.index (pt l i) 1 * 64 + 1 * (i.val % 64) = i.val
    rw [(index5 (pt l i)).2.1]; show (11 * l.val + i.val / 64) % 11 * 64 + 1 * (i.val % 64) = i.val; omega
  | ⟨2, _⟩ => show win0_5.index (pt l i) 2 * 1024 + 1 * k.val = k.val; rw [(index5 (pt l i)).2.2]; omega

theorem arr5_apply : (dats m 0 c).arrAt 5 cfg0.N (ix3 l i k) = delta (GP m c l i k) (W m c l i k) (M m c l i k) (U m c l i k) := by
  have h := (dats m 0 c).arrAt_emb_eq_flushed 5 Value.disjoint5 (pt l i) (flush0_5 (pt l i)) (ix3 (0 : Fin 1) (rowOf i) k)
  rw [emb5] at h
  refine h.trans ?_
  rw [Value.flushed5]
  have e := out5_apply (iblk m c 0 (pt l i)) (iblk m c 1 (pt l i)) (iblk m c 2 (pt l i)) (iblk m c 3 (pt l i)) (rowOf i) k
  rw [parts_blk, iblk1, iblk2, iblk3, slab_pt, row_pt] at e
  generalize out0_5 (iblk m c 0 (pt l i)) (iblk m c 1 (pt l i)) (iblk m c 2 (pt l i)) (iblk m c 3 (pt l i)) = o at e ⊢
  exact e

theorem emb6 : ((cfg0.win 6).blk (pt l i)).view.emb (ix3 (0 : Fin 1) (rowOf i) k) = ix3 l i k := by
  funext a
  apply Fin.ext
  match a with
  | ⟨0, _⟩ =>
    show win0_6.index (pt l i) 0 * 1 + 1 * 0 = l.val
    rw [(index6 (pt l i)).1]; show (11 * l.val + i.val / 64) / 11 * 1 + 1 * 0 = l.val; omega
  | ⟨1, _⟩ =>
    show win0_6.index (pt l i) 1 * 64 + 1 * (i.val % 64) = i.val
    rw [(index6 (pt l i)).2.1]; show (11 * l.val + i.val / 64) % 11 * 64 + 1 * (i.val % 64) = i.val; omega
  | ⟨2, _⟩ => show win0_6.index (pt l i) 2 * 1024 + 1 * k.val = k.val; rw [(index6 (pt l i)).2.2]; omega

theorem arr6_apply : (dats m 0 c).arrAt 6 cfg0.N (ix3 l i k) = mom (GP m c l i k) (M m c l i k) := by
  have h := (dats m 0 c).arrAt_emb_eq_flushed 6 Value.disjoint6 (pt l i) (flush0_6 (pt l i)) (ix3 (0 : Fin 1) (rowOf i) k)
  rw [emb6] at h
  refine h.trans ?_
  rw [Value.flushed6]
  have e := out6_apply (iblk m c 0 (pt l i)) (iblk m c 1 (pt l i)) (iblk m c 2 (pt l i)) (iblk m c 3 (pt l i)) (rowOf i) k
  rw [parts_blk, iblk2, slab_pt, row_pt] at e
  generalize out0_6 (iblk m c 0 (pt l i)) (iblk m c 1 (pt l i)) (iblk m c 2 (pt l i)) (iblk m c 3 (pt l i)) = o at e ⊢
  exact e

theorem emb7 : ((cfg0.win 7).blk (pt l i)).view.emb (ix3 (0 : Fin 1) (rowOf i) k) = ix3 l i k := by
  funext a
  apply Fin.ext
  match a with
  | ⟨0, _⟩ =>
    show win0_7.index (pt l i) 0 * 1 + 1 * 0 = l.val
    rw [(index7 (pt l i)).1]; show (11 * l.val + i.val / 64) / 11 * 1 + 1 * 0 = l.val; omega
  | ⟨1, _⟩ =>
    show win0_7.index (pt l i) 1 * 64 + 1 * (i.val % 64) = i.val
    rw [(index7 (pt l i)).2.1]; show (11 * l.val + i.val / 64) % 11 * 64 + 1 * (i.val % 64) = i.val; omega
  | ⟨2, _⟩ => show win0_7.index (pt l i) 2 * 1024 + 1 * k.val = k.val; rw [(index7 (pt l i)).2.2]; omega

theorem arr7_apply : (dats m 0 c).arrAt 7 cfg0.N (ix3 l i k) = vel (GP m c l i k) (U m c l i k) := by
  have h := (dats m 0 c).arrAt_emb_eq_flushed 7 Value.disjoint7 (pt l i) (flush0_7 (pt l i)) (ix3 (0 : Fin 1) (rowOf i) k)
  rw [emb7] at h
  refine h.trans ?_
  rw [Value.flushed7]
  have e := out7_apply (iblk m c 0 (pt l i)) (iblk m c 1 (pt l i)) (iblk m c 2 (pt l i)) (iblk m c 3 (pt l i)) (rowOf i) k
  rw [parts_blk, iblk3, slab_pt, row_pt] at e
  generalize out0_7 (iblk m c 0 (pt l i)) (iblk m c 1 (pt l i)) (iblk m c 2 (pt l i)) (iblk m c 3 (pt l i)) = o at e ⊢
  exact e

end Cert.AdamWIdeal.Blocks
-- ==== Proof.AdamWRef.lean ====
/-
  The optimiser's reference results read at an index.
-/
module

public import proofs.«01_k».proof.Proof.Gen.AdamWRefIdeal.Read
public import proofs.«01_k».proof.Proof.AdamWSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamWRefIdeal.Update

open Cert.AdamWRefIdeal Cert.AdamWRefIdeal.Read Cert.AdamW.Spec

variable (x0 : (⟨S8x4x704x1024, .f32⟩ : BufTy).Contents (Elt Ideal)) (x1 x2 x3 : (⟨S4x704x1024, .f32⟩ : BufTy).Contents (Elt Ideal))
  (l : Fin 4) (i : Fin 704) (k : Fin 1024)

/-- The parts' entries at a place of the weight. -/
abbrev AP (j : Fin 8) : EReal := x0 (ix4 j l i k)

theorem grad_eq : val_main_v0 (F := Ideal) x0 (ix3 l i k) = grad (AP x0 l i k) := by
  unfold val_main_v0 val_main_cst grad
  pointwise

theorem mom_eq : val_main_v5 (F := Ideal) x0 x2 (ix3 l i k) = mom (AP x0 l i k) (x2 (ix3 l i k)) := by
  unfold val_main_v5 val_main_v4 val_main_v3 val_main_cst_1 val_main_v2 val_main_v1 val_main_cst_0 mom b1 c1
  pointwise
  rw [grad_eq]

theorem vel_eq : val_main_v11 (F := Ideal) x0 x3 (ix3 l i k) = vel (AP x0 l i k) (x3 (ix3 l i k)) := by
  unfold val_main_v11 val_main_v10 val_main_v9 val_main_cst_3 val_main_v8 val_main_v7 val_main_v6 val_main_cst_2 vel b2 c2
  pointwise
  rw [grad_eq]

theorem delta_eq : val_main_v24 (F := Ideal) x0 x1 x2 x3 (ix3 l i k)
    = delta (AP x0 l i k) (x1 (ix3 l i k)) (x2 (ix3 l i k)) (x3 (ix3 l i k)) := by
  unfold val_main_v24 val_main_v23 val_main_cst_8 val_main_v22 val_main_v21 val_main_v20 val_main_cst_7 val_main_v19 val_main_v18
    val_main_v17 val_main_cst_6 val_main_v16 val_main_v15 val_main_v14 val_main_cst_5 val_main_v13 val_main_v12 val_main_cst_4
    delta step d1 d2 eps decay
  pointwise
  rw [mom_eq, vel_eq]

end Cert.AdamWRefIdeal.Update
-- ==== Proof.AdamWValue.lean ====
/-
  The value claim of the optimiser's step: the kernel's four results are the reference's.
-/
module

public import proofs.«01_k».proof.Proof.AdamWBlocks
public import proofs.«01_k».proof.Proof.AdamWRef
public import proofs.«01_k».proof.Proof.Gen.AdamWRefIdeal.Run
public import proofs.«01_k».proof.Defs

@[expose] public section

set_option maxRecDepth 16384

noncomputable section

open Idealize.ShloMosaic Idealize.ShloMosaic.TcCoe Idealize.SL.Sem

namespace Cert.AdamWValue

variable (m : (ℓ : Loc Cert.AdamWIdeal.nD Cert.AdamWIdeal.τ Cert.AdamWIdeal.sig) → Buf (Elt Ideal) ℓ)
  (c : Dev Cert.AdamWIdeal.nD)

/-- The arguments of core `c`. -/
abbrev a0 : (⟨Cert.AdamWRefIdeal.S8x4x704x1024, .f32⟩ : BufTy).Contents (Elt Ideal) := m (c.tc.loc Cert.AdamWIdeal.main_arg0)
abbrev a1 : (⟨Cert.AdamWRefIdeal.S4x704x1024, .f32⟩ : BufTy).Contents (Elt Ideal) := m (c.tc.loc Cert.AdamWIdeal.main_arg1)
abbrev a2 : (⟨Cert.AdamWRefIdeal.S4x704x1024, .f32⟩ : BufTy).Contents (Elt Ideal) := m (c.tc.loc Cert.AdamWIdeal.main_arg2)
abbrev a3 : (⟨Cert.AdamWRefIdeal.S4x704x1024, .f32⟩ : BufTy).Contents (Elt Ideal) := m (c.tc.loc Cert.AdamWIdeal.main_arg3)

theorem grad_eq : Cert.AdamWRefIdeal.Read.val_main_v0 (F := Ideal) (a0 m c)
    = (Cert.AdamWIdeal.Gen.dats m 0 c).arrAt 4 Cert.AdamWIdeal.cfg0.N := by
  funext i
  obtain ⟨l, i, k, rfl⟩ : ∃ (l : Fin 4) (r : Fin 704) (k : Fin 1024), i = ix3 l r k := ⟨i 0, i 1, i 2, eq_ix3 i⟩
  exact (Cert.AdamWRefIdeal.Update.grad_eq (a0 m c) l i k).trans (Cert.AdamWIdeal.Blocks.arr4_apply m c l i k).symm

theorem delta_eq : Cert.AdamWRefIdeal.Read.val_main_v24 (F := Ideal) (a0 m c) (a1 m c) (a2 m c) (a3 m c)
    = (Cert.AdamWIdeal.Gen.dats m 0 c).arrAt 5 Cert.AdamWIdeal.cfg0.N := by
  funext i
  obtain ⟨l, i, k, rfl⟩ : ∃ (l : Fin 4) (r : Fin 704) (k : Fin 1024), i = ix3 l r k := ⟨i 0, i 1, i 2, eq_ix3 i⟩
  exact (Cert.AdamWRefIdeal.Update.delta_eq (a0 m c) (a1 m c) (a2 m c) (a3 m c) l i k).trans (Cert.AdamWIdeal.Blocks.arr5_apply m c l i k).symm

theorem mom_eq : Cert.AdamWRefIdeal.Read.val_main_v5 (F := Ideal) (a0 m c) (a2 m c)
    = (Cert.AdamWIdeal.Gen.dats m 0 c).arrAt 6 Cert.AdamWIdeal.cfg0.N := by
  funext i
  obtain ⟨l, i, k, rfl⟩ : ∃ (l : Fin 4) (r : Fin 704) (k : Fin 1024), i = ix3 l r k := ⟨i 0, i 1, i 2, eq_ix3 i⟩
  exact (Cert.AdamWRefIdeal.Update.mom_eq (a0 m c) (a2 m c) l i k).trans (Cert.AdamWIdeal.Blocks.arr6_apply m c l i k).symm

theorem vel_eq : Cert.AdamWRefIdeal.Read.val_main_v11 (F := Ideal) (a0 m c) (a3 m c)
    = (Cert.AdamWIdeal.Gen.dats m 0 c).arrAt 7 Cert.AdamWIdeal.cfg0.N := by
  funext i
  obtain ⟨l, i, k, rfl⟩ : ∃ (l : Fin 4) (r : Fin 704) (k : Fin 1024), i = ix3 l r k := ⟨i 0, i 1, i 2, eq_ix3 i⟩
  exact (Cert.AdamWRefIdeal.Update.vel_eq (a0 m c) (a3 m c) l i k).trans (Cert.AdamWIdeal.Blocks.arr7_apply m c l i k).symm

theorem algebraic : algebraic_AdamWIdeal_AdamWRefIdeal := by
  intro m ρ m' ρ' _ hagree
  refine ⟨fun c => (Cert.AdamWIdeal.Gen.dats m 0 c).arrAt 4 Cert.AdamWIdeal.cfg0.N,
    fun c => (Cert.AdamWIdeal.Gen.dats m 0 c).arrAt 5 Cert.AdamWIdeal.cfg0.N,
    fun c => (Cert.AdamWIdeal.Gen.dats m 0 c).arrAt 6 Cert.AdamWIdeal.cfg0.N,
    fun c => (Cert.AdamWIdeal.Gen.dats m 0 c).arrAt 7 Cert.AdamWIdeal.cfg0.N, Cert.AdamWIdeal.Value.run_blocks m ρ, ?_⟩
  refine (θ_run _ _ _).mono (fun _ h c => ?_) (Cert.AdamWRefIdeal.Value.run m' ρ')
  obtain ⟨e0, e1, e2, e3⟩ := hagree c
  obtain ⟨r0, r1, r2, r3, k⟩ := h c
  refine ⟨r0.trans ?_, r1.trans ?_, r2.trans ?_, r3.trans ?_, k⟩
  · refine (Cert.AdamWRefIdeal.Read.val_main_v0_eq _).trans ?_
    rw [e0]; exact grad_eq m c
  · refine (Cert.AdamWRefIdeal.Read.val_main_v24_eq _ _ _ _).trans ?_
    rw [e0, e1, e2, e3]; exact delta_eq m c
  · refine (Cert.AdamWRefIdeal.Read.val_main_v5_eq _ _).trans ?_
    rw [e0, e2]; exact mom_eq m c
  · refine (Cert.AdamWRefIdeal.Read.val_main_v11_eq _ _).trans ?_
    rw [e0, e3]; exact vel_eq m c

end Cert.AdamWValue
-- ==== Proof.MixBwdIdealCover.lean ====
/-
  What one grid point of the mixer's backward kernel over the extended reals leaves in each result's window: its stores cover the window, or go over what was
  there.
-/
module

public import proofs.«01_k».proof.Proof.Gen.MixBwdIdeal.Frame.RunB
public import Idealize.ShloMosaic.Lib.Claim

@[expose] public section

set_option maxRecDepth 16384

noncomputable section

namespace Cert.MixBwdIdeal.Run

open Cert.MixBwdIdeal Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (i : grid0.Coords) (arg1 : Memref sig .tc .vmem S32x2176 .f32) (harg1 : arg1.IsWhole) (arg2 : Memref sig .tc .vmem S256x2176 .f32) (harg2 : arg2.IsWhole) (arg3 : Memref sig .tc .vmem S32x2176 .f32) (harg3 : arg3.IsWhole) (arg4 : Memref sig .tc .vmem S32x1024 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S32x384 .f32) (harg7 : arg7.IsWhole) (arg8 : Memref sig .tc .vmem S256x384 .f32) (harg8 : arg8.IsWhole) (arg9 : Memref sig .tc .vmem S32x384 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S8x384 .f32) (harg16 : arg16.IsWhole) (arg17 : Memref sig .tc .vmem S32x384 .f32) (harg17 : arg17.IsWhole) (arg18 : Memref sig .tc .vmem S1x384 .f32) (harg18 : arg18.IsWhole) (arg19 : Memref sig .tc .vmem S1x384 .f32) (harg19 : arg19.IsWhole) (arg20 : Memref sig .tc .vmem S256x2176 .bf16) (harg20 : arg20.IsWhole) (arg21 : Memref sig .tc .vmem S1024x2176 .f32) (harg21 : arg21.IsWhole) (arg22 : Memref sig .tc .vmem S1024x1024 .f32) (harg22 : arg22.IsWhole) (arg23 : Memref sig .tc .vmem S256x256 .f32) (harg23 : arg23.IsWhole) (arg24 : Memref sig .tc .vmem S1x256 .f32) (harg24 : arg24.IsWhole) (arg25 : Memref sig .tc .vmem S8x384 .f32) (harg25 : arg25.IsWhole) (arg26 : Memref sig .tc .vmem S32x384 .f32) (harg26 : arg26.IsWhole) (arg27 : Memref sig .tc .vmem S1x384 .f32) (harg27 : arg27.IsWhole) (arg28 : Memref sig .tc .vmem S1x384 .f32) (harg28 : arg28.IsWhole) (arg29 : Memref sig .tc .vmem S1x384 .f32) (harg29 : arg29.IsWhole) (arg30 : Memref sig .tc .vmem S320x2176 .f32) (harg30 : arg30.IsWhole) (arg31 : Memref sig .tc .vmem S320x1024 .bf16) (harg31 : arg31.IsWhole) (arg32 : Memref sig .tc .vmem S320x1024 .f32) (harg32 : arg32.IsWhole) (arg33 : Memref sig .tc .vmem S320x384 .f32) (harg33 : arg33.IsWhole) (arg34 : Memref sig .tc .vmem S320x384 .f32) (harg34 : arg34.IsWhole) (arg35 : Memref sig .tc .vmem S320x384 .f32) (harg35 : arg35.IsWhole) (arg36 : Memref sig .tc .vmem S320x384 .f32) (harg36 : arg36.IsWhole) (arg37 : Memref sig .tc .vmem S320x384 .f32) (harg37 : arg37.IsWhole) (arg38 : Memref sig .tc .vmem S320x256 .f32) (harg38 : arg38.IsWhole) (arg39 : Memref sig .tc .vmem S312x384 .f32) (harg39 : arg39.IsWhole) (arg40 : Memref sig .tc .vmem S8x312x384 .f32) (harg40 : arg40.IsWhole) (arg41 : Memref sig .tc .vmem S256x384 .f32) (harg41 : arg41.IsWhole) (hc0 : cond0_0 i)
  (x0 : Vec F S32x2176 .f32) (x1 : Vec F S256x2176 .f32) (x2 : Vec F S32x2176 .f32) (x3 : Vec F S32x1024 .bf16) (x4 : Vec F S256x1024 .bf16) (x5 : Vec F S32x1024 .bf16) (x6 : Vec F S32x384 .f32) (x7 : Vec F S256x384 .f32) (x8 : Vec F S32x384 .f32) (x9 : Vec F S256x1024 .bf16) (x10 : Vec F S256x1024 .bf16) (x11 : Vec F S1024x1024 .bf16) (x12 : Vec F S256x256 .bf16) (x13 : Vec F S256x256 .bf16) (x14 : Vec F S1x256 .f32) (x15 : Vec F S8x384 .f32) (x16 : Vec F S32x384 .f32) (x17 : Vec F S1x384 .f32) (x18 : Vec F S1x384 .f32)

theorem cover0_A_19 (y : S256x2176.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).1 ![256, 128] (by sl_kernel_rfl) y

def out0_A_19 : Vec F S256x2176 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).1)

theorem cover0_A_20 (y : S1024x2176.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.1 S1024x2176.size (by sl_kernel_rfl) y

def out0_A_20 : Vec F S1024x2176 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.1)

theorem cover0_A_21 (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.1 S1024x1024.size (by sl_kernel_rfl) y

def out0_A_21 : Vec F S1024x1024 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.1)

theorem cover0_A_22 (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.1 S256x256.size (by sl_kernel_rfl) y

def out0_A_22 : Vec F S256x256 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.1)

theorem cover0_A_23 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.1 S1x256.size (by sl_kernel_rfl) y

def out0_A_23 : Vec F S1x256 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.1)

theorem cover0_A_24 (y : S8x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.1 ![1, 384] (by sl_kernel_rfl) y

def out0_A_24 : Vec F S8x384 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.1)

theorem cover0_A_25 (y : S32x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.1 ![1, 384] (by sl_kernel_rfl) y

def out0_A_25 : Vec F S32x384 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.1)

theorem cover0_A_26 (y : S1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.1 S1x384.size (by sl_kernel_rfl) y

def out0_A_26 : Vec F S1x384 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.1)

theorem cover0_A_27 (y : S1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.1 S1x384.size (by sl_kernel_rfl) y

def out0_A_27 : Vec F S1x384 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.1)

theorem cover0_A_28 (y : S1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.2.1 S1x384.size (by sl_kernel_rfl) y

def out0_A_28 : Vec F S1x384 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.2.1)

end

section
variable (c : Dev nD) (i : grid0.Coords) (arg1 : Memref sig .tc .vmem S32x2176 .f32) (harg1 : arg1.IsWhole) (arg2 : Memref sig .tc .vmem S256x2176 .f32) (harg2 : arg2.IsWhole) (arg3 : Memref sig .tc .vmem S32x2176 .f32) (harg3 : arg3.IsWhole) (arg4 : Memref sig .tc .vmem S32x1024 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S32x384 .f32) (harg7 : arg7.IsWhole) (arg8 : Memref sig .tc .vmem S256x384 .f32) (harg8 : arg8.IsWhole) (arg9 : Memref sig .tc .vmem S32x384 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S8x384 .f32) (harg16 : arg16.IsWhole) (arg17 : Memref sig .tc .vmem S32x384 .f32) (harg17 : arg17.IsWhole) (arg18 : Memref sig .tc .vmem S1x384 .f32) (harg18 : arg18.IsWhole) (arg19 : Memref sig .tc .vmem S1x384 .f32) (harg19 : arg19.IsWhole) (arg20 : Memref sig .tc .vmem S256x2176 .bf16) (harg20 : arg20.IsWhole) (arg21 : Memref sig .tc .vmem S1024x2176 .f32) (harg21 : arg21.IsWhole) (arg22 : Memref sig .tc .vmem S1024x1024 .f32) (harg22 : arg22.IsWhole) (arg23 : Memref sig .tc .vmem S256x256 .f32) (harg23 : arg23.IsWhole) (arg24 : Memref sig .tc .vmem S1x256 .f32) (harg24 : arg24.IsWhole) (arg25 : Memref sig .tc .vmem S8x384 .f32) (harg25 : arg25.IsWhole) (arg26 : Memref sig .tc .vmem S32x384 .f32) (harg26 : arg26.IsWhole) (arg27 : Memref sig .tc .vmem S1x384 .f32) (harg27 : arg27.IsWhole) (arg28 : Memref sig .tc .vmem S1x384 .f32) (harg28 : arg28.IsWhole) (arg29 : Memref sig .tc .vmem S1x384 .f32) (harg29 : arg29.IsWhole) (arg30 : Memref sig .tc .vmem S320x2176 .f32) (harg30 : arg30.IsWhole) (arg31 : Memref sig .tc .vmem S320x1024 .bf16) (harg31 : arg31.IsWhole) (arg32 : Memref sig .tc .vmem S320x1024 .f32) (harg32 : arg32.IsWhole) (arg33 : Memref sig .tc .vmem S320x384 .f32) (harg33 : arg33.IsWhole) (arg34 : Memref sig .tc .vmem S320x384 .f32) (harg34 : arg34.IsWhole) (arg35 : Memref sig .tc .vmem S320x384 .f32) (harg35 : arg35.IsWhole) (arg36 : Memref sig .tc .vmem S320x384 .f32) (harg36 : arg36.IsWhole) (arg37 : Memref sig .tc .vmem S320x384 .f32) (harg37 : arg37.IsWhole) (arg38 : Memref sig .tc .vmem S320x256 .f32) (harg38 : arg38.IsWhole) (arg39 : Memref sig .tc .vmem S312x384 .f32) (harg39 : arg39.IsWhole) (arg40 : Memref sig .tc .vmem S8x312x384 .f32) (harg40 : arg40.IsWhole) (arg41 : Memref sig .tc .vmem S256x384 .f32) (harg41 : arg41.IsWhole) (hc0 : ¬cond0_0 i)
  (x0 : Vec F S32x2176 .f32) (x1 : Vec F S256x2176 .f32) (x2 : Vec F S32x2176 .f32) (x3 : Vec F S32x1024 .bf16) (x4 : Vec F S256x1024 .bf16) (x5 : Vec F S32x1024 .bf16) (x6 : Vec F S32x384 .f32) (x7 : Vec F S256x384 .f32) (x8 : Vec F S32x384 .f32) (x9 : Vec F S256x1024 .bf16) (x10 : Vec F S256x1024 .bf16) (x11 : Vec F S1024x1024 .bf16) (x12 : Vec F S256x256 .bf16) (x13 : Vec F S256x256 .bf16) (x14 : Vec F S1x256 .f32) (x15 : Vec F S8x384 .f32) (x16 : Vec F S32x384 .f32) (x17 : Vec F S1x384 .f32) (x18 : Vec F S1x384 .f32) (xo20 : Vec F S1024x2176 .f32) (xo21 : Vec F S1024x1024 .f32) (xo22 : Vec F S256x256 .f32) (xo23 : Vec F S1x256 .f32) (xo24 : Vec F S8x384 .f32) (xo25 : Vec F S32x384 .f32) (xo26 : Vec F S1x384 .f32) (xo27 : Vec F S1x384 .f32) (xo28 : Vec F S1x384 .f32)

theorem cover0_B_19 (y : S256x2176.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).1 ![256, 128] (by sl_kernel_rfl) y

def out0_B_19 : Vec F S256x2176 .bf16 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).1)

theorem cover0_B_20 (y : S1024x2176.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.1 S1024x2176.size (by sl_kernel_rfl) y

def out0_B_20 : Vec F S1024x2176 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.1)

theorem cover0_B_21 (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.1 S1024x1024.size (by sl_kernel_rfl) y

def out0_B_21 : Vec F S1024x1024 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.1)

theorem cover0_B_22 (y : S256x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.1 S256x256.size (by sl_kernel_rfl) y

def out0_B_22 : Vec F S256x256 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.1)

theorem cover0_B_23 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.1 S1x256.size (by sl_kernel_rfl) y

def out0_B_23 : Vec F S1x256 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.1)

def out0_B_24 : Vec F S8x384 .f32 :=
  arg25.view.read (Elt F) (arg25.view.writes (Elt F) (harg25.unread xo24) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.1)

def out0_B_25 : Vec F S32x384 .f32 :=
  arg26.view.read (Elt F) (arg26.view.writes (Elt F) (harg26.unread xo25) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.1)

theorem cover0_B_26 (y : S1x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.1 S1x384.size (by sl_kernel_rfl) y

def out0_B_26 : Vec F S1x384 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.1)

theorem cover0_B_27 (y : S1x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.1 S1x384.size (by sl_kernel_rfl) y

def out0_B_27 : Vec F S1x384 .f32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.1)

theorem cover0_B_28 (y : S1x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.2.1 S1x384.size (by sl_kernel_rfl) y

def out0_B_28 : Vec F S1x384 .f32 :=
  VO0_28.read (Elt F) (VO0_28.writes (Elt F) VO0_28.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.2.1)

end

end Cert.MixBwdIdeal.Run
-- ==== Proof.MixBwdIdealData.lean ====
/-
  The windows of the mixer's backward kernel over the extended reals after each grid point, and the pipeline's data.
-/
module

public import proofs.«01_k».proof.Proof.MixBwdIdealCover

@[expose] public section

set_option maxRecDepth 16384

noncomputable section

namespace Cert.MixBwdIdeal.Run

open Cert.MixBwdIdeal Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The contents of the result windows. -/
abbrev Outs (F : FTy → Type) [FloatOps F] : Type :=
  Vec F S256x2176 .bf16 × Vec F S1024x2176 .f32 × Vec F S1024x1024 .f32 × Vec F S256x256 .f32 × Vec F S1x256 .f32 × Vec F S8x384 .f32 × Vec F S32x384 .f32 × Vec F S1x384 .f32 × Vec F S1x384 .f32 × Vec F S1x384 .f32

/-- After the first point. -/
def atA (c : Dev nD) (t : Fin cfg0.N) (h0 : t.val % 64 = 0) : Outs F :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-- After a later point, over what the point before left. -/
def atB (c : Dev nD) (t : Fin cfg0.N) (h0 : ¬t.val % 64 = 0) (p : Outs F) : Outs F :=
  (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2, out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2)

/-- After the body at position `n`. -/
def outsAt0 (c : Dev nD) : (n : ℕ) → n < cfg0.N → Outs F
  | 0, hn => atA m c ⟨0, hn⟩ (Nat.zero_mod _)
  | n + 1, hn =>
    if h0 : (n + 1) % 64 = 0 then atA m c ⟨n + 1, hn⟩ h0
    else atB m c ⟨n + 1, hn⟩ h0 (outsAt0 c n (Nat.lt_of_succ_lt hn))

theorem outsAt0_A (c : Dev nD) (t : Fin cfg0.N) (h0 : t.val % 64 = 0) : outsAt0 m c t.val t.isLt = atA m c t h0 := by
  obtain ⟨n, hn⟩ := t
  cases n with
  | zero => exact rfl
  | succ n => exact dif_pos h0

theorem outsAt0_B (c : Dev nD) (t : Fin cfg0.N) (h0 : ¬t.val % 64 = 0) : outsAt0 m c t.val t.isLt
    = atB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨22, _⟩ => (outsAt0 m c t.val t.isLt).2.2.2.1
    | ⟨23, _⟩ => (outsAt0 m c t.val t.isLt).2.2.2.2.1
    | ⟨24, _⟩ => (outsAt0 m c t.val t.isLt).2.2.2.2.2.1
    | ⟨25, _⟩ => (outsAt0 m c t.val t.isLt).2.2.2.2.2.2.1
    | ⟨26, _⟩ => (outsAt0 m c t.val t.isLt).2.2.2.2.2.2.2.1
    | ⟨27, _⟩ => (outsAt0 m c t.val t.isLt).2.2.2.2.2.2.2.2.1
    | ⟨28, _⟩ => (outsAt0 m c t.val t.isLt).2.2.2.2.2.2.2.2.2
    | ⟨_ + 29, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]
theorem after0_20 (c : Dev nD) (t : Fin cfg0.N) : (dats m 0 c).after 20 t = (outsAt0 m c t.val t.isLt).2.1 := by dsimp only [dats]
theorem after0_21 (c : Dev nD) (t : Fin cfg0.N) : (dats m 0 c).after 21 t = (outsAt0 m c t.val t.isLt).2.2.1 := by dsimp only [dats]
theorem after0_22 (c : Dev nD) (t : Fin cfg0.N) : (dats m 0 c).after 22 t = (outsAt0 m c t.val t.isLt).2.2.2.1 := by dsimp only [dats]
theorem after0_23 (c : Dev nD) (t : Fin cfg0.N) : (dats m 0 c).after 23 t = (outsAt0 m c t.val t.isLt).2.2.2.2.1 := by dsimp only [dats]
theorem after0_24 (c : Dev nD) (t : Fin cfg0.N) : (dats m 0 c).after 24 t = (outsAt0 m c t.val t.isLt).2.2.2.2.2.1 := by dsimp only [dats]
theorem after0_25 (c : Dev nD) (t : Fin cfg0.N) : (dats m 0 c).after 25 t = (outsAt0 m c t.val t.isLt).2.2.2.2.2.2.1 := by dsimp only [dats]
theorem after0_26 (c : Dev nD) (t : Fin cfg0.N) : (dats m 0 c).after 26 t = (outsAt0 m c t.val t.isLt).2.2.2.2.2.2.2.1 := by dsimp only [dats]
theorem after0_27 (c : Dev nD) (t : Fin cfg0.N) : (dats m 0 c).after 27 t = (outsAt0 m c t.val t.isLt).2.2.2.2.2.2.2.2.1 := by dsimp only [dats]
theorem after0_28 (c : Dev nD) (t : Fin cfg0.N) : (dats m 0 c).after 28 t = (outsAt0 m c t.val t.isLt).2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_20_B (c : Dev nD) (t : Fin cfg0.N) (h0 : ¬t.val % 64 = 0) (d) :
    (dats m 0 c).before 20 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 20 rfl t (by omega) (Bool.eq_false_iff.mpr fun h => by have := (flush0_20 _).mp h; dsimp only at this; omega)
    (fun _ => rfl) (fun _ _ => rfl)]
  dsimp only [dats]
theorem before0_21_B (c : Dev nD) (t : Fin cfg0.N) (h0 : ¬t.val % 64 = 0) (d) :
    (dats m 0 c).before 21 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 21 rfl t (by omega) (Bool.eq_false_iff.mpr fun h => by have := (flush0_21 _).mp h; dsimp only at this; omega)
    (fun _ => rfl) (fun _ _ => rfl)]
  dsimp only [dats]
theorem before0_22_B (c : Dev nD) (t : Fin cfg0.N) (h0 : ¬t.val % 64 = 0) (d) :
    (dats m 0 c).before 22 t d = (outsAt0 m c (t.val - 1) (Nat.lt_of_le_of_lt (Nat.sub_le _ _) t.isLt)).2.2.2.1 := by
  have hN : t.val < 64 := lt_of_lt_of_eq t.isLt (show cfg0.N = 64 from N_0)
  rw [Dat.before_out_kept _ 22 rfl t (by omega) (Bool.eq_false_iff.mpr fun h => by have := (flush0_22 _).mp h; dsimp only at this; omega)
    (fun _ => rfl) (fun _ _ => rfl)]
  dsimp only [dats]
theorem before0_23_B (c : Dev nD) (t : Fin cfg0.N) (h0 : ¬t.val % 64 = 0) (d) :
    (dats m 0 c).before 23 t d = (outsAt0 m c (t.val - 1) (Nat.lt_of_le_of_lt (Nat.sub_le _ _) t.isLt)).2.2.2.2.1 := by
  have hN : t.val < 64 := lt_of_lt_of_eq t.isLt (show cfg0.N = 64 from N_0)
  rw [Dat.before_out_kept _ 23 rfl t (by omega) (Bool.eq_false_iff.mpr fun h => by have := (flush0_23 _).mp h; dsimp only at this; omega)
    (fun _ => rfl) (fun _ _ => rfl)]
  dsimp only [dats]
theorem before0_24_B (c : Dev nD) (t : Fin cfg0.N) (h0 : ¬t.val % 64 = 0) (d) :
    (dats m 0 c).before 24 t d = (outsAt0 m c (t.val - 1) (Nat.lt_of_le_of_lt (Nat.sub_le _ _) t.isLt)).2.2.2.2.2.1 := by
  have hN : t.val < 64 := lt_of_lt_of_eq t.isLt (show cfg0.N = 64 from N_0)
  rw [Dat.before_out_kept _ 24 rfl t (by omega) (Bool.eq_false_iff.mpr fun h => by have := (flush0_24 _).mp h; dsimp only at this; omega)
    (fun _ => rfl) (fun _ _ => rfl)]
  dsimp only [dats]
theorem before0_25_B (c : Dev nD) (t : Fin cfg0.N) (h0 : ¬t.val % 64 = 0) (d) :
    (dats m 0 c).before 25 t d = (outsAt0 m c (t.val - 1) (Nat.lt_of_le_of_lt (Nat.sub_le _ _) t.isLt)).2.2.2.2.2.2.1 := by
  have hN : t.val < 64 := lt_of_lt_of_eq t.isLt (show cfg0.N = 64 from N_0)
  rw [Dat.before_out_kept _ 25 rfl t (by omega) (Bool.eq_false_iff.mpr fun h => by have := (flush0_25 _).mp h; dsimp only at this; omega)
    (fun _ => rfl) (fun _ _ => rfl)]
  dsimp only [dats]
theorem before0_26_B (c : Dev nD) (t : Fin cfg0.N) (h0 : ¬t.val % 64 = 0) (d) :
    (dats m 0 c).before 26 t d = (outsAt0 m c (t.val - 1) (Nat.lt_of_le_of_lt (Nat.sub_le _ _) t.isLt)).2.2.2.2.2.2.2.1 := by
  have hN : t.val < 64 := lt_of_lt_of_eq t.isLt (show cfg0.N = 64 from N_0)
  rw [Dat.before_out_kept _ 26 rfl t (by omega) (Bool.eq_false_iff.mpr fun h => by have := (flush0_26 _).mp h; dsimp only at this; omega)
    (fun _ => rfl) (fun _ _ => rfl)]
  dsimp only [dats]
theorem before0_27_B (c : Dev nD) (t : Fin cfg0.N) (h0 : ¬t.val % 64 = 0) (d) :
    (dats m 0 c).before 27 t d = (outsAt0 m c (t.val - 1) (Nat.lt_of_le_of_lt (Nat.sub_le _ _) t.isLt)).2.2.2.2.2.2.2.2.1 := by
  have hN : t.val < 64 := lt_of_lt_of_eq t.isLt (show cfg0.N = 64 from N_0)
  rw [Dat.before_out_kept _ 27 rfl t (by omega) (Bool.eq_false_iff.mpr fun h => by have := (flush0_27 _).mp h; dsimp only at this; omega)
    (fun _ => rfl) (fun _ _ => rfl)]
  dsimp only [dats]
theorem before0_28_B (c : Dev nD) (t : Fin cfg0.N) (h0 : ¬t.val % 64 = 0) (d) :
    (dats m 0 c).before 28 t d = (outsAt0 m c (t.val - 1) (Nat.lt_of_le_of_lt (Nat.sub_le _ _) t.isLt)).2.2.2.2.2.2.2.2.2 := by
  have hN : t.val < 64 := lt_of_lt_of_eq t.isLt (show cfg0.N = 64 from N_0)
  rw [Dat.before_out_kept _ 28 rfl t (by omega) (Bool.eq_false_iff.mpr fun h => by have := (flush0_28 _).mp h; dsimp only at this; omega)
    (fun _ => rfl) (fun _ _ => rfl)]
  dsimp only [dats]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

end Cert.MixBwdIdeal.Run
-- ==== Proof.MixBwdIdealSoundA.lean ====
/-
  The body of the mixer's backward kernel over the extended reals at the first point: from the windows before it to the windows after it.
-/
module

public import proofs.«01_k».proof.Proof.MixBwdIdealData

@[expose] public section

set_option maxRecDepth 16384

noncomputable section

namespace Cert.MixBwdIdeal.Run

open Cert.MixBwdIdeal Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 8000000 in
theorem sound_A (c : Dev nD) (t : Fin cfg0.N) (h0 : t.val % 64 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  rw [show (dats m 0 c).Φ t.castSucc = Pipeline.ΦA spec0 c from rfl, PhiA0_eq]
  have hN : t.val < 64 := lt_of_lt_of_eq t.isLt (show cfg0.N = 64 from N_0)
  rw [outsAt0_A m c t h0]
  unfold atA out0_A_19 out0_A_20 out0_A_21 out0_A_22 out0_A_23 out0_A_24 out0_A_25 out0_A_26 out0_A_27 out0_A_28; (try dsimp only)
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      iexists _; unfold owns; iexists _; isplitr
      swap; · iexact HS11
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H28
  ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.MixBwdIdeal.Run
-- ==== Proof.MixBwdIdealSoundB.lean ====
/-
  The body of the mixer's backward kernel over the extended reals at a later point: from the windows before it to the windows after it.
-/
module

public import proofs.«01_k».proof.Proof.MixBwdIdealData

@[expose] public section

set_option maxRecDepth 16384

noncomputable section

namespace Cert.MixBwdIdeal.Run

open Cert.MixBwdIdeal Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 8000000 in
theorem sound_B (c : Dev nD) (t : Fin cfg0.N) (h0 : ¬t.val % 64 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  rw [show (dats m 0 c).Φ t.castSucc = Pipeline.ΦA spec0 c from rfl, PhiA0_eq]
  have hN : t.val < 64 := lt_of_lt_of_eq t.isLt (show cfg0.N = 64 from N_0)
  rw [outsAt0_B m c t h0]
  simp only [before0_20_B m c t h0, before0_21_B m c t h0, before0_22_B m c t h0, before0_23_B m c t h0, before0_24_B m c t h0, before0_25_B m c t h0, before0_26_B m c t h0, before0_27_B m c t h0, before0_28_B m c t h0]
  unfold atB out0_B_19 out0_B_20 out0_B_21 out0_B_22 out0_B_23 out0_B_24 out0_B_25 out0_B_26 out0_B_27 out0_B_28; (try dsimp only)
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _ _ _ _ _ _ _).2.2.2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, H24, H25, ⟨%e26, H26⟩, ⟨%e27, H27⟩, ⟨%e28, H28⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      iexists _; unfold owns; iexists _; isplitr
      swap; · iexact HS11
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; rfl
  isplitl [H25]
  · unfold owns; iexists _; isplitr
    swap; · iexact H25
    ipureintro; rfl
  isplitl [H26]
  · unfold owns; iexists _; isplitr
    swap; · iexact H26
    ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H28
  ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.MixBwdIdeal.Run
-- ==== Proof.MixBwdIdealRun.lean ====
/-
  The run of the mixer's backward kernel over the extended reals: it ends, its arguments are unchanged, and its result arrays are what its grid points wrote.
-/
module

public import proofs.«01_k».proof.Proof.MixBwdIdealSoundA
public import proofs.«01_k».proof.Proof.MixBwdIdealSoundB

@[expose] public section

set_option maxRecDepth 16384

noncomputable section

namespace Cert.MixBwdIdeal.Run

open Cert.MixBwdIdeal Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none c none) Set.univ (bodyAt0 t) (fun _ => bodyPost m c t) := by
  by_cases h0 : t.val % 64 = 0
  · exact sound_A m c t h0
  · exact sound_B m c t h0

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The run with the claimed result arrays named. -/
theorem run_blocks : θ_run defs (onTc (τ := τ) (main (F := F))) ⟨m, fun _ => 0, ρ⟩ (fun r => ∀ c : Dev nD,
      r.2.mem ((c.tc : Thread nD τ).loc main_v25_2) = (dats m 0 c).arrAt 21 cfg0.N
      ∧ r.2.mem ((c.tc : Thread nD τ).loc main_v25_7) = (dats m 0 c).arrAt 26 cfg0.N
      ∧ r.2.mem ((c.tc : Thread nD τ).loc main_v25_8) = (dats m 0 c).arrAt 27 cfg0.N
      ∧ r.2.mem ((c.tc : Thread nD τ).loc main_v25_9) = (dats m 0 c).arrAt 28 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.1 c).1 21, (h.1 c).1 26, (h.1 c).1 27, (h.1 c).1 28, h.2 c⟩)
    (θ_run_and (run_main m ρ) (unchanged m ρ))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.MixBwdIdeal.Run
-- ==== Proof.MixBwdSpec.lean ====
/-
  The mixer's backward pass: the gradient of `silu(layer_norm(a))` of rows of length 384 by the row, in the closed form and in
  the form automatic differentiation writes it, by the gain and by the bias; and the gradient of the output projection.
-/
module

public import proofs.«01_k».proof.Proof.MixNorm
public import proofs.«01_k».proof.Proof.FfnBwdSpec

@[expose] public section

noncomputable section

open Idealize.ShloMosaic

namespace Cert.MixBwd.Spec

open Cert.MixNorm
open Cert.FfnBwd.Spec (sg dsilu)

section
variable (x d g : Fin 384 → EReal)

/-- The closed form: `r * (q - mean q - n * mean (q * n))` of the cotangent `q = d * g` and the normalised row `n`. -/
def dz (k : Fin 384) : EReal :=
  rstd x * ((d k * g k - mean (fun k => d k * g k)) - MixNorm.norm x k * mean (fun k => (d k * g k) * MixNorm.norm x k))

/-- The numbers 2 and -1/2 of the chain rule. -/
def two : EReal := Ideal.ofBits FTy.f32 0x40000000#32
def mhalf : EReal := Ideal.ofBits FTy.f32 0xBF000000#32

/-- The cotangent of the row's sum of squares. -/
def dvar : EReal :=
  Ideal.div ((∑ k, cen x k * (d k * g k))
    * (mhalf * Ideal.div (rstd x) (mean (fun k => cen x k * cen x k) + eps))) len

/-- The chain rule's form: the cotangent of the centred row, and minus its mean. -/
def dzChain (k : Fin 384) : EReal :=
  ((d k * g k) * rstd x + dvar x d g * (two * cen x k))
    + Ideal.div ((∑ k, -((d k * g k) * rstd x)) + ∑ k, -(dvar x d g * (two * cen x k))) len

end

variable (DZ : Fin 16384 → Fin 1024 → EReal) (A : Fin 16384 → Fin 384 → EReal) (YC : Fin 16384 → Fin 1024 → EReal)
  (G B : Fin 384 → EReal) (WO : Fin 1024 → Fin 1024 → EReal)

/-- The cotangent of the concatenated heads, and of the norm's value in the third of them. -/
def dy (t : Fin 16384) (j : Fin 1024) : EReal := ∑ k, DZ t k * WO j k
def dyc (t : Fin 16384) (k : Fin 384) : EReal := dy DZ WO t ⟨640 + k.val, by omega⟩
def dln (t : Fin 16384) (k : Fin 384) : EReal := dyc DZ WO t k * dsilu (MixNorm.ln (A t) G B k)

/-- The gradients by the output projection, by the convolution's bias, by the gain and by the bias. -/
def dwo (a k : Fin 1024) : EReal := ∑ t, YC t a * DZ t k
def dcb (k : Fin 384) : EReal := ∑ t, dz (A t) (dln DZ A G B WO t) G k
def dcg (k : Fin 384) : EReal := ∑ t, dln DZ A G B WO t k * MixNorm.norm (A t) k
def dcbb (k : Fin 384) : EReal := ∑ t, dln DZ A G B WO t k

end Cert.MixBwd.Spec
-- ==== Proof.MixBwdPay.lean ====
/-
  The named payloads of the mixer's backward body read at an index, over the extended reals: those of the output projection's
  and of the convolution's norm's gradients.
-/
module

public import proofs.«01_k».proof.Proof.Gen.MixBwdIdeal.Skeleton
public import proofs.«01_k».proof.Proof.MixBwdSpec
public import Idealize.ShloMosaic.Lib.Pointwise

@[expose] public section

set_option maxRecDepth 16384

noncomputable section

open Idealize.ShloMosaic Idealize.ShloMosaic.TcCoe Idealize.SL.Sem

namespace Cert.MixBwdIdeal.Pay

open Cert.MixBwdIdeal Cert.MixBwdIdeal.Gen
open Cert.FfnBwd.Spec (sg dsilu)
open Cert.MixBwd.Spec (dz)

/-- The constant added to the variance. -/
abbrev ep : EReal := Ideal.ofBits FTy.f32 925353388#32

/-- The rows of a block past the left halo. -/
abbrev past (r : Fin 256) : Fin 320 := ⟨32 + r.val, by omega⟩

variable (A D Q : Vec Ideal S320x384 .f32) (g b v : Vec Ideal S1x384 .f32) (r : Fin 320) (k : Fin 384)

abbrev row (k : Fin 384) : EReal := A (ix2 r k)
abbrev vec (k : Fin 384) : EReal := g (ix2 0 k)

theorem cen_apply : k0_pay22 A (ix2 r k) = MixNorm.cen (row A r) k := by
  unfold k0_pay22 MixNorm.cen MixNorm.mean
  pointwise
  rfl

theorem rstd_apply : k0_pay24 (k0_pay23 A) ep (ix2 r 0) = MixNorm.rstd (row A r) := by
  unfold k0_pay24 k0_pay23 MixNorm.rstd MixNorm.mean
  pointwise
  simp only [cen_apply]
  rfl

theorem norm_apply : k0_pay25 (k0_pay22 A) (k0_pay23 A) ep (ix2 r k) = MixNorm.norm (row A r) k := by
  unfold k0_pay25 MixNorm.norm
  pointwise
  rw [cen_apply, rstd_apply]

theorem dln_apply : k0_pay26 (k0_pay22 A) (k0_pay23 A) ep g b D (ix2 r k)
    = D (ix2 r k) * dsilu (MixNorm.ln (row A r) (vec g) (vec b) k) := by
  unfold k0_pay26 dsilu sg MixNorm.ln
  pointwise
  simp only [norm_apply, zero_sub]

theorem dz_apply : k0_pay31 (k0_pay24 (k0_pay23 A) ep) (k0_pay25 (k0_pay22 A) (k0_pay23 A) ep) Q g (ix2 r k)
    = dz (row A r) (row Q r) (vec g) k := by
  unfold k0_pay31 dz MixNorm.mean
  pointwise
  simp only [rstd_apply, norm_apply]
  rfl

theorem dcg_apply : k0_pay27 (k0_pay22 A) (k0_pay23 A) ep g b D v (ix2 0 k)
    = v (ix2 0 k) + ∑ r : Fin 256, k0_pay26 (k0_pay22 A) (k0_pay23 A) ep g b D (ix2 (past r) k) * MixNorm.norm (row A (past r)) k := by
  unfold k0_pay27
  pointwise
  refine congrArg (v (ix2 0 k) + ·) (Finset.sum_congr rfl fun r _ => ?_)
  exact congrArg (k0_pay26 (k0_pay22 A) (k0_pay23 A) ep g b D (ix2 (past r) k) * ·) (norm_apply A (past r) k)

theorem dcbb_apply : k0_pay30 (k0_pay28 v) (k0_pay29 (k0_pay22 A) (k0_pay23 A) ep g b D) (ix2 0 k)
    = v (ix2 0 k) + ∑ r : Fin 256, k0_pay26 (k0_pay22 A) (k0_pay23 A) ep g b D (ix2 (past r) k) := by
  unfold k0_pay30 k0_pay28 k0_pay29
  pointwise

theorem dcb_apply : k0_pay33 (k0_pay24 (k0_pay23 A) ep) (k0_pay25 (k0_pay22 A) (k0_pay23 A) ep) Q g v (ix2 0 k)
    = v (ix2 0 k) + ∑ r : Fin 256, dz (row A (past r)) (row Q (past r)) (vec g) k := by
  unfold k0_pay33
  pointwise
  exact congrArg (v (ix2 0 k) + ·) (Finset.sum_congr rfl fun r _ => dz_apply A Q g (past r) k)

theorem dy_apply (Z : Vec Ideal S320x1024 .bf16) (W : Vec Ideal S1024x1024 .bf16) (j : Fin 1024) :
    k0_pay16 Z W (ix2 r j) = ∑ k, Z (ix2 r k) * W (ix2 k j) := by
  unfold k0_pay16
  pointwise

theorem dwo_apply (V : Vec Ideal S1024x1024 .f32) (Y Z : Vec Ideal S256x1024 .bf16) (p q : Fin 1024) :
    k0_pay322 V Y Z (ix2 p q) = V (ix2 p q) + ∑ r, Y (ix2 r p) * Z (ix2 r q) := by
  unfold k0_pay322
  pointwise

theorem main_dz (Z : Vec Ideal S256x1024 .bf16) (r : Fin 256) (k : Fin 1024) : k0_pay14 Z (ix2 r k) = Z (ix2 r k) := by
  unfold k0_pay14
  pointwise

theorem main_a (Z : Vec Ideal S256x384 .f32) (r : Fin 256) (k : Fin 384) : k0_pay18 Z (ix2 r k) = Z (ix2 r k) := by
  unfold k0_pay18
  pointwise

theorem zero2_apply (p q : Fin 1024) : k0_pay2 (F := Ideal) (ix2 p q) = 0 := by
  unfold k0_pay2
  pointwise

theorem zero7_apply : k0_pay7 (F := Ideal) (ix2 0 k) = 0 := by
  unfold k0_pay7
  pointwise

theorem zero8_apply : k0_pay8 (F := Ideal) (ix2 0 k) = 0 := by
  unfold k0_pay8
  pointwise

theorem zero9_apply : k0_pay9 (F := Ideal) (ix2 0 k) = 0 := by
  unfold k0_pay9
  pointwise

end Cert.MixBwdIdeal.Pay
-- ==== Proof.MixBwdBody.lean ====
/-
  What one token block of the mixer's backward kernel leaves in the windows of the output projection's and of the convolution's
  norm's gradients, entry by entry: what was there (zero at the first block) plus the block's own terms. Of the buffers with
  halos only the block's own rows enter.
-/
module

public import proofs.«01_k».proof.Proof.Gen.MixBwdIdeal.Frame.RunB
public import proofs.«01_k».proof.Proof.MixBwdPay
public import proofs.«01_k».proof.Proof.MixRead
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.MixBwdIdeal.Body

open Cert.MixBwdIdeal Cert.MixBwdIdeal.Gen Cert.Mix.Read Cert.MixBwdIdeal.Pay
open Cert.FfnBwd.Spec (dsilu)
open Cert.MixBwd.Spec (dz)

theorem hz2 : (![0, 0] : Fin 2 → Nat) = fun _ => 0 := funext fun a => by fin_cases a <;> rfl

section
variable (x4 : Vec Ideal S256x1024 .bf16) (x7 : Vec Ideal S256x384 .f32) (x11 : Vec Ideal S1024x1024 .bf16) (x17 x18 : Vec Ideal S1x384 .f32)
  (r : Fin 256) (k : Fin 384)

/-- The block's row of the convolution, the cotangent of the norm's activation and the cotangent of the norm. -/
def aRow (k : Fin 384) : EReal := x7 (ix2 r k)
def yRow (k : Fin 384) : EReal := ∑ j, x4 (ix2 r j) * x11 (ix2 j (⟨640 + k.val, by omega⟩ : Fin 1024))
def lnRow (k : Fin 384) : EReal := yRow x4 x11 r k * dsilu (MixNorm.ln (aRow x7 r) (vec x17) (vec x18) k)

end

variable {c : Dev nD} {i : grid0.Coords} {arg1 : Memref sig .tc .vmem S32x2176 .f32} {harg1 : arg1.IsWhole} {arg2 : Memref sig .tc .vmem S256x2176 .f32} {harg2 : arg2.IsWhole} {arg3 : Memref sig .tc .vmem S32x2176 .f32} {harg3 : arg3.IsWhole} {arg4 : Memref sig .tc .vmem S32x1024 .bf16} {harg4 : arg4.IsWhole} {arg5 : Memref sig .tc .vmem S256x1024 .bf16} {harg5 : arg5.IsWhole} {arg6 : Memref sig .tc .vmem S32x1024 .bf16} {harg6 : arg6.IsWhole} {arg7 : Memref sig .tc .vmem S32x384 .f32} {harg7 : arg7.IsWhole} {arg8 : Memref sig .tc .vmem S256x384 .f32} {harg8 : arg8.IsWhole} {arg9 : Memref sig .tc .vmem S32x384 .f32} {harg9 : arg9.IsWhole} {arg10 : Memref sig .tc .vmem S256x1024 .bf16} {harg10 : arg10.IsWhole} {arg11 : Memref sig .tc .vmem S256x1024 .bf16} {harg11 : arg11.IsWhole} {arg12 : Memref sig .tc .vmem S1024x1024 .bf16} {harg12 : arg12.IsWhole} {arg13 : Memref sig .tc .vmem S256x256 .bf16} {harg13 : arg13.IsWhole} {arg14 : Memref sig .tc .vmem S256x256 .bf16} {harg14 : arg14.IsWhole} {arg15 : Memref sig .tc .vmem S1x256 .f32} {harg15 : arg15.IsWhole} {arg16 : Memref sig .tc .vmem S8x384 .f32} {harg16 : arg16.IsWhole} {arg17 : Memref sig .tc .vmem S32x384 .f32} {harg17 : arg17.IsWhole} {arg18 : Memref sig .tc .vmem S1x384 .f32} {harg18 : arg18.IsWhole} {arg19 : Memref sig .tc .vmem S1x384 .f32} {harg19 : arg19.IsWhole} {arg20 : Memref sig .tc .vmem S256x2176 .bf16} {harg20 : arg20.IsWhole} {arg21 : Memref sig .tc .vmem S1024x2176 .f32} {harg21 : arg21.IsWhole} {arg22 : Memref sig .tc .vmem S1024x1024 .f32} {harg22 : arg22.IsWhole} {arg23 : Memref sig .tc .vmem S256x256 .f32} {harg23 : arg23.IsWhole} {arg24 : Memref sig .tc .vmem S1x256 .f32} {harg24 : arg24.IsWhole} {arg25 : Memref sig .tc .vmem S8x384 .f32} {harg25 : arg25.IsWhole} {arg26 : Memref sig .tc .vmem S32x384 .f32} {harg26 : arg26.IsWhole} {arg27 : Memref sig .tc .vmem S1x384 .f32} {harg27 : arg27.IsWhole} {arg28 : Memref sig .tc .vmem S1x384 .f32} {harg28 : arg28.IsWhole} {arg29 : Memref sig .tc .vmem S1x384 .f32} {harg29 : arg29.IsWhole} {arg30 : Memref sig .tc .vmem S320x2176 .f32} {harg30 : arg30.IsWhole} {arg31 : Memref sig .tc .vmem S320x1024 .bf16} {harg31 : arg31.IsWhole} {arg32 : Memref sig .tc .vmem S320x1024 .f32} {harg32 : arg32.IsWhole} {arg33 : Memref sig .tc .vmem S320x384 .f32} {harg33 : arg33.IsWhole} {arg34 : Memref sig .tc .vmem S320x384 .f32} {harg34 : arg34.IsWhole} {arg35 : Memref sig .tc .vmem S320x384 .f32} {harg35 : arg35.IsWhole} {arg36 : Memref sig .tc .vmem S320x384 .f32} {harg36 : arg36.IsWhole} {arg37 : Memref sig .tc .vmem S320x384 .f32} {harg37 : arg37.IsWhole} {arg38 : Memref sig .tc .vmem S320x256 .f32} {harg38 : arg38.IsWhole} {arg39 : Memref sig .tc .vmem S312x384 .f32} {harg39 : arg39.IsWhole} {arg40 : Memref sig .tc .vmem S8x312x384 .f32} {harg40 : arg40.IsWhole} {arg41 : Memref sig .tc .vmem S256x384 .f32} {harg41 : arg41.IsWhole}
  {x0 : Vec Ideal S32x2176 .f32} {x1 : Vec Ideal S256x2176 .f32} {x2 : Vec Ideal S32x2176 .f32} {x3 : Vec Ideal S32x1024 .bf16} {x4 : Vec Ideal S256x1024 .bf16} {x5 : Vec Ideal S32x1024 .bf16} {x6 : Vec Ideal S32x384 .f32} {x7 : Vec Ideal S256x384 .f32} {x8 : Vec Ideal S32x384 .f32} {x9 : Vec Ideal S256x1024 .bf16} {x10 : Vec Ideal S256x1024 .bf16} {x11 : Vec Ideal S1024x1024 .bf16} {x12 : Vec Ideal S256x256 .bf16} {x13 : Vec Ideal S256x256 .bf16} {x14 : Vec Ideal S1x256 .f32} {x15 : Vec Ideal S8x384 .f32} {x16 : Vec Ideal S32x384 .f32} {x17 : Vec Ideal S1x384 .f32} {x18 : Vec Ideal S1x384 .f32} (xo20 : Vec Ideal S1024x2176 .f32) (xo21 : Vec Ideal S1024x1024 .f32) (xo22 : Vec Ideal S256x256 .f32) (xo23 : Vec Ideal S1x256 .f32) (xo24 : Vec Ideal S8x384 .f32) (xo25 : Vec Ideal S32x384 .f32) (xo26 : Vec Ideal S1x384 .f32) (xo27 : Vec Ideal S1x384 .f32) (xo28 : Vec Ideal S1x384 .f32)

/-! ## The first block -/

theorem a_main_A (r : Fin 256) (k : Fin 384) : kernelRun0_A.sl.v82 c i arg7 harg7 arg8 harg8 arg9 harg9 arg33 x6 x7 x8 (ix2 (past r) k) = x7 (ix2 r k) := by
  unfold kernelRun0_A.sl.v82
  rw [load2 _ _ _ _ (past r) k (by simp) (by simp)]
  unfold kernelRun0_A.sl.HS3_3
  rw [canon_skip2 _ _ _ _ (by left; show 32 + r.val < 288; omega), canon_top2 _ _ _ _ r k rfl (by simp)]
  unfold kernelRun0_A.sl.r
  rw [main_a, View.readAt_eq_ld, harg8.read_unread, View.ld_unit_zero (S := S256x384) hz2]

theorem dz_main_A (r : Fin 256) (k : Fin 1024) : kernelRun0_A.sl.v44 c i arg4 harg4 arg5 harg5 arg6 harg6 arg31 x3 x4 x5 (ix2 (past r) k) = x4 (ix2 r k) := by
  unfold kernelRun0_A.sl.v44
  rw [load2 _ _ _ _ (past r) k (by simp) (by simp)]
  unfold kernelRun0_A.sl.HS1_3
  rw [canon_skip2 _ _ _ _ (by left; show 32 + r.val < 288; omega), canon_top2 _ _ _ _ r k rfl (by simp)]
  rw [main_dz, View.readAt_eq_ld, harg5.read_unread, View.ld_unit_zero (S := S256x1024) hz2]

theorem dy_main_A (r : Fin 256) (k : Fin 384) : kernelRun0_A.sl.v114 c i arg4 harg4 arg5 harg5 arg6 harg6 arg12 harg12 arg31 arg32 x3 x4 x5 x11 (ix2 (past r) k) = yRow x4 x11 r k := by
  unfold kernelRun0_A.sl.v114
  rw [load2 _ _ _ _ (past r) (⟨640 + k.val, by omega⟩ : Fin 1024) (by simp) rfl]
  unfold kernelRun0_A.sl.HS2_1
  rw [View.canon_unit_zero (S := S320x1024) hz2, dy_apply]
  refine Finset.sum_congr rfl fun j _ => ?_
  rw [dz_main_A, View.readAt_eq_ld, harg12.read_unread, View.ld_unit_zero (S := S1024x1024) hz2]

theorem row_main_A (r : Fin 256) : row (kernelRun0_A.sl.v82 c i arg7 harg7 arg8 harg8 arg9 harg9 arg33 x6 x7 x8) (past r) = aRow x7 r := funext (a_main_A r)

theorem dln_main_A (r : Fin 256) (k : Fin 384) : kernelRun0_A.sl.r_6 c i arg4 harg4 arg5 harg5 arg6 harg6 arg7 harg7 arg8 harg8 arg9 harg9 arg12 harg12 arg18 harg18 arg19 harg19 arg31 arg32 arg33 x3 x4 x5 x6 x7 x8 x11 x17 x18 (ix2 (past r) k) = lnRow x4 x7 x11 x17 x18 r k := by
  unfold kernelRun0_A.sl.r_6 kernelRun0_A.sl.r_2 kernelRun0_A.sl.r_3 kernelRun0_A.sl.cst_64
  rw [View.readAt_eq_ld, View.readAt_eq_ld, harg18.read_unread, harg19.read_unread, View.ld_unit_zero (S := S1x384) hz2, View.ld_unit_zero (S := S1x384) hz2]
  refine (dln_apply _ _ _ _ _ _).trans ?_
  rw [dy_main_A, row_main_A]
  rfl

theorem v161_A (k : Fin 384) : (kernelRun0_A.sl.v161 (F := Ideal) c arg27 (ix2 0 k) : EReal) = 0 := by
  unfold kernelRun0_A.sl.v161 kernelRun0_A.sl.H26_1
  rw [View.readCov_unit_zero (S := S1x384) _ hz2, zero7_apply]

theorem out26_A (hc0 : cond0_0 i) (k : Fin 384) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.1 (ix2 0 k)
    = 0 + ∑ r, dz (aRow x7 r) (lnRow x4 x7 x11 x17 x18 r) (vec x17) k := by
  unfold kernelRun0_A
  dsimp only
  rw [View.canon_cons_unit_zero (S := S1x384) hz2]
  unfold kernelRun0_A.sl.r_4 kernelRun0_A.sl.r_5 kernelRun0_A.sl.r_2 kernelRun0_A.sl.r_3 kernelRun0_A.sl.cst_64
  simp only [View.readAt_eq_ld, harg18.read_unread, harg27.read_unread, View.ld_unit_zero (S := S1x384) hz2, View.ld_unit_zero (S := S256x384) hz2, View.ld_unit_zero (S := S256x1024) hz2, View.ld_unit_zero (S := S1024x1024) hz2]
  refine (dcb_apply _ _ _ _ _).trans ?_
  refine congrArg₂ (· + ·) (v161_A k) (Finset.sum_congr rfl fun r _ => ?_)
  rw [row_main_A, show row _ (past r) = lnRow x4 x7 x11 x17 x18 r from funext (dln_main_A r)]

theorem v122_A (k : Fin 384) : (kernelRun0_A.sl.v122 (F := Ideal) c arg28 (ix2 0 k) : EReal) = 0 := by
  unfold kernelRun0_A.sl.v122 kernelRun0_A.sl.H27_1
  rw [View.readCov_unit_zero (S := S1x384) _ hz2, zero8_apply]

theorem out27_A (hc0 : cond0_0 i) (k : Fin 384) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.1 (ix2 0 k)
    = 0 + ∑ r, lnRow x4 x7 x11 x17 x18 r k * MixNorm.norm (aRow x7 r) k := by
  unfold kernelRun0_A
  dsimp only
  rw [View.canon_cons_unit_zero (S := S1x384) hz2]
  unfold kernelRun0_A.sl.r_2 kernelRun0_A.sl.r_3 kernelRun0_A.sl.cst_64
  simp only [View.readAt_eq_ld, harg18.read_unread, harg19.read_unread, harg28.read_unread, View.ld_unit_zero (S := S1x384) hz2, View.ld_unit_zero (S := S256x384) hz2, View.ld_unit_zero (S := S256x1024) hz2, View.ld_unit_zero (S := S1024x1024) hz2]
  refine (dcg_apply _ _ _ _ _ _).trans ?_
  refine congrArg₂ (· + ·) (v122_A k) (Finset.sum_congr rfl fun r _ => ?_)
  rw [dln_apply, dy_main_A, row_main_A]
  rfl

theorem v130_A (k : Fin 384) : (kernelRun0_A.sl.v130 (F := Ideal) c arg29 (ix2 0 k) : EReal) = 0 := by
  unfold kernelRun0_A.sl.v130 kernelRun0_A.sl.H28_1
  rw [View.readCov_unit_zero (S := S1x384) _ hz2, zero9_apply]

theorem out28_A (hc0 : cond0_0 i) (k : Fin 384) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.2.2.2.2.2.2.2.1 (ix2 0 k)
    = 0 + ∑ r, lnRow x4 x7 x11 x17 x18 r k := by
  unfold kernelRun0_A
  dsimp only
  rw [View.canon_cons_unit_zero (S := S1x384) hz2]
  unfold kernelRun0_A.sl.r_7 kernelRun0_A.sl.r_8 kernelRun0_A.sl.r_2 kernelRun0_A.sl.r_3 kernelRun0_A.sl.cst_64
  simp only [View.readAt_eq_ld, harg18.read_unread, harg19.read_unread, harg29.read_unread, View.ld_unit_zero (S := S1x384) hz2, View.ld_unit_zero (S := S256x384) hz2, View.ld_unit_zero (S := S256x1024) hz2, View.ld_unit_zero (S := S1024x1024) hz2]
  refine (dcbb_apply _ _ _ _ _ _).trans ?_
  refine congrArg₂ (· + ·) (v130_A k) (Finset.sum_congr rfl fun r _ => ?_)
  rw [dln_apply, dy_main_A, row_main_A]
  rfl

theorem v3002_A (p q : Fin 1024) : (kernelRun0_A.sl.v3002 (F := Ideal) c arg22 (ix2 p q) : EReal) = 0 := by
  unfold kernelRun0_A.sl.v3002 kernelRun0_A.sl.H21_1
  rw [View.readCov_unit_zero (S := S1024x1024) _ hz2, zero2_apply]

theorem out21_A (hc0 : cond0_0 i) (p q : Fin 1024) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18).2.2.1 (ix2 p q)
    = 0 + ∑ r, x10 (ix2 r p) * x4 (ix2 r q) := by
  unfold kernelRun0_A
  dsimp only
  rw [View.canon_cons_unit_zero (S := S1024x1024) hz2]
  unfold kernelRun0_A.sl.r_121
  simp only [View.readAt_eq_ld, harg11.read_unread, harg5.read_unread, harg22.read_unread, View.ld_unit_zero (S := S1x384) hz2, View.ld_unit_zero (S := S256x384) hz2, View.ld_unit_zero (S := S256x1024) hz2, View.ld_unit_zero (S := S1024x1024) hz2]
  refine (dwo_apply _ _ _ _ _).trans ?_
  exact congrArg (· + _) (v3002_A p q)

/-! ## The later blocks -/

theorem a_main_B (r : Fin 256) (k : Fin 384) : kernelRun0_B.sl.v82 c i arg7 harg7 arg8 harg8 arg9 harg9 arg33 x6 x7 x8 (ix2 (past r) k) = x7 (ix2 r k) := by
  unfold kernelRun0_B.sl.v82
  rw [load2 _ _ _ _ (past r) k (by simp) (by simp)]
  unfold kernelRun0_B.sl.HS3_3
  rw [canon_skip2 _ _ _ _ (by left; show 32 + r.val < 288; omega), canon_top2 _ _ _ _ r k rfl (by simp)]
  unfold kernelRun0_B.sl.r
  rw [main_a, View.readAt_eq_ld, harg8.read_unread, View.ld_unit_zero (S := S256x384) hz2]

theorem dz_main_B (r : Fin 256) (k : Fin 1024) : kernelRun0_B.sl.v44 c i arg4 harg4 arg5 harg5 arg6 harg6 arg31 x3 x4 x5 (ix2 (past r) k) = x4 (ix2 r k) := by
  unfold kernelRun0_B.sl.v44
  rw [load2 _ _ _ _ (past r) k (by simp) (by simp)]
  unfold kernelRun0_B.sl.HS1_3
  rw [canon_skip2 _ _ _ _ (by left; show 32 + r.val < 288; omega), canon_top2 _ _ _ _ r k rfl (by simp)]
  rw [main_dz, View.readAt_eq_ld, harg5.read_unread, View.ld_unit_zero (S := S256x1024) hz2]

theorem dy_main_B (r : Fin 256) (k : Fin 384) : kernelRun0_B.sl.v114 c i arg4 harg4 arg5 harg5 arg6 harg6 arg12 harg12 arg31 arg32 x3 x4 x5 x11 (ix2 (past r) k) = yRow x4 x11 r k := by
  unfold kernelRun0_B.sl.v114
  rw [load2 _ _ _ _ (past r) (⟨640 + k.val, by omega⟩ : Fin 1024) (by simp) rfl]
  unfold kernelRun0_B.sl.HS2_1
  rw [View.canon_unit_zero (S := S320x1024) hz2, dy_apply]
  refine Finset.sum_congr rfl fun j _ => ?_
  rw [dz_main_B, View.readAt_eq_ld, harg12.read_unread, View.ld_unit_zero (S := S1024x1024) hz2]

theorem row_main_B (r : Fin 256) : row (kernelRun0_B.sl.v82 c i arg7 harg7 arg8 harg8 arg9 harg9 arg33 x6 x7 x8) (past r) = aRow x7 r := funext (a_main_B r)

theorem dln_main_B (r : Fin 256) (k : Fin 384) : kernelRun0_B.sl.r_6 c i arg4 harg4 arg5 harg5 arg6 harg6 arg7 harg7 arg8 harg8 arg9 harg9 arg12 harg12 arg18 harg18 arg19 harg19 arg31 arg32 arg33 x3 x4 x5 x6 x7 x8 x11 x17 x18 (ix2 (past r) k) = lnRow x4 x7 x11 x17 x18 r k := by
  unfold kernelRun0_B.sl.r_6 kernelRun0_B.sl.r_2 kernelRun0_B.sl.r_3 kernelRun0_B.sl.cst_64
  rw [View.readAt_eq_ld, View.readAt_eq_ld, harg18.read_unread, harg19.read_unread, View.ld_unit_zero (S := S1x384) hz2, View.ld_unit_zero (S := S1x384) hz2]
  refine (dln_apply _ _ _ _ _ _).trans ?_
  rw [dy_main_B, row_main_B]
  rfl

theorem out26_B (hc0 : ¬cond0_0 i) (k : Fin 384) : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.1 (ix2 0 k)
    = xo26 (ix2 0 k) + ∑ r, dz (aRow x7 r) (lnRow x4 x7 x11 x17 x18 r) (vec x17) k := by
  unfold kernelRun0_B
  dsimp only
  rw [View.canon_unit_zero (S := S1x384) hz2]
  unfold kernelRun0_B.sl.r_4 kernelRun0_B.sl.r_5 kernelRun0_B.sl.r_2 kernelRun0_B.sl.r_3 kernelRun0_B.sl.cst_64
  simp only [View.readAt_eq_ld, harg18.read_unread, harg27.read_unread, View.ld_unit_zero (S := S1x384) hz2, View.ld_unit_zero (S := S256x384) hz2, View.ld_unit_zero (S := S256x1024) hz2, View.ld_unit_zero (S := S1024x1024) hz2]
  refine (dcb_apply _ _ _ _ _).trans ?_
  refine congrArg₂ (· + ·) rfl (Finset.sum_congr rfl fun r _ => ?_)
  rw [row_main_B, show row _ (past r) = lnRow x4 x7 x11 x17 x18 r from funext (dln_main_B r)]

theorem out27_B (hc0 : ¬cond0_0 i) (k : Fin 384) : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.1 (ix2 0 k)
    = xo27 (ix2 0 k) + ∑ r, lnRow x4 x7 x11 x17 x18 r k * MixNorm.norm (aRow x7 r) k := by
  unfold kernelRun0_B
  dsimp only
  rw [View.canon_unit_zero (S := S1x384) hz2]
  unfold kernelRun0_B.sl.r_2 kernelRun0_B.sl.r_3 kernelRun0_B.sl.cst_64
  simp only [View.readAt_eq_ld, harg18.read_unread, harg19.read_unread, harg28.read_unread, View.ld_unit_zero (S := S1x384) hz2, View.ld_unit_zero (S := S256x384) hz2, View.ld_unit_zero (S := S256x1024) hz2, View.ld_unit_zero (S := S1024x1024) hz2]
  refine (dcg_apply _ _ _ _ _ _).trans ?_
  refine congrArg₂ (· + ·) rfl (Finset.sum_congr rfl fun r _ => ?_)
  rw [dln_apply, dy_main_B, row_main_B]
  rfl

theorem out28_B (hc0 : ¬cond0_0 i) (k : Fin 384) : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.2.2.2.2.2.2.2.1 (ix2 0 k)
    = xo28 (ix2 0 k) + ∑ r, lnRow x4 x7 x11 x17 x18 r k := by
  unfold kernelRun0_B
  dsimp only
  rw [View.canon_unit_zero (S := S1x384) hz2]
  unfold kernelRun0_B.sl.r_7 kernelRun0_B.sl.r_8 kernelRun0_B.sl.r_2 kernelRun0_B.sl.r_3 kernelRun0_B.sl.cst_64
  simp only [View.readAt_eq_ld, harg18.read_unread, harg19.read_unread, harg29.read_unread, View.ld_unit_zero (S := S1x384) hz2, View.ld_unit_zero (S := S256x384) hz2, View.ld_unit_zero (S := S256x1024) hz2, View.ld_unit_zero (S := S1024x1024) hz2]
  refine (dcbb_apply _ _ _ _ _ _).trans ?_
  refine congrArg₂ (· + ·) rfl (Finset.sum_congr rfl fun r _ => ?_)
  rw [dln_apply, dy_main_B, row_main_B]
  rfl

theorem out21_B (hc0 : ¬cond0_0 i) (p q : Fin 1024) : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28).2.2.1 (ix2 p q)
    = xo21 (ix2 p q) + ∑ r, x10 (ix2 r p) * x4 (ix2 r q) := by
  unfold kernelRun0_B
  dsimp only
  rw [View.canon_unit_zero (S := S1024x1024) hz2]
  unfold kernelRun0_B.sl.r_122
  simp only [View.readAt_eq_ld, harg11.read_unread, harg5.read_unread, harg22.read_unread, View.ld_unit_zero (S := S1x384) hz2, View.ld_unit_zero (S := S256x384) hz2, View.ld_unit_zero (S := S256x1024) hz2, View.ld_unit_zero (S := S1024x1024) hz2]
  refine (dwo_apply _ _ _ _ _).trans ?_
  exact congrArg (· + _) rfl

end Cert.MixBwdIdeal.Body
-- ==== Proof.MixBwdOut.lean ====
/-
  The windows of the mixer's backward kernel that carry the gradients of the output projection and of the convolution's norm,
  read back after a grid point.
-/
module

public import proofs.«01_k».proof.Proof.MixBwdIdealData
public import proofs.«01_k».proof.Proof.MixBwdBody

@[expose] public section

set_option maxRecDepth 16384

noncomputable section

open Idealize.ShloMosaic Idealize.ShloMosaic.TcCoe Idealize.SL.Sem

namespace Cert.MixBwdIdeal.Body

open Cert.MixBwdIdeal Cert.MixBwdIdeal.Gen Cert.MixBwdIdeal.Run Cert.MixBwdIdeal.Pay
open Cert.MixBwd.Spec (dz)

variable (c : Dev nD) (i : grid0.Coords) (arg1 : Memref sig .tc .vmem S32x2176 .f32) (harg1 : arg1.IsWhole) (arg2 : Memref sig .tc .vmem S256x2176 .f32) (harg2 : arg2.IsWhole) (arg3 : Memref sig .tc .vmem S32x2176 .f32) (harg3 : arg3.IsWhole) (arg4 : Memref sig .tc .vmem S32x1024 .bf16) (harg4 : arg4.IsWhole) (arg5 : Memref sig .tc .vmem S256x1024 .bf16) (harg5 : arg5.IsWhole) (arg6 : Memref sig .tc .vmem S32x1024 .bf16) (harg6 : arg6.IsWhole) (arg7 : Memref sig .tc .vmem S32x384 .f32) (harg7 : arg7.IsWhole) (arg8 : Memref sig .tc .vmem S256x384 .f32) (harg8 : arg8.IsWhole) (arg9 : Memref sig .tc .vmem S32x384 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S8x384 .f32) (harg16 : arg16.IsWhole) (arg17 : Memref sig .tc .vmem S32x384 .f32) (harg17 : arg17.IsWhole) (arg18 : Memref sig .tc .vmem S1x384 .f32) (harg18 : arg18.IsWhole) (arg19 : Memref sig .tc .vmem S1x384 .f32) (harg19 : arg19.IsWhole) (arg20 : Memref sig .tc .vmem S256x2176 .bf16) (harg20 : arg20.IsWhole) (arg21 : Memref sig .tc .vmem S1024x2176 .f32) (harg21 : arg21.IsWhole) (arg22 : Memref sig .tc .vmem S1024x1024 .f32) (harg22 : arg22.IsWhole) (arg23 : Memref sig .tc .vmem S256x256 .f32) (harg23 : arg23.IsWhole) (arg24 : Memref sig .tc .vmem S1x256 .f32) (harg24 : arg24.IsWhole) (arg25 : Memref sig .tc .vmem S8x384 .f32) (harg25 : arg25.IsWhole) (arg26 : Memref sig .tc .vmem S32x384 .f32) (harg26 : arg26.IsWhole) (arg27 : Memref sig .tc .vmem S1x384 .f32) (harg27 : arg27.IsWhole) (arg28 : Memref sig .tc .vmem S1x384 .f32) (harg28 : arg28.IsWhole) (arg29 : Memref sig .tc .vmem S1x384 .f32) (harg29 : arg29.IsWhole) (arg30 : Memref sig .tc .vmem S320x2176 .f32) (harg30 : arg30.IsWhole) (arg31 : Memref sig .tc .vmem S320x1024 .bf16) (harg31 : arg31.IsWhole) (arg32 : Memref sig .tc .vmem S320x1024 .f32) (harg32 : arg32.IsWhole) (arg33 : Memref sig .tc .vmem S320x384 .f32) (harg33 : arg33.IsWhole) (arg34 : Memref sig .tc .vmem S320x384 .f32) (harg34 : arg34.IsWhole) (arg35 : Memref sig .tc .vmem S320x384 .f32) (harg35 : arg35.IsWhole) (arg36 : Memref sig .tc .vmem S320x384 .f32) (harg36 : arg36.IsWhole) (arg37 : Memref sig .tc .vmem S320x384 .f32) (harg37 : arg37.IsWhole) (arg38 : Memref sig .tc .vmem S320x256 .f32) (harg38 : arg38.IsWhole) (arg39 : Memref sig .tc .vmem S312x384 .f32) (harg39 : arg39.IsWhole) (arg40 : Memref sig .tc .vmem S8x312x384 .f32) (harg40 : arg40.IsWhole) (arg41 : Memref sig .tc .vmem S256x384 .f32) (harg41 : arg41.IsWhole)
  (x0 : Vec Ideal S32x2176 .f32) (x1 : Vec Ideal S256x2176 .f32) (x2 : Vec Ideal S32x2176 .f32) (x3 : Vec Ideal S32x1024 .bf16) (x4 : Vec Ideal S256x1024 .bf16) (x5 : Vec Ideal S32x1024 .bf16) (x6 : Vec Ideal S32x384 .f32) (x7 : Vec Ideal S256x384 .f32) (x8 : Vec Ideal S32x384 .f32) (x9 : Vec Ideal S256x1024 .bf16) (x10 : Vec Ideal S256x1024 .bf16) (x11 : Vec Ideal S1024x1024 .bf16) (x12 : Vec Ideal S256x256 .bf16) (x13 : Vec Ideal S256x256 .bf16) (x14 : Vec Ideal S1x256 .f32) (x15 : Vec Ideal S8x384 .f32) (x16 : Vec Ideal S32x384 .f32) (x17 : Vec Ideal S1x384 .f32) (x18 : Vec Ideal S1x384 .f32) (xo20 : Vec Ideal S1024x2176 .f32) (xo21 : Vec Ideal S1024x1024 .f32) (xo22 : Vec Ideal S256x256 .f32) (xo23 : Vec Ideal S1x256 .f32) (xo24 : Vec Ideal S8x384 .f32) (xo25 : Vec Ideal S32x384 .f32) (xo26 : Vec Ideal S1x384 .f32) (xo27 : Vec Ideal S1x384 .f32) (xo28 : Vec Ideal S1x384 .f32)

theorem out0_A_21_apply (hc0 : cond0_0 i) (p q : Fin 1024) : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 (ix2 p q) = 0 + ∑ r, x10 (ix2 r p) * x4 (ix2 r q) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18)]
  exact out21_A hc0 p q

theorem out0_A_26_apply (hc0 : cond0_0 i) (k : Fin 384) : out0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 (ix2 0 k) = 0 + ∑ r, dz (aRow x7 r) (lnRow x4 x7 x11 x17 x18 r) (vec x17) k := by
  unfold out0_A_26
  rw [View.read_writes_eq_canon _ _ _ (cover0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18)]
  exact out26_A hc0 k

theorem out0_A_27_apply (hc0 : cond0_0 i) (k : Fin 384) : out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 (ix2 0 k) = 0 + ∑ r, lnRow x4 x7 x11 x17 x18 r k * MixNorm.norm (aRow x7 r) k := by
  unfold out0_A_27
  rw [View.read_writes_eq_canon _ _ _ (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18)]
  exact out27_A hc0 k

theorem out0_A_28_apply (hc0 : cond0_0 i) (k : Fin 384) : out0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 (ix2 0 k) = 0 + ∑ r, lnRow x4 x7 x11 x17 x18 r k := by
  unfold out0_A_28
  rw [View.read_writes_eq_canon _ _ _ (cover0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18)]
  exact out28_A hc0 k

theorem out0_B_21_apply (hc0 : ¬cond0_0 i) (p q : Fin 1024) : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28 (ix2 p q) = xo21 (ix2 p q) + ∑ r, x10 (ix2 r p) * x4 (ix2 r q) := by
  unfold out0_B_21
  rw [View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28)]
  exact out21_B _ _ _ _ _ _ _ _ _ hc0 p q

theorem out0_B_26_apply (hc0 : ¬cond0_0 i) (k : Fin 384) : out0_B_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28 (ix2 0 k) = xo26 (ix2 0 k) + ∑ r, dz (aRow x7 r) (lnRow x4 x7 x11 x17 x18 r) (vec x17) k := by
  unfold out0_B_26
  rw [View.read_writes_eq_canon _ _ _ (cover0_B_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28)]
  exact out26_B _ _ _ _ _ _ _ _ _ hc0 k

theorem out0_B_27_apply (hc0 : ¬cond0_0 i) (k : Fin 384) : out0_B_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28 (ix2 0 k) = xo27 (ix2 0 k) + ∑ r, lnRow x4 x7 x11 x17 x18 r k * MixNorm.norm (aRow x7 r) k := by
  unfold out0_B_27
  rw [View.read_writes_eq_canon _ _ _ (cover0_B_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28)]
  exact out27_B _ _ _ _ _ _ _ _ _ hc0 k

theorem out0_B_28_apply (hc0 : ¬cond0_0 i) (k : Fin 384) : out0_B_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28 (ix2 0 k) = xo28 (ix2 0 k) + ∑ r, lnRow x4 x7 x11 x17 x18 r k := by
  unfold out0_B_28
  rw [View.read_writes_eq_canon _ _ _ (cover0_B_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 x0 x1 x2 x3 x4 x5 x6 x7 x8 x9 x10 x11 x12 x13 x14 x15 x16 x17 x18 xo20 xo21 xo22 xo23 xo24 xo25 xo26 xo27 xo28)]
  exact out28_B _ _ _ _ _ _ _ _ _ hc0 k

end Cert.MixBwdIdeal.Body
-- ==== Proof.MixBwdBlocks.lean ====
/-
  The arrays the region of the mixer's backward kernel finds and the blocks its windows cut from them, read at an index: the
  windows of the cotangent's, the convolution's and the heads' own rows, and the weights.
-/
module

public import proofs.«01_k».proof.Proof.Gen.MixBwdIdeal.Frame.Runs
public import proofs.«01_k».proof.Proof.MixBwdSpec
public import Idealize.ShloMosaic.Lib.Pipeline.Value
public import Idealize.ShloMosaic.Lib.StableHlo.ReadAt
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.MixBwdIdeal.Blocks

open Cert.MixBwdIdeal Cert.MixBwdIdeal.Gen

variable (m : (ℓ : Loc nD τ sig) → Buf (Elt Ideal) ℓ) (c : Dev nD)

/-- The arguments at an index. -/
abbrev DZ (t : Fin 16384) (k : Fin 1024) : EReal := m ((c : Thread nD τ).loc main_arg1) (ix2 t k)
abbrev AC (t : Fin 16384) (k : Fin 384) : EReal := m ((c : Thread nD τ).loc main_arg2) (ix2 t k)
abbrev YC (t : Fin 16384) (k : Fin 1024) : EReal := m ((c : Thread nD τ).loc main_arg4) (ix2 t k)
abbrev CG (k : Fin 384) : EReal := m ((c : Thread nD τ).loc main_arg9) (ix1 k)
abbrev CN (k : Fin 384) : EReal := m ((c : Thread nD τ).loc main_arg10) (ix1 k)
abbrev WO (j k : Fin 1024) : EReal := m ((c : Thread nD τ).loc main_arg11) (ix2 j k)

theorem V_dz (t : Fin 16384) (k : Fin 1024) : V m c main_v14 (ix2 t k) = DZ m c t k := by
  unfold V hostOps0; after_reads_at
theorem V_ac (t : Fin 16384) (k : Fin 384) : V m c main_arg2 (ix2 t k) = AC m c t k := by
  unfold V hostOps0; after_reads_at
theorem V_yc (t : Fin 16384) (k : Fin 1024) : V m c main_v18 (ix2 t k) = YC m c t k := by
  unfold V hostOps0; after_reads_at
theorem V_wo (k j : Fin 1024) : V m c main_v16 (ix2 k j) = WO m c j k := by
  unfold V hostOps0; after_reads_at
theorem V_cg (k : Fin 384) : V m c main_v23 (ix2 0 k) = CG m c k := by
  unfold V hostOps0; after_reads_at
theorem V_cn (k : Fin 384) : V m c main_v24 (ix2 0 k) = CN m c k := by
  unfold V hostOps0; after_reads_at

/-- The token row that row `r` of the block at point `t` is. -/
def tok (t : Fin cfg0.N) (r : Fin 256) : Fin 16384 :=
  ⟨256 * t.val + r.val, by have := t.isLt; have : cfg0.N = 64 := N_0; omega⟩

theorem index4 : ∀ t : Fin grid0.N, win0_4.index t 0 = t.val ∧ win0_4.index t 1 = 0 := by
  decide +kernel
theorem iblk4 (t : Fin cfg0.N) (r : Fin 256) (k : Fin 1024) :
    (iblk m c 4 t : Vec Ideal S256x1024 .bf16) (ix2 r k) = DZ m c (tok t r) k := by
  unfold iblk
  rw [View.read_apply]
  refine Eq.trans ?_ (V_dz m c (tok t r) k)
  show V m c main_v14 _ = V m c main_v14 _
  congr 1
  funext a
  apply Fin.ext
  match a with
  | ⟨0, _⟩ => show win0_4.index t 0 * 256 + 1 * r.val = 256 * t.val + r.val; rw [(index4 t).1]; omega
  | ⟨1, _⟩ => show win0_4.index t 1 * 1024 + 1 * k.val = k.val; rw [(index4 t).2]; omega

theorem index7 : ∀ t : Fin grid0.N, win0_7.index t 0 = t.val ∧ win0_7.index t 1 = 0 := by
  decide +kernel
theorem iblk7 (t : Fin cfg0.N) (r : Fin 256) (k : Fin 384) :
    (iblk m c 7 t : Vec Ideal S256x384 .f32) (ix2 r k) = AC m c (tok t r) k := by
  unfold iblk
  rw [View.read_apply]
  refine Eq.trans ?_ (V_ac m c (tok t r) k)
  show V m c main_arg2 _ = V m c main_arg2 _
  congr 1
  funext a
  apply Fin.ext
  match a with
  | ⟨0, _⟩ => show win0_7.index t 0 * 256 + 1 * r.val = 256 * t.val + r.val; rw [(index7 t).1]; omega
  | ⟨1, _⟩ => show win0_7.index t 1 * 384 + 1 * k.val = k.val; rw [(index7 t).2]; omega

theorem index10 : ∀ t : Fin grid0.N, win0_10.index t 0 = t.val ∧ win0_10.index t 1 = 0 := by
  decide +kernel
theorem iblk10 (t : Fin cfg0.N) (r : Fin 256) (k : Fin 1024) :
    (iblk m c 10 t : Vec Ideal S256x1024 .bf16) (ix2 r k) = YC m c (tok t r) k := by
  unfold iblk
  rw [View.read_apply]
  refine Eq.trans ?_ (V_yc m c (tok t r) k)
  show V m c main_v18 _ = V m c main_v18 _
  congr 1
  funext a
  apply Fin.ext
  match a with
  | ⟨0, _⟩ => show win0_10.index t 0 * 256 + 1 * r.val = 256 * t.val + r.val; rw [(index10 t).1]; omega
  | ⟨1, _⟩ => show win0_10.index t 1 * 1024 + 1 * k.val = k.val; rw [(index10 t).2]; omega

theorem index11 : ∀ t : Fin grid0.N, win0_11.index t 0 = 0 ∧ win0_11.index t 1 = 0 := by
  decide +kernel
theorem iblk11 (t : Fin cfg0.N) (r : Fin 1024) (k : Fin 1024) :
    (iblk m c 11 t : Vec Ideal S1024x1024 .bf16) (ix2 r k) = WO m c k r := by
  unfold iblk
  rw [View.read_apply]
  refine Eq.trans ?_ (V_wo m c r k)
  show V m c main_v16 _ = V m c main_v16 _
  congr 1
  funext a
  apply Fin.ext
  match a with
  | ⟨0, _⟩ => show win0_11.index t 0 * 1024 + 1 * r.val = r.val; rw [(index11 t).1]; omega
  | ⟨1, _⟩ => show win0_11.index t 1 * 1024 + 1 * k.val = k.val; rw [(index11 t).2]; omega

theorem index17 : ∀ t : Fin grid0.N, win0_17.index t 0 = 0 ∧ win0_17.index t 1 = 0 := by
  decide +kernel
theorem iblk17 (t : Fin cfg0.N) (k : Fin 384) :
    (iblk m c 17 t : Vec Ideal S1x384 .f32) (ix2 0 k) = CG m c k := by
  unfold iblk
  rw [View.read_apply]
  refine Eq.trans ?_ (V_cg m c k)
  show V m c main_v23 _ = V m c main_v23 _
  congr 1
  funext a
  apply Fin.ext
  match a with
  | ⟨0, _⟩ => show win0_17.index t 0 * 1 + 1 * 0 = 0; rw [(index17 t).1]
  | ⟨1, _⟩ => show win0_17.index t 1 * 384 + 1 * k.val = k.val; rw [(index17 t).2]; omega

theorem index18 : ∀ t : Fin grid0.N, win0_18.index t 0 = 0 ∧ win0_18.index t 1 = 0 := by
  decide +kernel
theorem iblk18 (t : Fin cfg0.N) (k : Fin 384) :
    (iblk m c 18 t : Vec Ideal S1x384 .f32) (ix2 0 k) = CN m c k := by
  unfold iblk
  rw [View.read_apply]
  refine Eq.trans ?_ (V_cn m c k)
  show V m c main_v24 _ = V m c main_v24 _
  congr 1
  funext a
  apply Fin.ext
  match a with
  | ⟨0, _⟩ => show win0_18.index t 0 * 1 + 1 * 0 = 0; rw [(index18 t).1]
  | ⟨1, _⟩ => show win0_18.index t 1 * 384 + 1 * k.val = k.val; rw [(index18 t).2]; omega

theorem index21 : ∀ t : Fin grid0.N, win0_21.index t 0 = 0 ∧ win0_21.index t 1 = 0 := by
  decide +kernel
theorem index26 : ∀ t : Fin grid0.N, win0_26.index t 0 = 0 ∧ win0_26.index t 1 = 0 := by
  decide +kernel
theorem index27 : ∀ t : Fin grid0.N, win0_27.index t 0 = 0 ∧ win0_27.index t 1 = 0 := by
  decide +kernel
theorem index28 : ∀ t : Fin grid0.N, win0_28.index t 0 = 0 ∧ win0_28.index t 1 = 0 := by
  decide +kernel

end Cert.MixBwdIdeal.Blocks
-- ==== Proof.MixBwdFold.lean ====
/-
  The grid of the mixer's backward kernel folded up: the gradients of the output projection, of the convolution's bias and of
  its norm's gain and bias as partial sums over the tokens seen so far; so the four result arrays, entry by entry.
-/
module

public import proofs.«01_k».proof.Proof.MixBwdOut
public import proofs.«01_k».proof.Proof.MixBwdBlocks
public import proofs.«01_k».proof.Proof.TokenSum

@[expose] public section

set_option maxRecDepth 16384

noncomputable section

open Idealize.ShloMosaic Idealize.ShloMosaic.TcCoe Idealize.SL.Sem

namespace Cert.MixBwdIdeal.Fold

open Cert.MixBwdIdeal Cert.MixBwdIdeal.Gen Cert.MixBwdIdeal.Run Cert.MixBwdIdeal.Body Cert.MixBwdIdeal.Blocks Cert.MixBwdIdeal.Pay Cert.MixBwd.Spec

/-- One block of 256 tokens more. -/
theorem upto_block (p : Fin 16384 → EReal) (j : ℕ) (hj : j < 64) :
    TokenSum.upto p (256 * (j + 1)) = TokenSum.upto p (256 * j) + ∑ r : Fin 256, p ⟨256 * j + r.val, by omega⟩ := by
  unfold TokenSum.upto
  rw [show 256 * (j + 1) = 256 * j + 256 by omega, Finset.sum_range_add, Finset.sum_range (n := 256)]
  congr 1
  refine Finset.sum_congr rfl fun r _ => ?_
  rw [dif_pos]

theorem upto_first (p : Fin 16384 → EReal) :
    TokenSum.upto p (256 * (0 + 1)) = 0 + ∑ r : Fin 256, p ⟨256 * 0 + r.val, by omega⟩ := by
  rw [upto_block p 0 (by decide)]
  rfl

variable (m : (ℓ : Loc nD τ sig) → Buf (Elt Ideal) ℓ) (c : Dev nD)

/-- The norm's cotangent at the launch's arguments. -/
abbrev lnM := dln (DZ m c) (AC m c) (CG m c) (CN m c) (WO m c)

section
variable (t : Fin cfg0.N) (r : Fin 256)

theorem aRow_blk : aRow (iblk m c 7 t) r = AC m c (tok t r) := funext (iblk7 m c t r)

theorem gain_blk : vec (iblk m c 17 t) = CG m c := funext (iblk17 m c t)

theorem bias_blk : vec (iblk m c 18 t) = CN m c := funext (iblk18 m c t)

theorem lnRow_blk : lnRow (iblk m c 4 t) (iblk m c 7 t) (iblk m c 11 t) (iblk m c 17 t) (iblk m c 18 t) r = lnM m c (tok t r) := by
  funext k
  unfold lnRow yRow
  rw [aRow_blk, gain_blk, bias_blk]
  simp only [iblk4, iblk11]
  rfl

end

theorem dwo_first (t : Fin cfg0.N) (h0 : t.val % 64 = 0) (p q : Fin 1024) : ((outsAt0 m c t.val t.isLt).2.2.1 (ix2 p q) : EReal)
    = 0 + ∑ r, (fun t => YC m c t p * DZ m c t q) (tok t r) := by
  rw [outsAt0_A m c t h0]
  unfold atA
  dsimp only
  rw [out0_A_21_apply]
  simp only [iblk4, iblk10]

theorem dwo_next (t : Fin cfg0.N) (h0 : ¬t.val % 64 = 0) (p q : Fin 1024) : ((outsAt0 m c t.val t.isLt).2.2.1 (ix2 p q) : EReal)
    = (outsAt0 m c (t.val - 1) (Nat.lt_of_le_of_lt (Nat.sub_le _ _) t.isLt)).2.2.1 (ix2 p q) + ∑ r, (fun t => YC m c t p * DZ m c t q) (tok t r) := by
  rw [outsAt0_B m c t h0]
  unfold atB
  dsimp only
  rw [out0_B_21_apply]
  simp only [iblk4, iblk10]

/-- The window after point `n`: the terms of the tokens seen so far. -/
theorem dwo_sum (p q : Fin 1024) : ∀ (n : ℕ) (h : n < cfg0.N), ((outsAt0 m c n h).2.2.1 (ix2 p q) : EReal)
    = TokenSum.upto (fun t => YC m c t p * DZ m c t q) (256 * (n + 1)) := by
  intro n
  induction n with
  | zero =>
    intro h
    exact (dwo_first m c ⟨0, h⟩ rfl p q).trans (upto_first (fun t => YC m c t p * DZ m c t q)).symm
  | succ n ih =>
    intro h
    have hN : cfg0.N = 64 := N_0
    rw [dwo_next m c ⟨n + 1, h⟩ (by show ¬(n + 1) % 64 = 0; omega), upto_block _ _ (by omega)]
    exact congrArg (· + _) (ih (by omega))

theorem dcb_first (t : Fin cfg0.N) (h0 : t.val % 64 = 0) (k : Fin 384) : ((outsAt0 m c t.val t.isLt).2.2.2.2.2.2.2.1 (ix2 0 k) : EReal)
    = 0 + ∑ r, (fun t => dz (AC m c t) (lnM m c t) (CG m c) k) (tok t r) := by
  rw [outsAt0_A m c t h0]
  unfold atA
  dsimp only
  rw [out0_A_26_apply]
  simp only [aRow_blk, lnRow_blk, gain_blk]

theorem dcb_next (t : Fin cfg0.N) (h0 : ¬t.val % 64 = 0) (k : Fin 384) : ((outsAt0 m c t.val t.isLt).2.2.2.2.2.2.2.1 (ix2 0 k) : EReal)
    = (outsAt0 m c (t.val - 1) (Nat.lt_of_le_of_lt (Nat.sub_le _ _) t.isLt)).2.2.2.2.2.2.2.1 (ix2 0 k) + ∑ r, (fun t => dz (AC m c t) (lnM m c t) (CG m c) k) (tok t r) := by
  rw [outsAt0_B m c t h0]
  unfold atB
  dsimp only
  rw [out0_B_26_apply]
  simp only [aRow_blk, lnRow_blk, gain_blk]

/-- The window after point `n`: the terms of the tokens seen so far. -/
theorem dcb_sum (k : Fin 384) : ∀ (n : ℕ) (h : n < cfg0.N), ((outsAt0 m c n h).2.2.2.2.2.2.2.1 (ix2 0 k) : EReal)
    = TokenSum.upto (fun t => dz (AC m c t) (lnM m c t) (CG m c) k) (256 * (n + 1)) := by
  intro n
  induction n with
  | zero =>
    intro h
    exact (dcb_first m c ⟨0, h⟩ rfl k).trans (upto_first (fun t => dz (AC m c t) (lnM m c t) (CG m c) k)).symm
  | succ n ih =>
    intro h
    have hN : cfg0.N = 64 := N_0
    rw [dcb_next m c ⟨n + 1, h⟩ (by show ¬(n + 1) % 64 = 0; omega), upto_block _ _ (by omega)]
    exact congrArg (· + _) (ih (by omega))

theorem dcg_first (t : Fin cfg0.N) (h0 : t.val % 64 = 0) (k : Fin 384) : ((outsAt0 m c t.val t.isLt).2.2.2.2.2.2.2.2.1 (ix2 0 k) : EReal)
    = 0 + ∑ r, (fun t => lnM m c t k * MixNorm.norm (AC m c t) k) (tok t r) := by
  rw [outsAt0_A m c t h0]
  unfold atA
  dsimp only
  rw [out0_A_27_apply]
  simp only [aRow_blk, lnRow_blk]

theorem dcg_next (t : Fin cfg0.N) (h0 : ¬t.val % 64 = 0) (k : Fin 384) : ((outsAt0 m c t.val t.isLt).2.2.2.2.2.2.2.2.1 (ix2 0 k) : EReal)
    = (outsAt0 m c (t.val - 1) (Nat.lt_of_le_of_lt (Nat.sub_le _ _) t.isLt)).2.2.2.2.2.2.2.2.1 (ix2 0 k) + ∑ r, (fun t => lnM m c t k * MixNorm.norm (AC m c t) k) (tok t r) := by
  rw [outsAt0_B m c t h0]
  unfold atB
  dsimp only
  rw [out0_B_27_apply]
  simp only [aRow_blk, lnRow_blk]

/-- The window after point `n`: the terms of the tokens seen so far. -/
theorem dcg_sum (k : Fin 384) : ∀ (n : ℕ) (h : n < cfg0.N), ((outsAt0 m c n h).2.2.2.2.2.2.2.2.1 (ix2 0 k) : EReal)
    = TokenSum.upto (fun t => lnM m c t k * MixNorm.norm (AC m c t) k) (256 * (n + 1)) := by
  intro n
  induction n with
  | zero =>
    intro h
    exact (dcg_first m c ⟨0, h⟩ rfl k).trans (upto_first (fun t => lnM m c t k * MixNorm.norm (AC m c t) k)).symm
  | succ n ih =>
    intro h
    have hN : cfg0.N = 64 := N_0
    rw [dcg_next m c ⟨n + 1, h⟩ (by show ¬(n + 1) % 64 = 0; omega), upto_block _ _ (by omega)]
    exact congrArg (· + _) (ih (by omega))

theorem dcbb_first (t : Fin cfg0.N) (h0 : t.val % 64 = 0) (k : Fin 384) : ((outsAt0 m c t.val t.isLt).2.2.2.2.2.2.2.2.2 (ix2 0 k) : EReal)
    = 0 + ∑ r, (fun t => lnM m c t k) (tok t r) := by
  rw [outsAt0_A m c t h0]
  unfold atA
  dsimp only
  rw [out0_A_28_apply]
  simp only [lnRow_blk]

theorem dcbb_next (t : Fin cfg0.N) (h0 : ¬t.val % 64 = 0) (k : Fin 384) : ((outsAt0 m c t.val t.isLt).2.2.2.2.2.2.2.2.2 (ix2 0 k) : EReal)
    = (outsAt0 m c (t.val - 1) (Nat.lt_of_le_of_lt (Nat.sub_le _ _) t.isLt)).2.2.2.2.2.2.2.2.2 (ix2 0 k) + ∑ r, (fun t => lnM m c t k) (tok t r) := by
  rw [outsAt0_B m c t h0]
  unfold atB
  dsimp only
  rw [out0_B_28_apply]
  simp only [lnRow_blk]

/-- The window after point `n`: the terms of the tokens seen so far. -/
theorem dcbb_sum (k : Fin 384) : ∀ (n : ℕ) (h : n < cfg0.N), ((outsAt0 m c n h).2.2.2.2.2.2.2.2.2 (ix2 0 k) : EReal)
    = TokenSum.upto (fun t => lnM m c t k) (256 * (n + 1)) := by
  intro n
  induction n with
  | zero =>
    intro h
    exact (dcbb_first m c ⟨0, h⟩ rfl k).trans (upto_first (fun t => lnM m c t k)).symm
  | succ n ih =>
    intro h
    have hN : cfg0.N = 64 := N_0
    rw [dcbb_next m c ⟨n + 1, h⟩ (by show ¬(n + 1) % 64 = 0; omega), upto_block _ _ (by omega)]
    exact congrArg (· + _) (ih (by omega))

/-! ## The result arrays -/

theorem flushed_after (w : Fin cfg0.W) (t : Fin cfg0.N) :
    (dats m 0 c).flushed w t = (cfg0.win w).cut (grid0.coords t) ((dats m 0 c).after w t) := rfl

/-- The last point, which writes the gradients back. -/
def last : Fin cfg0.N := ⟨63, by have : cfg0.N = 64 := N_0; omega⟩

theorem disjoint21 : ∀ t t' : Fin cfg0.N, (cfg0.win 21).flush t = true → (cfg0.win 21).flush t' = true → t ≠ t' →
    Disjoint ((cfg0.win 21).blk t).view.set ((cfg0.win 21).blk t').view.set := by
  intro t t' h h' hne
  have hN : cfg0.N = 64 := N_0
  have e := (flush0_21 t).mp h
  have e' := (flush0_21 t').mp h'
  exact absurd (Fin.ext (by omega)) hne

theorem emb21 (p q : Fin 1024) : ((cfg0.win 21).blk last).view.emb (ix2 p q) = (ix2 p q) := by
  funext a
  apply Fin.ext
  match a with
  | ⟨0, _⟩ => show win0_21.index last 0 * 1024 + 1 * p.val = p.val; rw [(index21 last).1]; omega
  | ⟨1, _⟩ => show win0_21.index last 1 * 1024 + 1 * q.val = q.val; rw [(index21 last).2]; omega

theorem arr21_apply (p q : Fin 1024) : (dats m 0 c).arrAt 21 cfg0.N (ix2 p q) = dwo (DZ m c) (YC m c) p q := by
  have h := (dats m 0 c).arrAt_emb_eq_flushed 21 disjoint21 last ((flush0_21 last).mpr rfl) (ix2 p q)
  rw [emb21] at h
  refine h.trans ?_
  rw [flushed_after, after0_21]
  refine Eq.trans (dwo_sum m c p q 63 last.isLt) ?_
  exact TokenSum.upto_all _

theorem disjoint26 : ∀ t t' : Fin cfg0.N, (cfg0.win 26).flush t = true → (cfg0.win 26).flush t' = true → t ≠ t' →
    Disjoint ((cfg0.win 26).blk t).view.set ((cfg0.win 26).blk t').view.set := by
  intro t t' h h' hne
  have hN : cfg0.N = 64 := N_0
  have e := (flush0_26 t).mp h
  have e' := (flush0_26 t').mp h'
  exact absurd (Fin.ext (by omega)) hne

theorem emb26 (k : Fin 384) : ((cfg0.win 26).blk last).view.emb (ix2 (0 : Fin 1) k) = (ix2 0 k) := by
  funext a
  apply Fin.ext
  match a with
  | ⟨0, _⟩ => show win0_26.index last 0 * 1 + 1 * 0 = 0; rw [(index26 last).1]
  | ⟨1, _⟩ => show win0_26.index last 1 * 384 + 1 * k.val = k.val; rw [(index26 last).2]; omega

theorem arr26_apply (k : Fin 384) : (dats m 0 c).arrAt 26 cfg0.N (ix2 0 k) = dcb (DZ m c) (AC m c) (CG m c) (CN m c) (WO m c) k := by
  have h := (dats m 0 c).arrAt_emb_eq_flushed 26 disjoint26 last ((flush0_26 last).mpr rfl) (ix2 (0 : Fin 1) k)
  rw [emb26] at h
  refine h.trans ?_
  rw [flushed_after, after0_26]
  refine Eq.trans (dcb_sum m c k 63 last.isLt) ?_
  exact TokenSum.upto_all _

theorem disjoint27 : ∀ t t' : Fin cfg0.N, (cfg0.win 27).flush t = true → (cfg0.win 27).flush t' = true → t ≠ t' →
    Disjoint ((cfg0.win 27).blk t).view.set ((cfg0.win 27).blk t').view.set := by
  intro t t' h h' hne
  have hN : cfg0.N = 64 := N_0
  have e := (flush0_27 t).mp h
  have e' := (flush0_27 t').mp h'
  exact absurd (Fin.ext (by omega)) hne

theorem emb27 (k : Fin 384) : ((cfg0.win 27).blk last).view.emb (ix2 (0 : Fin 1) k) = (ix2 0 k) := by
  funext a
  apply Fin.ext
  match a with
  | ⟨0, _⟩ => show win0_27.index last 0 * 1 + 1 * 0 = 0; rw [(index27 last).1]
  | ⟨1, _⟩ => show win0_27.index last 1 * 384 + 1 * k.val = k.val; rw [(index27 last).2]; omega

theorem arr27_apply (k : Fin 384) : (dats m 0 c).arrAt 27 cfg0.N (ix2 0 k) = dcg (DZ m c) (AC m c) (CG m c) (CN m c) (WO m c) k := by
  have h := (dats m 0 c).arrAt_emb_eq_flushed 27 disjoint27 last ((flush0_27 last).mpr rfl) (ix2 (0 : Fin 1) k)
  rw [emb27] at h
  refine h.trans ?_
  rw [flushed_after, after0_27]
  refine Eq.trans (dcg_sum m c k 63 last.isLt) ?_
  exact TokenSum.upto_all _

theorem disjoint28 : ∀ t t' : Fin cfg0.N, (cfg0.win 28).flush t = true → (cfg0.win 28).flush t' = true → t ≠ t' →
    Disjoint ((cfg0.win 28).blk t).view.set ((cfg0.win 28).blk t').view.set := by
  intro t t' h h' hne
  have hN : cfg0.N = 64 := N_0
  have e := (flush0_28 t).mp h
  have e' := (flush0_28 t').mp h'
  exact absurd (Fin.ext (by omega)) hne

theorem emb28 (k : Fin 384) : ((cfg0.win 28).blk last).view.emb (ix2 (0 : Fin 1) k) = (ix2 0 k) := by
  funext a
  apply Fin.ext
  match a with
  | ⟨0, _⟩ => show win0_28.index last 0 * 1 + 1 * 0 = 0; rw [(index28 last).1]
  | ⟨1, _⟩ => show win0_28.index last 1 * 384 + 1 * k.val = k.val; rw [(index28 last).2]; omega

theorem arr28_apply (k : Fin 384) : (dats m 0 c).arrAt 28 cfg0.N (ix2 0 k) = dcbb (DZ m c) (AC m c) (CG m c) (CN m c) (WO m c) k := by
  have h := (dats m 0 c).arrAt_emb_eq_flushed 28 disjoint28 last ((flush0_28 last).mpr rfl) (ix2 (0 : Fin 1) k)
  rw [emb28] at h
  refine h.trans ?_
  rw [flushed_after, after0_28]
  refine Eq.trans (dcbb_sum m c k 63 last.isLt) ?_
  exact TokenSum.upto_all _

end Cert.MixBwdIdeal.Fold
-- ==== Proof.MixBwdRef.lean ====
/-
  The reference's gradients of the mixer read at an index, the norm's by the row in the chain rule's form.
-/
module

public import proofs.«01_k».proof.Proof.Gen.MixBwdRefIdeal.Read
public import proofs.«01_k».proof.Proof.MixBwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MixBwdRefIdeal.Grad

open Cert.MixBwdRefIdeal Cert.MixBwdRefIdeal.Read Cert.MixNorm
open Cert.FfnBwd.Spec (sg)
open Cert.MixBwd.Spec (dvar dzChain two mhalf dy dyc dwo)

variable (x1 x4 : (⟨S16384x1024, .f32⟩ : BufTy).Contents (Elt Ideal)) (x2 : (⟨S16384x384, .f32⟩ : BufTy).Contents (Elt Ideal))
  (x9 x10 : (⟨S384, .f32⟩ : BufTy).Contents (Elt Ideal)) (x11 : (⟨S1024x1024, .f32⟩ : BufTy).Contents (Elt Ideal))

/-- The arguments at an index. -/
abbrev A2 (x : (⟨S16384x1024, .f32⟩ : BufTy).Contents (Elt Ideal)) (t : Fin 16384) (k : Fin 1024) : EReal := x (ix2 t k)
abbrev AC (x : (⟨S16384x384, .f32⟩ : BufTy).Contents (Elt Ideal)) (t : Fin 16384) (k : Fin 384) : EReal := x (ix2 t k)
abbrev A1 (x : (⟨S384, .f32⟩ : BufTy).Contents (Elt Ideal)) (k : Fin 384) : EReal := x (ix1 k)
abbrev AW (x : (⟨S1024x1024, .f32⟩ : BufTy).Contents (Elt Ideal)) (j k : Fin 1024) : EReal := x (ix2 j k)

/-- The cotangent of the norm's value as automatic differentiation adds it up. -/
def dlnChain (t : Fin 16384) (k : Fin 384) : EReal :=
  let v := MixNorm.ln (AC x2 t) (A1 x9) (A1 x10) k
  let d := dyc (A2 x1) (AW x11) t k
  d * sg v + (v * d) * (sg v * (1 - sg v))

variable (t : Fin 16384) (k : Fin 384)

theorem dwo_eq (a b : Fin 1024) : val_main_v2 x1 x4 (ix2 a b) = dwo (A2 x1) (A2 x4) a b := by
  unfold val_main_v2 val_main_v1 dwo
  pointwise
  exact Finset.sum_congr rfl fun _ _ => EReal.mul_comm _ _

theorem cen_eq : val_main_v9 x2 (ix2 t k) = cen (AC x2 t) k := by
  unfold val_main_v9 val_main_v8 val_main_v7 val_main_v6 val_main_v5 val_main_v4 val_main_cst val_main_cst_0 cen mean len
  pointwise

theorem cen_eq' : val_main_v18 x2 (ix2 t k) = cen (AC x2 t) k := by
  rw [← cen_eq]
  rfl

theorem var_eq : val_main_v20 x2 (ix2 t 0) = mean (fun k => cen (AC x2 t) k * cen (AC x2 t) k) + eps := by
  unfold val_main_v20 val_main_v19 val_main_v16 val_main_v15 val_main_v14 val_main_v13 val_main_v10 val_main_cst_2 val_main_cst_3
    val_main_cst_4 mean len eps
  pointwise
  simp only [cen_eq]

theorem rstd_eq : val_main_v21 x2 (ix2 t 0) = rstd (AC x2 t) := by
  unfold val_main_v21 rstd
  pointwise
  rw [var_eq]

theorem norm_eq : val_main_v26 x2 (ix2 t k) = MixNorm.norm (AC x2 t) k := by
  unfold val_main_v26 val_main_v25 MixNorm.norm
  pointwise
  rw [cen_eq', rstd_eq]

theorem ln_eq : val_main_v32 x2 x9 x10 (ix2 t k) = MixNorm.ln (AC x2 t) (A1 x9) (A1 x10) k := by
  unfold val_main_v32 val_main_v31 val_main_v30 val_main_v29 val_main_v28 val_main_v27 MixNorm.ln
  pointwise
  rw [norm_eq]

theorem sg_eq : val_main_v33_2 x2 x9 x10 (ix2 t k) = sg (MixNorm.ln (AC x2 t) (A1 x9) (A1 x10) k) := by
  unfold val_main_v33_2 val_main_call0_v4 val_main_call0_v3 val_main_call0_v2 val_main_call0_v1 val_main_call0_v0 val_main_call0_cst_0
    val_main_call0_cst sg
  pointwise
  rw [ln_eq]

theorem dyc_eq : val_main_v34 x1 x11 (ix2 t k) = dyc (A2 x1) (AW x11) t k := by
  unfold val_main_v34 val_main_v3 dyc dy
  pointwise

theorem dln_eq : val_main_v35 x1 x2 x9 x10 x11 (ix2 t k) = dlnChain x1 x2 x9 x10 x11 t k := by
  unfold val_main_v35 val_main_call1_v2 val_main_call1_v1 val_main_call1_v0 val_main_v33_1 val_main_call0_v7 val_main_call0_v6
    val_main_call0_cst_1 dlnChain
  pointwise
  simp only [sg_eq, ln_eq, dyc_eq]

theorem q_eq : val_main_v43 x1 x2 x9 x10 x11 (ix2 t k) = dlnChain x1 x2 x9 x10 x11 t k * A1 x9 k := by
  unfold val_main_v43 val_main_v42 val_main_v27
  pointwise
  rw [dln_eq]

theorem dvar_eq : val_main_v57 x1 x2 x9 x10 x11 (ix2 t k) = dvar (AC x2 t) (dlnChain x1 x2 x9 x10 x11 t) (A1 x9) := by
  unfold val_main_v57 val_main_v56 val_main_v55 val_main_v54 val_main_v50 val_main_v47 val_main_v46 val_main_v45 val_main_v24
    val_main_v23 val_main_v22 val_main_cst_5 val_main_cst_10 val_main_cst_12 val_main_cst_13 dvar len mhalf
  pointwise
  simp only [Fin.sum_univ_one, cen_eq', q_eq, rstd_eq, var_eq]

theorem t1_eq : val_main_v49 x1 x2 x9 x10 x11 (ix2 t k) = (dlnChain x1 x2 x9 x10 x11 t k * A1 x9 k) * rstd (AC x2 t) := by
  unfold val_main_v49 val_main_v48
  pointwise
  rw [q_eq, rstd_eq]

theorem t2_eq : val_main_v58 x1 x2 x9 x10 x11 (ix2 t k)
    = dvar (AC x2 t) (dlnChain x1 x2 x9 x10 x11 t) (A1 x9) * (two * cen (AC x2 t) k) := by
  unfold val_main_v58 val_main_v12 val_main_v11 val_main_cst_1 two
  pointwise
  rw [cen_eq, dvar_eq]

theorem dz_eq : val_main_v68 x1 x2 x9 x10 x11 (ix2 t k) = dzChain (AC x2 t) (dlnChain x1 x2 x9 x10 x11 t) (A1 x9) k := by
  unfold val_main_v68 val_main_v67 val_main_v66 val_main_v65 val_main_v64 val_main_v63 val_main_v62 val_main_v61 val_main_v60
    val_main_v59 val_main_v53 val_main_v52 val_main_v51 val_main_cst_11 val_main_cst_14 val_main_cst_15 val_main_cst_16 dzChain len
  pointwise
  simp only [Fin.sum_univ_one, t1_eq, t2_eq]

theorem dcb_eq : val_main_v70 x1 x2 x9 x10 x11 (ix2 0 k) = ∑ t, dzChain (AC x2 t) (dlnChain x1 x2 x9 x10 x11 t) (A1 x9) k := by
  unfold val_main_v70 val_main_v69 val_main_cst_17
  pointwise
  simp only [dz_eq]

theorem dcg_eq : val_main_v71 x1 x2 x9 x10 x11 (ix2 0 k) = ∑ t, dlnChain x1 x2 x9 x10 x11 t k * MixNorm.norm (AC x2 t) k := by
  unfold val_main_v71 val_main_v44 val_main_v41 val_main_v40 val_main_v39 val_main_cst_8 val_main_cst_9
  pointwise
  simp only [Fin.sum_univ_one, norm_eq, dln_eq]
  exact Finset.sum_congr rfl fun _ _ => EReal.mul_comm _ _

theorem dcbb_eq : val_main_v72 x1 x2 x9 x10 x11 (ix2 0 k) = ∑ t, dlnChain x1 x2 x9 x10 x11 t k := by
  unfold val_main_v72 val_main_v38 val_main_v37 val_main_v36 val_main_cst_6 val_main_cst_7
  pointwise
  simp only [Fin.sum_univ_one, dln_eq]

end Cert.MixBwdRefIdeal.Grad
-- ==== Proof.MixBwdAlg.lean ====
/-
  The gradient of the norm of rows of length 384 in the chain rule's form is the closed form, over the reals; and the two ways
  to write the cotangent of the norm's value agree on finite values.
-/
module

public import proofs.«01_k».proof.Proof.MixBwdSpec
public import proofs.«01_k».proof.Proof.Finite

@[expose] public section

noncomputable section

open Idealize.ShloMosaic

namespace Cert.MixBwd.Alg

open Cert.MixNorm Cert.MixBwd.Spec Cert.Finite

theorem len_eq : len = ((384 : ℝ) : EReal) := by
  unfold len
  simp [Ideal.ofBits, Ideal.ieee, -EReal.coe_mul]
  norm_num

theorem two_eq : two = ((2 : ℝ) : EReal) := by
  unfold two
  simp [Ideal.ofBits, Ideal.ieee, -EReal.coe_mul]
  norm_num

theorem mhalf_eq : mhalf = ((-(1 / 2) : ℝ) : EReal) := by
  unfold mhalf
  simp [Ideal.ofBits, Ideal.ieee, -EReal.coe_mul]
  norm_num

theorem eps_pos : ∃ e : ℝ, 0 < e ∧ eps = (e : EReal) := by
  unfold eps
  refine ⟨_, ?_, by simp [Ideal.ofBits, Ideal.ieee, -EReal.coe_mul]; rfl⟩
  positivity

theorem coe_sum (f : Fin 384 → ℝ) : ∑ k, (f k : EReal) = ((∑ k, f k : ℝ) : EReal) :=
  (map_sum (⟨⟨fun r : ℝ => (r : EReal), EReal.coe_zero⟩, EReal.coe_add⟩ : ℝ →+ EReal) f Finset.univ).symm

theorem div_len (a : ℝ) : Ideal.div (a : EReal) len = ((a * (1 / 384) : ℝ) : EReal) := by
  rw [len_eq, Ideal.div_coe (by norm_num)]
  norm_cast

theorem mean_coe (f : Fin 384 → ℝ) : mean (fun k => (f k : EReal)) = (((∑ k, f k) * (1 / 384) : ℝ) : EReal) := by
  unfold mean
  rw [coe_sum, div_len]

variable (x : Fin 384 → ℝ)

/-- The centred row, over the reals. -/
def cenR (k : Fin 384) : ℝ := x k - (∑ k, x k) * (1 / 384)

theorem cen_coe (k : Fin 384) : cen (fun k => (x k : EReal)) k = (cenR x k : EReal) := by
  unfold cen cenR
  rw [mean_coe]
  norm_cast

theorem sum_cenR : ∑ k, cenR x k = 0 := by
  unfold cenR
  rw [Finset.sum_sub_distrib, Finset.sum_const, Finset.card_univ, Fintype.card_fin]
  simp only [nsmul_eq_mul]
  push_cast
  ring

/-- A real row's reciprocal deviation is a real number whose square is the reciprocal of the variance. -/
theorem rstd_coe : ∃ r s : ℝ, s ≠ 0 ∧ rstd (fun k => (x k : EReal)) = (r : EReal)
    ∧ mean (fun k => cen (fun k => (x k : EReal)) k * cen (fun k => (x k : EReal)) k) + eps = (s : EReal) ∧ 1 / s = r * r := by
  obtain ⟨e, he, hee⟩ := eps_pos
  have hv : mean (fun k => cen (fun k => (x k : EReal)) k * cen (fun k => (x k : EReal)) k) + eps
      = (((∑ k, cenR x k * cenR x k) * (1 / 384) + e : ℝ) : EReal) := by
    have h : (fun k => cen (fun k => (x k : EReal)) k * cen (fun k => (x k : EReal)) k)
        = fun k => ((cenR x k * cenR x k : ℝ) : EReal) := by
      funext k; rw [cen_coe]; norm_cast
    rw [h, mean_coe, hee]
    norm_cast
  have hpos : 0 < (∑ k, cenR x k * cenR x k) * (1 / 384) + e := by
    have : 0 ≤ ∑ k, cenR x k * cenR x k := Finset.sum_nonneg fun k _ => mul_self_nonneg _
    positivity
  generalize (∑ k, cenR x k * cenR x k) * (1 / 384) + e = s at hv hpos
  refine ⟨(Real.sqrt s)⁻¹, s, hpos.ne', ?_, hv, ?_⟩
  · unfold rstd
    rw [hv, Ideal.rsqrt_coe, if_neg (not_lt.mpr hpos.le), if_neg hpos.ne']
  · rw [← mul_inv, Real.mul_self_sqrt hpos.le, one_div]

/-- The two forms of the gradient agree on rows of real numbers. -/
theorem dzChain_eq {x d g : Fin 384 → EReal} (hx : ∀ k, Fin' (x k)) (hd : ∀ k, Fin' (d k)) (hg : ∀ k, Fin' (g k))
    (k : Fin 384) : dzChain x d g k = dz x d g k := by
  choose x' hx using hx
  choose d' hd using hd
  choose g' hg using hg
  obtain rfl : x = fun k => (x' k : EReal) := funext hx
  obtain rfl : d = fun k => (d' k : EReal) := funext hd
  obtain rfl : g = fun k => (g' k : EReal) := funext hg
  obtain ⟨r, s, hs, hr, hv, hrs⟩ := rstd_coe x'
  have hc0 := sum_cenR x'
  unfold dzChain dvar dz MixNorm.norm
  rw [hv, hr]
  simp only [cen_coe, two_eq, mhalf_eq]
  rw [Ideal.div_coe hs, hrs]
  generalize cenR x' = c at hc0 ⊢
  simp only [← EReal.coe_mul, ← EReal.coe_neg, coe_sum, mean_coe, ← EReal.coe_add, ← EReal.coe_sub, div_len]
  congr 1
  simp only [Finset.sum_neg_distrib, ← Finset.mul_sum, ← Finset.sum_mul, hc0]
  have h : ∑ k, d' k * g' k * (c k * r) = (∑ k, c k * (d' k * g' k)) * r := by
    rw [Finset.sum_mul]
    exact Finset.sum_congr rfl fun _ _ => by ring
  rw [h]
  ring

/-- A real row's norm, and its value, are finite. -/
theorem fin_ln {x g b : Fin 384 → EReal} (hx : ∀ k, Fin' (x k)) (hg : ∀ k, Fin' (g k)) (hb : ∀ k, Fin' (b k)) (k : Fin 384) :
    Fin' (MixNorm.ln x g b k) := by
  choose x' hx using hx
  obtain rfl : x = fun k => (x' k : EReal) := funext hx
  obtain ⟨r, s, hs, hr, hv, hrs⟩ := rstd_coe x'
  unfold MixNorm.ln MixNorm.norm
  rw [hr, cen_coe]
  exact (((Fin'.coe _).mul (Fin'.coe _)).mul (hg k)).add (hb k)

end Cert.MixBwd.Alg
-- ==== Proof.MixBwdPre.lean ====
/-
  The precondition opened: the cotangent, the convolution, its norm's gain and bias and the output projection are finite in
  every element.
-/
module

public import proofs.«01_k».proof.Defs
public import proofs.«01_k».proof.Proof.Finite

@[expose] public section

noncomputable section

open Idealize.ShloMosaic

namespace Cert.MixBwdPre

open Cert.Pre_finite_mix Cert.Finite

variable [Cert.Pre_finite_mix.Facts]

instance : Subsingleton S_.Idx := ⟨fun a b => funext fun d => d.elim0⟩

theorem fin_args (x0 : FVec Ideal S16384x2176 .f32) (x1 : FVec Ideal S16384x1024 .f32) (x2 : FVec Ideal S16384x384 .f32)
    (x3 x4 : FVec Ideal S16384x1024 .f32) (x5 : FVec Ideal S4x64x64 .f32) (x6 : FVec Ideal S256 .f32) (x7 : FVec Ideal S3x384 .f32)
    (x8 : FVec Ideal S31x384 .f32) (x9 x10 : FVec Ideal S384 .f32) (x11 : FVec Ideal S1024x1024 .f32)
    (h : fn (F := Ideal) x0 x1 x2 x3 x4 x5 x6 x7 x8 x9 x10 x11 ix0 = 1#1) :
    (∀ i, Fin' (x1 i)) ∧ (∀ i, Fin' (x2 i)) ∧ (∀ i, Fin' (x9 i)) ∧ (∀ i, Fin' (x10 i)) ∧ (∀ i, Fin' (x11 i)) := by
  unfold fn fn_part1 at h
  dsimp only at h
  obtain ⟨h, h4⟩ := and_eq_one h
  obtain ⟨h, h3⟩ := and_eq_one h
  obtain ⟨h, h2⟩ := and_eq_one h
  obtain ⟨h0, h1⟩ := and_eq_one h
  exact ⟨fin_of_all _ _ (fun _ => rfl) _ _ _ _ h0, fin_of_all _ _ (fun _ => rfl) _ _ _ _ h1,
    fin_of_all _ _ (fun _ => rfl) _ _ _ _ h2, fin_of_all _ _ (fun _ => rfl) _ _ _ _ h3,
    fin_of_all _ _ (fun _ => rfl) _ _ _ _ h4⟩

end Cert.MixBwdPre
-- ==== Proof.MixBwdValue.lean ====
/-
  The value claim of the mixer's backward pass: the kernel's gradients of the output projection, of the convolution's bias and
  of its norm's gain and bias are the reference's.
-/
module

public import proofs.«01_k».proof.Proof.MixBwdFold
public import proofs.«01_k».proof.Proof.MixBwdIdealRun
public import proofs.«01_k».proof.Proof.MixBwdRef
public import proofs.«01_k».proof.Proof.MixBwdAlg
public import proofs.«01_k».proof.Proof.FfnBwdAlg
public import proofs.«01_k».proof.Proof.MixBwdPre
public import proofs.«01_k».proof.Proof.Gen.Pre_finite_mix
public import proofs.«01_k».proof.Proof.Gen.MixBwdRefIdeal.Run

@[expose] public section

set_option maxRecDepth 16384

noncomputable section

open Idealize.ShloMosaic Idealize.ShloMosaic.TcCoe Idealize.SL.Sem

namespace Cert.MixBwdValue

open Cert.Finite Cert.MixBwd.Spec Cert.MixBwd.Alg
open Cert.MixBwdRefIdeal.Grad (A2 AC A1 AW dlnChain)
open Cert.MixBwdRefIdeal.Read

variable (m : (ℓ : Loc Cert.MixBwdIdeal.nD Cert.MixBwdIdeal.τ Cert.MixBwdIdeal.sig) → Buf (Elt Ideal) ℓ)
  (c : Dev Cert.MixBwdIdeal.nD)

/-- The arguments of core `c`. -/
abbrev a1 : (⟨Cert.MixBwdRefIdeal.S16384x1024, .f32⟩ : BufTy).Contents (Elt Ideal) := m (c.tc.loc Cert.MixBwdIdeal.main_arg1)
abbrev a2 : (⟨Cert.MixBwdRefIdeal.S16384x384, .f32⟩ : BufTy).Contents (Elt Ideal) := m (c.tc.loc Cert.MixBwdIdeal.main_arg2)
abbrev a4 : (⟨Cert.MixBwdRefIdeal.S16384x1024, .f32⟩ : BufTy).Contents (Elt Ideal) := m (c.tc.loc Cert.MixBwdIdeal.main_arg4)
abbrev a9 : (⟨Cert.MixBwdRefIdeal.S384, .f32⟩ : BufTy).Contents (Elt Ideal) := m (c.tc.loc Cert.MixBwdIdeal.main_arg9)
abbrev a10 : (⟨Cert.MixBwdRefIdeal.S384, .f32⟩ : BufTy).Contents (Elt Ideal) := m (c.tc.loc Cert.MixBwdIdeal.main_arg10)
abbrev a11 : (⟨Cert.MixBwdRefIdeal.S1024x1024, .f32⟩ : BufTy).Contents (Elt Ideal) := m (c.tc.loc Cert.MixBwdIdeal.main_arg11)

/-- The arguments that the claim needs finite. -/
abbrev FinArgs : Prop :=
  (∀ i, Fin' (a1 m c i)) ∧ (∀ i, Fin' (a2 m c i)) ∧ (∀ i, Fin' (a9 m c i)) ∧ (∀ i, Fin' (a10 m c i)) ∧ (∀ i, Fin' (a11 m c i))

theorem fin_sg {v : EReal} (h : Fin' v) : Fin' (Cert.FfnBwd.Spec.sg v) := by
  obtain ⟨v, rfl⟩ := h
  rw [Cert.FfnBwd.Alg.sg_coe]
  exact .coe _

theorem fin_lnv (h : FinArgs m c) (t : Fin 16384) (k : Fin 384) :
    Fin' (MixNorm.ln (AC (a2 m c) t) (A1 (a9 m c)) (A1 (a10 m c)) k) :=
  fin_ln (fun _ => h.2.1 _) (fun _ => h.2.2.1 _) (fun _ => h.2.2.2.1 _) k

theorem fin_dyc (h : FinArgs m c) (t : Fin 16384) (k : Fin 384) : Fin' (dyc (A2 (a1 m c)) (AW (a11 m c)) t k) := by
  unfold dyc dy
  exact Fin'.sum _ _ fun _ _ => Fin'.mul (h.1 _) (h.2.2.2.2 _)

/-- The two forms of the norm's cotangent, which is finite. -/
theorem chain_dln (h : FinArgs m c) (t : Fin 16384) (k : Fin 384) :
    dlnChain (a1 m c) (a2 m c) (a9 m c) (a10 m c) (a11 m c) t k
      = dln (A2 (a1 m c)) (AC (a2 m c)) (A1 (a9 m c)) (A1 (a10 m c)) (AW (a11 m c)) t k := by
  exact (Cert.FfnBwd.Alg.dsilu_mul (fin_lnv m c h t k) (fin_dyc m c h t k)).symm

theorem fin_dln (h : FinArgs m c) (t : Fin 16384) (k : Fin 384) :
    Fin' (dln (A2 (a1 m c)) (AC (a2 m c)) (A1 (a9 m c)) (A1 (a10 m c)) (AW (a11 m c)) t k) := by
  have hv := fin_lnv m c h t k
  have hd := fin_dyc m c h t k
  exact hd.mul ((fin_sg hv).mul (Fin'.one.add (hv.mul (Fin'.one.sub (fin_sg hv)))))

theorem dwo_eq : val_main_v2 (F := Ideal) (a1 m c) (a4 m c)
    = (Cert.MixBwdIdeal.Run.dats m 0 c).arrAt 21 Cert.MixBwdIdeal.cfg0.N := by
  funext i
  obtain ⟨p, q, rfl⟩ : ∃ (p q : Fin 1024), i = ix2 p q := ⟨i 0, i 1, eq_ix2 i⟩
  refine Eq.trans ?_ (Cert.MixBwdIdeal.Fold.arr21_apply m c p q).symm
  rw [Cert.MixBwdRefIdeal.Grad.dwo_eq]

theorem dcb_eq (h : FinArgs m c) : val_main_v70 (F := Ideal) (a1 m c) (a2 m c) (a9 m c) (a10 m c) (a11 m c)
    = (Cert.MixBwdIdeal.Run.dats m 0 c).arrAt 26 Cert.MixBwdIdeal.cfg0.N := by
  funext i
  obtain ⟨z, k, rfl⟩ : ∃ (z : Fin 1) (k : Fin 384), i = ix2 z k := ⟨i 0, i 1, eq_ix2 i⟩
  obtain rfl : z = 0 := Subsingleton.elim _ _
  refine Eq.trans ?_ (Cert.MixBwdIdeal.Fold.arr26_apply m c k).symm
  rw [Cert.MixBwdRefIdeal.Grad.dcb_eq]
  refine Finset.sum_congr rfl fun t _ => ?_
  rw [funext (chain_dln m c h t)]
  exact dzChain_eq (fun _ => h.2.1 _) (fin_dln m c h t) (fun _ => h.2.2.1 _) k

theorem dcg_eq (h : FinArgs m c) : val_main_v71 (F := Ideal) (a1 m c) (a2 m c) (a9 m c) (a10 m c) (a11 m c)
    = (Cert.MixBwdIdeal.Run.dats m 0 c).arrAt 27 Cert.MixBwdIdeal.cfg0.N := by
  funext i
  obtain ⟨z, k, rfl⟩ : ∃ (z : Fin 1) (k : Fin 384), i = ix2 z k := ⟨i 0, i 1, eq_ix2 i⟩
  obtain rfl : z = 0 := Subsingleton.elim _ _
  refine Eq.trans ?_ (Cert.MixBwdIdeal.Fold.arr27_apply m c k).symm
  rw [Cert.MixBwdRefIdeal.Grad.dcg_eq]
  refine Finset.sum_congr rfl fun t _ => ?_
  rw [chain_dln m c h t k]

theorem dcbb_eq (h : FinArgs m c) : val_main_v72 (F := Ideal) (a1 m c) (a2 m c) (a9 m c) (a10 m c) (a11 m c)
    = (Cert.MixBwdIdeal.Run.dats m 0 c).arrAt 28 Cert.MixBwdIdeal.cfg0.N := by
  funext i
  obtain ⟨z, k, rfl⟩ : ∃ (z : Fin 1) (k : Fin 384), i = ix2 z k := ⟨i 0, i 1, eq_ix2 i⟩
  obtain rfl : z = 0 := Subsingleton.elim _ _
  refine Eq.trans ?_ (Cert.MixBwdIdeal.Fold.arr28_apply m c k).symm
  rw [Cert.MixBwdRefIdeal.Grad.dcbb_eq]
  exact Finset.sum_congr rfl fun t _ => chain_dln m c h t k

set_option maxHeartbeats 2000000 in
theorem algebraic : algebraic_MixBwdIdeal_MixBwdRefIdeal_pre_finite_mix := by
  intro m ρ m' ρ' hpre hagree
  have hfin : ∀ c, FinArgs m c := fun c => Cert.MixBwdPre.fin_args _ _ _ _ _ _ _ _ _ _ _ _ (congrFun (hpre c) ix0)
  refine ⟨fun c => (Cert.MixBwdIdeal.Run.dats m 0 c).arrAt 21 Cert.MixBwdIdeal.cfg0.N,
    fun c => (Cert.MixBwdIdeal.Run.dats m 0 c).arrAt 26 Cert.MixBwdIdeal.cfg0.N,
    fun c => (Cert.MixBwdIdeal.Run.dats m 0 c).arrAt 27 Cert.MixBwdIdeal.cfg0.N,
    fun c => (Cert.MixBwdIdeal.Run.dats m 0 c).arrAt 28 Cert.MixBwdIdeal.cfg0.N,
    Cert.MixBwdIdeal.Run.run_blocks m ρ, ?_⟩
  refine (θ_run _ _ _).mono (fun _ h c => ?_) (Cert.MixBwdRefIdeal.Value.run m' ρ')
  obtain ⟨e0, e1, e2, e3, e4, e5, e6, e7, e8, e9, e10, e11⟩ := hagree c
  obtain ⟨r0, r1, r2, r3, k⟩ := h c
  refine ⟨r0.trans ?_, r1.trans ?_, r2.trans ?_, r3.trans ?_, k⟩
  · refine (val_main_v2_eq _ _).trans ?_
    rw [e1, e4]; exact dwo_eq m c
  · refine (val_main_v70_eq m' c).trans ?_
    rw [e1, e2, e9, e10, e11]; exact dcb_eq m c (hfin c)
  · refine (val_main_v71_eq m' c).trans ?_
    rw [e1, e2, e9, e10, e11]; exact dcg_eq m c (hfin c)
  · refine (val_main_v72_eq m' c).trans ?_
    rw [e1, e2, e9, e10, e11]; exact dcbb_eq m c (hfin c)

end Cert.MixBwdValue
-- ==== Proof.lean ====
/-
  The certificate of the calls of the training step: the witnesses of the programs' stated facts, the frames,
  and the value claims proved in the modules this one imports.
-/
module

public import proofs.«01_k».proof.Defs
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Gen.FfnBwdRefIdeal
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.FfnFwdRefIdeal
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwd.Frame
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdIdeal.Frame
public import proofs.«01_k».proof.Proof.Gen.LnBwdIdeal.Value
public import proofs.«01_k».proof.Proof.Gen.LnBwdRefIdeal.Run
public import proofs.«01_k».proof.Proof.Gen.LnBwdRefIdeal.Read
public import proofs.«01_k».proof.Proof.Gen.LnBwdRefIdeal
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.Gen.MixFwdRefIdeal
public import proofs.«01_k».proof.Proof.Gen.LnParts
public import proofs.«01_k».proof.Proof.Gen.LnParts.Skeleton
public import proofs.«01_k».proof.Proof.Gen.LnParts.Launch
public import proofs.«01_k».proof.Proof.Gen.LnParts.Points
public import proofs.«01_k».proof.Proof.Gen.LnParts.Frame
public import proofs.«01_k».proof.Proof.Gen.LnPartsIdeal
public import proofs.«01_k».proof.Proof.Gen.LnPartsIdeal.Skeleton
public import proofs.«01_k».proof.Proof.Gen.LnPartsIdeal.Launch
public import proofs.«01_k».proof.Proof.Gen.LnPartsIdeal.Points
public import proofs.«01_k».proof.Proof.Gen.LnPartsIdeal.Frame
public import proofs.«01_k».proof.Proof.Gen.LnPartsIdeal.Value
public import proofs.«01_k».proof.Proof.Gen.LnPartsRefIdeal.Run
public import proofs.«01_k».proof.Proof.Gen.LnPartsRefIdeal.Read
public import proofs.«01_k».proof.Proof.Gen.LnPartsRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.LossRefIdeal
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWRefIdeal.Run
public import proofs.«01_k».proof.Proof.Gen.AdamWRefIdeal.Read
public import proofs.«01_k».proof.Proof.Gen.AdamWRefIdeal
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdRefIdeal.Run
public import proofs.«01_k».proof.Proof.Gen.MixBwdRefIdeal.Read
public import proofs.«01_k».proof.Proof.Gen.MixBwdRefIdeal
public import proofs.«01_k».proof.Proof.Gen.Pre_finite
public import proofs.«01_k».proof.Proof.Gen.Pre_finite_ln
public import proofs.«01_k».proof.Proof.Gen.Pre_finite_parts
public import proofs.«01_k».proof.Proof.Gen.Pre_finite_mix
public import proofs.«01_k».proof.Proof.FfnBwdValue
public import proofs.«01_k».proof.Proof.FfnFwdValue
public import proofs.«01_k».proof.Proof.LnBwdValue
public import proofs.«01_k».proof.Proof.MixFwdValue
public import proofs.«01_k».proof.Proof.LnPartsValue
public import proofs.«01_k».proof.Proof.LossValue
public import proofs.«01_k».proof.Proof.AdamWValue
public import proofs.«01_k».proof.Proof.MixBwdRun
public import proofs.«01_k».proof.Proof.MixBwdIdealRun
public import proofs.«01_k».proof.Proof.MixBwdValue
public import Idealize.ShloMosaic.Adequacy
public import Idealize.ShloMosaic.Init

@[expose] public section

noncomputable section

namespace Cert.Proof

open Idealize.ShloMosaic Idealize.ShloMosaic.TcCoe Idealize.SL.Sem

/-- The reference `FfnBwdRefIdeal` ends and writes no argument. -/
theorem frame_FfnBwdRefIdeal : quiescent_FfnBwdRefIdeal := by
  intro m ρ _
  exact (θ_run _ _ _).mono (fun r h => ⟨fun c => (h c).2.2.2.2, Idealize.ShloMosaic.sem_eq_zero_of_no_sems (by decide) r.2⟩)
    (Cert.FfnBwdRefIdeal.Value.run m ρ)

/-- The reference `FfnFwdRefIdeal` ends and writes no argument. -/
theorem frame_FfnFwdRefIdeal : quiescent_FfnFwdRefIdeal := by
  intro m ρ _
  exact (θ_run _ _ _).mono (fun r h => ⟨fun c => (h c).2.2.2.2.2, Idealize.ShloMosaic.sem_eq_zero_of_no_sems (by decide) r.2⟩)
    (Cert.FfnFwdRefIdeal.Value.run m ρ)

/-- The reference `LnBwdRefIdeal` ends and writes no argument. -/
theorem frame_LnBwdRefIdeal : quiescent_LnBwdRefIdeal := by
  intro m ρ _
  exact (θ_run _ _ _).mono (fun r h => ⟨fun c => (h c).2.2.2.2, Idealize.ShloMosaic.sem_eq_zero_of_no_sems (by decide) r.2⟩)
    (Cert.LnBwdRefIdeal.Value.run m ρ)

/-- The reference `MixFwdRefIdeal` ends and writes no argument. -/
theorem frame_MixFwdRefIdeal : quiescent_MixFwdRefIdeal := by
  intro m ρ _
  exact (θ_run _ _ _).mono (fun r h => ⟨fun c => (h c).2.2.2.2.2.2, Idealize.ShloMosaic.sem_eq_zero_of_no_sems (by decide) r.2⟩)
    (Cert.MixFwdRefIdeal.Value.run m ρ)

/-- The reference `LnPartsRefIdeal` ends and writes no argument. -/
theorem frame_LnPartsRefIdeal : quiescent_LnPartsRefIdeal := by
  intro m ρ _
  exact (θ_run _ _ _).mono (fun r h => ⟨fun c => (h c).2.2.2.2, Idealize.ShloMosaic.sem_eq_zero_of_no_sems (by decide) r.2⟩)
    (Cert.LnPartsRefIdeal.Value.run m ρ)

/-- The reference `LossRefIdeal` ends and writes no argument. -/
theorem frame_LossRefIdeal : quiescent_LossRefIdeal := by
  intro m ρ _
  exact (θ_run _ _ _).mono (fun r h => ⟨fun c => (h c).2.2, Idealize.ShloMosaic.sem_eq_zero_of_no_sems (by decide) r.2⟩)
    (Cert.LossRefIdeal.Value.run m ρ)

/-- The reference `AdamWRefIdeal` ends and writes no argument. -/
theorem frame_AdamWRefIdeal : quiescent_AdamWRefIdeal := by
  intro m ρ _
  exact (θ_run _ _ _).mono (fun r h => ⟨fun c => (h c).2.2.2.2, Idealize.ShloMosaic.sem_eq_zero_of_no_sems (by decide) r.2⟩)
    (Cert.AdamWRefIdeal.Value.run m ρ)

/-- The reference `MixBwdRefIdeal` ends and writes no argument. -/
theorem frame_MixBwdRefIdeal : quiescent_MixBwdRefIdeal := by
  intro m ρ _
  exact (θ_run _ _ _).mono (fun r h => ⟨fun c => (h c).2.2.2.2, Idealize.ShloMosaic.sem_eq_zero_of_no_sems (by decide) r.2⟩)
    (Cert.MixBwdRefIdeal.Value.run m ρ)

theorem claim : Cert.Claim := ⟨Cert.FfnBwd.Gen.facts,
  Cert.FfnBwdIdeal.Gen.facts,
  Cert.FfnBwdRefIdeal.Gen.facts,
  Cert.FfnFwd.Gen.facts,
  Cert.FfnFwdIdeal.Gen.facts,
  Cert.FfnFwdRefIdeal.Gen.facts,
  Cert.LnBwd.Gen.facts,
  Cert.LnBwdIdeal.Gen.facts,
  Cert.LnBwdRefIdeal.Gen.facts,
  Cert.MixFwd.Gen.facts,
  Cert.MixFwdIdeal.Gen.facts,
  Cert.MixFwdRefIdeal.Gen.facts,
  Cert.LnParts.Gen.facts,
  Cert.LnPartsIdeal.Gen.facts,
  Cert.LnPartsRefIdeal.Gen.facts,
  Cert.Loss.Gen.facts,
  Cert.LossIdeal.Gen.facts,
  Cert.LossRefIdeal.Gen.facts,
  Cert.AdamW.Gen.facts,
  Cert.AdamWIdeal.Gen.facts,
  Cert.AdamWRefIdeal.Gen.facts,
  Cert.MixBwd.Gen.facts,
  Cert.MixBwdIdeal.Gen.facts,
  Cert.MixBwdRefIdeal.Gen.facts,
  Cert.Pre_finite.Gen.facts,
  Cert.Pre_finite_ln.Gen.facts,
  Cert.Pre_finite_parts.Gen.facts,
  Cert.Pre_finite_mix.Gen.facts,
  fun m ρ _ => Cert.FfnBwd.Gen.frame m ρ,
  fun m ρ _ => Cert.FfnBwdIdeal.Gen.frame m ρ,
  fun m ρ _ => Cert.FfnBwdIdeal.Gen.frame m ρ,
  fun m ρ h => frame_FfnBwdRefIdeal m ρ h,
  fun m ρ _ => frame_FfnBwdRefIdeal m ρ trivial,
  fun m ρ _ => Cert.FfnFwd.Gen.frame m ρ,
  fun m ρ _ => Cert.FfnFwdIdeal.Gen.frame m ρ,
  fun m ρ h => frame_FfnFwdRefIdeal m ρ h,
  fun m ρ _ => Cert.LnBwd.Gen.frame m ρ,
  fun m ρ _ => Cert.LnBwdIdeal.Gen.frame m ρ,
  fun m ρ _ => Cert.LnBwdIdeal.Gen.frame m ρ,
  fun m ρ h => frame_LnBwdRefIdeal m ρ h,
  fun m ρ _ => frame_LnBwdRefIdeal m ρ trivial,
  fun m ρ _ => Cert.MixFwd.Gen.frame m ρ,
  fun m ρ _ => Cert.MixFwdIdeal.Gen.frame m ρ,
  fun m ρ h => frame_MixFwdRefIdeal m ρ h,
  fun m ρ _ => Cert.LnParts.Gen.frame m ρ,
  fun m ρ _ => Cert.LnPartsIdeal.Gen.frame m ρ,
  fun m ρ _ => Cert.LnPartsIdeal.Gen.frame m ρ,
  fun m ρ h => frame_LnPartsRefIdeal m ρ h,
  fun m ρ _ => frame_LnPartsRefIdeal m ρ trivial,
  fun m ρ _ => Cert.Loss.Gen.frame m ρ,
  fun m ρ _ => Cert.LossIdeal.Gen.frame m ρ,
  fun m ρ h => frame_LossRefIdeal m ρ h,
  fun m ρ _ => Cert.AdamW.Gen.frame m ρ,
  fun m ρ _ => Cert.AdamWIdeal.Gen.frame m ρ,
  fun m ρ h => frame_AdamWRefIdeal m ρ h,
  fun m ρ _ => Cert.MixBwd.Run.frame m ρ,
  fun m ρ _ => Cert.MixBwdIdeal.Run.frame m ρ,
  fun m ρ _ => Cert.MixBwdIdeal.Run.frame m ρ,
  fun m ρ h => frame_MixBwdRefIdeal m ρ h,
  fun m ρ _ => frame_MixBwdRefIdeal m ρ trivial,
  trivial,
  Cert.FfnBwdValue.algebraic,
  trivial,
  Cert.FfnFwdValue.algebraic,
  trivial,
  Cert.LnBwdValue.algebraic,
  trivial,
  Cert.MixFwdValue.algebraic,
  trivial,
  Cert.LnPartsValue.algebraic,
  trivial,
  Cert.LossValue.algebraic,
  trivial,
  Cert.AdamWValue.algebraic,
  trivial,
  Cert.MixBwdValue.algebraic⟩

end Cert.Proof

end
